-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16x8732x4 : Shape := ⟨3, ![16, 8732, 4]⟩
abbrev S16x8732x21 : Shape := ⟨3, ![16, 8732, 21]⟩
abbrev S8732x4 : Shape := ⟨2, ![8732, 4]⟩
abbrev S16x8x4 : Shape := ⟨3, ![16, 8, 4]⟩
abbrev S16x8 : Shape := ⟨2, ![16, 8]⟩
abbrev S8732x2 : Shape := ⟨2, ![8732, 2]⟩
abbrev S_ : Shape := ⟨0, ![]⟩
abbrev S16x8x2 : Shape := ⟨3, ![16, 8, 2]⟩

class Facts : Prop where
  slices_S8732x4_S8732x2_0_0 : S8732x4.Slices ![0, 0] S8732x2
  bcast_S_S8732x2 : S_.BroadcastsInDim S8732x2 (![] : Fin 0 → Fin S8732x2.rank)
  slices_S8732x4_S8732x2_0_2 : S8732x4.Slices ![0, 2] S8732x2
  slices_S16x8x4_S16x8x2_0_0_0 : S16x8x4.Slices ![0, 0, 0] S16x8x2
  bcast_S_S16x8x2 : S_.BroadcastsInDim S16x8x2 (![] : Fin 0 → Fin S16x8x2.rank)
  slices_S16x8x4_S16x8x2_0_0_2 : S16x8x4.Slices ![0, 0, 2] S16x8x2
  bcast_S_S16x8 : S_.BroadcastsInDim S16x8 (![] : Fin 0 → Fin S16x8.rank)

variable [Facts]

def fn_part1 {F : FTy → Type} [FloatOps F] (main_arg4 : IVec S16x8 32) (main_v3 : IVec S8732x2 1) (main_v10 : IVec S8732x2 1) (main_v17 : IVec S16x8x2 1) (main_v18 : FVec F S16x8x2 .f32) (main_cst_3 : FVec F S_ .f32) : IVec S8732x2 1 × IVec S8732x2 1 × IVec S16x8x2 1 × IVec S16x8 1 :=
  let main_v19 : FVec F S16x8x2 .f32 := broadcastInDim S16x8x2 ![] bcast_S_S16x8x2 main_cst_3
  let main_v20 : IVec S16x8x2 1 := cmpf .olt main_v18 main_v19
  let main_v21 : IVec S16x8x2 1 := andi main_v17 main_v20
  let main_c : IVec S_ 32 := constantI S_ 32 0#32
  let main_v22 : IVec S16x8 32 := broadcastInDim S16x8 ![] bcast_S_S16x8 main_c
  let main_v23 : IVec S16x8 1 := cmpi .sge main_arg4 main_v22
  let main_c_4 : IVec S_ 32 := constantI S_ 32 20#32
  let main_v24 : IVec S16x8 32 := broadcastInDim S16x8 ![] bcast_S_S16x8 main_c_4
  let main_v25 : IVec S16x8 1 := cmpi .slt main_arg4 main_v24
  let main_v26 : IVec S16x8 1 := andi main_v23 main_v25
  (main_v3, main_v10, main_v21, main_v26)

def fn {F : FTy → Type} [FloatOps F] (main_arg0 : FVec F S16x8732x4 .f32) (main_arg1 : FVec F S16x8732x21 .f32) (main_arg2 : FVec F S8732x4 .f32) (main_arg3 : FVec F S16x8x4 .f32) (main_arg4 : IVec S16x8 32) : IVec S8732x2 1 × IVec S8732x2 1 × IVec S16x8x2 1 × IVec S16x8 1 :=
  let main_v0 : FVec F S8732x2 .f32 := (extractStridedSlice S8732x2 ![0, 0] · slices_S8732x4_S8732x2_0_0) main_arg2
  let main_v1 : FVec F S8732x2 .f32 := Host.absf main_v0
  let main_cst : FVec F S_ .f32 := constant S_ .f32 0x7F800000#32
  let main_v2 : FVec F S8732x2 .f32 := broadcastInDim S8732x2 ![] bcast_S_S8732x2 main_cst
  let main_v3 : IVec S8732x2 1 := cmpf .olt main_v1 main_v2
  let main_v4 : FVec F S8732x2 .f32 := (extractStridedSlice S8732x2 ![0, 2] · slices_S8732x4_S8732x2_0_2) main_arg2
  let main_cst_0 : FVec F S_ .f32 := constant S_ .f32 0x00000000#32
  let main_v5 : FVec F S8732x2 .f32 := broadcastInDim S8732x2 ![] bcast_S_S8732x2 main_cst_0
  let main_v6 : IVec S8732x2 1 := cmpf .ogt main_v4 main_v5
  let main_v7 : FVec F S8732x2 .f32 := (extractStridedSlice S8732x2 ![0, 2] · slices_S8732x4_S8732x2_0_2) main_arg2
  let main_cst_1 : FVec F S_ .f32 := constant S_ .f32 0x7F800000#32
  let main_v8 : FVec F S8732x2 .f32 := broadcastInDim S8732x2 ![] bcast_S_S8732x2 main_cst_1
  let main_v9 : IVec S8732x2 1 := cmpf .olt main_v7 main_v8
  let main_v10 : IVec S8732x2 1 := andi main_v6 main_v9
  let main_v11 : FVec F S16x8x2 .f32 := (extractStridedSlice S16x8x2 ![0, 0, 0] · slices_S16x8x4_S16x8x2_0_0_0) main_arg3
  let main_cst_2 : FVec F S_ .f32 := constant S_ .f32 0x00000000#32
  let main_v12 : FVec F S16x8x2 .f32 := broadcastInDim S16x8x2 ![] bcast_S_S16x8x2 main_cst_2
  let main_v13 : IVec S16x8x2 1 := cmpf .oge main_v11 main_v12
  let main_v14 : FVec F S16x8x2 .f32 := (extractStridedSlice S16x8x2 ![0, 0, 0] · slices_S16x8x4_S16x8x2_0_0_0) main_arg3
  let main_v15 : FVec F S16x8x2 .f32 := (extractStridedSlice S16x8x2 ![0, 0, 2] · slices_S16x8x4_S16x8x2_0_0_2) main_arg3
  let main_v16 : IVec S16x8x2 1 := cmpf .olt main_v14 main_v15
  let main_v17 : IVec S16x8x2 1 := andi main_v13 main_v16
  let main_v18 : FVec F S16x8x2 .f32 := (extractStridedSlice S16x8x2 ![0, 0, 2] · slices_S16x8x4_S16x8x2_0_0_2) main_arg3
  let main_cst_3 : FVec F S_ .f32 := constant S_ .f32 0x7F800000#32
  fn_part1 (F := F) main_arg4 main_v3 main_v10 main_v17 main_v18 main_cst_3
-- ==== Kernel.lean ====
abbrev S16x8732x4 : Shape := ⟨3, ![16, 8732, 4]⟩
abbrev S16x8732x21 : Shape := ⟨3, ![16, 8732, 21]⟩
abbrev S8732x4 : Shape := ⟨2, ![8732, 4]⟩
abbrev S16x8x4 : Shape := ⟨3, ![16, 8, 4]⟩
abbrev S16x8 : Shape := ⟨2, ![16, 8]⟩
abbrev S4x1 : Shape := ⟨2, ![4, 1]⟩
abbrev S_ : Shape := ⟨0, ![]⟩
abbrev S16x8x128 : Shape := ⟨3, ![16, 8, 128]⟩
abbrev S1 : Shape := ⟨1, ![1]⟩
abbrev S16x8x1 : Shape := ⟨3, ![16, 8, 1]⟩
abbrev S4x8732 : Shape := ⟨2, ![4, 8732]⟩
abbrev S1x4x1x1 : Shape := ⟨4, ![1, 4, 1, 1]⟩
abbrev S1x4x100x1 : Shape := ⟨4, ![1, 4, 100, 1]⟩
abbrev S4x100 : Shape := ⟨2, ![4, 100]⟩
abbrev S4x8832 : Shape := ⟨2, ![4, 8832]⟩
abbrev S1x8832 : Shape := ⟨2, ![1, 8832]⟩
abbrev S8832 : Shape := ⟨1, ![8832]⟩
abbrev S11x8832 : Shape := ⟨2, ![11, 8832]⟩
abbrev S5x8832 : Shape := ⟨2, ![5, 8832]⟩
abbrev S16x8832 : Shape := ⟨2, ![16, 8832]⟩
abbrev S16x4x8732 : Shape := ⟨3, ![16, 4, 8732]⟩
abbrev S16x4x8832 : Shape := ⟨3, ![16, 4, 8832]⟩
abbrev S16x21x8732 : Shape := ⟨3, ![16, 21, 8732]⟩
abbrev S16x21x8832 : Shape := ⟨3, ![16, 21, 8832]⟩
abbrev S8x128 : Shape := ⟨2, ![8, 128]⟩
abbrev S1x1 : Shape := ⟨2, ![1, 1]⟩
abbrev S4x8x128 : Shape := ⟨3, ![4, 8, 128]⟩
abbrev S4x4x8832 : Shape := ⟨3, ![4, 4, 8832]⟩
abbrev S4x21x8832 : Shape := ⟨3, ![4, 21, 8832]⟩
abbrev S16x128 : Shape := ⟨2, ![16, 128]⟩
abbrev S1x8x128 : Shape := ⟨3, ![1, 8, 128]⟩
abbrev S8x1 : Shape := ⟨2, ![8, 1]⟩
abbrev S8x5 : Shape := ⟨2, ![8, 5]⟩
abbrev S8x8832 : Shape := ⟨2, ![8, 8832]⟩
abbrev S8 : Shape := ⟨1, ![8]⟩
abbrev S1x4x8832 : Shape := ⟨3, ![1, 4, 8832]⟩
abbrev S1x21x8832 : Shape := ⟨3, ![1, 21, 8832]⟩
abbrev S21x8832 : Shape := ⟨2, ![21, 8832]⟩
abbrev S1x21 : Shape := ⟨2, ![1, 21]⟩
abbrev S21x1 : Shape := ⟨2, ![21, 1]⟩
abbrev S3x8832 : Shape := ⟨2, ![3, 8832]⟩
abbrev S3 : Shape := ⟨1, ![3]⟩
abbrev S3x1 : Shape := ⟨2, ![3, 1]⟩
abbrev S1x128 : Shape := ⟨2, ![1, 128]⟩
abbrev S5x1 : Shape := ⟨2, ![5, 1]⟩
abbrev S16x1 : Shape := ⟨2, ![16, 1]⟩
abbrev S16 : Shape := ⟨1, ![16]⟩
abbrev S1x16x1 : Shape := ⟨3, ![1, 16, 1]⟩
abbrev S1x1x1 : Shape := ⟨3, ![1, 1, 1]⟩

abbrev nBuf : Space → Nat
  | .hbm => 96
  | .vmem => 12
  | .smem => 0
  | _ => 0

abbrev bufTy : (tb : Table) → Fin (tcTables nBuf tb) → BufTy
  | .hbm, ⟨0, _⟩ => ⟨S16x8732x4, .f32⟩
  | .hbm, ⟨1, _⟩ => ⟨S16x8732x21, .f32⟩
  | .hbm, ⟨2, _⟩ => ⟨S8732x4, .f32⟩
  | .hbm, ⟨3, _⟩ => ⟨S16x8x4, .f32⟩
  | .hbm, ⟨4, _⟩ => ⟨S16x8, .i32⟩
  | .hbm, ⟨5, _⟩ => ⟨S4x1, .f32⟩
  | .hbm, ⟨6, _⟩ => ⟨S_, .f32⟩
  | .hbm, ⟨7, _⟩ => ⟨S16x8x128, .f32⟩
  | .hbm, ⟨8, _⟩ => ⟨S_, .i32⟩
  | .hbm, ⟨9, _⟩ => ⟨S1, .i32⟩
  | .hbm, ⟨10, _⟩ => ⟨S16x8x128, .f32⟩
  | .hbm, ⟨11, _⟩ => ⟨S_, .f32⟩
  | .hbm, ⟨12, _⟩ => ⟨S16x8x128, .f32⟩
  | .hbm, ⟨13, _⟩ => ⟨S16x8, .f32⟩
  | .hbm, ⟨14, _⟩ => ⟨S16x8x1, .f32⟩
  | .hbm, ⟨15, _⟩ => ⟨S_, .i32⟩
  | .hbm, ⟨16, _⟩ => ⟨S1, .i32⟩
  | .hbm, ⟨17, _⟩ => ⟨S16x8x128, .f32⟩
  | .hbm, ⟨18, _⟩ => ⟨S4x8732, .f32⟩
  | .hbm, ⟨19, _⟩ => ⟨S1x4x1x1, .f32⟩
  | .hbm, ⟨20, _⟩ => ⟨S1x4x100x1, .f32⟩
  | .hbm, ⟨21, _⟩ => ⟨S4x100, .f32⟩
  | .hbm, ⟨22, _⟩ => ⟨S4x8832, .f32⟩
  | .hbm, ⟨23, _⟩ => ⟨S1x8832, .f32⟩
  | .hbm, ⟨24, _⟩ => ⟨S8832, .f32⟩
  | .hbm, ⟨25, _⟩ => ⟨S1x8832, .f32⟩
  | .hbm, ⟨26, _⟩ => ⟨S8832, .f32⟩
  | .hbm, ⟨27, _⟩ => ⟨S1x8832, .f32⟩
  | .hbm, ⟨28, _⟩ => ⟨S8832, .f32⟩
  | .hbm, ⟨29, _⟩ => ⟨S1x8832, .f32⟩
  | .hbm, ⟨30, _⟩ => ⟨S8832, .f32⟩
  | .hbm, ⟨31, _⟩ => ⟨S_, .f32⟩
  | .hbm, ⟨32, _⟩ => ⟨S8832, .f32⟩
  | .hbm, ⟨33, _⟩ => ⟨S8832, .f32⟩
  | .hbm, ⟨34, _⟩ => ⟨S8832, .f32⟩
  | .hbm, ⟨35, _⟩ => ⟨S_, .f32⟩
  | .hbm, ⟨36, _⟩ => ⟨S8832, .f32⟩
  | .hbm, ⟨37, _⟩ => ⟨S8832, .f32⟩
  | .hbm, ⟨38, _⟩ => ⟨S8832, .f32⟩
  | .hbm, ⟨39, _⟩ => ⟨S_, .f32⟩
  | .hbm, ⟨40, _⟩ => ⟨S8832, .f32⟩
  | .hbm, ⟨41, _⟩ => ⟨S8832, .f32⟩
  | .hbm, ⟨42, _⟩ => ⟨S8832, .f32⟩
  | .hbm, ⟨43, _⟩ => ⟨S_, .f32⟩
  | .hbm, ⟨44, _⟩ => ⟨S8832, .f32⟩
  | .hbm, ⟨45, _⟩ => ⟨S8832, .f32⟩
  | .hbm, ⟨46, _⟩ => ⟨S8832, .f32⟩
  | .hbm, ⟨47, _⟩ => ⟨S8832, .f32⟩
  | .hbm, ⟨48, _⟩ => ⟨S8832, .f32⟩
  | .hbm, ⟨49, _⟩ => ⟨S8832, .f32⟩
  | .hbm, ⟨50, _⟩ => ⟨S_, .f32⟩
  | .hbm, ⟨51, _⟩ => ⟨S8832, .f32⟩
  | .hbm, ⟨52, _⟩ => ⟨S8832, .f32⟩
  | .hbm, ⟨53, _⟩ => ⟨S_, .f32⟩
  | .hbm, ⟨54, _⟩ => ⟨S8832, .f32⟩
  | .hbm, ⟨55, _⟩ => ⟨S8832, .f32⟩
  | .hbm, ⟨56, _⟩ => ⟨S8832, .f32⟩
  | .hbm, ⟨57, _⟩ => ⟨S_, .f32⟩
  | .hbm, ⟨58, _⟩ => ⟨S8832, .f32⟩
  | .hbm, ⟨59, _⟩ => ⟨S8832, .f32⟩
  | .hbm, ⟨60, _⟩ => ⟨S8832, .f32⟩
  | .hbm, ⟨61, _⟩ => ⟨S_, .f32⟩
  | .hbm, ⟨62, _⟩ => ⟨S8832, .f32⟩
  | .hbm, ⟨63, _⟩ => ⟨S8832, .f32⟩
  | .hbm, ⟨64, _⟩ => ⟨S1x8832, .f32⟩
  | .hbm, ⟨65, _⟩ => ⟨S1x8832, .f32⟩
  | .hbm, ⟨66, _⟩ => ⟨S1x8832, .f32⟩
  | .hbm, ⟨67, _⟩ => ⟨S1x8832, .f32⟩
  | .hbm, ⟨68, _⟩ => ⟨S1x8832, .f32⟩
  | .hbm, ⟨69, _⟩ => ⟨S1x8832, .f32⟩
  | .hbm, ⟨70, _⟩ => ⟨S1x8832, .f32⟩
  | .hbm, ⟨71, _⟩ => ⟨S1x8832, .f32⟩
  | .hbm, ⟨72, _⟩ => ⟨S1x8832, .f32⟩
  | .hbm, ⟨73, _⟩ => ⟨S1x8832, .f32⟩
  | .hbm, ⟨74, _⟩ => ⟨S1x8832, .f32⟩
  | .hbm, ⟨75, _⟩ => ⟨S11x8832, .f32⟩
  | .hbm, ⟨76, _⟩ => ⟨S_, .f32⟩
  | .hbm, ⟨77, _⟩ => ⟨S5x8832, .f32⟩
  | .hbm, ⟨78, _⟩ => ⟨S16x8832, .f32⟩
  | .hbm, ⟨79, _⟩ => ⟨S16x4x8732, .f32⟩
  | .hbm, ⟨80, _⟩ => ⟨S_, .i32⟩
  | .hbm, ⟨81, _⟩ => ⟨S_, .f32⟩
  | .hbm, ⟨82, _⟩ => ⟨S16x4x8832, .f32⟩
  | .hbm, ⟨83, _⟩ => ⟨S16x21x8732, .f32⟩
  | .hbm, ⟨84, _⟩ => ⟨S_, .i32⟩
  | .hbm, ⟨85, _⟩ => ⟨S_, .f32⟩
  | .hbm, ⟨86, _⟩ => ⟨S16x21x8832, .f32⟩
  | .hbm, ⟨87, _⟩ => ⟨S8x128, .f32⟩
  | .hbm, ⟨88, _⟩ => ⟨S1x1, .f32⟩
  | .hbm, ⟨89, _⟩ => ⟨S_, .f32⟩
  | .hbm, ⟨90, _⟩ => ⟨S1x1, .f32⟩
  | .hbm, ⟨91, _⟩ => ⟨S_, .f32⟩
  | .hbm, ⟨92, _⟩ => ⟨S_, .f32⟩
  | .hbm, ⟨93, _⟩ => ⟨S1x1, .f32⟩
  | .hbm, ⟨94, _⟩ => ⟨S_, .f32⟩
  | .hbm, ⟨95, _⟩ => ⟨S_, .f32⟩
  | .local _ .vmem, ⟨0, _⟩ => ⟨S4x8x128, .f32⟩
  | .local _ .vmem, ⟨1, _⟩ => ⟨S4x8x128, .f32⟩
  | .local _ .vmem, ⟨2, _⟩ => ⟨S4x8x128, .f32⟩
  | .local _ .vmem, ⟨3, _⟩ => ⟨S4x8x128, .f32⟩
  | .local _ .vmem, ⟨4, _⟩ => ⟨S16x8832, .f32⟩
  | .local _ .vmem, ⟨5, _⟩ => ⟨S4x4x8832, .f32⟩
  | .local _ .vmem, ⟨6, _⟩ => ⟨S4x4x8832, .f32⟩
  | .local _ .vmem, ⟨7, _⟩ => ⟨S4x21x8832, .f32⟩
  | .local _ .vmem, ⟨8, _⟩ => ⟨S4x21x8832, .f32⟩
  | .local _ .vmem, ⟨9, _⟩ => ⟨S8x128, .f32⟩
  | .local _ .vmem, ⟨10, _⟩ => ⟨S16x8832, .f32⟩
  | .local _ .vmem, ⟨11, _⟩ => ⟨S16x128, .f32⟩
  | _, _ => ⟨S16x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_cst_1 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_cst_3 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_cst_4 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_cst_5 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_cst_6 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_cst_7 : Ref sig .tc := ⟨.hbm, 50, rfl⟩
abbrev main_call0_v36 : Ref sig .tc := ⟨.hbm, 51, rfl⟩
abbrev main_call0_v37 : Ref sig .tc := ⟨.hbm, 52, rfl⟩
abbrev main_call0_cst_8 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_cst_9 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_cst_10 : Ref sig .tc := ⟨.hbm, 61, rfl⟩
abbrev main_call0_v44 : Ref sig .tc := ⟨.hbm, 62, rfl⟩
abbrev main_call0_v45 : Ref sig .tc := ⟨.hbm, 63, rfl⟩
abbrev main_call0_v46 : Ref sig .tc := ⟨.hbm, 64, rfl⟩
abbrev main_call0_v47 : Ref sig .tc := ⟨.hbm, 65, rfl⟩
abbrev main_call0_v48 : Ref sig .tc := ⟨.hbm, 66, rfl⟩
abbrev main_call0_v49 : Ref sig .tc := ⟨.hbm, 67, rfl⟩
abbrev main_call0_v50 : Ref sig .tc := ⟨.hbm, 68, rfl⟩
abbrev main_call0_v51 : Ref sig .tc := ⟨.hbm, 69, rfl⟩
abbrev main_call0_v52 : Ref sig .tc := ⟨.hbm, 70, rfl⟩
abbrev main_call0_v53 : Ref sig .tc := ⟨.hbm, 71, rfl⟩
abbrev main_call0_v54 : Ref sig .tc := ⟨.hbm, 72, rfl⟩
abbrev main_call0_v55 : Ref sig .tc := ⟨.hbm, 73, rfl⟩
abbrev main_call0_v56 : Ref sig .tc := ⟨.hbm, 74, rfl⟩
abbrev main_call0_v57 : Ref sig .tc := ⟨.hbm, 75, rfl⟩
abbrev main_call0_cst_11 : Ref sig .tc := ⟨.hbm, 76, rfl⟩
abbrev main_call0_v58 : Ref sig .tc := ⟨.hbm, 77, rfl⟩
abbrev main_call0_v59 : Ref sig .tc := ⟨.hbm, 78, rfl⟩
abbrev main_call0_v60 : Ref sig .tc := ⟨.hbm, 79, rfl⟩
abbrev main_call0_c_12 : Ref sig .tc := ⟨.hbm, 80, rfl⟩
abbrev main_call0_call0_v0 : Ref sig .tc := ⟨.hbm, 81, rfl⟩
abbrev main_call0_v61 : Ref sig .tc := ⟨.hbm, 82, rfl⟩
abbrev main_call0_v62 : Ref sig .tc := ⟨.hbm, 83, rfl⟩
abbrev main_call0_c_13 : Ref sig .tc := ⟨.hbm, 84, rfl⟩
abbrev main_call0_call1_v0 : Ref sig .tc := ⟨.hbm, 85, rfl⟩
abbrev main_call0_v63 : Ref sig .tc := ⟨.hbm, 86, rfl⟩
abbrev main_call0_v64 : Ref sig .tc := ⟨.hbm, 87, rfl⟩
abbrev main_call0_v65 : Ref sig .tc := ⟨.hbm, 88, rfl⟩
abbrev main_call0_v66 : Ref sig .tc := ⟨.hbm, 89, rfl⟩
abbrev main_call0_v67 : Ref sig .tc := ⟨.hbm, 90, rfl⟩
abbrev main_call0_v68 : Ref sig .tc := ⟨.hbm, 91, rfl⟩
abbrev main_v0_0 : Ref sig .tc := ⟨.hbm, 92, rfl⟩
abbrev main_call0_v70 : Ref sig .tc := ⟨.hbm, 93, rfl⟩
abbrev main_call0_v71 : Ref sig .tc := ⟨.hbm, 94, rfl⟩
abbrev main_v0_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let c4_i32 : BitVec 32 := 4#32
  let arg0 : BitVec 32 := BitVec.ofNat 32 (i 0).val
  let v1 : BitVec 32 := Scalar.muli c4_i32 arg0
  let v2 : BitVec 32 := Scalar.addi v1 c0_i32
  let v214 : Index := Scalar.indexCast v2
  let c0_56 : Index := 0#32
  ![v214.toNat, 0]
def k0_off2 (i : grid0.Coords) (c0_i32 : BitVec 32) : Fin 2 → Nat :=
  let c4_i32 : BitVec 32 := 4#32
  let arg0 : BitVec 32 := BitVec.ofNat 32 (i 0).val
  let v1 : BitVec 32 := Scalar.muli c4_i32 arg0
  let v2 : BitVec 32 := Scalar.addi v1 c0_i32
  let v225 : Index := Scalar.indexCast v2
  let c0_58 : Index := 0#32
  ![v225.toNat, 0]
def k0_cond3 (i : grid0.Coords) : BitVec 1 :=
  let arg0 : BitVec 32 := BitVec.ofNat 32 (i 0).val
  let c3_i32_264 : BitVec 32 := 3#32
  let v959 : BitVec 1 := Scalar.cmpi .eq arg0 c3_i32_264
  let v960 : BitVec 32 := Scalar.extui v959
  let c0_i32_265 : BitVec 32 := 0#32
  let v961 : BitVec 1 := Scalar.cmpi .ne v960 c0_i32_265
  v961

@[reducible] def k0_t1_loop : Scf.Loop 32 :=
  let c0_i32_272 : BitVec 32 := 0#32
  let c31_i32 : BitVec 32 := 31#32
  let v974 : BitVec 32 := Scalar.addi c0_i32_272 c31_i32
  let c1_i32_273 : BitVec 32 := 1#32
  ⟨c0_i32_272, v974, c1_i32_273⟩
def k0_cond1 (i : grid0.Coords) : BitVec 1 :=
  let arg0 : BitVec 32 := BitVec.ofNat 32 (i 0).val
  let c0_i32_260 : BitVec 32 := 0#32
  let v953 : BitVec 1 := Scalar.cmpi .eq arg0 c0_i32_260
  let v954 : BitVec 32 := Scalar.extui v953
  let c0_i32_261 : BitVec 32 := 0#32
  let v955 : BitVec 1 := Scalar.cmpi .ne v954 c0_i32_261
  v955

def k0_cond2 (i : grid0.Coords) : BitVec 1 :=
  let arg0 : BitVec 32 := BitVec.ofNat 32 (i 0).val
  let c0_i32_262 : BitVec 32 := 0#32
  let v956 : BitVec 1 := Scalar.cmpi .sgt arg0 c0_i32_262
  let v957 : BitVec 32 := Scalar.extui v956
  let c0_i32_263 : BitVec 32 := 0#32
  let v958 : BitVec 1 := Scalar.cmpi .ne v957 c0_i32_263
  v958

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x4x8832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x21x8832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x8732x4 : Shape := ⟨3, ![16, 8732, 4]⟩
abbrev S16x8732x21 : Shape := ⟨3, ![16, 8732, 21]⟩
abbrev S8732x4 : Shape := ⟨2, ![8732, 4]⟩
abbrev S16x8x4 : Shape := ⟨3, ![16, 8, 4]⟩
abbrev S16x8 : Shape := ⟨2, ![16, 8]⟩
abbrev S8732x2 : Shape := ⟨2, ![8732, 2]⟩
abbrev S_ : Shape := ⟨0, ![]⟩
abbrev S16x8x2 : Shape := ⟨3, ![16, 8, 2]⟩
abbrev S16x8x1x2 : Shape := ⟨4, ![16, 8, 1, 2]⟩
abbrev S1x1x8732x2 : Shape := ⟨4, ![1, 1, 8732, 2]⟩
abbrev S16x8x8732x2 : Shape := ⟨4, ![16, 8, 8732, 2]⟩
abbrev S16x8x8732x1 : Shape := ⟨4, ![16, 8, 8732, 1]⟩
abbrev S16x8x8732 : Shape := ⟨3, ![16, 8, 8732]⟩
abbrev S16x8x1 : Shape := ⟨3, ![16, 8, 1]⟩
abbrev S8732x1 : Shape := ⟨2, ![8732, 1]⟩
abbrev S8732 : Shape := ⟨1, ![8732]⟩
abbrev S1x1x8732 : Shape := ⟨3, ![1, 1, 8732]⟩
abbrev S16x8732 : Shape := ⟨2, ![16, 8732]⟩
abbrev S16x1 : Shape := ⟨2, ![16, 1]⟩
abbrev S1x8732 : Shape := ⟨2, ![1, 8732]⟩
abbrev S16x8732x1 : Shape := ⟨3, ![16, 8732, 1]⟩
abbrev S16x8732x2 : Shape := ⟨3, ![16, 8732, 2]⟩
abbrev S1x8732x2 : Shape := ⟨3, ![1, 8732, 2]⟩
abbrev S16 : Shape := ⟨1, ![16]⟩
abbrev S16x8732x1x1 : Shape := ⟨4, ![16, 8732, 1, 1]⟩
abbrev S2139095041 : Shape := ⟨1, ![2139095041]⟩
abbrev S1x2139095041 : Shape := ⟨2, ![1, 2139095041]⟩
abbrev S16x2139095041 : Shape := ⟨2, ![16, 2139095041]⟩

abbrev nBuf : Space → Nat
  | .hbm => 353
  | .vmem => 0
  | .smem => 0
  | _ => 0

abbrev hbmTy0_0 (i : Nat) : BufTy := match i % 128 with
  | 0 => ⟨S16x8732x4, .f32⟩
  | 1 => ⟨S16x8732x21, .f32⟩
  | 2 => ⟨S8732x4, .f32⟩
  | 3 => ⟨S16x8x4, .f32⟩
  | 4 => ⟨S16x8, .i32⟩
  | 5 => ⟨S8732x2, .f32⟩
  | 6 => ⟨S8732x2, .f32⟩
  | 7 => ⟨S_, .f32⟩
  | 8 => ⟨S8732x2, .f32⟩
  | 9 => ⟨S8732x2, .f32⟩
  | 10 => ⟨S8732x2, .f32⟩
  | 11 => ⟨S8732x2, .f32⟩
  | 12 => ⟨S8732x2, .f32⟩
  | 13 => ⟨S_, .f32⟩
  | 14 => ⟨S8732x2, .f32⟩
  | 15 => ⟨S8732x2, .f32⟩
  | 16 => ⟨S8732x2, .f32⟩
  | 17 => ⟨S8732x4, .f32⟩
  | 18 => ⟨S16x8x2, .f32⟩
  | 19 => ⟨S16x8x1x2, .f32⟩
  | 20 => ⟨S8732x2, .f32⟩
  | 21 => ⟨S1x1x8732x2, .f32⟩
  | 22 => ⟨S16x8x8732x2, .f32⟩
  | 23 => ⟨S16x8x8732x2, .f32⟩
  | 24 => ⟨S16x8x8732x2, .f32⟩
  | 25 => ⟨S16x8x2, .f32⟩
  | 26 => ⟨S16x8x1x2, .f32⟩
  | 27 => ⟨S8732x2, .f32⟩
  | 28 => ⟨S1x1x8732x2, .f32⟩
  | 29 => ⟨S16x8x8732x2, .f32⟩
  | 30 => ⟨S16x8x8732x2, .f32⟩
  | 31 => ⟨S16x8x8732x2, .f32⟩
  | 32 => ⟨S16x8x8732x2, .f32⟩
  | 33 => ⟨S_, .f32⟩
  | 34 => ⟨S_, .f32⟩
  | 35 => ⟨S16x8x8732x2, .f32⟩
  | 36 => ⟨S16x8x8732x2, .f32⟩
  | 37 => ⟨S16x8x8732x1, .f32⟩
  | 38 => ⟨S16x8x8732, .f32⟩
  | 39 => ⟨S16x8x8732x1, .f32⟩
  | 40 => ⟨S16x8x8732, .f32⟩
  | 41 => ⟨S16x8x8732, .f32⟩
  | 42 => ⟨S16x8x1, .f32⟩
  | 43 => ⟨S16x8, .f32⟩
  | 44 => ⟨S16x8x1, .f32⟩
  | 45 => ⟨S16x8, .f32⟩
  | 46 => ⟨S16x8, .f32⟩
  | 47 => ⟨S16x8x1, .f32⟩
  | 48 => ⟨S16x8, .f32⟩
  | 49 => ⟨S16x8x1, .f32⟩
  | 50 => ⟨S16x8, .f32⟩
  | 51 => ⟨S16x8, .f32⟩
  | 52 => ⟨S16x8, .f32⟩
  | 53 => ⟨S16x8x1, .f32⟩
  | 54 => ⟨S8732x1, .f32⟩
  | 55 => ⟨S8732, .f32⟩
  | 56 => ⟨S8732x1, .f32⟩
  | 57 => ⟨S8732, .f32⟩
  | 58 => ⟨S8732, .f32⟩
  | 59 => ⟨S8732x1, .f32⟩
  | 60 => ⟨S8732, .f32⟩
  | 61 => ⟨S8732x1, .f32⟩
  | 62 => ⟨S8732, .f32⟩
  | 63 => ⟨S8732, .f32⟩
  | 64 => ⟨S8732, .f32⟩
  | 65 => ⟨S1x1x8732, .f32⟩
  | 66 => ⟨S16x8x8732, .f32⟩
  | 67 => ⟨S16x8x8732, .f32⟩
  | 68 => ⟨S16x8x8732, .f32⟩
  | 69 => ⟨S16x8x8732, .f32⟩
  | 70 => ⟨S16x8x8732, .f32⟩
  | 71 => ⟨S16x8x8732, .i32⟩
  | 72 => ⟨S_, .f32⟩
  | 73 => ⟨S_, .i32⟩
  | 74 => ⟨S16x8, .f32⟩
  | 75 => ⟨S16x8, .i32⟩
  | 76 => ⟨S_, .f32⟩
  | 77 => ⟨S16x8732, .f32⟩
  | 78 => ⟨S16x8x8732, .i32⟩
  | 79 => ⟨S_, .f32⟩
  | 80 => ⟨S_, .i32⟩
  | 81 => ⟨S16x8732, .f32⟩
  | 82 => ⟨S16x8732, .i32⟩
  | 83 => ⟨S8732, .i32⟩
  | 84 => ⟨S16x1, .i32⟩
  | 85 => ⟨S1x8732, .i32⟩
  | 86 => ⟨S16x8732, .i32⟩
  | 87 => ⟨S16x8732, .i32⟩
  | 88 => ⟨S16x8732, .i1⟩
  | 89 => ⟨S_, .f32⟩
  | 90 => ⟨S_, .f32⟩
  | 91 => ⟨S16x8732, .f32⟩
  | 92 => ⟨S16x8732, .f32⟩
  | 93 => ⟨S_, .i32⟩
  | 94 => ⟨S_, .i32⟩
  | 95 => ⟨S16x8732, .i32⟩
  | 96 => ⟨S16x8732, .i32⟩
  | 97 => ⟨S16x1, .i32⟩
  | 98 => ⟨S1x8732, .i32⟩
  | 99 => ⟨S16x8732, .i32⟩
  | 100 => ⟨S16x8732, .i32⟩
  | 101 => ⟨S16x8732, .i1⟩
  | 102 => ⟨S_, .f32⟩
  | 103 => ⟨S_, .f32⟩
  | 104 => ⟨S16x8732, .f32⟩
  | 105 => ⟨S16x8732, .f32⟩
  | 106 => ⟨S_, .i32⟩
  | 107 => ⟨S_, .i32⟩
  | 108 => ⟨S16x8732, .i32⟩
  | 109 => ⟨S16x8732, .i32⟩
  | 110 => ⟨S16x1, .i32⟩
  | 111 => ⟨S1x8732, .i32⟩
  | 112 => ⟨S16x8732, .i32⟩
  | 113 => ⟨S16x8732, .i32⟩
  | 114 => ⟨S16x8732, .i1⟩
  | 115 => ⟨S_, .f32⟩
  | 116 => ⟨S_, .f32⟩
  | 117 => ⟨S16x8732, .f32⟩
  | 118 => ⟨S16x8732, .f32⟩
  | 119 => ⟨S_, .i32⟩
  | 120 => ⟨S_, .i32⟩
  | 121 => ⟨S16x8732, .i32⟩
  | 122 => ⟨S16x8732, .i32⟩
  | 123 => ⟨S16x1, .i32⟩
  | 124 => ⟨S1x8732, .i32⟩
  | 125 => ⟨S16x8732, .i32⟩
  | 126 => ⟨S16x8732, .i32⟩
  | 127 => ⟨S16x8732, .i1⟩
  | _ => ⟨S16x8732x4, .f32⟩

abbrev hbmTy0_1 (i : Nat) : BufTy := match i % 128 with
  | 0 => ⟨S_, .f32⟩
  | 1 => ⟨S_, .f32⟩
  | 2 => ⟨S16x8732, .f32⟩
  | 3 => ⟨S16x8732, .f32⟩
  | 4 => ⟨S_, .i32⟩
  | 5 => ⟨S_, .i32⟩
  | 6 => ⟨S16x8732, .i32⟩
  | 7 => ⟨S16x8732, .i32⟩
  | 8 => ⟨S16x1, .i32⟩
  | 9 => ⟨S1x8732, .i32⟩
  | 10 => ⟨S16x8732, .i32⟩
  | 11 => ⟨S16x8732, .i32⟩
  | 12 => ⟨S16x8732, .i1⟩
  | 13 => ⟨S_, .f32⟩
  | 14 => ⟨S_, .f32⟩
  | 15 => ⟨S16x8732, .f32⟩
  | 16 => ⟨S16x8732, .f32⟩
  | 17 => ⟨S_, .i32⟩
  | 18 => ⟨S_, .i32⟩
  | 19 => ⟨S16x8732, .i32⟩
  | 20 => ⟨S16x8732, .i32⟩
  | 21 => ⟨S16x1, .i32⟩
  | 22 => ⟨S1x8732, .i32⟩
  | 23 => ⟨S16x8732, .i32⟩
  | 24 => ⟨S16x8732, .i32⟩
  | 25 => ⟨S16x8732, .i1⟩
  | 26 => ⟨S_, .f32⟩
  | 27 => ⟨S_, .f32⟩
  | 28 => ⟨S16x8732, .f32⟩
  | 29 => ⟨S16x8732, .f32⟩
  | 30 => ⟨S_, .i32⟩
  | 31 => ⟨S_, .i32⟩
  | 32 => ⟨S16x8732, .i32⟩
  | 33 => ⟨S16x8732, .i32⟩
  | 34 => ⟨S16x1, .i32⟩
  | 35 => ⟨S1x8732, .i32⟩
  | 36 => ⟨S16x8732, .i32⟩
  | 37 => ⟨S16x8732, .i32⟩
  | 38 => ⟨S16x8732, .i1⟩
  | 39 => ⟨S_, .f32⟩
  | 40 => ⟨S_, .f32⟩
  | 41 => ⟨S16x8732, .f32⟩
  | 42 => ⟨S16x8732, .f32⟩
  | 43 => ⟨S_, .i32⟩
  | 44 => ⟨S_, .i32⟩
  | 45 => ⟨S16x8732, .i32⟩
  | 46 => ⟨S16x8732, .i32⟩
  | 47 => ⟨S16x1, .i32⟩
  | 48 => ⟨S1x8732, .i32⟩
  | 49 => ⟨S16x8732, .i32⟩
  | 50 => ⟨S16x8732, .i32⟩
  | 51 => ⟨S16x8732, .i1⟩
  | 52 => ⟨S_, .f32⟩
  | 53 => ⟨S_, .f32⟩
  | 54 => ⟨S16x8732, .f32⟩
  | 55 => ⟨S16x8732, .f32⟩
  | 56 => ⟨S_, .i32⟩
  | 57 => ⟨S_, .i32⟩
  | 58 => ⟨S16x8732, .i32⟩
  | 59 => ⟨S16x8732, .i32⟩
  | 60 => ⟨S16x8732x1, .i32⟩
  | 61 => ⟨S_, .i32⟩
  | 62 => ⟨S16x8732x1, .i32⟩
  | 63 => ⟨S16x8732x1, .i1⟩
  | 64 => ⟨S_, .i32⟩
  | 65 => ⟨S16x8732x1, .i32⟩
  | 66 => ⟨S16x8732x1, .i32⟩
  | 67 => ⟨S16x8732x1, .i32⟩
  | 68 => ⟨S16x8732x4, .f32⟩
  | 69 => ⟨S_, .i32⟩
  | 70 => ⟨S16x8732, .i32⟩
  | 71 => ⟨S16x8732, .i1⟩
  | 72 => ⟨S_, .i32⟩
  | 73 => ⟨S16x8732, .i32⟩
  | 74 => ⟨S16x8732, .i32⟩
  | 75 => ⟨S16x8732, .i32⟩
  | 76 => ⟨S16x8732x1, .i32⟩
  | 77 => ⟨S16x8732, .i32⟩
  | 78 => ⟨S_, .i32⟩
  | 79 => ⟨S16x8732, .i32⟩
  | 80 => ⟨S16x8732, .i32⟩
  | 81 => ⟨S_, .f32⟩
  | 82 => ⟨S16x8732, .f32⟩
  | 83 => ⟨S16x8732, .i1⟩
  | 84 => ⟨S_, .i32⟩
  | 85 => ⟨S_, .i32⟩
  | 86 => ⟨S16x8732, .i32⟩
  | 87 => ⟨S16x8732, .i32⟩
  | 88 => ⟨S16x8732x2, .f32⟩
  | 89 => ⟨S16x8732x2, .f32⟩
  | 90 => ⟨S16x8732x2, .f32⟩
  | 91 => ⟨S_, .f32⟩
  | 92 => ⟨S16x8732x2, .f32⟩
  | 93 => ⟨S16x8732x2, .f32⟩
  | 94 => ⟨S8732x2, .f32⟩
  | 95 => ⟨S1x8732x2, .f32⟩
  | 96 => ⟨S16x8732x2, .f32⟩
  | 97 => ⟨S16x8732x2, .f32⟩
  | 98 => ⟨S8732x2, .f32⟩
  | 99 => ⟨S_, .f32⟩
  | 100 => ⟨S8732x2, .f32⟩
  | 101 => ⟨S8732x2, .f32⟩
  | 102 => ⟨S1x8732x2, .f32⟩
  | 103 => ⟨S16x8732x2, .f32⟩
  | 104 => ⟨S16x8732x2, .f32⟩
  | 105 => ⟨S16x8732x2, .f32⟩
  | 106 => ⟨S16x8732x2, .f32⟩
  | 107 => ⟨S16x8732x2, .f32⟩
  | 108 => ⟨S8732x2, .f32⟩
  | 109 => ⟨S1x8732x2, .f32⟩
  | 110 => ⟨S16x8732x2, .f32⟩
  | 111 => ⟨S16x8732x2, .f32⟩
  | 112 => ⟨S16x8732x2, .f32⟩
  | 113 => ⟨S_, .f32⟩
  | 114 => ⟨S16x8732x2, .f32⟩
  | 115 => ⟨S16x8732x2, .f32⟩
  | 116 => ⟨S16x8732x4, .f32⟩
  | 117 => ⟨S_, .i32⟩
  | 118 => ⟨S16x8732, .i32⟩
  | 119 => ⟨S16x8732, .i1⟩
  | 120 => ⟨S16x8732, .i32⟩
  | 121 => ⟨S_, .i32⟩
  | 122 => ⟨S16, .i32⟩
  | 123 => ⟨S16x1, .i32⟩
  | 124 => ⟨S16x8732x4, .f32⟩
  | 125 => ⟨S16x8732x4, .f32⟩
  | 126 => ⟨S_, .f32⟩
  | 127 => ⟨S16x8732x4, .f32⟩
  | _ => ⟨S16x8732x4, .f32⟩

abbrev hbmTy0_2 (i : Nat) : BufTy := match i % 128 with
  | 0 => ⟨S16x8732x4, .i1⟩
  | 1 => ⟨S_, .f32⟩
  | 2 => ⟨S16x8732x4, .f32⟩
  | 3 => ⟨S16x8732x4, .f32⟩
  | 4 => ⟨S16x8732x4, .f32⟩
  | 5 => ⟨S_, .f32⟩
  | 6 => ⟨S16x8732x4, .f32⟩
  | 7 => ⟨S16x8732x4, .f32⟩
  | 8 => ⟨S16x8732x4, .f32⟩
  | 9 => ⟨S16x8732x1, .i1⟩
  | 10 => ⟨S16x8732x1, .f32⟩
  | 11 => ⟨S16x8732x4, .f32⟩
  | 12 => ⟨S16x8732x4, .f32⟩
  | 13 => ⟨S_, .f32⟩
  | 14 => ⟨S_, .f32⟩
  | 15 => ⟨S_, .f32⟩
  | 16 => ⟨S16x8732, .f32⟩
  | 17 => ⟨S16x8732x1, .f32⟩
  | 18 => ⟨S16x8732x21, .f32⟩
  | 19 => ⟨S16x8732x21, .f32⟩
  | 20 => ⟨S16x8732x21, .f32⟩
  | 21 => ⟨S_, .f32⟩
  | 22 => ⟨S16x8732, .f32⟩
  | 23 => ⟨S16x8732, .f32⟩
  | 24 => ⟨S16x8732, .f32⟩
  | 25 => ⟨S16x8732x1, .i32⟩
  | 26 => ⟨S_, .i32⟩
  | 27 => ⟨S16x8732x1, .i32⟩
  | 28 => ⟨S16x8732x1, .i1⟩
  | 29 => ⟨S_, .i32⟩
  | 30 => ⟨S16x8732x1, .i32⟩
  | 31 => ⟨S16x8732x1, .i32⟩
  | 32 => ⟨S16x8732x1, .i32⟩
  | 33 => ⟨S16x8732x1x1, .i32⟩
  | 34 => ⟨S16x8732x1, .f32⟩
  | 35 => ⟨S16x8732, .f32⟩
  | 36 => ⟨S16x8732, .f32⟩
  | 37 => ⟨S_, .f32⟩
  | 38 => ⟨S_, .f32⟩
  | 39 => ⟨S16x8732, .f32⟩
  | 40 => ⟨S16x8732, .f32⟩
  | 41 => ⟨S_, .i32⟩
  | 42 => ⟨S16x1, .i32⟩
  | 43 => ⟨S16x1, .i32⟩
  | 44 => ⟨S_, .i32⟩
  | 45 => ⟨S16x1, .i32⟩
  | 46 => ⟨S16x1, .i32⟩
  | 47 => ⟨S16x8732, .f32⟩
  | 48 => ⟨S8732, .i32⟩
  | 49 => ⟨S_, .i32⟩
  | 50 => ⟨S16x1, .i32⟩
  | 51 => ⟨S16x1, .i32⟩
  | 52 => ⟨S1x8732, .i32⟩
  | 53 => ⟨S16x8732, .i32⟩
  | 54 => ⟨S16x8732, .i32⟩
  | 55 => ⟨S16x8732, .i1⟩
  | 56 => ⟨S_, .f32⟩
  | 57 => ⟨S_, .f32⟩
  | 58 => ⟨S16x8732, .f32⟩
  | 59 => ⟨S16x8732, .f32⟩
  | 60 => ⟨S_, .f32⟩
  | 61 => ⟨S16, .f32⟩
  | 62 => ⟨S2139095041, .i32⟩
  | 63 => ⟨S2139095041, .f32⟩
  | 64 => ⟨S16x1, .f32⟩
  | 65 => ⟨S1x2139095041, .f32⟩
  | 66 => ⟨S16x2139095041, .f32⟩
  | 67 => ⟨S16x2139095041, .f32⟩
  | 68 => ⟨S16x2139095041, .i1⟩
  | 69 => ⟨S_, .f32⟩
  | 70 => ⟨S_, .f32⟩
  | 71 => ⟨S16x2139095041, .f32⟩
  | 72 => ⟨S16x2139095041, .f32⟩
  | 73 => ⟨S16x2139095041, .f32⟩
  | 74 => ⟨S_, .f32⟩
  | 75 => ⟨S16, .f32⟩
  | 76 => ⟨S16x1, .f32⟩
  | 77 => ⟨S_, .f32⟩
  | 78 => ⟨S_, .f32⟩
  | 79 => ⟨S16x8732, .f32⟩
  | 80 => ⟨S16x8732, .f32⟩
  | 81 => ⟨S_, .f32⟩
  | 82 => ⟨S_, .f32⟩
  | 83 => ⟨S16x8732, .f32⟩
  | 84 => ⟨S16x8732, .f32⟩
  | 85 => ⟨S_, .f32⟩
  | 86 => ⟨S_, .f32⟩
  | 87 => ⟨S16x8732, .f32⟩
  | 88 => ⟨S16x8732, .f32⟩
  | 89 => ⟨S_, .f32⟩
  | 90 => ⟨S_, .f32⟩
  | 91 => ⟨S_, .f32⟩
  | 92 => ⟨S_, .i32⟩
  | 93 => ⟨S_, .i32⟩
  | 94 => ⟨S_, .f32⟩
  | 95 => ⟨S_, .f32⟩
  | 96 => ⟨S_, .f32⟩
  | _ => ⟨S16x8732x4, .f32⟩

abbrev hbmTy (i : Nat) : BufTy := match i / 128 with
  | 0 => hbmTy0_0 i
  | 1 => hbmTy0_1 i
  | 2 => hbmTy0_2 i
  | _ => ⟨S16x8732x4, .f32⟩

abbrev bufTy : (tb : Table) → Fin (tcTables nBuf tb) → BufTy
  | .hbm, ⟨i, _⟩ => hbmTy i
  | _, _ => ⟨S16x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_call1_v0 : Ref sig .tc := ⟨.hbm, 71, rfl⟩
abbrev main_call1_cst : Ref sig .tc := ⟨.hbm, 72, rfl⟩
abbrev main_call1_c : Ref sig .tc := ⟨.hbm, 73, rfl⟩
abbrev main_call1_v1_0 : Ref sig .tc := ⟨.hbm, 74, rfl⟩
abbrev main_v61 : Ref sig .tc := ⟨.hbm, 75, rfl⟩
abbrev main_cst_2 : Ref sig .tc := ⟨.hbm, 76, rfl⟩
abbrev main_v62 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_3 : Ref sig .tc := ⟨.hbm, 89, rfl⟩
abbrev main_call3_v0 : Ref sig .tc := ⟨.hbm, 90, rfl⟩
abbrev main_call3_v1 : Ref sig .tc := ⟨.hbm, 91, rfl⟩
abbrev main_v70 : Ref sig .tc := ⟨.hbm, 92, rfl⟩
abbrev main_c : Ref sig .tc := ⟨.hbm, 93, rfl⟩
abbrev main_call4_v0 : Ref sig .tc := ⟨.hbm, 94, rfl⟩
abbrev main_call4_v1 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_4 : Ref sig .tc := ⟨.hbm, 102, rfl⟩
abbrev main_call5_v0 : Ref sig .tc := ⟨.hbm, 103, rfl⟩
abbrev main_call5_v1 : Ref sig .tc := ⟨.hbm, 104, rfl⟩
abbrev main_v77 : Ref sig .tc := ⟨.hbm, 105, rfl⟩
abbrev main_c_5 : Ref sig .tc := ⟨.hbm, 106, rfl⟩
abbrev main_call6_v0 : Ref sig .tc := ⟨.hbm, 107, rfl⟩
abbrev main_call6_v1 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_6 : Ref sig .tc := ⟨.hbm, 115, rfl⟩
abbrev main_call7_v0 : Ref sig .tc := ⟨.hbm, 116, rfl⟩
abbrev main_call7_v1 : Ref sig .tc := ⟨.hbm, 117, rfl⟩
abbrev main_v84 : Ref sig .tc := ⟨.hbm, 118, rfl⟩
abbrev main_c_7 : Ref sig .tc := ⟨.hbm, 119, rfl⟩
abbrev main_call8_v0 : Ref sig .tc := ⟨.hbm, 120, rfl⟩
abbrev main_call8_v1 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_8 : Ref sig .tc := ⟨.hbm, 128, rfl⟩
abbrev main_call9_v0 : Ref sig .tc := ⟨.hbm, 129, rfl⟩
abbrev main_call9_v1 : Ref sig .tc := ⟨.hbm, 130, rfl⟩
abbrev main_v91 : Ref sig .tc := ⟨.hbm, 131, rfl⟩
abbrev main_c_9 : Ref sig .tc := ⟨.hbm, 132, rfl⟩
abbrev main_call10_v0 : Ref sig .tc := ⟨.hbm, 133, rfl⟩
abbrev main_call10_v1 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_10 : Ref sig .tc := ⟨.hbm, 141, rfl⟩
abbrev main_call11_v0 : Ref sig .tc := ⟨.hbm, 142, rfl⟩
abbrev main_call11_v1 : Ref sig .tc := ⟨.hbm, 143, rfl⟩
abbrev main_v98 : Ref sig .tc := ⟨.hbm, 144, rfl⟩
abbrev main_c_11 : Ref sig .tc := ⟨.hbm, 145, rfl⟩
abbrev main_call12_v0 : Ref sig .tc := ⟨.hbm, 146, rfl⟩
abbrev main_call12_v1 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_12 : Ref sig .tc := ⟨.hbm, 154, rfl⟩
abbrev main_call13_v0 : Ref sig .tc := ⟨.hbm, 155, rfl⟩
abbrev main_call13_v1 : Ref sig .tc := ⟨.hbm, 156, rfl⟩
abbrev main_v105 : Ref sig .tc := ⟨.hbm, 157, rfl⟩
abbrev main_c_13 : Ref sig .tc := ⟨.hbm, 158, rfl⟩
abbrev main_call14_v0 : Ref sig .tc := ⟨.hbm, 159, rfl⟩
abbrev main_call14_v1 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_14 : Ref sig .tc := ⟨.hbm, 167, rfl⟩
abbrev main_call15_v0 : Ref sig .tc := ⟨.hbm, 168, rfl⟩
abbrev main_call15_v1 : Ref sig .tc := ⟨.hbm, 169, rfl⟩
abbrev main_v112 : Ref sig .tc := ⟨.hbm, 170, rfl⟩
abbrev main_c_15 : Ref sig .tc := ⟨.hbm, 171, rfl⟩
abbrev main_call16_v0 : Ref sig .tc := ⟨.hbm, 172, rfl⟩
abbrev main_call16_v1 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_16 : Ref sig .tc := ⟨.hbm, 180, rfl⟩
abbrev main_call17_v0 : Ref sig .tc := ⟨.hbm, 181, rfl⟩
abbrev main_call17_v1 : Ref sig .tc := ⟨.hbm, 182, rfl⟩
abbrev main_v119 : Ref sig .tc := ⟨.hbm, 183, rfl⟩
abbrev main_c_17 : Ref sig .tc := ⟨.hbm, 184, rfl⟩
abbrev main_call18_v0 : Ref sig .tc := ⟨.hbm, 185, rfl⟩
abbrev main_call18_v1 : Ref sig .tc := ⟨.hbm, 186, rfl⟩
abbrev main_v120 : Ref sig .tc := ⟨.hbm, 187, rfl⟩
abbrev main_v121 : Ref sig .tc := ⟨.hbm, 188, rfl⟩
abbrev main_call19_c : Ref sig .tc := ⟨.hbm, 189, rfl⟩
abbrev main_call19_v0 : Ref sig .tc := ⟨.hbm, 190, rfl⟩
abbrev main_call19_v1 : Ref sig .tc := ⟨.hbm, 191, rfl⟩
abbrev main_call19_c_0 : Ref sig .tc := ⟨.hbm, 192, rfl⟩
abbrev main_call19_v2 : Ref sig .tc := ⟨.hbm, 193, rfl⟩
abbrev main_call19_v3 : Ref sig .tc := ⟨.hbm, 194, rfl⟩
abbrev main_call19_v4 : Ref sig .tc := ⟨.hbm, 195, rfl⟩
abbrev main_v122 : Ref sig .tc := ⟨.hbm, 196, rfl⟩
abbrev main_call20_c : Ref sig .tc := ⟨.hbm, 197, rfl⟩
abbrev main_call20_v0 : Ref sig .tc := ⟨.hbm, 198, rfl⟩
abbrev main_call20_v1 : Ref sig .tc := ⟨.hbm, 199, rfl⟩
abbrev main_call20_c_0 : Ref sig .tc := ⟨.hbm, 200, rfl⟩
abbrev main_call20_v2 : Ref sig .tc := ⟨.hbm, 201, rfl⟩
abbrev main_call20_v3 : Ref sig .tc := ⟨.hbm, 202, rfl⟩
abbrev main_call20_v4 : Ref sig .tc := ⟨.hbm, 203, rfl⟩
abbrev main_call20_v5 : Ref sig .tc := ⟨.hbm, 204, rfl⟩
abbrev main_v123 : Ref sig .tc := ⟨.hbm, 205, rfl⟩
abbrev main_c_18 : Ref sig .tc := ⟨.hbm, 206, rfl⟩
abbrev main_v124 : Ref sig .tc := ⟨.hbm, 207, rfl⟩
abbrev main_v125 : Ref sig .tc := ⟨.hbm, 208, rfl⟩
abbrev main_cst_19 : Ref sig .tc := ⟨.hbm, 209, rfl⟩
abbrev main_v126 : Ref sig .tc := ⟨.hbm, 210, rfl⟩
abbrev main_v127 : Ref sig .tc := ⟨.hbm, 211, rfl⟩
abbrev main_c_20 : Ref sig .tc := ⟨.hbm, 212, rfl⟩
abbrev main_call21_v0 : Ref sig .tc := ⟨.hbm, 213, rfl⟩
abbrev main_call21_v1 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_cst_21 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_22 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_23 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_c_24 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_c_25 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_cst_26 : Ref sig .tc := ⟨.hbm, 254, rfl⟩
abbrev main_v162 : Ref sig .tc := ⟨.hbm, 255, rfl⟩
abbrev main_v163 : Ref sig .tc := ⟨.hbm, 256, rfl⟩
abbrev main_cst_27 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_cst_28 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_cst_29 : Ref sig .tc := ⟨.hbm, 269, rfl⟩
abbrev main_v174 : Ref sig .tc := ⟨.hbm, 270, rfl⟩
abbrev main_cst_30 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_cst_31 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_call23_c : Ref sig .tc := ⟨.hbm, 282, rfl⟩
abbrev main_call23_v0 : Ref sig .tc := ⟨.hbm, 283, rfl⟩
abbrev main_call23_v1 : Ref sig .tc := ⟨.hbm, 284, rfl⟩
abbrev main_call23_c_0 : Ref sig .tc := ⟨.hbm, 285, rfl⟩
abbrev main_call23_v2 : Ref sig .tc := ⟨.hbm, 286, rfl⟩
abbrev main_call23_v3 : Ref sig .tc := ⟨.hbm, 287, rfl⟩
abbrev main_call23_v4 : Ref sig .tc := ⟨.hbm, 288, rfl⟩
abbrev main_call23_v5 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_32 : Ref sig .tc := ⟨.hbm, 293, rfl⟩
abbrev main_call24_v0 : Ref sig .tc := ⟨.hbm, 294, rfl⟩
abbrev main_call24_v1 : Ref sig .tc := ⟨.hbm, 295, rfl⟩
abbrev main_v187 : Ref sig .tc := ⟨.hbm, 296, rfl⟩
abbrev main_c_33 : Ref sig .tc := ⟨.hbm, 297, rfl⟩
abbrev main_v188 : Ref sig .tc := ⟨.hbm, 298, rfl⟩
abbrev main_v189 : Ref sig .tc := ⟨.hbm, 299, rfl⟩
abbrev main_c_34 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_c_35 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_cst_36 : Ref sig .tc := ⟨.hbm, 312, rfl⟩
abbrev main_call26_v0 : Ref sig .tc := ⟨.hbm, 313, rfl⟩
abbrev main_call26_v1 : Ref sig .tc := ⟨.hbm, 314, rfl⟩
abbrev main_v200 : Ref sig .tc := ⟨.hbm, 315, rfl⟩
abbrev main_cst_37 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_cst_38 : Ref sig .tc := ⟨.hbm, 325, rfl⟩
abbrev main_call27_v0 : Ref sig .tc := ⟨.hbm, 326, rfl⟩
abbrev main_call27_v1 : Ref sig .tc := ⟨.hbm, 327, rfl⟩
abbrev main_call27_v2 : Ref sig .tc := ⟨.hbm, 328, rfl⟩
abbrev main_v209 : Ref sig .tc := ⟨.hbm, 329, rfl⟩
abbrev main_cst_39 : Ref sig .tc := ⟨.hbm, 330, rfl⟩
abbrev main_v210 : Ref sig .tc := ⟨.hbm, 331, rfl⟩
abbrev main_v211 : Ref sig .tc := ⟨.hbm, 332, rfl⟩
abbrev main_cst_40 : Ref sig .tc := ⟨.hbm, 333, rfl⟩
abbrev main_call28_v0 : Ref sig .tc := ⟨.hbm, 334, rfl⟩
abbrev main_call28_v1 : Ref sig .tc := ⟨.hbm, 335, rfl⟩
abbrev main_v212 : Ref sig .tc := ⟨.hbm, 336, rfl⟩
abbrev main_cst_41 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_cst_42 : Ref sig .tc := ⟨.hbm, 341, rfl⟩
abbrev main_call29_v0 : Ref sig .tc := ⟨.hbm, 342, rfl⟩
abbrev main_call29_v1 : Ref sig .tc := ⟨.hbm, 343, rfl⟩
abbrev main_v216 : Ref sig .tc := ⟨.hbm, 344, rfl⟩
abbrev main_cst_43 : Ref sig .tc := ⟨.hbm, 345, rfl⟩
abbrev main_v217 : Ref sig .tc := ⟨.hbm, 346, rfl⟩
abbrev main_v218 : Ref sig .tc := ⟨.hbm, 347, rfl⟩
abbrev main_c_44 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩

abbrev nD : Nat := 1
abbrev τ : Topo := Topo.v7x

variable {F : FTy → Type} [FloatOps F]
-- ==== Proof.IdealFrame.lean ====
/- The run of the printed kernel, at any values: it ends, the arguments end as they were, every counter at zero; nothing is
   stated of what it writes. The text follows the frame certificate made beside the program. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.KernelIdeal.Forget

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_call0_v65, main_call0_v66, main_call0_v67, main_call0_v68, main_call0_v70, main_call0_v71, main_v0_0, main_v0_1}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_2, k0_cond3, e0]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x8832 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x4x8832 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x21x8832 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x8832 .f32 := Memref.whole cc0_scratch0
abbrev scM0_1 : Memref sig .tc .vmem S16x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple IN CASE A (`scf.if` 0 taken, `scf.if` 1 not taken, `scf.if` 2 not taken: points 0): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S4x8x128 .f32) (harg1 : arg1.IsWhole) (arg2 : Memref sig .tc .vmem S4x8x128 .f32) (harg2 : arg2.IsWhole) (arg3 : Memref sig .tc .vmem S16x8832 .f32) (harg3 : arg3.IsWhole) (arg4 : Memref sig .tc .vmem S4x4x8832 .f32) (harg4 : arg4.IsWhole) (arg5 : Memref sig .tc .vmem S4x21x8832 .f32) (harg5 : arg5.IsWhole) (arg6 : Memref sig .tc .vmem S8x128 .f32) (harg6 : arg6.IsWhole) (arg7 : Memref sig .tc .vmem S16x8832 .f32) (harg7 : arg7.IsWhole) (arg8 : Memref sig .tc .vmem S16x128 .f32) (harg8 : arg8.IsWhole) (hc0 : cond0_0 i) (hc1 : ¬cond0_1 i) (hc2 : ¬cond0_2 i)
    (x0 : Vec F S4x8x128 .f32) (x1 : Vec F S4x8x128 .f32) (x2 : Vec F S16x8832 .f32) (x3 : Vec F S4x4x8832 .f32) (x4 : Vec F S4x21x8832 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8) K := by
    intro E K
    simp only [cc0__mbl_kernel_eq_skeleton]; unfold cc0__mbl_kernel_skel
    simp only [k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1000000 in
/-- The body's triple IN CASE B (`scf.if` 0 not taken, `scf.if` 1 taken, `scf.if` 2 not taken: points 1, 2): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S4x8x128 .f32) (harg1 : arg1.IsWhole) (arg2 : Memref sig .tc .vmem S4x8x128 .f32) (harg2 : arg2.IsWhole) (arg3 : Memref sig .tc .vmem S16x8832 .f32) (harg3 : arg3.IsWhole) (arg4 : Memref sig .tc .vmem S4x4x8832 .f32) (harg4 : arg4.IsWhole) (arg5 : Memref sig .tc .vmem S4x21x8832 .f32) (harg5 : arg5.IsWhole) (arg6 : Memref sig .tc .vmem S8x128 .f32) (harg6 : arg6.IsWhole) (arg7 : Memref sig .tc .vmem S16x8832 .f32) (harg7 : arg7.IsWhole) (arg8 : Memref sig .tc .vmem S16x128 .f32) (harg8 : arg8.IsWhole) (hc0 : ¬cond0_0 i) (hc1 : cond0_1 i) (hc2 : ¬cond0_2 i)
    (x0 : Vec F S4x8x128 .f32) (x1 : Vec F S4x8x128 .f32) (x2 : Vec F S16x8832 .f32) (x3 : Vec F S4x4x8832 .f32) (x4 : Vec F S4x21x8832 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8) K := by
    intro E K
    simp only [cc0__mbl_kernel_eq_skeleton]; unfold cc0__mbl_kernel_skel
    simp only [k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1000000 in
/-- The body's triple IN CASE C (`scf.if` 0 not taken, `scf.if` 1 taken, `scf.if` 2 taken: points 3): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S4x8x128 .f32) (harg1 : arg1.IsWhole) (arg2 : Memref sig .tc .vmem S4x8x128 .f32) (harg2 : arg2.IsWhole) (arg3 : Memref sig .tc .vmem S16x8832 .f32) (harg3 : arg3.IsWhole) (arg4 : Memref sig .tc .vmem S4x4x8832 .f32) (harg4 : arg4.IsWhole) (arg5 : Memref sig .tc .vmem S4x21x8832 .f32) (harg5 : arg5.IsWhole) (arg6 : Memref sig .tc .vmem S8x128 .f32) (harg6 : arg6.IsWhole) (arg7 : Memref sig .tc .vmem S16x8832 .f32) (harg7 : arg7.IsWhole) (arg8 : Memref sig .tc .vmem S16x128 .f32) (harg8 : arg8.IsWhole) (hc0 : ¬cond0_0 i) (hc1 : cond0_1 i) (hc2 : cond0_2 i)
    (x0 : Vec F S4x8x128 .f32) (x1 : Vec F S4x8x128 .f32) (x2 : Vec F S16x8832 .f32) (x3 : Vec F S4x4x8832 .f32) (x4 : Vec F S4x21x8832 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8) K := by
    intro E K
    simp only [cc0__mbl_kernel_eq_skeleton]; unfold cc0__mbl_kernel_skel
    simp only [k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 4 := lt_of_lt_of_eq t.isLt (show cfg0.N = 4 from N_0)
  by_cases h0 : t.val % 4 = 0
  · by_cases h1 : 1 ≤ t.val
    · exfalso; omega
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
  · by_cases h1 : 1 ≤ t.val
    · by_cases h2 : t.val % 4 = 3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame at any values: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Forget

end
-- ==== Proof.RefRunA.lean ====
/- The reference program line by line: its operations as lists, and what each stretch of them leaves in the buffers that later
   stretches read (first part). -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v10`, named. It packs its operands into a list of dependent pairs
    whose shapes a later argument's type mentions, so `simp` cannot rewrite an operand where it stands; applied by
    name, the operands are plain arguments, which the window lemmas below rewrite before the name unfolds. -/
def fn_main_v10 : (⟨S8732x2, .f32⟩ : BufTy).Contents (Elt F) → (⟨S8732x2, .f32⟩ : BufTy).Contents (Elt F) → (⟨S8732x4, .f32⟩ : BufTy).Contents (Elt F) :=
  (fun a b => concatenate S8732x4 1 [⟨S8732x2, a⟩, ⟨S8732x2, b⟩] concatenates_S8732x2_S8732x2_S8732x4_d1)

/-- The function of the operation that writes `main_v154`, named. It packs its operands into a list of dependent pairs
    whose shapes a later argument's type mentions, so `simp` cannot rewrite an operand where it stands; applied by
    name, the operands are plain arguments, which the window lemmas below rewrite before the name unfolds. -/
def fn_main_v154 : (⟨S16x8732x2, .f32⟩ : BufTy).Contents (Elt F) → (⟨S16x8732x2, .f32⟩ : BufTy).Contents (Elt F) → (⟨S16x8732x4, .f32⟩ : BufTy).Contents (Elt F) :=
  (fun a b => concatenate S16x8732x4 2 [⟨S16x8732x2, a⟩, ⟨S16x8732x2, b⟩] concatenates_S16x8732x2_S16x8732x2_S16x8732x4_d2)

/-- @main's operations 1 … 30 of 348 (window `main_part0`). -/
abbrev ops_part0_0 : List (HloOp τ sig (Elt F)) :=
  [ unary main_arg2 main_v0 ((extractStridedSlice S8732x2 ![0, 0] · slices_S8732x4_S8732x2_0_0) : (⟨S8732x4, .f32⟩ : BufTy).Contents (Elt F) → (⟨S8732x2, .f32⟩ : BufTy).Contents (Elt F)),
    unary main_arg2 main_v1 ((extractStridedSlice S8732x2 ![0, 2] · slices_S8732x4_S8732x2_0_2) : (⟨S8732x4, .f32⟩ : BufTy).Contents (Elt F) → (⟨S8732x2, .f32⟩ : BufTy).Contents (Elt F)),
    nullary main_cst (constant S_ .f32 0x40000000#32),
    unary main_cst main_v2 (broadcastInDim S8732x2 ![] bcast_S_S8732x2 : (⟨S_, .f32⟩ : BufTy).Contents (Elt F) → (⟨S8732x2, .f32⟩ : BufTy).Contents (Elt F)),
    binary main_v1 main_v2 main_v3 (Host.divf : (⟨S8732x2, .f32⟩ : BufTy).Contents (Elt F) → (⟨S8732x2, .f32⟩ : BufTy).Contents (Elt F) → (⟨S8732x2, .f32⟩ : BufTy).Contents (Elt F)),
    binary main_v0 main_v3 main_v4 (subf : (⟨S8732x2, .f32⟩ : BufTy).Contents (Elt F) → (⟨S8732x2, .f32⟩ : BufTy).Contents (Elt F) → (⟨S8732x2, .f32⟩ : BufTy).Contents (Elt F)),
    unary main_arg2 main_v5 ((extractStridedSlice S8732x2 ![0, 0] · slices_S8732x4_S8732x2_0_0) : (⟨S8732x4, .f32⟩ : BufTy).Contents (Elt F) → (⟨S8732x2, .f32⟩ : BufTy).Contents (Elt F)),
    unary main_arg2 main_v6 ((extractStridedSlice S8732x2 ![0, 2] · slices_S8732x4_S8732x2_0_2) : (⟨S8732x4, .f32⟩ : BufTy).Contents (Elt F) → (⟨S8732x2, .f32⟩ : BufTy).Contents (Elt F)),
    nullary main_cst_0 (constant S_ .f32 0x40000000#32),
    unary main_cst_0 main_v7 (broadcastInDim S8732x2 ![] bcast_S_S8732x2 : (⟨S_, .f32⟩ : BufTy).Contents (Elt F) → (⟨S8732x2, .f32⟩ : BufTy).Contents (Elt F)),
    binary main_v6 main_v7 main_v8 (Host.divf : (⟨S8732x2, .f32⟩ : BufTy).Contents (Elt F) → (⟨S8732x2, .f32⟩ : BufTy).Contents (Elt F) → (⟨S8732x2, .f32⟩ : BufTy).Contents (Elt F)),
    binary main_v5 main_v8 main_v9 (addf : (⟨S8732x2, .f32⟩ : BufTy).Contents (Elt F) → (⟨S8732x2, .f32⟩ : BufTy).Contents (Elt F) → (⟨S8732x2, .f32⟩ : BufTy).Contents (Elt F)),
    binary main_v4 main_v9 main_v10 (fn_main_v10 (F := F)),
    unary main_arg3 main_v11 ((extractStridedSlice S16x8x2 ![0, 0, 2] · slices_S16x8x4_S16x8x2_0_0_2) : (⟨S16x8x4, .f32⟩ : BufTy).Contents (Elt F) → (⟨S16x8x2, .f32⟩ : BufTy).Contents (Elt F)),
    unary main_v11 main_v12 (broadcastInDim S16x8x1x2 ![0, 1, 3] bcast_S16x8x2_S16x8x1x2_0_1_3 : (⟨S16x8x2, .f32⟩ : BufTy).Contents (Elt F) → (⟨S16x8x1x2, .f32⟩ : BufTy).Contents (Elt F)),
    unary main_v10 main_v13 ((extractStridedSlice S8732x2 ![0, 2] · slices_S8732x4_S8732x2_0_2) : (⟨S8732x4, .f32⟩ : BufTy).Contents (Elt F) → (⟨S8732x2, .f32⟩ : BufTy).Contents (Elt F)),
    unary main_v13 main_v14 (broadcastInDim S1x1x8732x2 ![2, 3] bcast_S8732x2_S1x1x8732x2_2_3 : (⟨S8732x2, .f32⟩ : BufTy).Contents (Elt F) → (⟨S1x1x8732x2, .f32⟩ : BufTy).Contents (Elt F)),
    unary main_v12 main_v15 (broadcastInDim S16x8x8732x2 ![0, 1, 2, 3] bcast_S16x8x1x2_S16x8x8732x2_0_1_2_3 : (⟨S16x8x1x2, .f32⟩ : BufTy).Contents (Elt F) → (⟨S16x8x8732x2, .f32⟩ : BufTy).Contents (Elt F)),
    unary main_v14 main_v16 (broadcastInDim S16x8x8732x2 ![0, 1, 2, 3] bcast_S1x1x8732x2_S16x8x8732x2_0_1_2_3 : (⟨S1x1x8732x2, .f32⟩ : BufTy).Contents (Elt F) → (⟨S16x8x8732x2, .f32⟩ : BufTy).Contents (Elt F)),
    binary main_v15 main_v16 main_v17 (minimumf : (⟨S16x8x8732x2, .f32⟩ : BufTy).Contents (Elt F) → (⟨S16x8x8732x2, .f32⟩ : BufTy).Contents (Elt F) → (⟨S16x8x8732x2, .f32⟩ : BufTy).Contents (Elt F)),
    unary main_arg3 main_v18 ((extractStridedSlice S16x8x2 ![0, 0, 0] · slices_S16x8x4_S16x8x2_0_0_0) : (⟨S16x8x4, .f32⟩ : BufTy).Contents (Elt F) → (⟨S16x8x2, .f32⟩ : BufTy).Contents (Elt F)),
    unary main_v18 main_v19 (broadcastInDim S16x8x1x2 ![0, 1, 3] bcast_S16x8x2_S16x8x1x2_0_1_3 : (⟨S16x8x2, .f32⟩ : BufTy).Contents (Elt F) → (⟨S16x8x1x2, .f32⟩ : BufTy).Contents (Elt F)),
    unary main_v10 main_v20 ((extractStridedSlice S8732x2 ![0, 0] · slices_S8732x4_S8732x2_0_0) : (⟨S8732x4, .f32⟩ : BufTy).Contents (Elt F) → (⟨S8732x2, .f32⟩ : BufTy).Contents (Elt F)),
    unary main_v20 main_v21 (broadcastInDim S1x1x8732x2 ![2, 3] bcast_S8732x2_S1x1x8732x2_2_3 : (⟨S8732x2, .f32⟩ : BufTy).Contents (Elt F) → (⟨S1x1x8732x2, .f32⟩ : BufTy).Contents (Elt F)),
    unary main_v19 main_v22 (broadcastInDim S16x8x8732x2 ![0, 1, 2, 3] bcast_S16x8x1x2_S16x8x8732x2_0_1_2_3 : (⟨S16x8x1x2, .f32⟩ : BufTy).Contents (Elt F) → (⟨S16x8x8732x2, .f32⟩ : BufTy).Contents (Elt F)),
    unary main_v21 main_v23 (broadcastInDim S16x8x8732x2 ![0, 1, 2, 3] bcast_S1x1x8732x2_S16x8x8732x2_0_1_2_3 : (⟨S1x1x8732x2, .f32⟩ : BufTy).Contents (Elt F) → (⟨S16x8x8732x2, .f32⟩ : BufTy).Contents (Elt F)),
    binary main_v22 main_v23 main_v24 (maximumf : (⟨S16x8x8732x2, .f32⟩ : BufTy).Contents (Elt F) → (⟨S16x8x8732x2, .f32⟩ : BufTy).Contents (Elt F) → (⟨S16x8x8732x2, .f32⟩ : BufTy).Contents (Elt F)),
    binary main_v17 main_v24 main_v25 (subf : (⟨S16x8x8732x2, .f32⟩ : BufTy).Contents (Elt F) → (⟨S16x8x8732x2, .f32⟩ : BufTy).Contents (Elt F) → (⟨S16x8x8732x2, .f32⟩ : BufTy).Contents (Elt F)),
    nullary main_cst_1 (constant S_ .f32 0x00000000#32),
    TRef.unary (TRef.of (T := ⟨S_, .f32⟩) main_cst_1) (TRef.of (T := ⟨S_, .f32⟩) main_call0_v0) id ]

/-- @main's operations 31 … 60 of 348 (window `main_part0`). -/
abbrev ops_part0_1 : List (HloOp τ sig (Elt F)) :=
  [ TRef.unary (TRef.of (T := ⟨S_, .f32⟩) main_call0_v0) (TRef.of (T := ⟨S16x8x8732x2, .f32⟩) main_call0_v1) (broadcastInDim S16x8x8732x2 ![] bcast_S_S16x8x8732x2),
    TRef.binary (TRef.of (T := ⟨S16x8x8732x2, .f32⟩) main_call0_v1) (TRef.of (T := ⟨S16x8x8732x2, .f32⟩) main_v25) (TRef.of (T := ⟨S16x8x8732x2, .f32⟩) main_v26) maximumf,
    unary main_v26 main_v27 ((extractStridedSlice S16x8x8732x1 ![0, 0, 0, 0] · slices_S16x8x8732x2_S16x8x8732x1_0_0_0_0) : (⟨S16x8x8732x2, .f32⟩ : BufTy).Contents (Elt F) → (⟨S16x8x8732x1, .f32⟩ : BufTy).Contents (Elt F)),
    reshape main_v27 main_v28 (rfl : (.f32 : EltTy) = .f32) shapeCasts_S16x8x8732x1_S16x8x8732,
    unary main_v26 main_v29 ((extractStridedSlice S16x8x8732x1 ![0, 0, 0, 1] · slices_S16x8x8732x2_S16x8x8732x1_0_0_0_1) : (⟨S16x8x8732x2, .f32⟩ : BufTy).Contents (Elt F) → (⟨S16x8x8732x1, .f32⟩ : BufTy).Contents (Elt F)),
    reshape main_v29 main_v30 (rfl : (.f32 : EltTy) = .f32) shapeCasts_S16x8x8732x1_S16x8x8732,
    binary main_v28 main_v30 main_v31 (mulf : (⟨S16x8x8732, .f32⟩ : BufTy).Contents (Elt F) → (⟨S16x8x8732, .f32⟩ : BufTy).Contents (Elt F) → (⟨S16x8x8732, .f32⟩ : BufTy).Contents (Elt F)),
    unary main_arg3 main_v32 ((extractStridedSlice S16x8x1 ![0, 0, 2] · slices_S16x8x4_S16x8x1_0_0_2) : (⟨S16x8x4, .f32⟩ : BufTy).Contents (Elt F) → (⟨S16x8x1, .f32⟩ : BufTy).Contents (Elt F)),
    reshape main_v32 main_v33 (rfl : (.f32 : EltTy) = .f32) shapeCasts_S16x8x1_S16x8,
    unary main_arg3 main_v34 ((extractStridedSlice S16x8x1 ![0, 0, 0] · slices_S16x8x4_S16x8x1_0_0_0) : (⟨S16x8x4, .f32⟩ : BufTy).Contents (Elt F) → (⟨S16x8x1, .f32⟩ : BufTy).Contents (Elt F)),
    reshape main_v34 main_v35 (rfl : (.f32 : EltTy) = .f32) shapeCasts_S16x8x1_S16x8,
    binary main_v33 main_v35 main_v36 (subf : (⟨S16x8, .f32⟩ : BufTy).Contents (Elt F) → (⟨S16x8, .f32⟩ : BufTy).Contents (Elt F) → (⟨S16x8, .f32⟩ : BufTy).Contents (Elt F)),
    unary main_arg3 main_v37 ((extractStridedSlice S16x8x1 ![0, 0, 3] · slices_S16x8x4_S16x8x1_0_0_3) : (⟨S16x8x4, .f32⟩ : BufTy).Contents (Elt F) → (⟨S16x8x1, .f32⟩ : BufTy).Contents (Elt F)),
    reshape main_v37 main_v38 (rfl : (.f32 : EltTy) = .f32) shapeCasts_S16x8x1_S16x8,
    unary main_arg3 main_v39 ((extractStridedSlice S16x8x1 ![0, 0, 1] · slices_S16x8x4_S16x8x1_0_0_1) : (⟨S16x8x4, .f32⟩ : BufTy).Contents (Elt F) → (⟨S16x8x1, .f32⟩ : BufTy).Contents (Elt F)),
    reshape main_v39 main_v40 (rfl : (.f32 : EltTy) = .f32) shapeCasts_S16x8x1_S16x8,
    binary main_v38 main_v40 main_v41 (subf : (⟨S16x8, .f32⟩ : BufTy).Contents (Elt F) → (⟨S16x8, .f32⟩ : BufTy).Contents (Elt F) → (⟨S16x8, .f32⟩ : BufTy).Contents (Elt F)),
    binary main_v36 main_v41 main_v42 (mulf : (⟨S16x8, .f32⟩ : BufTy).Contents (Elt F) → (⟨S16x8, .f32⟩ : BufTy).Contents (Elt F) → (⟨S16x8, .f32⟩ : BufTy).Contents (Elt F)),
    unary main_v42 main_v43 (broadcastInDim S16x8x1 ![0, 1] bcast_S16x8_S16x8x1_0_1 : (⟨S16x8, .f32⟩ : BufTy).Contents (Elt F) → (⟨S16x8x1, .f32⟩ : BufTy).Contents (Elt F)),
    unary main_v10 main_v44 ((extractStridedSlice S8732x1 ![0, 2] · slices_S8732x4_S8732x1_0_2) : (⟨S8732x4, .f32⟩ : BufTy).Contents (Elt F) → (⟨S8732x1, .f32⟩ : BufTy).Contents (Elt F)),
    reshape main_v44 main_v45 (rfl : (.f32 : EltTy) = .f32) shapeCasts_S8732x1_S8732,
    unary main_v10 main_v46 ((extractStridedSlice S8732x1 ![0, 0] · slices_S8732x4_S8732x1_0_0) : (⟨S8732x4, .f32⟩ : BufTy).Contents (Elt F) → (⟨S8732x1, .f32⟩ : BufTy).Contents (Elt F)),
    reshape main_v46 main_v47 (rfl : (.f32 : EltTy) = .f32) shapeCasts_S8732x1_S8732,
    binary main_v45 main_v47 main_v48 (subf : (⟨S8732, .f32⟩ : BufTy).Contents (Elt F) → (⟨S8732, .f32⟩ : BufTy).Contents (Elt F) → (⟨S8732, .f32⟩ : BufTy).Contents (Elt F)),
    unary main_v10 main_v49 ((extractStridedSlice S8732x1 ![0, 3] · slices_S8732x4_S8732x1_0_3) : (⟨S8732x4, .f32⟩ : BufTy).Contents (Elt F) → (⟨S8732x1, .f32⟩ : BufTy).Contents (Elt F)),
    reshape main_v49 main_v50 (rfl : (.f32 : EltTy) = .f32) shapeCasts_S8732x1_S8732,
    unary main_v10 main_v51 ((extractStridedSlice S8732x1 ![0, 1] · slices_S8732x4_S8732x1_0_1) : (⟨S8732x4, .f32⟩ : BufTy).Contents (Elt F) → (⟨S8732x1, .f32⟩ : BufTy).Contents (Elt F)),
    reshape main_v51 main_v52 (rfl : (.f32 : EltTy) = .f32) shapeCasts_S8732x1_S8732,
    binary main_v50 main_v52 main_v53 (subf : (⟨S8732, .f32⟩ : BufTy).Contents (Elt F) → (⟨S8732, .f32⟩ : BufTy).Contents (Elt F) → (⟨S8732, .f32⟩ : BufTy).Contents (Elt F)),
    binary main_v48 main_v53 main_v54 (mulf : (⟨S8732, .f32⟩ : BufTy).Contents (Elt F) → (⟨S8732, .f32⟩ : BufTy).Contents (Elt F) → (⟨S8732, .f32⟩ : BufTy).Contents (Elt F)) ]

/-- @main's operations 61 … 62 of 348 (window `main_part0`). -/
abbrev ops_part0_2 : List (HloOp τ sig (Elt F)) :=
  [ unary main_v54 main_v55 (broadcastInDim S1x1x8732 ![2] bcast_S8732_S1x1x8732_2 : (⟨S8732, .f32⟩ : BufTy).Contents (Elt F) → (⟨S1x1x8732, .f32⟩ : BufTy).Contents (Elt F)),
    unary main_v43 main_v56 (broadcastInDim S16x8x8732 ![0, 1, 2] bcast_S16x8x1_S16x8x8732_0_1_2 : (⟨S16x8x1, .f32⟩ : BufTy).Contents (Elt F) → (⟨S16x8x8732, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 348 (window `main_part1`). -/
abbrev ops_part1_0 : List (HloOp τ sig (Elt F)) :=
  [ unary main_v55 main_v57 (broadcastInDim S16x8x8732 ![0, 1, 2] bcast_S1x1x8732_S16x8x8732_0_1_2 : (⟨S1x1x8732, .f32⟩ : BufTy).Contents (Elt F) → (⟨S16x8x8732, .f32⟩ : BufTy).Contents (Elt F)),
    binary main_v56 main_v57 main_v58 (addf : (⟨S16x8x8732, .f32⟩ : BufTy).Contents (Elt F) → (⟨S16x8x8732, .f32⟩ : BufTy).Contents (Elt F) → (⟨S16x8x8732, .f32⟩ : BufTy).Contents (Elt F)),
    binary main_v58 main_v31 main_v59 (subf : (⟨S16x8x8732, .f32⟩ : BufTy).Contents (Elt F) → (⟨S16x8x8732, .f32⟩ : BufTy).Contents (Elt F) → (⟨S16x8x8732, .f32⟩ : BufTy).Contents (Elt F)),
    binary main_v31 main_v59 main_v60 (Host.divf : (⟨S16x8x8732, .f32⟩ : BufTy).Contents (Elt F) → (⟨S16x8x8732, .f32⟩ : BufTy).Contents (Elt F) → (⟨S16x8x8732, .f32⟩ : BufTy).Contents (Elt F)),
    TRef.nullary (TRef.of (T := ⟨S16x8x8732, .i32⟩) main_call1_v0) (iotaInDim S16x8x8732 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x8x8732, .f32⟩) main_v60) (TRef.of (T := ⟨S16x8x8732, .i32⟩) main_call1_v0) (TRef.of (T := ⟨S_, .f32⟩) main_call1_cst) (TRef.of (T := ⟨S_, .i32⟩) main_call1_c) (TRef.of (T := ⟨S16x8, .f32⟩) main_call1_v1_0) (fun x y u v => (fun j => (Host.argReduce reducer_argmax_f32_i32 x y u v reducesTo_S16x8x8732_S16x8_d2 h_S_ j).1)),
    TRef.quaternary (TRef.of (T := ⟨S16x8x8732, .f32⟩) main_v60) (TRef.of (T := ⟨S16x8x8732, .i32⟩) main_call1_v0) (TRef.of (T := ⟨S_, .f32⟩) main_call1_cst) (TRef.of (T := ⟨S_, .i32⟩) main_call1_c) (TRef.of (T := ⟨S16x8, .i32⟩) main_v61) (fun x y u v => (fun j => (Host.argReduce reducer_argmax_f32_i32 x y u v reducesTo_S16x8x8732_S16x8_d2 h_S_ j).2)),
    nullary main_cst_2 (constant S_ .f32 0xFF800000#32),
    binary main_v60 main_cst_2 main_v62 ((fun x v => Host.reduce FloatOps.maximumf x v reducesTo_S16x8x8732_S16x8732_d1 h_S_) : (⟨S16x8x8732, .f32⟩ : BufTy).Contents (Elt F) → (⟨S_, .f32⟩ : BufTy).Contents (Elt F) → (⟨S16x8732, .f32⟩ : BufTy).Contents (Elt F)),
    TRef.nullary (TRef.of (T := ⟨S16x8x8732, .i32⟩) main_call2_v0) (iotaInDim S16x8x8732 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x8x8732, .f32⟩) main_v60) (TRef.of (T := ⟨S16x8x8732, .i32⟩) main_call2_v0) (TRef.of (T := ⟨S_, .f32⟩) main_call2_cst) (TRef.of (T := ⟨S_, .i32⟩) main_call2_c) (TRef.of (T := ⟨S16x8732, .f32⟩) main_call2_v1_0) (fun x y u v => (fun j => (Host.argReduce reducer_argmax_f32_i32 x y u v reducesTo_S16x8x8732_S16x8732_d1 h_S_ j).1)),
    TRef.quaternary (TRef.of (T := ⟨S16x8x8732, .f32⟩) main_v60) (TRef.of (T := ⟨S16x8x8732, .i32⟩) main_call2_v0) (TRef.of (T := ⟨S_, .f32⟩) main_call2_cst) (TRef.of (T := ⟨S_, .i32⟩) main_call2_c) (TRef.of (T := ⟨S16x8732, .i32⟩) main_v63) (fun x y u v => (fun j => (Host.argReduce reducer_argmax_f32_i32 x y u v reducesTo_S16x8x8732_S16x8732_d1 h_S_ j).2)),
    nullary main_v64 (iotaInDim S8732 32 0),
    unary main_v61 main_v65 ((extractStridedSlice S16x1 ![0, 0] · slices_S16x8_S16x1_0_0) : (⟨S16x8, .i32⟩ : BufTy).Contents (Elt F) → (⟨S16x1, .i32⟩ : BufTy).Contents (Elt F)),
    unary main_v64 main_v66 (broadcastInDim S1x8732 ![1] bcast_S8732_S1x8732_1 : (⟨S8732, .i32⟩ : BufTy).Contents (Elt F) → (⟨S1x8732, .i32⟩ : BufTy).Contents (Elt F)),
    unary main_v65 main_v67 (broadcastInDim S16x8732 ![0, 1] bcast_S16x1_S16x8732_0_1 : (⟨S16x1, .i32⟩ : BufTy).Contents (Elt F) → (⟨S16x8732, .i32⟩ : BufTy).Contents (Elt F)),
    unary main_v66 main_v68 (broadcastInDim S16x8732 ![0, 1] bcast_S1x8732_S16x8732_0_1 : (⟨S1x8732, .i32⟩ : BufTy).Contents (Elt F) → (⟨S16x8732, .i32⟩ : BufTy).Contents (Elt F)),
    binary main_v67 main_v68 main_v69 (cmpi .eq : (⟨S16x8732, .i32⟩ : BufTy).Contents (Elt F) → (⟨S16x8732, .i32⟩ : BufTy).Contents (Elt F) → (⟨S16x8732, .i1⟩ : BufTy).Contents (Elt F)),
    nullary main_cst_3 (constant S_ .f32 0x40000000#32),
    TRef.unary (TRef.of (T := ⟨S_, .f32⟩) main_cst_3) (TRef.of (T := ⟨S_, .f32⟩) main_call3_v0) id,
    TRef.unary (TRef.of (T := ⟨S_, .f32⟩) main_call3_v0) (TRef.of (T := ⟨S16x8732, .f32⟩) main_call3_v1) (broadcastInDim S16x8732 ![] bcast_S_S16x8732),
    TRef.ternary (TRef.of (T := ⟨S16x8732, .i1⟩) main_v69) (TRef.of (T := ⟨S16x8732, .f32⟩) main_call3_v1) (TRef.of (T := ⟨S16x8732, .f32⟩) main_v62) (TRef.of (T := ⟨S16x8732, .f32⟩) main_v70) select,
    nullary main_c (constantI S_ 32 0#32),
    TRef.unary (TRef.of (T := ⟨S_, .i32⟩) main_c) (TRef.of (T := ⟨S_, .i32⟩) main_call4_v0) id,
    TRef.unary (TRef.of (T := ⟨S_, .i32⟩) main_call4_v0) (TRef.of (T := ⟨S16x8732, .i32⟩) main_call4_v1) (broadcastInDim S16x8732 ![] bcast_S_S16x8732),
    TRef.ternary (TRef.of (T := ⟨S16x8732, .i1⟩) main_v69) (TRef.of (T := ⟨S16x8732, .i32⟩) main_call4_v1) (TRef.of (T := ⟨S16x8732, .i32⟩) main_v63) (TRef.of (T := ⟨S16x8732, .i32⟩) main_v71) select ]

/-- @main's operations 93 … 122 of 348 (window `main_part1`). -/
abbrev ops_part1_1 : List (HloOp τ sig (Elt F)) :=
  [ unary main_v61 main_v72 ((extractStridedSlice S16x1 ![0, 1] · slices_S16x8_S16x1_0_1) : (⟨S16x8, .i32⟩ : BufTy).Contents (Elt F) → (⟨S16x1, .i32⟩ : BufTy).Contents (Elt F)),
    unary main_v64 main_v73 (broadcastInDim S1x8732 ![1] bcast_S8732_S1x8732_1 : (⟨S8732, .i32⟩ : BufTy).Contents (Elt F) → (⟨S1x8732, .i32⟩ : BufTy).Contents (Elt F)),
    unary main_v72 main_v74 (broadcastInDim S16x8732 ![0, 1] bcast_S16x1_S16x8732_0_1 : (⟨S16x1, .i32⟩ : BufTy).Contents (Elt F) → (⟨S16x8732, .i32⟩ : BufTy).Contents (Elt F)),
    unary main_v73 main_v75 (broadcastInDim S16x8732 ![0, 1] bcast_S1x8732_S16x8732_0_1 : (⟨S1x8732, .i32⟩ : BufTy).Contents (Elt F) → (⟨S16x8732, .i32⟩ : BufTy).Contents (Elt F)),
    binary main_v74 main_v75 main_v76 (cmpi .eq : (⟨S16x8732, .i32⟩ : BufTy).Contents (Elt F) → (⟨S16x8732, .i32⟩ : BufTy).Contents (Elt F) → (⟨S16x8732, .i1⟩ : BufTy).Contents (Elt F)),
    nullary main_cst_4 (constant S_ .f32 0x40000000#32),
    TRef.unary (TRef.of (T := ⟨S_, .f32⟩) main_cst_4) (TRef.of (T := ⟨S_, .f32⟩) main_call5_v0) id,
    TRef.unary (TRef.of (T := ⟨S_, .f32⟩) main_call5_v0) (TRef.of (T := ⟨S16x8732, .f32⟩) main_call5_v1) (broadcastInDim S16x8732 ![] bcast_S_S16x8732),
    TRef.ternary (TRef.of (T := ⟨S16x8732, .i1⟩) main_v76) (TRef.of (T := ⟨S16x8732, .f32⟩) main_call5_v1) (TRef.of (T := ⟨S16x8732, .f32⟩) main_v70) (TRef.of (T := ⟨S16x8732, .f32⟩) main_v77) select,
    nullary main_c_5 (constantI S_ 32 1#32),
    TRef.unary (TRef.of (T := ⟨S_, .i32⟩) main_c_5) (TRef.of (T := ⟨S_, .i32⟩) main_call6_v0) id,
    TRef.unary (TRef.of (T := ⟨S_, .i32⟩) main_call6_v0) (TRef.of (T := ⟨S16x8732, .i32⟩) main_call6_v1) (broadcastInDim S16x8732 ![] bcast_S_S16x8732),
    TRef.ternary (TRef.of (T := ⟨S16x8732, .i1⟩) main_v76) (TRef.of (T := ⟨S16x8732, .i32⟩) main_call6_v1) (TRef.of (T := ⟨S16x8732, .i32⟩) main_v71) (TRef.of (T := ⟨S16x8732, .i32⟩) main_v78) select,
    unary main_v61 main_v79 ((extractStridedSlice S16x1 ![0, 2] · slices_S16x8_S16x1_0_2) : (⟨S16x8, .i32⟩ : BufTy).Contents (Elt F) → (⟨S16x1, .i32⟩ : BufTy).Contents (Elt F)),
    unary main_v64 main_v80 (broadcastInDim S1x8732 ![1] bcast_S8732_S1x8732_1 : (⟨S8732, .i32⟩ : BufTy).Contents (Elt F) → (⟨S1x8732, .i32⟩ : BufTy).Contents (Elt F)),
    unary main_v79 main_v81 (broadcastInDim S16x8732 ![0, 1] bcast_S16x1_S16x8732_0_1 : (⟨S16x1, .i32⟩ : BufTy).Contents (Elt F) → (⟨S16x8732, .i32⟩ : BufTy).Contents (Elt F)),
    unary main_v80 main_v82 (broadcastInDim S16x8732 ![0, 1] bcast_S1x8732_S16x8732_0_1 : (⟨S1x8732, .i32⟩ : BufTy).Contents (Elt F) → (⟨S16x8732, .i32⟩ : BufTy).Contents (Elt F)),
    binary main_v81 main_v82 main_v83 (cmpi .eq : (⟨S16x8732, .i32⟩ : BufTy).Contents (Elt F) → (⟨S16x8732, .i32⟩ : BufTy).Contents (Elt F) → (⟨S16x8732, .i1⟩ : BufTy).Contents (Elt F)),
    nullary main_cst_6 (constant S_ .f32 0x40000000#32),
    TRef.unary (TRef.of (T := ⟨S_, .f32⟩) main_cst_6) (TRef.of (T := ⟨S_, .f32⟩) main_call7_v0) id,
    TRef.unary (TRef.of (T := ⟨S_, .f32⟩) main_call7_v0) (TRef.of (T := ⟨S16x8732, .f32⟩) main_call7_v1) (broadcastInDim S16x8732 ![] bcast_S_S16x8732),
    TRef.ternary (TRef.of (T := ⟨S16x8732, .i1⟩) main_v83) (TRef.of (T := ⟨S16x8732, .f32⟩) main_call7_v1) (TRef.of (T := ⟨S16x8732, .f32⟩) main_v77) (TRef.of (T := ⟨S16x8732, .f32⟩) main_v84) select,
    nullary main_c_7 (constantI S_ 32 2#32),
    TRef.unary (TRef.of (T := ⟨S_, .i32⟩) main_c_7) (TRef.of (T := ⟨S_, .i32⟩) main_call8_v0) id,
    TRef.unary (TRef.of (T := ⟨S_, .i32⟩) main_call8_v0) (TRef.of (T := ⟨S16x8732, .i32⟩) main_call8_v1) (broadcastInDim S16x8732 ![] bcast_S_S16x8732),
    TRef.ternary (TRef.of (T := ⟨S16x8732, .i1⟩) main_v83) (TRef.of (T := ⟨S16x8732, .i32⟩) main_call8_v1) (TRef.of (T := ⟨S16x8732, .i32⟩) main_v78) (TRef.of (T := ⟨S16x8732, .i32⟩) main_v85) select,
    unary main_v61 main_v86 ((extractStridedSlice S16x1 ![0, 3] · slices_S16x8_S16x1_0_3) : (⟨S16x8, .i32⟩ : BufTy).Contents (Elt F) → (⟨S16x1, .i32⟩ : BufTy).Contents (Elt F)),
    unary main_v64 main_v87 (broadcastInDim S1x8732 ![1] bcast_S8732_S1x8732_1 : (⟨S8732, .i32⟩ : BufTy).Contents (Elt F) → (⟨S1x8732, .i32⟩ : BufTy).Contents (Elt F)),
    unary main_v86 main_v88 (broadcastInDim S16x8732 ![0, 1] bcast_S16x1_S16x8732_0_1 : (⟨S16x1, .i32⟩ : BufTy).Contents (Elt F) → (⟨S16x8732, .i32⟩ : BufTy).Contents (Elt F)),
    unary main_v87 main_v89 (broadcastInDim S16x8732 ![0, 1] bcast_S1x8732_S16x8732_0_1 : (⟨S1x8732, .i32⟩ : BufTy).Contents (Elt F) → (⟨S16x8732, .i32⟩ : BufTy).Contents (Elt F)) ]

/-- @main's operations 123 … 150 of 348 (window `main_part1`). -/
abbrev ops_part1_2 : List (HloOp τ sig (Elt F)) :=
  [ binary main_v88 main_v89 main_v90 (cmpi .eq : (⟨S16x8732, .i32⟩ : BufTy).Contents (Elt F) → (⟨S16x8732, .i32⟩ : BufTy).Contents (Elt F) → (⟨S16x8732, .i1⟩ : BufTy).Contents (Elt F)),
    nullary main_cst_8 (constant S_ .f32 0x40000000#32),
    TRef.unary (TRef.of (T := ⟨S_, .f32⟩) main_cst_8) (TRef.of (T := ⟨S_, .f32⟩) main_call9_v0) id,
    TRef.unary (TRef.of (T := ⟨S_, .f32⟩) main_call9_v0) (TRef.of (T := ⟨S16x8732, .f32⟩) main_call9_v1) (broadcastInDim S16x8732 ![] bcast_S_S16x8732),
    TRef.ternary (TRef.of (T := ⟨S16x8732, .i1⟩) main_v90) (TRef.of (T := ⟨S16x8732, .f32⟩) main_call9_v1) (TRef.of (T := ⟨S16x8732, .f32⟩) main_v84) (TRef.of (T := ⟨S16x8732, .f32⟩) main_v91) select,
    nullary main_c_9 (constantI S_ 32 3#32),
    TRef.unary (TRef.of (T := ⟨S_, .i32⟩) main_c_9) (TRef.of (T := ⟨S_, .i32⟩) main_call10_v0) id,
    TRef.unary (TRef.of (T := ⟨S_, .i32⟩) main_call10_v0) (TRef.of (T := ⟨S16x8732, .i32⟩) main_call10_v1) (broadcastInDim S16x8732 ![] bcast_S_S16x8732),
    TRef.ternary (TRef.of (T := ⟨S16x8732, .i1⟩) main_v90) (TRef.of (T := ⟨S16x8732, .i32⟩) main_call10_v1) (TRef.of (T := ⟨S16x8732, .i32⟩) main_v85) (TRef.of (T := ⟨S16x8732, .i32⟩) main_v92) select,
    unary main_v61 main_v93 ((extractStridedSlice S16x1 ![0, 4] · slices_S16x8_S16x1_0_4) : (⟨S16x8, .i32⟩ : BufTy).Contents (Elt F) → (⟨S16x1, .i32⟩ : BufTy).Contents (Elt F)),
    unary main_v64 main_v94 (broadcastInDim S1x8732 ![1] bcast_S8732_S1x8732_1 : (⟨S8732, .i32⟩ : BufTy).Contents (Elt F) → (⟨S1x8732, .i32⟩ : BufTy).Contents (Elt F)),
    unary main_v93 main_v95 (broadcastInDim S16x8732 ![0, 1] bcast_S16x1_S16x8732_0_1 : (⟨S16x1, .i32⟩ : BufTy).Contents (Elt F) → (⟨S16x8732, .i32⟩ : BufTy).Contents (Elt F)),
    unary main_v94 main_v96 (broadcastInDim S16x8732 ![0, 1] bcast_S1x8732_S16x8732_0_1 : (⟨S1x8732, .i32⟩ : BufTy).Contents (Elt F) → (⟨S16x8732, .i32⟩ : BufTy).Contents (Elt F)),
    binary main_v95 main_v96 main_v97 (cmpi .eq : (⟨S16x8732, .i32⟩ : BufTy).Contents (Elt F) → (⟨S16x8732, .i32⟩ : BufTy).Contents (Elt F) → (⟨S16x8732, .i1⟩ : BufTy).Contents (Elt F)),
    nullary main_cst_10 (constant S_ .f32 0x40000000#32),
    TRef.unary (TRef.of (T := ⟨S_, .f32⟩) main_cst_10) (TRef.of (T := ⟨S_, .f32⟩) main_call11_v0) id,
    TRef.unary (TRef.of (T := ⟨S_, .f32⟩) main_call11_v0) (TRef.of (T := ⟨S16x8732, .f32⟩) main_call11_v1) (broadcastInDim S16x8732 ![] bcast_S_S16x8732),
    TRef.ternary (TRef.of (T := ⟨S16x8732, .i1⟩) main_v97) (TRef.of (T := ⟨S16x8732, .f32⟩) main_call11_v1) (TRef.of (T := ⟨S16x8732, .f32⟩) main_v91) (TRef.of (T := ⟨S16x8732, .f32⟩) main_v98) select,
    nullary main_c_11 (constantI S_ 32 4#32),
    TRef.unary (TRef.of (T := ⟨S_, .i32⟩) main_c_11) (TRef.of (T := ⟨S_, .i32⟩) main_call12_v0) id,
    TRef.unary (TRef.of (T := ⟨S_, .i32⟩) main_call12_v0) (TRef.of (T := ⟨S16x8732, .i32⟩) main_call12_v1) (broadcastInDim S16x8732 ![] bcast_S_S16x8732),
    TRef.ternary (TRef.of (T := ⟨S16x8732, .i1⟩) main_v97) (TRef.of (T := ⟨S16x8732, .i32⟩) main_call12_v1) (TRef.of (T := ⟨S16x8732, .i32⟩) main_v92) (TRef.of (T := ⟨S16x8732, .i32⟩) main_v99) select,
    unary main_v61 main_v100 ((extractStridedSlice S16x1 ![0, 5] · slices_S16x8_S16x1_0_5) : (⟨S16x8, .i32⟩ : BufTy).Contents (Elt F) → (⟨S16x1, .i32⟩ : BufTy).Contents (Elt F)),
    unary main_v64 main_v101 (broadcastInDim S1x8732 ![1] bcast_S8732_S1x8732_1 : (⟨S8732, .i32⟩ : BufTy).Contents (Elt F) → (⟨S1x8732, .i32⟩ : BufTy).Contents (Elt F)),
    unary main_v100 main_v102 (broadcastInDim S16x8732 ![0, 1] bcast_S16x1_S16x8732_0_1 : (⟨S16x1, .i32⟩ : BufTy).Contents (Elt F) → (⟨S16x8732, .i32⟩ : BufTy).Contents (Elt F)),
    unary main_v101 main_v103 (broadcastInDim S16x8732 ![0, 1] bcast_S1x8732_S16x8732_0_1 : (⟨S1x8732, .i32⟩ : BufTy).Contents (Elt F) → (⟨S16x8732, .i32⟩ : BufTy).Contents (Elt F)),
    binary main_v102 main_v103 main_v104 (cmpi .eq : (⟨S16x8732, .i32⟩ : BufTy).Contents (Elt F) → (⟨S16x8732, .i32⟩ : BufTy).Contents (Elt F) → (⟨S16x8732, .i1⟩ : BufTy).Contents (Elt F)),
    nullary main_cst_12 (constant S_ .f32 0x40000000#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 151 … 180 of 348 (window `main_part2`). -/
abbrev ops_part2_0 : List (HloOp τ sig (Elt F)) :=
  [ TRef.unary (TRef.of (T := ⟨S_, .f32⟩) main_cst_12) (TRef.of (T := ⟨S_, .f32⟩) main_call13_v0) id,
    TRef.unary (TRef.of (T := ⟨S_, .f32⟩) main_call13_v0) (TRef.of (T := ⟨S16x8732, .f32⟩) main_call13_v1) (broadcastInDim S16x8732 ![] bcast_S_S16x8732),
    TRef.ternary (TRef.of (T := ⟨S16x8732, .i1⟩) main_v104) (TRef.of (T := ⟨S16x8732, .f32⟩) main_call13_v1) (TRef.of (T := ⟨S16x8732, .f32⟩) main_v98) (TRef.of (T := ⟨S16x8732, .f32⟩) main_v105) select,
    nullary main_c_13 (constantI S_ 32 5#32),
    TRef.unary (TRef.of (T := ⟨S_, .i32⟩) main_c_13) (TRef.of (T := ⟨S_, .i32⟩) main_call14_v0) id,
    TRef.unary (TRef.of (T := ⟨S_, .i32⟩) main_call14_v0) (TRef.of (T := ⟨S16x8732, .i32⟩) main_call14_v1) (broadcastInDim S16x8732 ![] bcast_S_S16x8732),
    TRef.ternary (TRef.of (T := ⟨S16x8732, .i1⟩) main_v104) (TRef.of (T := ⟨S16x8732, .i32⟩) main_call14_v1) (TRef.of (T := ⟨S16x8732, .i32⟩) main_v99) (TRef.of (T := ⟨S16x8732, .i32⟩) main_v106) select,
    unary main_v61 main_v107 ((extractStridedSlice S16x1 ![0, 6] · slices_S16x8_S16x1_0_6) : (⟨S16x8, .i32⟩ : BufTy).Contents (Elt F) → (⟨S16x1, .i32⟩ : BufTy).Contents (Elt F)),
    unary main_v64 main_v108 (broadcastInDim S1x8732 ![1] bcast_S8732_S1x8732_1 : (⟨S8732, .i32⟩ : BufTy).Contents (Elt F) → (⟨S1x8732, .i32⟩ : BufTy).Contents (Elt F)),
    unary main_v107 main_v109 (broadcastInDim S16x8732 ![0, 1] bcast_S16x1_S16x8732_0_1 : (⟨S16x1, .i32⟩ : BufTy).Contents (Elt F) → (⟨S16x8732, .i32⟩ : BufTy).Contents (Elt F)),
    unary main_v108 main_v110 (broadcastInDim S16x8732 ![0, 1] bcast_S1x8732_S16x8732_0_1 : (⟨S1x8732, .i32⟩ : BufTy).Contents (Elt F) → (⟨S16x8732, .i32⟩ : BufTy).Contents (Elt F)),
    binary main_v109 main_v110 main_v111 (cmpi .eq : (⟨S16x8732, .i32⟩ : BufTy).Contents (Elt F) → (⟨S16x8732, .i32⟩ : BufTy).Contents (Elt F) → (⟨S16x8732, .i1⟩ : BufTy).Contents (Elt F)),
    nullary main_cst_14 (constant S_ .f32 0x40000000#32),
    TRef.unary (TRef.of (T := ⟨S_, .f32⟩) main_cst_14) (TRef.of (T := ⟨S_, .f32⟩) main_call15_v0) id,
    TRef.unary (TRef.of (T := ⟨S_, .f32⟩) main_call15_v0) (TRef.of (T := ⟨S16x8732, .f32⟩) main_call15_v1) (broadcastInDim S16x8732 ![] bcast_S_S16x8732),
    TRef.ternary (TRef.of (T := ⟨S16x8732, .i1⟩) main_v111) (TRef.of (T := ⟨S16x8732, .f32⟩) main_call15_v1) (TRef.of (T := ⟨S16x8732, .f32⟩) main_v105) (TRef.of (T := ⟨S16x8732, .f32⟩) main_v112) select,
    nullary main_c_15 (constantI S_ 32 6#32),
    TRef.unary (TRef.of (T := ⟨S_, .i32⟩) main_c_15) (TRef.of (T := ⟨S_, .i32⟩) main_call16_v0) id,
    TRef.unary (TRef.of (T := ⟨S_, .i32⟩) main_call16_v0) (TRef.of (T := ⟨S16x8732, .i32⟩) main_call16_v1) (broadcastInDim S16x8732 ![] bcast_S_S16x8732),
    TRef.ternary (TRef.of (T := ⟨S16x8732, .i1⟩) main_v111) (TRef.of (T := ⟨S16x8732, .i32⟩) main_call16_v1) (TRef.of (T := ⟨S16x8732, .i32⟩) main_v106) (TRef.of (T := ⟨S16x8732, .i32⟩) main_v113) select,
    unary main_v61 main_v114 ((extractStridedSlice S16x1 ![0, 7] · slices_S16x8_S16x1_0_7) : (⟨S16x8, .i32⟩ : BufTy).Contents (Elt F) → (⟨S16x1, .i32⟩ : BufTy).Contents (Elt F)),
    unary main_v64 main_v115 (broadcastInDim S1x8732 ![1] bcast_S8732_S1x8732_1 : (⟨S8732, .i32⟩ : BufTy).Contents (Elt F) → (⟨S1x8732, .i32⟩ : BufTy).Contents (Elt F)),
    unary main_v114 main_v116 (broadcastInDim S16x8732 ![0, 1] bcast_S16x1_S16x8732_0_1 : (⟨S16x1, .i32⟩ : BufTy).Contents (Elt F) → (⟨S16x8732, .i32⟩ : BufTy).Contents (Elt F)),
    unary main_v115 main_v117 (broadcastInDim S16x8732 ![0, 1] bcast_S1x8732_S16x8732_0_1 : (⟨S1x8732, .i32⟩ : BufTy).Contents (Elt F) → (⟨S16x8732, .i32⟩ : BufTy).Contents (Elt F)),
    binary main_v116 main_v117 main_v118 (cmpi .eq : (⟨S16x8732, .i32⟩ : BufTy).Contents (Elt F) → (⟨S16x8732, .i32⟩ : BufTy).Contents (Elt F) → (⟨S16x8732, .i1⟩ : BufTy).Contents (Elt F)),
    nullary main_cst_16 (constant S_ .f32 0x40000000#32),
    TRef.unary (TRef.of (T := ⟨S_, .f32⟩) main_cst_16) (TRef.of (T := ⟨S_, .f32⟩) main_call17_v0) id,
    TRef.unary (TRef.of (T := ⟨S_, .f32⟩) main_call17_v0) (TRef.of (T := ⟨S16x8732, .f32⟩) main_call17_v1) (broadcastInDim S16x8732 ![] bcast_S_S16x8732),
    TRef.ternary (TRef.of (T := ⟨S16x8732, .i1⟩) main_v118) (TRef.of (T := ⟨S16x8732, .f32⟩) main_call17_v1) (TRef.of (T := ⟨S16x8732, .f32⟩) main_v112) (TRef.of (T := ⟨S16x8732, .f32⟩) main_v119) select,
    nullary main_c_17 (constantI S_ 32 7#32) ]

/-- @main's operations 181 … 210 of 348 (window `main_part2`). -/
abbrev ops_part2_1 : List (HloOp τ sig (Elt F)) :=
  [ TRef.unary (TRef.of (T := ⟨S_, .i32⟩) main_c_17) (TRef.of (T := ⟨S_, .i32⟩) main_call18_v0) id,
    TRef.unary (TRef.of (T := ⟨S_, .i32⟩) main_call18_v0) (TRef.of (T := ⟨S16x8732, .i32⟩) main_call18_v1) (broadcastInDim S16x8732 ![] bcast_S_S16x8732),
    TRef.ternary (TRef.of (T := ⟨S16x8732, .i1⟩) main_v118) (TRef.of (T := ⟨S16x8732, .i32⟩) main_call18_v1) (TRef.of (T := ⟨S16x8732, .i32⟩) main_v113) (TRef.of (T := ⟨S16x8732, .i32⟩) main_v120) select,
    unary main_v120 main_v121 (broadcastInDim S16x8732x1 ![0, 1] bcast_S16x8732_S16x8732x1_0_1 : (⟨S16x8732, .i32⟩ : BufTy).Contents (Elt F) → (⟨S16x8732x1, .i32⟩ : BufTy).Contents (Elt F)),
    TRef.nullary (TRef.of (T := ⟨S_, .i32⟩) main_call19_c) (constantI S_ 32 0#32),
    TRef.unary (TRef.of (T := ⟨S_, .i32⟩) main_call19_c) (TRef.of (T := ⟨S16x8732x1, .i32⟩) main_call19_v0) (broadcastInDim S16x8732x1 ![] bcast_S_S16x8732x1),
    TRef.binary (TRef.of (T := ⟨S16x8732x1, .i32⟩) main_v121) (TRef.of (T := ⟨S16x8732x1, .i32⟩) main_call19_v0) (TRef.of (T := ⟨S16x8732x1, .i1⟩) main_call19_v1) (cmpi .slt),
    TRef.nullary (TRef.of (T := ⟨S_, .i32⟩) main_call19_c_0) (constantI S_ 32 8#32),
    TRef.unary (TRef.of (T := ⟨S_, .i32⟩) main_call19_c_0) (TRef.of (T := ⟨S16x8732x1, .i32⟩) main_call19_v2) (broadcastInDim S16x8732x1 ![] bcast_S_S16x8732x1),
    TRef.binary (TRef.of (T := ⟨S16x8732x1, .i32⟩) main_v121) (TRef.of (T := ⟨S16x8732x1, .i32⟩) main_call19_v2) (TRef.of (T := ⟨S16x8732x1, .i32⟩) main_call19_v3) addi,
    TRef.ternary (TRef.of (T := ⟨S16x8732x1, .i1⟩) main_call19_v1) (TRef.of (T := ⟨S16x8732x1, .i32⟩) main_call19_v3) (TRef.of (T := ⟨S16x8732x1, .i32⟩) main_v121) (TRef.of (T := ⟨S16x8732x1, .i32⟩) main_call19_v4) select,
    TRef.binary (TRef.of (T := ⟨S16x8x4, .f32⟩) main_arg3) (TRef.of (T := ⟨S16x8732x1, .i32⟩) main_call19_v4) (TRef.of (T := ⟨S16x8732x4, .f32⟩) main_v122) (fun x i => Host.gather gather_S16x8x4_S16x8732x1_S16x8732x4_2_1_0_0_1_2_114 x i),
    TRef.nullary (TRef.of (T := ⟨S_, .i32⟩) main_call20_c) (constantI S_ 32 0#32),
    TRef.unary (TRef.of (T := ⟨S_, .i32⟩) main_call20_c) (TRef.of (T := ⟨S16x8732, .i32⟩) main_call20_v0) (broadcastInDim S16x8732 ![] bcast_S_S16x8732),
    TRef.binary (TRef.of (T := ⟨S16x8732, .i32⟩) main_v120) (TRef.of (T := ⟨S16x8732, .i32⟩) main_call20_v0) (TRef.of (T := ⟨S16x8732, .i1⟩) main_call20_v1) (cmpi .slt),
    TRef.nullary (TRef.of (T := ⟨S_, .i32⟩) main_call20_c_0) (constantI S_ 32 8#32),
    TRef.unary (TRef.of (T := ⟨S_, .i32⟩) main_call20_c_0) (TRef.of (T := ⟨S16x8732, .i32⟩) main_call20_v2) (broadcastInDim S16x8732 ![] bcast_S_S16x8732),
    TRef.binary (TRef.of (T := ⟨S16x8732, .i32⟩) main_v120) (TRef.of (T := ⟨S16x8732, .i32⟩) main_call20_v2) (TRef.of (T := ⟨S16x8732, .i32⟩) main_call20_v3) addi,
    TRef.ternary (TRef.of (T := ⟨S16x8732, .i1⟩) main_call20_v1) (TRef.of (T := ⟨S16x8732, .i32⟩) main_call20_v3) (TRef.of (T := ⟨S16x8732, .i32⟩) main_v120) (TRef.of (T := ⟨S16x8732, .i32⟩) main_call20_v4) select,
    TRef.reshape (TRef.of (T := ⟨S16x8732, .i32⟩) main_call20_v4) (TRef.of (T := ⟨S16x8732x1, .i32⟩) main_call20_v5) (rfl : (.i32 : EltTy) = .i32) shapeCasts_S16x8732_S16x8732x1,
    TRef.binary (TRef.of (T := ⟨S16x8, .i32⟩) main_arg4) (TRef.of (T := ⟨S16x8732x1, .i32⟩) main_call20_v5) (TRef.of (T := ⟨S16x8732, .i32⟩) main_v123) (fun x i => Host.gather gather_S16x8_S16x8732x1_S16x8732_n_1_0_0_1_2_11 x i),
    nullary main_c_18 (constantI S_ 32 1#32),
    unary main_c_18 main_v124 (broadcastInDim S16x8732 ![] bcast_S_S16x8732 : (⟨S_, .i32⟩ : BufTy).Contents (Elt F) → (⟨S16x8732, .i32⟩ : BufTy).Contents (Elt F)),
    binary main_v123 main_v124 main_v125 (addi : (⟨S16x8732, .i32⟩ : BufTy).Contents (Elt F) → (⟨S16x8732, .i32⟩ : BufTy).Contents (Elt F) → (⟨S16x8732, .i32⟩ : BufTy).Contents (Elt F)),
    nullary main_cst_19 (constant S_ .f32 0x3EE66666#32),
    unary main_cst_19 main_v126 (broadcastInDim S16x8732 ![] bcast_S_S16x8732 : (⟨S_, .f32⟩ : BufTy).Contents (Elt F) → (⟨S16x8732, .f32⟩ : BufTy).Contents (Elt F)),
    binary main_v119 main_v126 main_v127 (cmpf .olt : (⟨S16x8732, .f32⟩ : BufTy).Contents (Elt F) → (⟨S16x8732, .f32⟩ : BufTy).Contents (Elt F) → (⟨S16x8732, .i1⟩ : BufTy).Contents (Elt F)),
    nullary main_c_20 (constantI S_ 32 0#32),
    TRef.unary (TRef.of (T := ⟨S_, .i32⟩) main_c_20) (TRef.of (T := ⟨S_, .i32⟩) main_call21_v0) id,
    TRef.unary (TRef.of (T := ⟨S_, .i32⟩) main_call21_v0) (TRef.of (T := ⟨S16x8732, .i32⟩) main_call21_v1) (broadcastInDim S16x8732 ![] bcast_S_S16x8732) ]

/-- @main's operations 211 … 239 of 348 (window `main_part2`). -/
abbrev ops_part2_2 : List (HloOp τ sig (Elt F)) :=
  [ TRef.ternary (TRef.of (T := ⟨S16x8732, .i1⟩) main_v127) (TRef.of (T := ⟨S16x8732, .i32⟩) main_call21_v1) (TRef.of (T := ⟨S16x8732, .i32⟩) main_v125) (TRef.of (T := ⟨S16x8732, .i32⟩) main_v128) select,
    unary main_v122 main_v129 ((extractStridedSlice S16x8732x2 ![0, 0, 0] · slices_S16x8732x4_S16x8732x2_0_0_0) : (⟨S16x8732x4, .f32⟩ : BufTy).Contents (Elt F) → (⟨S16x8732x2, .f32⟩ : BufTy).Contents (Elt F)),
    unary main_v122 main_v130 ((extractStridedSlice S16x8732x2 ![0, 0, 2] · slices_S16x8732x4_S16x8732x2_0_0_2) : (⟨S16x8732x4, .f32⟩ : BufTy).Contents (Elt F) → (⟨S16x8732x2, .f32⟩ : BufTy).Contents (Elt F)),
    binary main_v129 main_v130 main_v131 (addf : (⟨S16x8732x2, .f32⟩ : BufTy).Contents (Elt F) → (⟨S16x8732x2, .f32⟩ : BufTy).Contents (Elt F) → (⟨S16x8732x2, .f32⟩ : BufTy).Contents (Elt F)),
    nullary main_cst_21 (constant S_ .f32 0x40000000#32),
    unary main_cst_21 main_v132 (broadcastInDim S16x8732x2 ![] bcast_S_S16x8732x2 : (⟨S_, .f32⟩ : BufTy).Contents (Elt F) → (⟨S16x8732x2, .f32⟩ : BufTy).Contents (Elt F)),
    binary main_v131 main_v132 main_v133 (Host.divf : (⟨S16x8732x2, .f32⟩ : BufTy).Contents (Elt F) → (⟨S16x8732x2, .f32⟩ : BufTy).Contents (Elt F) → (⟨S16x8732x2, .f32⟩ : BufTy).Contents (Elt F)),
    unary main_arg2 main_v134 ((extractStridedSlice S8732x2 ![0, 0] · slices_S8732x4_S8732x2_0_0) : (⟨S8732x4, .f32⟩ : BufTy).Contents (Elt F) → (⟨S8732x2, .f32⟩ : BufTy).Contents (Elt F)),
    unary main_v134 main_v135 (broadcastInDim S1x8732x2 ![1, 2] bcast_S8732x2_S1x8732x2_1_2 : (⟨S8732x2, .f32⟩ : BufTy).Contents (Elt F) → (⟨S1x8732x2, .f32⟩ : BufTy).Contents (Elt F)),
    unary main_v135 main_v136 (broadcastInDim S16x8732x2 ![0, 1, 2] bcast_S1x8732x2_S16x8732x2_0_1_2 : (⟨S1x8732x2, .f32⟩ : BufTy).Contents (Elt F) → (⟨S16x8732x2, .f32⟩ : BufTy).Contents (Elt F)),
    binary main_v133 main_v136 main_v137 (subf : (⟨S16x8732x2, .f32⟩ : BufTy).Contents (Elt F) → (⟨S16x8732x2, .f32⟩ : BufTy).Contents (Elt F) → (⟨S16x8732x2, .f32⟩ : BufTy).Contents (Elt F)),
    unary main_arg2 main_v138 ((extractStridedSlice S8732x2 ![0, 2] · slices_S8732x4_S8732x2_0_2) : (⟨S8732x4, .f32⟩ : BufTy).Contents (Elt F) → (⟨S8732x2, .f32⟩ : BufTy).Contents (Elt F)),
    nullary main_cst_22 (constant S_ .f32 0x41200000#32),
    unary main_cst_22 main_v139 (broadcastInDim S8732x2 ![] bcast_S_S8732x2 : (⟨S_, .f32⟩ : BufTy).Contents (Elt F) → (⟨S8732x2, .f32⟩ : BufTy).Contents (Elt F)),
    binary main_v138 main_v139 main_v140 (Host.divf : (⟨S8732x2, .f32⟩ : BufTy).Contents (Elt F) → (⟨S8732x2, .f32⟩ : BufTy).Contents (Elt F) → (⟨S8732x2, .f32⟩ : BufTy).Contents (Elt F)),
    unary main_v140 main_v141 (broadcastInDim S1x8732x2 ![1, 2] bcast_S8732x2_S1x8732x2_1_2 : (⟨S8732x2, .f32⟩ : BufTy).Contents (Elt F) → (⟨S1x8732x2, .f32⟩ : BufTy).Contents (Elt F)),
    unary main_v141 main_v142 (broadcastInDim S16x8732x2 ![0, 1, 2] bcast_S1x8732x2_S16x8732x2_0_1_2 : (⟨S1x8732x2, .f32⟩ : BufTy).Contents (Elt F) → (⟨S16x8732x2, .f32⟩ : BufTy).Contents (Elt F)),
    binary main_v137 main_v142 main_v143 (Host.divf : (⟨S16x8732x2, .f32⟩ : BufTy).Contents (Elt F) → (⟨S16x8732x2, .f32⟩ : BufTy).Contents (Elt F) → (⟨S16x8732x2, .f32⟩ : BufTy).Contents (Elt F)),
    unary main_v122 main_v144 ((extractStridedSlice S16x8732x2 ![0, 0, 2] · slices_S16x8732x4_S16x8732x2_0_0_2) : (⟨S16x8732x4, .f32⟩ : BufTy).Contents (Elt F) → (⟨S16x8732x2, .f32⟩ : BufTy).Contents (Elt F)),
    unary main_v122 main_v145 ((extractStridedSlice S16x8732x2 ![0, 0, 0] · slices_S16x8732x4_S16x8732x2_0_0_0) : (⟨S16x8732x4, .f32⟩ : BufTy).Contents (Elt F) → (⟨S16x8732x2, .f32⟩ : BufTy).Contents (Elt F)),
    binary main_v144 main_v145 main_v146 (subf : (⟨S16x8732x2, .f32⟩ : BufTy).Contents (Elt F) → (⟨S16x8732x2, .f32⟩ : BufTy).Contents (Elt F) → (⟨S16x8732x2, .f32⟩ : BufTy).Contents (Elt F)),
    unary main_arg2 main_v147 ((extractStridedSlice S8732x2 ![0, 2] · slices_S8732x4_S8732x2_0_2) : (⟨S8732x4, .f32⟩ : BufTy).Contents (Elt F) → (⟨S8732x2, .f32⟩ : BufTy).Contents (Elt F)),
    unary main_v147 main_v148 (broadcastInDim S1x8732x2 ![1, 2] bcast_S8732x2_S1x8732x2_1_2 : (⟨S8732x2, .f32⟩ : BufTy).Contents (Elt F) → (⟨S1x8732x2, .f32⟩ : BufTy).Contents (Elt F)),
    unary main_v148 main_v149 (broadcastInDim S16x8732x2 ![0, 1, 2] bcast_S1x8732x2_S16x8732x2_0_1_2 : (⟨S1x8732x2, .f32⟩ : BufTy).Contents (Elt F) → (⟨S16x8732x2, .f32⟩ : BufTy).Contents (Elt F)),
    binary main_v146 main_v149 main_v150 (Host.divf : (⟨S16x8732x2, .f32⟩ : BufTy).Contents (Elt F) → (⟨S16x8732x2, .f32⟩ : BufTy).Contents (Elt F) → (⟨S16x8732x2, .f32⟩ : BufTy).Contents (Elt F)),
    unary main_v150 main_v151 (Host.log : (⟨S16x8732x2, .f32⟩ : BufTy).Contents (Elt F) → (⟨S16x8732x2, .f32⟩ : BufTy).Contents (Elt F)),
    nullary main_cst_23 (constant S_ .f32 0x40A00000#32),
    unary main_cst_23 main_v152 (broadcastInDim S16x8732x2 ![] bcast_S_S16x8732x2 : (⟨S_, .f32⟩ : BufTy).Contents (Elt F) → (⟨S16x8732x2, .f32⟩ : BufTy).Contents (Elt F)),
    binary main_v151 main_v152 main_v153 (mulf : (⟨S16x8732x2, .f32⟩ : BufTy).Contents (Elt F) → (⟨S16x8732x2, .f32⟩ : BufTy).Contents (Elt F) → (⟨S16x8732x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 240 … 269 of 348 (window `main_part3`). -/
abbrev ops_part3_0 : List (HloOp τ sig (Elt F)) :=
  [ binary main_v143 main_v153 main_v154 (fn_main_v154 (F := F)),
    nullary main_c_24 (constantI S_ 32 0#32),
    unary main_c_24 main_v155 (broadcastInDim S16x8732 ![] bcast_S_S16x8732 : (⟨S_, .i32⟩ : BufTy).Contents (Elt F) → (⟨S16x8732, .i32⟩ : BufTy).Contents (Elt F)),
    binary main_v128 main_v155 main_v156 (cmpi .sgt : (⟨S16x8732, .i32⟩ : BufTy).Contents (Elt F) → (⟨S16x8732, .i32⟩ : BufTy).Contents (Elt F) → (⟨S16x8732, .i1⟩ : BufTy).Contents (Elt F)),
    unary main_v156 main_v157 ((extui 32 · natLt_1_32) : (⟨S16x8732, .i1⟩ : BufTy).Contents (Elt F) → (⟨S16x8732, .i32⟩ : BufTy).Contents (Elt F)),
    nullary main_c_25 (constantI S_ 32 0#32),
    binary main_v157 main_c_25 main_v158 ((fun x v => Host.reduce IntOp.addi x v reducesTo_S16x8732_S16_d1 h_S_) : (⟨S16x8732, .i32⟩ : BufTy).Contents (Elt F) → (⟨S_, .i32⟩ : BufTy).Contents (Elt F) → (⟨S16, .i32⟩ : BufTy).Contents (Elt F)),
    unary main_v158 main_v159 (broadcastInDim S16x1 ![0] bcast_S16_S16x1_0 : (⟨S16, .i32⟩ : BufTy).Contents (Elt F) → (⟨S16x1, .i32⟩ : BufTy).Contents (Elt F)),
    binary main_arg0 main_v154 main_v160 (subf : (⟨S16x8732x4, .f32⟩ : BufTy).Contents (Elt F) → (⟨S16x8732x4, .f32⟩ : BufTy).Contents (Elt F) → (⟨S16x8732x4, .f32⟩ : BufTy).Contents (Elt F)),
    unary main_v160 main_v161 (Host.absf : (⟨S16x8732x4, .f32⟩ : BufTy).Contents (Elt F) → (⟨S16x8732x4, .f32⟩ : BufTy).Contents (Elt F)),
    nullary main_cst_26 (constant S_ .f32 0x3F800000#32),
    unary main_cst_26 main_v162 (broadcastInDim S16x8732x4 ![] bcast_S_S16x8732x4 : (⟨S_, .f32⟩ : BufTy).Contents (Elt F) → (⟨S16x8732x4, .f32⟩ : BufTy).Contents (Elt F)),
    binary main_v161 main_v162 main_v163 (cmpf .olt : (⟨S16x8732x4, .f32⟩ : BufTy).Contents (Elt F) → (⟨S16x8732x4, .f32⟩ : BufTy).Contents (Elt F) → (⟨S16x8732x4, .i1⟩ : BufTy).Contents (Elt F)),
    nullary main_cst_27 (constant S_ .f32 0x3F000000#32),
    unary main_cst_27 main_v164 (broadcastInDim S16x8732x4 ![] bcast_S_S16x8732x4 : (⟨S_, .f32⟩ : BufTy).Contents (Elt F) → (⟨S16x8732x4, .f32⟩ : BufTy).Contents (Elt F)),
    binary main_v164 main_v161 main_v165 (mulf : (⟨S16x8732x4, .f32⟩ : BufTy).Contents (Elt F) → (⟨S16x8732x4, .f32⟩ : BufTy).Contents (Elt F) → (⟨S16x8732x4, .f32⟩ : BufTy).Contents (Elt F)),
    binary main_v165 main_v161 main_v166 (mulf : (⟨S16x8732x4, .f32⟩ : BufTy).Contents (Elt F) → (⟨S16x8732x4, .f32⟩ : BufTy).Contents (Elt F) → (⟨S16x8732x4, .f32⟩ : BufTy).Contents (Elt F)),
    nullary main_cst_28 (constant S_ .f32 0x3F000000#32),
    unary main_cst_28 main_v167 (broadcastInDim S16x8732x4 ![] bcast_S_S16x8732x4 : (⟨S_, .f32⟩ : BufTy).Contents (Elt F) → (⟨S16x8732x4, .f32⟩ : BufTy).Contents (Elt F)),
    binary main_v161 main_v167 main_v168 (subf : (⟨S16x8732x4, .f32⟩ : BufTy).Contents (Elt F) → (⟨S16x8732x4, .f32⟩ : BufTy).Contents (Elt F) → (⟨S16x8732x4, .f32⟩ : BufTy).Contents (Elt F)),
    TRef.ternary (TRef.of (T := ⟨S16x8732x4, .i1⟩) main_v163) (TRef.of (T := ⟨S16x8732x4, .f32⟩) main_v166) (TRef.of (T := ⟨S16x8732x4, .f32⟩) main_v168) (TRef.of (T := ⟨S16x8732x4, .f32⟩) main_v169) select,
    unary main_v156 main_v170 (broadcastInDim S16x8732x1 ![0, 1] bcast_S16x8732_S16x8732x1_0_1 : (⟨S16x8732, .i1⟩ : BufTy).Contents (Elt F) → (⟨S16x8732x1, .i1⟩ : BufTy).Contents (Elt F)),
    unary main_v170 main_v171 (uitofp .f32 : (⟨S16x8732x1, .i1⟩ : BufTy).Contents (Elt F) → (⟨S16x8732x1, .f32⟩ : BufTy).Contents (Elt F)),
    unary main_v171 main_v172 (broadcastInDim S16x8732x4 ![0, 1, 2] bcast_S16x8732x1_S16x8732x4_0_1_2 : (⟨S16x8732x1, .f32⟩ : BufTy).Contents (Elt F) → (⟨S16x8732x4, .f32⟩ : BufTy).Contents (Elt F)),
    binary main_v169 main_v172 main_v173 (mulf : (⟨S16x8732x4, .f32⟩ : BufTy).Contents (Elt F) → (⟨S16x8732x4, .f32⟩ : BufTy).Contents (Elt F) → (⟨S16x8732x4, .f32⟩ : BufTy).Contents (Elt F)),
    nullary main_cst_29 (constant S_ .f32 0x00000000#32),
    binary main_v173 main_cst_29 main_v174 ((fun x v => Host.reduceAdd x v reducesTo_S16x8732x4_S_d0_1_2 h_S_) : (⟨S16x8732x4, .f32⟩ : BufTy).Contents (Elt F) → (⟨S_, .f32⟩ : BufTy).Contents (Elt F) → (⟨S_, .f32⟩ : BufTy).Contents (Elt F)),
    nullary main_cst_30 (constant S_ .f32 0xFF800000#32),
    binary main_arg1 main_cst_30 main_v175 ((fun x v => Host.reduce FloatOps.maximumf x v reducesTo_S16x8732x21_S16x8732_d2 h_S_) : (⟨S16x8732x21, .f32⟩ : BufTy).Contents (Elt F) → (⟨S_, .f32⟩ : BufTy).Contents (Elt F) → (⟨S16x8732, .f32⟩ : BufTy).Contents (Elt F)),
    unary main_v175 main_v176 (broadcastInDim S16x8732x1 ![0, 1] bcast_S16x8732_S16x8732x1_0_1 : (⟨S16x8732, .f32⟩ : BufTy).Contents (Elt F) → (⟨S16x8732x1, .f32⟩ : BufTy).Contents (Elt F)) ]

/-- @main's operations 270 … 299 of 348 (window `main_part3`). -/
abbrev ops_part3_1 : List (HloOp τ sig (Elt F)) :=
  [ unary main_v176 main_v177 (broadcastInDim S16x8732x21 ![0, 1, 2] bcast_S16x8732x1_S16x8732x21_0_1_2 : (⟨S16x8732x1, .f32⟩ : BufTy).Contents (Elt F) → (⟨S16x8732x21, .f32⟩ : BufTy).Contents (Elt F)),
    binary main_arg1 main_v177 main_v178 (subf : (⟨S16x8732x21, .f32⟩ : BufTy).Contents (Elt F) → (⟨S16x8732x21, .f32⟩ : BufTy).Contents (Elt F) → (⟨S16x8732x21, .f32⟩ : BufTy).Contents (Elt F)),
    unary main_v178 main_v179 (Host.exp : (⟨S16x8732x21, .f32⟩ : BufTy).Contents (Elt F) → (⟨S16x8732x21, .f32⟩ : BufTy).Contents (Elt F)),
    nullary main_cst_31 (constant S_ .f32 0x00000000#32),
    binary main_v179 main_cst_31 main_v180 ((fun x v => Host.reduceAdd x v reducesTo_S16x8732x21_S16x8732_d2 h_S_) : (⟨S16x8732x21, .f32⟩ : BufTy).Contents (Elt F) → (⟨S_, .f32⟩ : BufTy).Contents (Elt F) → (⟨S16x8732, .f32⟩ : BufTy).Contents (Elt F)),
    unary main_v180 main_v181 (Host.log : (⟨S16x8732, .f32⟩ : BufTy).Contents (Elt F) → (⟨S16x8732, .f32⟩ : BufTy).Contents (Elt F)),
    binary main_v175 main_v181 main_v182 (addf : (⟨S16x8732, .f32⟩ : BufTy).Contents (Elt F) → (⟨S16x8732, .f32⟩ : BufTy).Contents (Elt F) → (⟨S16x8732, .f32⟩ : BufTy).Contents (Elt F)),
    unary main_v128 main_v183 (broadcastInDim S16x8732x1 ![0, 1] bcast_S16x8732_S16x8732x1_0_1 : (⟨S16x8732, .i32⟩ : BufTy).Contents (Elt F) → (⟨S16x8732x1, .i32⟩ : BufTy).Contents (Elt F)),
    TRef.nullary (TRef.of (T := ⟨S_, .i32⟩) main_call23_c) (constantI S_ 32 0#32),
    TRef.unary (TRef.of (T := ⟨S_, .i32⟩) main_call23_c) (TRef.of (T := ⟨S16x8732x1, .i32⟩) main_call23_v0) (broadcastInDim S16x8732x1 ![] bcast_S_S16x8732x1),
    TRef.binary (TRef.of (T := ⟨S16x8732x1, .i32⟩) main_v183) (TRef.of (T := ⟨S16x8732x1, .i32⟩) main_call23_v0) (TRef.of (T := ⟨S16x8732x1, .i1⟩) main_call23_v1) (cmpi .slt),
    TRef.nullary (TRef.of (T := ⟨S_, .i32⟩) main_call23_c_0) (constantI S_ 32 21#32),
    TRef.unary (TRef.of (T := ⟨S_, .i32⟩) main_call23_c_0) (TRef.of (T := ⟨S16x8732x1, .i32⟩) main_call23_v2) (broadcastInDim S16x8732x1 ![] bcast_S_S16x8732x1),
    TRef.binary (TRef.of (T := ⟨S16x8732x1, .i32⟩) main_v183) (TRef.of (T := ⟨S16x8732x1, .i32⟩) main_call23_v2) (TRef.of (T := ⟨S16x8732x1, .i32⟩) main_call23_v3) addi,
    TRef.ternary (TRef.of (T := ⟨S16x8732x1, .i1⟩) main_call23_v1) (TRef.of (T := ⟨S16x8732x1, .i32⟩) main_call23_v3) (TRef.of (T := ⟨S16x8732x1, .i32⟩) main_v183) (TRef.of (T := ⟨S16x8732x1, .i32⟩) main_call23_v4) select,
    TRef.reshape (TRef.of (T := ⟨S16x8732x1, .i32⟩) main_call23_v4) (TRef.of (T := ⟨S16x8732x1x1, .i32⟩) main_call23_v5) (rfl : (.i32 : EltTy) = .i32) shapeCasts_S16x8732x1_S16x8732x1x1,
    TRef.binary (TRef.of (T := ⟨S16x8732x21, .f32⟩) main_arg1) (TRef.of (T := ⟨S16x8732x1x1, .i32⟩) main_call23_v5) (TRef.of (T := ⟨S16x8732x1, .f32⟩) main_v184) (fun x i => Host.gather gather_S16x8732x21_S16x8732x1x1_S16x8732x1_n_2_01_01_2_3_111 x i),
    reshape main_v184 main_v185 (rfl : (.f32 : EltTy) = .f32) shapeCasts_S16x8732x1_S16x8732,
    binary main_v182 main_v185 main_v186 (subf : (⟨S16x8732, .f32⟩ : BufTy).Contents (Elt F) → (⟨S16x8732, .f32⟩ : BufTy).Contents (Elt F) → (⟨S16x8732, .f32⟩ : BufTy).Contents (Elt F)),
    nullary main_cst_32 (constant S_ .f32 0x00000000#32),
    TRef.unary (TRef.of (T := ⟨S_, .f32⟩) main_cst_32) (TRef.of (T := ⟨S_, .f32⟩) main_call24_v0) id,
    TRef.unary (TRef.of (T := ⟨S_, .f32⟩) main_call24_v0) (TRef.of (T := ⟨S16x8732, .f32⟩) main_call24_v1) (broadcastInDim S16x8732 ![] bcast_S_S16x8732),
    TRef.ternary (TRef.of (T := ⟨S16x8732, .i1⟩) main_v156) (TRef.of (T := ⟨S16x8732, .f32⟩) main_call24_v1) (TRef.of (T := ⟨S16x8732, .f32⟩) main_v186) (TRef.of (T := ⟨S16x8732, .f32⟩) main_v187) select,
    nullary main_c_33 (constantI S_ 32 3#32),
    unary main_c_33 main_v188 (broadcastInDim S16x1 ![] bcast_S_S16x1 : (⟨S_, .i32⟩ : BufTy).Contents (Elt F) → (⟨S16x1, .i32⟩ : BufTy).Contents (Elt F)),
    binary main_v188 main_v159 main_v189 (muli : (⟨S16x1, .i32⟩ : BufTy).Contents (Elt F) → (⟨S16x1, .i32⟩ : BufTy).Contents (Elt F) → (⟨S16x1, .i32⟩ : BufTy).Contents (Elt F)),
    nullary main_c_34 (constantI S_ 32 8731#32),
    unary main_c_34 main_v190 (broadcastInDim S16x1 ![] bcast_S_S16x1 : (⟨S_, .i32⟩ : BufTy).Contents (Elt F) → (⟨S16x1, .i32⟩ : BufTy).Contents (Elt F)),
    binary main_v189 main_v190 main_v191 (minsi : (⟨S16x1, .i32⟩ : BufTy).Contents (Elt F) → (⟨S16x1, .i32⟩ : BufTy).Contents (Elt F) → (⟨S16x1, .i32⟩ : BufTy).Contents (Elt F)),
    TRef.unary (TRef.of (T := ⟨S16x8732, .f32⟩) main_v187) (TRef.of (T := ⟨S16x8732, .f32⟩) main_v192) (fun x => Host.sort S16x8732 1 comparator_f32_d1 x) ]

/-- @main's operations 300 … 311 of 348 (window `main_part3`). -/
abbrev ops_part3_2 : List (HloOp τ sig (Elt F)) :=
  [ nullary main_v193 (iotaInDim S8732 32 0),
    nullary main_c_35 (constantI S_ 32 8732#32),
    unary main_c_35 main_v194 (broadcastInDim S16x1 ![] bcast_S_S16x1 : (⟨S_, .i32⟩ : BufTy).Contents (Elt F) → (⟨S16x1, .i32⟩ : BufTy).Contents (Elt F)),
    binary main_v194 main_v191 main_v195 (subi : (⟨S16x1, .i32⟩ : BufTy).Contents (Elt F) → (⟨S16x1, .i32⟩ : BufTy).Contents (Elt F) → (⟨S16x1, .i32⟩ : BufTy).Contents (Elt F)),
    unary main_v193 main_v196 (broadcastInDim S1x8732 ![1] bcast_S8732_S1x8732_1 : (⟨S8732, .i32⟩ : BufTy).Contents (Elt F) → (⟨S1x8732, .i32⟩ : BufTy).Contents (Elt F)),
    unary main_v196 main_v197 (broadcastInDim S16x8732 ![0, 1] bcast_S1x8732_S16x8732_0_1 : (⟨S1x8732, .i32⟩ : BufTy).Contents (Elt F) → (⟨S16x8732, .i32⟩ : BufTy).Contents (Elt F)),
    unary main_v195 main_v198 (broadcastInDim S16x8732 ![0, 1] bcast_S16x1_S16x8732_0_1 : (⟨S16x1, .i32⟩ : BufTy).Contents (Elt F) → (⟨S16x8732, .i32⟩ : BufTy).Contents (Elt F)),
    binary main_v197 main_v198 main_v199 (cmpi .sge : (⟨S16x8732, .i32⟩ : BufTy).Contents (Elt F) → (⟨S16x8732, .i32⟩ : BufTy).Contents (Elt F) → (⟨S16x8732, .i1⟩ : BufTy).Contents (Elt F)),
    nullary main_cst_36 (constant S_ .f32 0x7F800000#32),
    TRef.unary (TRef.of (T := ⟨S_, .f32⟩) main_cst_36) (TRef.of (T := ⟨S_, .f32⟩) main_call26_v0) id,
    TRef.unary (TRef.of (T := ⟨S_, .f32⟩) main_call26_v0) (TRef.of (T := ⟨S16x8732, .f32⟩) main_call26_v1) (broadcastInDim S16x8732 ![] bcast_S_S16x8732),
    TRef.ternary (TRef.of (T := ⟨S16x8732, .i1⟩) main_v199) (TRef.of (T := ⟨S16x8732, .f32⟩) main_v192) (TRef.of (T := ⟨S16x8732, .f32⟩) main_call26_v1) (TRef.of (T := ⟨S16x8732, .f32⟩) main_v200) select ]

/-- Window `main_part3`'s operations. Not an abbreviation: `main_eq` below splits `ops` into the windows and no further. -/
def ops_part3 : List (HloOp τ sig (Elt F)) :=
  ops_part3_0 ++ (ops_part3_1 ++ (ops_part3_2))

/-- @main's operations 312 … 348 of 348 (window `main_part4`). -/
abbrev ops_part4 : List (HloOp τ sig (Elt F)) :=
  [ nullary main_cst_37 (constant S_ .f32 0x7F800000#32),
    binary main_v200 main_cst_37 main_v201 ((fun x v => Host.reduce FloatOps.minimumf x v reducesTo_S16x8732_S16_d1 h_S_) : (⟨S16x8732, .f32⟩ : BufTy).Contents (Elt F) → (⟨S_, .f32⟩ : BufTy).Contents (Elt F) → (⟨S16, .f32⟩ : BufTy).Contents (Elt F)),
    nullary main_v202 (iotaInDim S2139095041 32 0),
    unary main_v202 main_v203 (bitcastToFloat (F := F) .f32 : (⟨S2139095041, .i32⟩ : BufTy).Contents (Elt F) → (⟨S2139095041, .f32⟩ : BufTy).Contents (Elt F)),
    unary main_v201 main_v204 (broadcastInDim S16x1 ![0] bcast_S16_S16x1_0 : (⟨S16, .f32⟩ : BufTy).Contents (Elt F) → (⟨S16x1, .f32⟩ : BufTy).Contents (Elt F)),
    unary main_v203 main_v205 (broadcastInDim S1x2139095041 ![1] bcast_S2139095041_S1x2139095041_1 : (⟨S2139095041, .f32⟩ : BufTy).Contents (Elt F) → (⟨S1x2139095041, .f32⟩ : BufTy).Contents (Elt F)),
    unary main_v205 main_v206 (broadcastInDim S16x2139095041 ![0, 1] bcast_S1x2139095041_S16x2139095041_0_1 : (⟨S1x2139095041, .f32⟩ : BufTy).Contents (Elt F) → (⟨S16x2139095041, .f32⟩ : BufTy).Contents (Elt F)),
    unary main_v204 main_v207 (broadcastInDim S16x2139095041 ![0, 1] bcast_S16x1_S16x2139095041_0_1 : (⟨S16x1, .f32⟩ : BufTy).Contents (Elt F) → (⟨S16x2139095041, .f32⟩ : BufTy).Contents (Elt F)),
    binary main_v206 main_v207 main_v208 (cmpf .oge : (⟨S16x2139095041, .f32⟩ : BufTy).Contents (Elt F) → (⟨S16x2139095041, .f32⟩ : BufTy).Contents (Elt F) → (⟨S16x2139095041, .i1⟩ : BufTy).Contents (Elt F)),
    nullary main_cst_38 (constant S_ .f32 0x7F800000#32),
    TRef.unary (TRef.of (T := ⟨S_, .f32⟩) main_cst_38) (TRef.of (T := ⟨S_, .f32⟩) main_call27_v0) id,
    TRef.unary (TRef.of (T := ⟨S2139095041, .f32⟩) main_v203) (TRef.of (T := ⟨S16x2139095041, .f32⟩) main_call27_v1) (broadcastInDim S16x2139095041 ![1] bcast_S2139095041_S16x2139095041_1),
    TRef.unary (TRef.of (T := ⟨S_, .f32⟩) main_call27_v0) (TRef.of (T := ⟨S16x2139095041, .f32⟩) main_call27_v2) (broadcastInDim S16x2139095041 ![] bcast_S_S16x2139095041),
    TRef.ternary (TRef.of (T := ⟨S16x2139095041, .i1⟩) main_v208) (TRef.of (T := ⟨S16x2139095041, .f32⟩) main_call27_v1) (TRef.of (T := ⟨S16x2139095041, .f32⟩) main_call27_v2) (TRef.of (T := ⟨S16x2139095041, .f32⟩) main_v209) select,
    nullary main_cst_39 (constant S_ .f32 0x7F800000#32),
    binary main_v209 main_cst_39 main_v210 ((fun x v => Host.reduce FloatOps.minimumf x v reducesTo_S16x2139095041_S16_d1 h_S_) : (⟨S16x2139095041, .f32⟩ : BufTy).Contents (Elt F) → (⟨S_, .f32⟩ : BufTy).Contents (Elt F) → (⟨S16, .f32⟩ : BufTy).Contents (Elt F)),
    unary main_v210 main_v211 (broadcastInDim S16x1 ![0] bcast_S16_S16x1_0 : (⟨S16, .f32⟩ : BufTy).Contents (Elt F) → (⟨S16x1, .f32⟩ : BufTy).Contents (Elt F)),
    nullary main_cst_40 (constant S_ .f32 0x00000000#32),
    TRef.unary (TRef.of (T := ⟨S_, .f32⟩) main_cst_40) (TRef.of (T := ⟨S_, .f32⟩) main_call28_v0) id,
    TRef.unary (TRef.of (T := ⟨S_, .f32⟩) main_call28_v0) (TRef.of (T := ⟨S16x8732, .f32⟩) main_call28_v1) (broadcastInDim S16x8732 ![] bcast_S_S16x8732),
    TRef.ternary (TRef.of (T := ⟨S16x8732, .i1⟩) main_v156) (TRef.of (T := ⟨S16x8732, .f32⟩) main_v186) (TRef.of (T := ⟨S16x8732, .f32⟩) main_call28_v1) (TRef.of (T := ⟨S16x8732, .f32⟩) main_v212) select,
    nullary main_cst_41 (constant S_ .f32 0x00000000#32),
    binary main_v212 main_cst_41 main_v213 ((fun x v => Host.reduceAdd x v reducesTo_S16x8732_S_d0_1 h_S_) : (⟨S16x8732, .f32⟩ : BufTy).Contents (Elt F) → (⟨S_, .f32⟩ : BufTy).Contents (Elt F) → (⟨S_, .f32⟩ : BufTy).Contents (Elt F)),
    unary main_v211 main_v214 (broadcastInDim S16x8732 ![0, 1] bcast_S16x1_S16x8732_0_1 : (⟨S16x1, .f32⟩ : BufTy).Contents (Elt F) → (⟨S16x8732, .f32⟩ : BufTy).Contents (Elt F)),
    binary main_v192 main_v214 main_v215 (maximumf : (⟨S16x8732, .f32⟩ : BufTy).Contents (Elt F) → (⟨S16x8732, .f32⟩ : BufTy).Contents (Elt F) → (⟨S16x8732, .f32⟩ : BufTy).Contents (Elt F)),
    nullary main_cst_42 (constant S_ .f32 0x00000000#32),
    TRef.unary (TRef.of (T := ⟨S_, .f32⟩) main_cst_42) (TRef.of (T := ⟨S_, .f32⟩) main_call29_v0) id,
    TRef.unary (TRef.of (T := ⟨S_, .f32⟩) main_call29_v0) (TRef.of (T := ⟨S16x8732, .f32⟩) main_call29_v1) (broadcastInDim S16x8732 ![] bcast_S_S16x8732),
    TRef.ternary (TRef.of (T := ⟨S16x8732, .i1⟩) main_v199) (TRef.of (T := ⟨S16x8732, .f32⟩) main_v215) (TRef.of (T := ⟨S16x8732, .f32⟩) main_call29_v1) (TRef.of (T := ⟨S16x8732, .f32⟩) main_v216) select,
    nullary main_cst_43 (constant S_ .f32 0x00000000#32),
    binary main_v216 main_cst_43 main_v217 ((fun x v => Host.reduceAdd x v reducesTo_S16x8732_S_d0_1 h_S_) : (⟨S16x8732, .f32⟩ : BufTy).Contents (Elt F) → (⟨S_, .f32⟩ : BufTy).Contents (Elt F) → (⟨S_, .f32⟩ : BufTy).Contents (Elt F)),
    binary main_v213 main_v217 main_v218 (addf : (⟨S_, .f32⟩ : BufTy).Contents (Elt F) → (⟨S_, .f32⟩ : BufTy).Contents (Elt F) → (⟨S_, .f32⟩ : BufTy).Contents (Elt F)),
    nullary main_c_44 (constantI S_ 32 0#32),
    binary main_v159 main_c_44 main_v219 ((fun x v => Host.reduce IntOp.addi x v reducesTo_S16x1_S_d0_1 h_S_) : (⟨S16x1, .i32⟩ : BufTy).Contents (Elt F) → (⟨S_, .i32⟩ : BufTy).Contents (Elt F) → (⟨S_, .i32⟩ : BufTy).Contents (Elt F)),
    unary main_v219 main_v220 (sitofp .f32 : (⟨S_, .i32⟩ : BufTy).Contents (Elt F) → (⟨S_, .f32⟩ : BufTy).Contents (Elt F)),
    binary main_v174 main_v220 main_v221 (Host.divf : (⟨S_, .f32⟩ : BufTy).Contents (Elt F) → (⟨S_, .f32⟩ : BufTy).Contents (Elt F) → (⟨S_, .f32⟩ : BufTy).Contents (Elt F)),
    binary main_v218 main_v220 main_v222 (Host.divf : (⟨S_, .f32⟩ : BufTy).Contents (Elt F) → (⟨S_, .f32⟩ : BufTy).Contents (Elt F) → (⟨S_, .f32⟩ : BufTy).Contents (Elt F)) ]

/-- @main's 348 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨unary_bufs_sub .., binary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., unary_bufs_sub .., binary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., ternary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., unary_bufs_sub .., ternary_bufs_sub .., nullary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., reshape_bufs_sub .., binary_bufs_sub .., nullary_bufs_sub .., unary_bufs_sub .., binary_bufs_sub .., nullary_bufs_sub .., unary_bufs_sub .., binary_bufs_sub .., nullary_bufs_sub .., unary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_0_sub : (ops_part3_0 : List (HloOp τ sig (Elt F))).Forall fun op => op.bufs ⊆ tcRefs τ sig :=
  ⟨binary_bufs_sub .., nullary_bufs_sub .., unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., nullary_bufs_sub .., binary_bufs_sub .., nullary_bufs_sub .., binary_bufs_sub .., unary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., binary_bufs_sub .., reshape_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨nullary_bufs_sub .., binary_bufs_sub .., nullary_bufs_sub .., unary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., nullary_bufs_sub .., unary_bufs_sub .., unary_bufs_sub .., ternary_bufs_sub .., nullary_bufs_sub .., binary_bufs_sub .., unary_bufs_sub .., binary_bufs_sub .., nullary_bufs_sub .., unary_bufs_sub .., unary_bufs_sub .., ternary_bufs_sub .., nullary_bufs_sub .., binary_bufs_sub .., binary_bufs_sub .., nullary_bufs_sub .., binary_bufs_sub .., unary_bufs_sub .., binary_bufs_sub .., binary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part0, ops_part1, ops_part2, ops_part3, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

set_option maxRecDepth 8192 in
/-- `main_v10`'s composed term of the arguments (named: it is used 6 times). -/
def res_main_v10 (V0 : Valuation τ sig (Elt F)) : (Proc.devRef .tc main_v10 : DevRef τ sig).ty.Contents (Elt F) :=
  concatenate S8732x4 1 [⟨S8732x2, (subf (extractStridedSlice S8732x2 ![0, 0] (V0 (Proc.devRef .tc main_arg2)) slices_S8732x4_S8732x2_0_0) (Host.divf (extractStridedSlice S8732x2 ![0, 2] (V0 (Proc.devRef .tc main_arg2)) slices_S8732x4_S8732x2_0_2) (broadcastInDim S8732x2 ![] bcast_S_S8732x2 (constant S_ .f32 0x40000000#32))))⟩, ⟨S8732x2, (addf (extractStridedSlice S8732x2 ![0, 0] (V0 (Proc.devRef .tc main_arg2)) slices_S8732x4_S8732x2_0_0) (Host.divf (extractStridedSlice S8732x2 ![0, 2] (V0 (Proc.devRef .tc main_arg2)) slices_S8732x4_S8732x2_0_2) (broadcastInDim S8732x2 ![] bcast_S_S8732x2 (constant S_ .f32 0x40000000#32))))⟩] concatenates_S8732x2_S8732x2_S8732x4_d1

set_option maxRecDepth 8192 in
/-- `main_v26`'s composed term of the arguments (named: it is used 2 times). -/
def res_main_v26 (V0 : Valuation τ sig (Elt F)) : (Proc.devRef .tc main_v26 : DevRef τ sig).ty.Contents (Elt F) :=
  maximumf (broadcastInDim S16x8x8732x2 ![] bcast_S_S16x8x8732x2 (id (constant S_ .f32 0x00000000#32))) (subf (minimumf (broadcastInDim S16x8x8732x2 ![0, 1, 2, 3] bcast_S16x8x1x2_S16x8x8732x2_0_1_2_3 (broadcastInDim S16x8x1x2 ![0, 1, 3] bcast_S16x8x2_S16x8x1x2_0_1_3 (extractStridedSlice S16x8x2 ![0, 0, 2] (V0 (Proc.devRef .tc main_arg3)) slices_S16x8x4_S16x8x2_0_0_2))) (broadcastInDim S16x8x8732x2 ![0, 1, 2, 3] bcast_S1x1x8732x2_S16x8x8732x2_0_1_2_3 (broadcastInDim S1x1x8732x2 ![2, 3] bcast_S8732x2_S1x1x8732x2_2_3 (extractStridedSlice S8732x2 ![0, 2] (res_main_v10 V0) slices_S8732x4_S8732x2_0_2)))) (maximumf (broadcastInDim S16x8x8732x2 ![0, 1, 2, 3] bcast_S16x8x1x2_S16x8x8732x2_0_1_2_3 (broadcastInDim S16x8x1x2 ![0, 1, 3] bcast_S16x8x2_S16x8x1x2_0_1_3 (extractStridedSlice S16x8x2 ![0, 0, 0] (V0 (Proc.devRef .tc main_arg3)) slices_S16x8x4_S16x8x2_0_0_0))) (broadcastInDim S16x8x8732x2 ![0, 1, 2, 3] bcast_S1x1x8732x2_S16x8x8732x2_0_1_2_3 (broadcastInDim S1x1x8732x2 ![2, 3] bcast_S8732x2_S1x1x8732x2_2_3 (extractStridedSlice S8732x2 ![0, 0] (res_main_v10 V0) slices_S8732x4_S8732x2_0_0)))))

set_option maxRecDepth 8192 in
/-- `main_v31`'s composed term of the arguments (named: it is used 2 times). -/
def res_main_v31 (V0 : Valuation τ sig (Elt F)) : (Proc.devRef .tc main_v31 : DevRef τ sig).ty.Contents (Elt F) :=
  mulf (shapeCast _ (extractStridedSlice S16x8x8732x1 ![0, 0, 0, 0] (res_main_v26 V0) slices_S16x8x8732x2_S16x8x8732x1_0_0_0_0) shapeCasts_S16x8x8732x1_S16x8x8732) (shapeCast _ (extractStridedSlice S16x8x8732x1 ![0, 0, 0, 1] (res_main_v26 V0) slices_S16x8x8732x2_S16x8x8732x1_0_0_0_1) shapeCasts_S16x8x8732x1_S16x8x8732)

set_option maxRecDepth 8192 in
/-- `main_v60`'s composed term of the arguments (named: it is used 5 times). -/
def res_main_v60 (V0 : Valuation τ sig (Elt F)) : (Proc.devRef .tc main_v60 : DevRef τ sig).ty.Contents (Elt F) :=
  Host.divf (res_main_v31 V0) (subf (addf (broadcastInDim S16x8x8732 ![0, 1, 2] bcast_S16x8x1_S16x8x8732_0_1_2 (broadcastInDim S16x8x1 ![0, 1] bcast_S16x8_S16x8x1_0_1 (mulf (subf (shapeCast _ (extractStridedSlice S16x8x1 ![0, 0, 2] (V0 (Proc.devRef .tc main_arg3)) slices_S16x8x4_S16x8x1_0_0_2) shapeCasts_S16x8x1_S16x8) (shapeCast _ (extractStridedSlice S16x8x1 ![0, 0, 0] (V0 (Proc.devRef .tc main_arg3)) slices_S16x8x4_S16x8x1_0_0_0) shapeCasts_S16x8x1_S16x8)) (subf (shapeCast _ (extractStridedSlice S16x8x1 ![0, 0, 3] (V0 (Proc.devRef .tc main_arg3)) slices_S16x8x4_S16x8x1_0_0_3) shapeCasts_S16x8x1_S16x8) (shapeCast _ (extractStridedSlice S16x8x1 ![0, 0, 1] (V0 (Proc.devRef .tc main_arg3)) slices_S16x8x4_S16x8x1_0_0_1) shapeCasts_S16x8x1_S16x8))))) (broadcastInDim S16x8x8732 ![0, 1, 2] bcast_S1x1x8732_S16x8x8732_0_1_2 (broadcastInDim S1x1x8732 ![2] bcast_S8732_S1x1x8732_2 (mulf (subf (shapeCast _ (extractStridedSlice S8732x1 ![0, 2] (res_main_v10 V0) slices_S8732x4_S8732x1_0_2) shapeCasts_S8732x1_S8732) (shapeCast _ (extractStridedSlice S8732x1 ![0, 0] (res_main_v10 V0) slices_S8732x4_S8732x1_0_0) shapeCasts_S8732x1_S8732)) (subf (shapeCast _ (extractStridedSlice S8732x1 ![0, 3] (res_main_v10 V0) slices_S8732x4_S8732x1_0_3) shapeCasts_S8732x1_S8732) (shapeCast _ (extractStridedSlice S8732x1 ![0, 1] (res_main_v10 V0) slices_S8732x4_S8732x1_0_1) shapeCasts_S8732x1_S8732)))))) (res_main_v31 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S16x8x8732 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v61`'s composed term of the arguments (named: it is used 8 times). -/
def res_main_v61 (V0 : Valuation τ sig (Elt F)) : (Proc.devRef .tc main_v61 : DevRef τ sig).ty.Contents (Elt F) :=
  (fun j => (Host.argReduce reducer_argmax_f32_i32 (res_main_v60 V0) (res_main_call1_v0 V0) (res_main_call1_cst V0) (res_main_call1_c V0) reducesTo_S16x8x8732_S16x8_d2 h_S_ j).2)

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S16x8x8732 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v64`'s composed term of the arguments (named: it is used 8 times). -/
def res_main_v64 (V0 : Valuation τ sig (Elt F)) : (Proc.devRef .tc main_v64 : DevRef τ sig).ty.Contents (Elt F) :=
  iotaInDim S8732 32 0

set_option maxRecDepth 8192 in
/-- `main_v69`'s composed term of the arguments (named: it is used 2 times). -/
def res_main_v69 (V0 : Valuation τ sig (Elt F)) : (Proc.devRef .tc main_v69 : DevRef τ sig).ty.Contents (Elt F) :=
  cmpi .eq (broadcastInDim S16x8732 ![0, 1] bcast_S16x1_S16x8732_0_1 (extractStridedSlice S16x1 ![0, 0] (res_main_v61 V0) slices_S16x8_S16x1_0_0)) (broadcastInDim S16x8732 ![0, 1] bcast_S1x8732_S16x8732_0_1 (broadcastInDim S1x8732 ![1] bcast_S8732_S1x8732_1 (res_main_v64 V0)))

set_option maxRecDepth 8192 in
/-- `main_v76`'s composed term of the arguments (named: it is used 2 times). -/
def res_main_v76 (V0 : Valuation τ sig (Elt F)) : (Proc.devRef .tc main_v76 : DevRef τ sig).ty.Contents (Elt F) :=
  cmpi .eq (broadcastInDim S16x8732 ![0, 1] bcast_S16x1_S16x8732_0_1 (extractStridedSlice S16x1 ![0, 1] (res_main_v61 V0) slices_S16x8_S16x1_0_1)) (broadcastInDim S16x8732 ![0, 1] bcast_S1x8732_S16x8732_0_1 (broadcastInDim S1x8732 ![1] bcast_S8732_S1x8732_1 (res_main_v64 V0)))

set_option maxRecDepth 8192 in
/-- `main_v83`'s composed term of the arguments (named: it is used 2 times). -/
def res_main_v83 (V0 : Valuation τ sig (Elt F)) : (Proc.devRef .tc main_v83 : DevRef τ sig).ty.Contents (Elt F) :=
  cmpi .eq (broadcastInDim S16x8732 ![0, 1] bcast_S16x1_S16x8732_0_1 (extractStridedSlice S16x1 ![0, 2] (res_main_v61 V0) slices_S16x8_S16x1_0_2)) (broadcastInDim S16x8732 ![0, 1] bcast_S1x8732_S16x8732_0_1 (broadcastInDim S1x8732 ![1] bcast_S8732_S1x8732_1 (res_main_v64 V0)))

set_option maxRecDepth 8192 in
/-- `main_v90`'s composed term of the arguments (named: it is used 2 times). -/
def res_main_v90 (V0 : Valuation τ sig (Elt F)) : (Proc.devRef .tc main_v90 : DevRef τ sig).ty.Contents (Elt F) :=
  cmpi .eq (broadcastInDim S16x8732 ![0, 1] bcast_S16x1_S16x8732_0_1 (extractStridedSlice S16x1 ![0, 3] (res_main_v61 V0) slices_S16x8_S16x1_0_3)) (broadcastInDim S16x8732 ![0, 1] bcast_S1x8732_S16x8732_0_1 (broadcastInDim S1x8732 ![1] bcast_S8732_S1x8732_1 (res_main_v64 V0)))

set_option maxRecDepth 8192 in
/-- `main_v97`'s composed term of the arguments (named: it is used 2 times). -/
def res_main_v97 (V0 : Valuation τ sig (Elt F)) : (Proc.devRef .tc main_v97 : DevRef τ sig).ty.Contents (Elt F) :=
  cmpi .eq (broadcastInDim S16x8732 ![0, 1] bcast_S16x1_S16x8732_0_1 (extractStridedSlice S16x1 ![0, 4] (res_main_v61 V0) slices_S16x8_S16x1_0_4)) (broadcastInDim S16x8732 ![0, 1] bcast_S1x8732_S16x8732_0_1 (broadcastInDim S1x8732 ![1] bcast_S8732_S1x8732_1 (res_main_v64 V0)))

set_option maxRecDepth 8192 in
/-- `main_v104`'s composed term of the arguments (named: it is used 2 times). -/
def res_main_v104 (V0 : Valuation τ sig (Elt F)) : (Proc.devRef .tc main_v104 : DevRef τ sig).ty.Contents (Elt F) :=
  cmpi .eq (broadcastInDim S16x8732 ![0, 1] bcast_S16x1_S16x8732_0_1 (extractStridedSlice S16x1 ![0, 5] (res_main_v61 V0) slices_S16x8_S16x1_0_5)) (broadcastInDim S16x8732 ![0, 1] bcast_S1x8732_S16x8732_0_1 (broadcastInDim S1x8732 ![1] bcast_S8732_S1x8732_1 (res_main_v64 V0)))

set_option maxRecDepth 8192 in
/-- `main_v111`'s composed term of the arguments (named: it is used 2 times). -/
def res_main_v111 (V0 : Valuation τ sig (Elt F)) : (Proc.devRef .tc main_v111 : DevRef τ sig).ty.Contents (Elt F) :=
  cmpi .eq (broadcastInDim S16x8732 ![0, 1] bcast_S16x1_S16x8732_0_1 (extractStridedSlice S16x1 ![0, 6] (res_main_v61 V0) slices_S16x8_S16x1_0_6)) (broadcastInDim S16x8732 ![0, 1] bcast_S1x8732_S16x8732_0_1 (broadcastInDim S1x8732 ![1] bcast_S8732_S1x8732_1 (res_main_v64 V0)))

set_option maxRecDepth 8192 in
/-- `main_v118`'s composed term of the arguments (named: it is used 2 times). -/
def res_main_v118 (V0 : Valuation τ sig (Elt F)) : (Proc.devRef .tc main_v118 : DevRef τ sig).ty.Contents (Elt F) :=
  cmpi .eq (broadcastInDim S16x8732 ![0, 1] bcast_S16x1_S16x8732_0_1 (extractStridedSlice S16x1 ![0, 7] (res_main_v61 V0) slices_S16x8_S16x1_0_7)) (broadcastInDim S16x8732 ![0, 1] bcast_S1x8732_S16x8732_0_1 (broadcastInDim S1x8732 ![1] bcast_S8732_S1x8732_1 (res_main_v64 V0)))

set_option maxRecDepth 8192 in
/-- `main_v120`'s composed term of the arguments (named: it is used 4 times). -/
def res_main_v120 (V0 : Valuation τ sig (Elt F)) : (Proc.devRef .tc main_v120 : DevRef τ sig).ty.Contents (Elt F) :=
  select (res_main_v118 V0) (broadcastInDim S16x8732 ![] bcast_S_S16x8732 (id (constantI S_ 32 7#32))) (select (res_main_v111 V0) (broadcastInDim S16x8732 ![] bcast_S_S16x8732 (id (constantI S_ 32 6#32))) (select (res_main_v104 V0) (broadcastInDim S16x8732 ![] bcast_S_S16x8732 (id (constantI S_ 32 5#32))) (select (res_main_v97 V0) (broadcastInDim S16x8732 ![] bcast_S_S16x8732 (id (constantI S_ 32 4#32))) (select (res_main_v90 V0) (broadcastInDim S16x8732 ![] bcast_S_S16x8732 (id (constantI S_ 32 3#32))) (select (res_main_v83 V0) (broadcastInDim S16x8732 ![] bcast_S_S16x8732 (id (constantI S_ 32 2#32))) (select (res_main_v76 V0) (broadcastInDim S16x8732 ![] bcast_S_S16x8732 (id (constantI S_ 32 1#32))) (select (res_main_v69 V0) (broadcastInDim S16x8732 ![] bcast_S_S16x8732 (id (constantI S_ 32 0#32))) ((fun j => (Host.argReduce reducer_argmax_f32_i32 (res_main_v60 V0) (res_main_call2_v0 V0) (res_main_call2_cst V0) (res_main_call2_c V0) reducesTo_S16x8x8732_S16x8732_d1 h_S_ j).2)))))))))

set_option maxRecDepth 8192 in
/-- `main_v121`'s composed term of the arguments (named: it is used 3 times). -/
def res_main_v121 (V0 : Valuation τ sig (Elt F)) : (Proc.devRef .tc main_v121 : DevRef τ sig).ty.Contents (Elt F) :=
  broadcastInDim S16x8732x1 ![0, 1] bcast_S16x8732_S16x8732x1_0_1 (res_main_v120 V0)

set_option maxRecDepth 8192 in
/-- `main_v122`'s composed term of the arguments (named: it is used 4 times). -/
def res_main_v122 (V0 : Valuation τ sig (Elt F)) : (Proc.devRef .tc main_v122 : DevRef τ sig).ty.Contents (Elt F) :=
  Host.gather gather_S16x8x4_S16x8732x1_S16x8732x4_2_1_0_0_1_2_114 (V0 (Proc.devRef .tc main_arg3)) (select (cmpi .slt (res_main_v121 V0) (broadcastInDim S16x8732x1 ![] bcast_S_S16x8732x1 (constantI S_ 32 0#32))) (addi (res_main_v121 V0) (broadcastInDim S16x8732x1 ![] bcast_S_S16x8732x1 (constantI S_ 32 8#32))) (res_main_v121 V0))

set_option maxRecDepth 8192 in
/-- `main_v128`'s composed term of the arguments (named: it is used 2 times). -/
def res_main_v128 (V0 : Valuation τ sig (Elt F)) : (Proc.devRef .tc main_v128 : DevRef τ sig).ty.Contents (Elt F) :=
  select (cmpf .olt (select (res_main_v118 V0) (broadcastInDim S16x8732 ![] bcast_S_S16x8732 (id (constant S_ .f32 0x40000000#32))) (select (res_main_v111 V0) (broadcastInDim S16x8732 ![] bcast_S_S16x8732 (id (constant S_ .f32 0x40000000#32))) (select (res_main_v104 V0) (broadcastInDim S16x8732 ![] bcast_S_S16x8732 (id (constant S_ .f32 0x40000000#32))) (select (res_main_v97 V0) (broadcastInDim S16x8732 ![] bcast_S_S16x8732 (id (constant S_ .f32 0x40000000#32))) (select (res_main_v90 V0) (broadcastInDim S16x8732 ![] bcast_S_S16x8732 (id (constant S_ .f32 0x40000000#32))) (select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_))))))))) (broadcastInDim S16x8732 ![] bcast_S_S16x8732 (constant S_ .f32 0x3EE66666#32))) (broadcastInDim S16x8732 ![] bcast_S_S16x8732 (id (constantI S_ 32 0#32))) (addi (Host.gather gather_S16x8_S16x8732x1_S16x8732_n_1_0_0_1_2_11 (V0 (Proc.devRef .tc main_arg4)) (shapeCast _ (select (cmpi .slt (res_main_v120 V0) (broadcastInDim S16x8732 ![] bcast_S_S16x8732 (constantI S_ 32 0#32))) (addi (res_main_v120 V0) (broadcastInDim S16x8732 ![] bcast_S_S16x8732 (constantI S_ 32 8#32))) (res_main_v120 V0)) shapeCasts_S16x8732_S16x8732x1)) (broadcastInDim S16x8732 ![] bcast_S_S16x8732 (constantI S_ 32 1#32)))

set_option maxRecDepth 8192 in
/-- `main_v156`'s composed term of the arguments (named: it is used 4 times). -/
def res_main_v156 (V0 : Valuation τ sig (Elt F)) : (Proc.devRef .tc main_v156 : DevRef τ sig).ty.Contents (Elt F) :=
  cmpi .sgt (res_main_v128 V0) (broadcastInDim S16x8732 ![] bcast_S_S16x8732 (constantI S_ 32 0#32))

set_option maxRecDepth 8192 in
/-- `main_v159`'s composed term of the arguments (named: it is used 2 times). -/
def res_main_v159 (V0 : Valuation τ sig (Elt F)) : (Proc.devRef .tc main_v159 : DevRef τ sig).ty.Contents (Elt F) :=
  broadcastInDim S16x1 ![0] bcast_S16_S16x1_0 (Host.reduce IntOp.addi (extui 32 (res_main_v156 V0) natLt_1_32) (constantI S_ 32 0#32) reducesTo_S16x8732_S16_d1 h_S_)

set_option maxRecDepth 8192 in
/-- `main_v161`'s composed term of the arguments (named: it is used 4 times). -/
def res_main_v161 (V0 : Valuation τ sig (Elt F)) : (Proc.devRef .tc main_v161 : DevRef τ sig).ty.Contents (Elt F) :=
  Host.absf (subf (V0 (Proc.devRef .tc main_arg0)) (concatenate S16x8732x4 2 [⟨S16x8732x2, (Host.divf (subf (Host.divf (addf (extractStridedSlice S16x8732x2 ![0, 0, 0] (res_main_v122 V0) slices_S16x8732x4_S16x8732x2_0_0_0) (extractStridedSlice S16x8732x2 ![0, 0, 2] (res_main_v122 V0) slices_S16x8732x4_S16x8732x2_0_0_2)) (broadcastInDim S16x8732x2 ![] bcast_S_S16x8732x2 (constant S_ .f32 0x40000000#32))) (broadcastInDim S16x8732x2 ![0, 1, 2] bcast_S1x8732x2_S16x8732x2_0_1_2 (broadcastInDim S1x8732x2 ![1, 2] bcast_S8732x2_S1x8732x2_1_2 (extractStridedSlice S8732x2 ![0, 0] (V0 (Proc.devRef .tc main_arg2)) slices_S8732x4_S8732x2_0_0)))) (broadcastInDim S16x8732x2 ![0, 1, 2] bcast_S1x8732x2_S16x8732x2_0_1_2 (broadcastInDim S1x8732x2 ![1, 2] bcast_S8732x2_S1x8732x2_1_2 (Host.divf (extractStridedSlice S8732x2 ![0, 2] (V0 (Proc.devRef .tc main_arg2)) slices_S8732x4_S8732x2_0_2) (broadcastInDim S8732x2 ![] bcast_S_S8732x2 (constant S_ .f32 0x41200000#32))))))⟩, ⟨S16x8732x2, (mulf (Host.log (Host.divf (subf (extractStridedSlice S16x8732x2 ![0, 0, 2] (res_main_v122 V0) slices_S16x8732x4_S16x8732x2_0_0_2) (extractStridedSlice S16x8732x2 ![0, 0, 0] (res_main_v122 V0) slices_S16x8732x4_S16x8732x2_0_0_0)) (broadcastInDim S16x8732x2 ![0, 1, 2] bcast_S1x8732x2_S16x8732x2_0_1_2 (broadcastInDim S1x8732x2 ![1, 2] bcast_S8732x2_S1x8732x2_1_2 (extractStridedSlice S8732x2 ![0, 2] (V0 (Proc.devRef .tc main_arg2)) slices_S8732x4_S8732x2_0_2))))) (broadcastInDim S16x8732x2 ![] bcast_S_S16x8732x2 (constant S_ .f32 0x40A00000#32)))⟩] concatenates_S16x8732x2_S16x8732x2_S16x8732x4_d2))

set_option maxRecDepth 8192 in
/-- `main_v175`'s composed term of the arguments (named: it is used 2 times). -/
def res_main_v175 (V0 : Valuation τ sig (Elt F)) : (Proc.devRef .tc main_v175 : DevRef τ sig).ty.Contents (Elt F) :=
  Host.reduce FloatOps.maximumf (V0 (Proc.devRef .tc main_arg1)) (constant S_ .f32 0xFF800000#32) reducesTo_S16x8732x21_S16x8732_d2 h_S_

set_option maxRecDepth 8192 in
/-- `main_v183`'s composed term of the arguments (named: it is used 3 times). -/
def res_main_v183 (V0 : Valuation τ sig (Elt F)) : (Proc.devRef .tc main_v183 : DevRef τ sig).ty.Contents (Elt F) :=
  broadcastInDim S16x8732x1 ![0, 1] bcast_S16x8732_S16x8732x1_0_1 (res_main_v128 V0)

set_option maxRecDepth 8192 in
/-- `main_v186`'s composed term of the arguments (named: it is used 2 times). -/
def res_main_v186 (V0 : Valuation τ sig (Elt F)) : (Proc.devRef .tc main_v186 : DevRef τ sig).ty.Contents (Elt F) :=
  subf (addf (res_main_v175 V0) (Host.log (Host.reduceAdd (Host.exp (subf (V0 (Proc.devRef .tc main_arg1)) (broadcastInDim S16x8732x21 ![0, 1, 2] bcast_S16x8732x1_S16x8732x21_0_1_2 (broadcastInDim S16x8732x1 ![0, 1] bcast_S16x8732_S16x8732x1_0_1 (res_main_v175 V0))))) (constant S_ .f32 0x00000000#32) reducesTo_S16x8732x21_S16x8732_d2 h_S_))) (shapeCast _ (Host.gather gather_S16x8732x21_S16x8732x1x1_S16x8732x1_n_2_01_01_2_3_111 (V0 (Proc.devRef .tc main_arg1)) (shapeCast _ (select (cmpi .slt (res_main_v183 V0) (broadcastInDim S16x8732x1 ![] bcast_S_S16x8732x1 (constantI S_ 32 0#32))) (addi (res_main_v183 V0) (broadcastInDim S16x8732x1 ![] bcast_S_S16x8732x1 (constantI S_ 32 21#32))) (res_main_v183 V0)) shapeCasts_S16x8732x1_S16x8732x1x1)) shapeCasts_S16x8732x1_S16x8732)

set_option maxRecDepth 8192 in
/-- `main_v192`'s composed term of the arguments (named: it is used 2 times). -/
def res_main_v192 (V0 : Valuation τ sig (Elt F)) : (Proc.devRef .tc main_v192 : DevRef τ sig).ty.Contents (Elt F) :=
  Host.sort S16x8732 1 comparator_f32_d1 (select (res_main_v156 V0) (broadcastInDim S16x8732 ![] bcast_S_S16x8732 (id (constant S_ .f32 0x00000000#32))) (res_main_v186 V0))

set_option maxRecDepth 8192 in
/-- `main_v199`'s composed term of the arguments (named: it is used 2 times). -/
def res_main_v199 (V0 : Valuation τ sig (Elt F)) : (Proc.devRef .tc main_v199 : DevRef τ sig).ty.Contents (Elt F) :=
  cmpi .sge (broadcastInDim S16x8732 ![0, 1] bcast_S1x8732_S16x8732_0_1 (broadcastInDim S1x8732 ![1] bcast_S8732_S1x8732_1 (iotaInDim S8732 32 0))) (broadcastInDim S16x8732 ![0, 1] bcast_S16x1_S16x8732_0_1 (subi (broadcastInDim S16x1 ![] bcast_S_S16x1 (constantI S_ 32 8732#32)) (minsi (muli (broadcastInDim S16x1 ![] bcast_S_S16x1 (constantI S_ 32 3#32)) (res_main_v159 V0)) (broadcastInDim S16x1 ![] bcast_S_S16x1 (constantI S_ 32 8731#32)))))

set_option maxRecDepth 8192 in
/-- `main_v203`'s composed term of the arguments (named: it is used 2 times). -/
def res_main_v203 (V0 : Valuation τ sig (Elt F)) : (Proc.devRef .tc main_v203 : DevRef τ sig).ty.Contents (Elt F) :=
  bitcastToFloat (F := F) .f32 (iotaInDim S2139095041 32 0)

set_option maxRecDepth 8192 in
/-- `main_v220`'s composed term of the arguments (named: it is used 2 times). -/
def res_main_v220 (V0 : Valuation τ sig (Elt F)) : (Proc.devRef .tc main_v220 : DevRef τ sig).ty.Contents (Elt F) :=
  sitofp .f32 (Host.reduce IntOp.addi (res_main_v159 V0) (constantI S_ 32 0#32) reducesTo_S16x1_S_d0_1 h_S_)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_cst, main_v2, main_v3, main_v4, main_v5, main_v6, main_cst_0, main_v7, main_v8, main_v9, main_v10, main_v11, main_v12, main_v13, main_v14, main_v15, main_v16, main_v17, main_v18, main_v19, main_v20, main_v21, main_v22, main_v23, main_v24, main_v25, main_cst_1, main_call0_v0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_part0_0, TRef.unary, TRef.toBuf, TRef.ofBuf, cast_eq]
  after_results_simp
  simp only [val0_main_arg2] <;> rfl
set_option maxRecDepth 8192 in
set_option maxHeartbeats 2000000 in
theorem val0_1_main_v25 (V0 : Valuation τ sig (Elt F)) : val0_1 V0 (no_index (Proc.devRef .tc main_v25)) = subf (minimumf (broadcastInDim S16x8x8732x2 ![0, 1, 2, 3] bcast_S16x8x1x2_S16x8x8732x2_0_1_2_3 (broadcastInDim S16x8x1x2 ![0, 1, 3] bcast_S16x8x2_S16x8x1x2_0_1_3 (extractStridedSlice S16x8x2 ![0, 0, 2] (V0 (Proc.devRef .tc main_arg3)) slices_S16x8x4_S16x8x2_0_0_2))) (broadcastInDim S16x8x8732x2 ![0, 1, 2, 3] bcast_S1x1x8732x2_S16x8x8732x2_0_1_2_3 (broadcastInDim S1x1x8732x2 ![2, 3] bcast_S8732x2_S1x1x8732x2_2_3 (extractStridedSlice S8732x2 ![0, 2] (res_main_v10 V0) slices_S8732x4_S8732x2_0_2)))) (maximumf (broadcastInDim S16x8x8732x2 ![0, 1, 2, 3] bcast_S16x8x1x2_S16x8x8732x2_0_1_2_3 (broadcastInDim S16x8x1x2 ![0, 1, 3] bcast_S16x8x2_S16x8x1x2_0_1_3 (extractStridedSlice S16x8x2 ![0, 0, 0] (V0 (Proc.devRef .tc main_arg3)) slices_S16x8x4_S16x8x2_0_0_0))) (broadcastInDim S16x8x8732x2 ![0, 1, 2, 3] bcast_S1x1x8732x2_S16x8x8732x2_0_1_2_3 (broadcastInDim S1x1x8732x2 ![2, 3] bcast_S8732x2_S1x1x8732x2_2_3 (extractStridedSlice S8732x2 ![0, 0] (res_main_v10 V0) slices_S8732x4_S8732x2_0_0)))) := by
  unfold val0_1
  simp only [ops_part0_0, TRef.unary, TRef.toBuf, TRef.ofBuf, cast_eq]
  after_results_simp
  simp only [val0_main_arg2, val0_main_arg3] <;> rfl
set_option maxRecDepth 8192 in
set_option maxHeartbeats 2000000 in
theorem val0_1_main_call0_v0 (V0 : Valuation τ sig (Elt F)) : val0_1 V0 (no_index (Proc.devRef .tc main_call0_v0)) = id (constant S_ .f32 0x00000000#32) := by
  unfold val0_1
  simp only [ops_part0_0, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v1, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
set_option maxRecDepth 8192 in
set_option maxHeartbeats 2000000 in
theorem val0_2_main_v31 (V0 : Valuation τ sig (Elt F)) : val0_2 V0 (no_index (Proc.devRef .tc main_v31)) = res_main_v31 V0 := by
  unfold val0_2
  simp only [ops_part0_1, TRef.binary, TRef.unary, TRef.toBuf, TRef.ofBuf, cast_eq]
  after_results_simp
  simp only [val0_1_main_v25, val0_1_main_call0_v0] <;> rfl
set_option maxRecDepth 8192 in
set_option maxHeartbeats 2000000 in
theorem val0_2_main_v43 (V0 : Valuation τ sig (Elt F)) : val0_2 V0 (no_index (Proc.devRef .tc main_v43)) = broadcastInDim S16x8x1 ![0, 1] bcast_S16x8_S16x8x1_0_1 (mulf (subf (shapeCast _ (extractStridedSlice S16x8x1 ![0, 0, 2] (V0 (Proc.devRef .tc main_arg3)) slices_S16x8x4_S16x8x1_0_0_2) shapeCasts_S16x8x1_S16x8) (shapeCast _ (extractStridedSlice S16x8x1 ![0, 0, 0] (V0 (Proc.devRef .tc main_arg3)) slices_S16x8x4_S16x8x1_0_0_0) shapeCasts_S16x8x1_S16x8)) (subf (shapeCast _ (extractStridedSlice S16x8x1 ![0, 0, 3] (V0 (Proc.devRef .tc main_arg3)) slices_S16x8x4_S16x8x1_0_0_3) shapeCasts_S16x8x1_S16x8) (shapeCast _ (extractStridedSlice S16x8x1 ![0, 0, 1] (V0 (Proc.devRef .tc main_arg3)) slices_S16x8x4_S16x8x1_0_0_1) shapeCasts_S16x8x1_S16x8))) := by
  unfold val0_2
  simp only [ops_part0_1, TRef.binary, TRef.unary, TRef.toBuf, TRef.ofBuf, cast_eq]
  after_results_simp
  simp only [val0_1_main_arg3] <;> rfl
set_option maxRecDepth 8192 in
set_option maxHeartbeats 2000000 in
theorem val0_2_main_v54 (V0 : Valuation τ sig (Elt F)) : val0_2 V0 (no_index (Proc.devRef .tc main_v54)) = mulf (subf (shapeCast _ (extractStridedSlice S8732x1 ![0, 2] (res_main_v10 V0) slices_S8732x4_S8732x1_0_2) shapeCasts_S8732x1_S8732) (shapeCast _ (extractStridedSlice S8732x1 ![0, 0] (res_main_v10 V0) slices_S8732x4_S8732x1_0_0) shapeCasts_S8732x1_S8732)) (subf (shapeCast _ (extractStridedSlice S8732x1 ![0, 3] (res_main_v10 V0) slices_S8732x4_S8732x1_0_3) shapeCasts_S8732x1_S8732) (shapeCast _ (extractStridedSlice S8732x1 ![0, 1] (res_main_v10 V0) slices_S8732x4_S8732x1_0_1) shapeCasts_S8732x1_S8732)) := by
  unfold val0_2
  simp only [ops_part0_1, TRef.binary, TRef.unary, TRef.toBuf, TRef.ofBuf, cast_eq]
  after_results_simp
  simp only [val0_1_main_v10] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v55, main_v56]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_v31 (V0 : Valuation τ sig (Elt F)) : val1 V0 (no_index (Proc.devRef .tc main_v31)) = res_main_v31 V0 :=
  (val1_keep V0 main_v31 (by decide)).trans (val0_2_main_v31 V0)
set_option maxRecDepth 8192 in
theorem val1_main_v55 (V0 : Valuation τ sig (Elt F)) : val1 V0 (no_index (Proc.devRef .tc main_v55)) = broadcastInDim S1x1x8732 ![2] bcast_S8732_S1x1x8732_2 (mulf (subf (shapeCast _ (extractStridedSlice S8732x1 ![0, 2] (res_main_v10 V0) slices_S8732x4_S8732x1_0_2) shapeCasts_S8732x1_S8732) (shapeCast _ (extractStridedSlice S8732x1 ![0, 0] (res_main_v10 V0) slices_S8732x4_S8732x1_0_0) shapeCasts_S8732x1_S8732)) (subf (shapeCast _ (extractStridedSlice S8732x1 ![0, 3] (res_main_v10 V0) slices_S8732x4_S8732x1_0_3) shapeCasts_S8732x1_S8732) (shapeCast _ (extractStridedSlice S8732x1 ![0, 1] (res_main_v10 V0) slices_S8732x4_S8732x1_0_1) shapeCasts_S8732x1_S8732))) := by
  unfold val1
  simp only [ops_part0_2]
  after_results_simp
  simp only [val0_2_main_v54] <;> rfl
set_option maxRecDepth 8192 in
theorem val1_main_v56 (V0 : Valuation τ sig (Elt F)) : val1 V0 (no_index (Proc.devRef .tc main_v56)) = broadcastInDim S16x8x8732 ![0, 1, 2] bcast_S16x8x1_S16x8x8732_0_1_2 (broadcastInDim S16x8x1 ![0, 1] bcast_S16x8_S16x8x1_0_1 (mulf (subf (shapeCast _ (extractStridedSlice S16x8x1 ![0, 0, 2] (V0 (Proc.devRef .tc main_arg3)) slices_S16x8x4_S16x8x1_0_0_2) shapeCasts_S16x8x1_S16x8) (shapeCast _ (extractStridedSlice S16x8x1 ![0, 0, 0] (V0 (Proc.devRef .tc main_arg3)) slices_S16x8x4_S16x8x1_0_0_0) shapeCasts_S16x8x1_S16x8)) (subf (shapeCast _ (extractStridedSlice S16x8x1 ![0, 0, 3] (V0 (Proc.devRef .tc main_arg3)) slices_S16x8x4_S16x8x1_0_0_3) shapeCasts_S16x8x1_S16x8) (shapeCast _ (extractStridedSlice S16x8x1 ![0, 0, 1] (V0 (Proc.devRef .tc main_arg3)) slices_S16x8x4_S16x8x1_0_0_1) shapeCasts_S16x8x1_S16x8)))) := by
  unfold val1
  simp only [ops_part0_2]
  after_results_simp
  simp only [val0_2_main_v43] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_call1_v0, main_call1_cst, main_call1_c, main_call1_v1_0, main_v61, main_cst_2, main_v62, main_call2_v0, main_call2_cst, main_call2_c, main_call2_v1_0, main_v63, main_v64, main_v65, main_v66, main_v67, main_v68, main_v69, main_cst_3, main_call3_v0, main_call3_v1, main_v70, main_c, main_call4_v0, main_call4_v1, main_v71]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
set_option maxRecDepth 8192 in
set_option maxHeartbeats 2000000 in
theorem val1_1_main_v61 (V0 : Valuation τ sig (Elt F)) : val1_1 V0 (no_index (Proc.devRef .tc main_v61)) = res_main_v61 V0 := by
  unfold val1_1
  simp only [ops_part1_0, TRef.nullary, TRef.quaternary, TRef.ternary, TRef.unary, TRef.toBuf, TRef.ofBuf, cast_eq]
  after_results_simp
  simp only [val1_main_v55, val1_main_v56, val1_main_v31] <;> rfl
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.nullary, TRef.quaternary, TRef.ternary, TRef.unary, TRef.toBuf, TRef.ofBuf, cast_eq]
  after_results_simp
  all_goals rfl
set_option maxRecDepth 8192 in
set_option maxHeartbeats 2000000 in
theorem val1_1_main_v70 (V0 : Valuation τ sig (Elt F)) : val1_1 V0 (no_index (Proc.devRef .tc main_v70)) = select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_) := by
  unfold val1_1
  simp only [ops_part1_0, TRef.nullary, TRef.quaternary, TRef.ternary, TRef.unary, TRef.toBuf, TRef.ofBuf, cast_eq]
  after_results_simp
  simp only [val1_main_v55, val1_main_v56, val1_main_v31] <;> rfl
set_option maxRecDepth 8192 in
set_option maxHeartbeats 2000000 in
theorem val1_1_main_v71 (V0 : Valuation τ sig (Elt F)) : val1_1 V0 (no_index (Proc.devRef .tc main_v71)) = select (res_main_v69 V0) (broadcastInDim S16x8732 ![] bcast_S_S16x8732 (id (constantI S_ 32 0#32))) ((fun j => (Host.argReduce reducer_argmax_f32_i32 (res_main_v60 V0) (res_main_call2_v0 V0) (res_main_call2_cst V0) (res_main_call2_c V0) reducesTo_S16x8x8732_S16x8732_d1 h_S_ j).2)) := by
  unfold val1_1
  simp only [ops_part1_0, TRef.nullary, TRef.quaternary, TRef.ternary, TRef.unary, TRef.toBuf, TRef.ofBuf, cast_eq]
  after_results_simp
  simp only [val1_main_v55, val1_main_v56, val1_main_v31] <;> rfl

end Cert.Ref

end
-- ==== Proof.RefRunB.lean ====
/- The reference program line by line (second part): what the later stretches leave, and the run of the whole program: it ends
   with each result the composed term of the arguments. -/
module

public import proofs.«01_k».proof.Proof.RefRunA
public import Idealize.ShloMosaic.Lib.StableHlo.Run
public import Idealize.ShloMosaic.Lib.Pipeline.Frame

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v72, main_v73, main_v74, main_v75, main_v76, main_cst_4, main_call5_v0, main_call5_v1, main_v77, main_c_5, main_call6_v0, main_call6_v1, main_v78, main_v79, main_v80, main_v81, main_v82, main_v83, main_cst_6, main_call7_v0, main_call7_v1, main_v84, main_c_7, main_call8_v0, main_call8_v1, main_v85, main_v86, main_v87, main_v88, main_v89]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v61 (V0 : Valuation τ sig (Elt F)) : val1_2 V0 (no_index (Proc.devRef .tc main_v61)) = res_main_v61 V0 :=
  (val1_2_keep V0 main_v61 (by decide)).trans (val1_1_main_v61 V0)
theorem val1_2_main_v64 (V0 : Valuation τ sig (Elt F)) : val1_2 V0 (no_index (Proc.devRef .tc main_v64)) = res_main_v64 V0 :=
  (val1_2_keep V0 main_v64 (by decide)).trans (val1_1_main_v64 V0)
set_option maxRecDepth 8192 in
set_option maxHeartbeats 2000000 in
theorem val1_2_main_v84 (V0 : Valuation τ sig (Elt F)) : val1_2 V0 (no_index (Proc.devRef .tc main_v84)) = select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_))) := by
  unfold val1_2
  simp only [ops_part1_1, TRef.ternary, TRef.unary, TRef.toBuf, TRef.ofBuf, cast_eq]
  after_results_simp
  simp only [val1_1_main_v70, val1_1_main_v64, val1_1_main_v61] <;> rfl
set_option maxRecDepth 8192 in
set_option maxHeartbeats 2000000 in
theorem val1_2_main_v85 (V0 : Valuation τ sig (Elt F)) : val1_2 V0 (no_index (Proc.devRef .tc main_v85)) = select (res_main_v83 V0) (broadcastInDim S16x8732 ![] bcast_S_S16x8732 (id (constantI S_ 32 2#32))) (select (res_main_v76 V0) (broadcastInDim S16x8732 ![] bcast_S_S16x8732 (id (constantI S_ 32 1#32))) (select (res_main_v69 V0) (broadcastInDim S16x8732 ![] bcast_S_S16x8732 (id (constantI S_ 32 0#32))) ((fun j => (Host.argReduce reducer_argmax_f32_i32 (res_main_v60 V0) (res_main_call2_v0 V0) (res_main_call2_cst V0) (res_main_call2_c V0) reducesTo_S16x8x8732_S16x8732_d1 h_S_ j).2)))) := by
  unfold val1_2
  simp only [ops_part1_1, TRef.ternary, TRef.unary, TRef.toBuf, TRef.ofBuf, cast_eq]
  after_results_simp
  simp only [val1_1_main_v71, val1_1_main_v64, val1_1_main_v61] <;> rfl
set_option maxRecDepth 8192 in
set_option maxHeartbeats 2000000 in
theorem val1_2_main_v88 (V0 : Valuation τ sig (Elt F)) : val1_2 V0 (no_index (Proc.devRef .tc main_v88)) = broadcastInDim S16x8732 ![0, 1] bcast_S16x1_S16x8732_0_1 (extractStridedSlice S16x1 ![0, 3] (res_main_v61 V0) slices_S16x8_S16x1_0_3) := by
  unfold val1_2
  simp only [ops_part1_1, TRef.ternary, TRef.unary, TRef.toBuf, TRef.ofBuf, cast_eq]
  after_results_simp
  simp only [val1_1_main_v61] <;> rfl
set_option maxRecDepth 8192 in
set_option maxHeartbeats 2000000 in
theorem val1_2_main_v89 (V0 : Valuation τ sig (Elt F)) : val1_2 V0 (no_index (Proc.devRef .tc main_v89)) = broadcastInDim S16x8732 ![0, 1] bcast_S1x8732_S16x8732_0_1 (broadcastInDim S1x8732 ![1] bcast_S8732_S1x8732_1 (res_main_v64 V0)) := by
  unfold val1_2
  simp only [ops_part1_1, TRef.ternary, TRef.unary, TRef.toBuf, TRef.ofBuf, cast_eq]
  after_results_simp
  simp only [val1_1_main_v64] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v90, main_cst_8, main_call9_v0, main_call9_v1, main_v91, main_c_9, main_call10_v0, main_call10_v1, main_v92, main_v93, main_v94, main_v95, main_v96, main_v97, main_cst_10, main_call11_v0, main_call11_v1, main_v98, main_c_11, main_call12_v0, main_call12_v1, main_v99, main_v100, main_v101, main_v102, main_v103, main_v104, main_cst_12]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v61 (V0 : Valuation τ sig (Elt F)) : val2 V0 (no_index (Proc.devRef .tc main_v61)) = res_main_v61 V0 :=
  (val2_keep V0 main_v61 (by decide)).trans (val1_2_main_v61 V0)
theorem val2_main_v64 (V0 : Valuation τ sig (Elt F)) : val2 V0 (no_index (Proc.devRef .tc main_v64)) = res_main_v64 V0 :=
  (val2_keep V0 main_v64 (by decide)).trans (val1_2_main_v64 V0)
set_option maxRecDepth 8192 in
set_option maxHeartbeats 2000000 in
theorem val2_main_v98 (V0 : Valuation τ sig (Elt F)) : val2 V0 (no_index (Proc.devRef .tc main_v98)) = select (res_main_v97 V0) (broadcastInDim S16x8732 ![] bcast_S_S16x8732 (id (constant S_ .f32 0x40000000#32))) (select (res_main_v90 V0) (broadcastInDim S16x8732 ![] bcast_S_S16x8732 (id (constant S_ .f32 0x40000000#32))) (select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_))))) := by
  unfold val2
  simp only [ops_part1_2, TRef.ternary, TRef.unary, TRef.toBuf, TRef.ofBuf, cast_eq]
  after_results_simp
  simp only [val1_2_main_v84, val1_2_main_v89, val1_2_main_v88, val1_2_main_v64, val1_2_main_v61] <;> rfl
set_option maxRecDepth 8192 in
set_option maxHeartbeats 2000000 in
theorem val2_main_v99 (V0 : Valuation τ sig (Elt F)) : val2 V0 (no_index (Proc.devRef .tc main_v99)) = select (res_main_v97 V0) (broadcastInDim S16x8732 ![] bcast_S_S16x8732 (id (constantI S_ 32 4#32))) (select (res_main_v90 V0) (broadcastInDim S16x8732 ![] bcast_S_S16x8732 (id (constantI S_ 32 3#32))) (select (res_main_v83 V0) (broadcastInDim S16x8732 ![] bcast_S_S16x8732 (id (constantI S_ 32 2#32))) (select (res_main_v76 V0) (broadcastInDim S16x8732 ![] bcast_S_S16x8732 (id (constantI S_ 32 1#32))) (select (res_main_v69 V0) (broadcastInDim S16x8732 ![] bcast_S_S16x8732 (id (constantI S_ 32 0#32))) ((fun j => (Host.argReduce reducer_argmax_f32_i32 (res_main_v60 V0) (res_main_call2_v0 V0) (res_main_call2_cst V0) (res_main_call2_c V0) reducesTo_S16x8x8732_S16x8732_d1 h_S_ j).2)))))) := by
  unfold val2
  simp only [ops_part1_2, TRef.ternary, TRef.unary, TRef.toBuf, TRef.ofBuf, cast_eq]
  after_results_simp
  simp only [val1_2_main_v85, val1_2_main_v89, val1_2_main_v88, val1_2_main_v64, val1_2_main_v61] <;> rfl
set_option maxRecDepth 8192 in
set_option maxHeartbeats 2000000 in
theorem val2_main_v104 (V0 : Valuation τ sig (Elt F)) : val2 V0 (no_index (Proc.devRef .tc main_v104)) = res_main_v104 V0 := by
  unfold val2
  simp only [ops_part1_2, TRef.ternary, TRef.unary, TRef.toBuf, TRef.ofBuf, cast_eq]
  after_results_simp
  simp only [val1_2_main_v64, val1_2_main_v61] <;> rfl
set_option maxRecDepth 8192 in
set_option maxHeartbeats 2000000 in
theorem val2_main_cst_12 (V0 : Valuation τ sig (Elt F)) : val2 V0 (no_index (Proc.devRef .tc main_cst_12)) = constant S_ .f32 0x40000000#32 := by
  unfold val2
  simp only [ops_part1_2, TRef.ternary, TRef.unary, TRef.toBuf, TRef.ofBuf, cast_eq]
  after_results_simp
  all_goals rfl

/-- The device's buffer contents after @main's first 180 operations. -/
def val2_1 (V0 : Valuation τ sig (Elt F)) : Valuation τ sig (Elt F) := after ops_part2_0 (val2 V0)
/-- The buffers that window `ops_part2_0`'s operations write. -/
abbrev ops_part2_0_W : List (Ref sig .tc) := [main_call13_v0, main_call13_v1, main_v105, main_c_13, main_call14_v0, main_call14_v1, main_v106, main_v107, main_v108, main_v109, main_v110, main_v111, main_cst_14, main_call15_v0, main_call15_v1, main_v112, main_c_15, main_call16_v0, main_call16_v1, main_v113, main_v114, main_v115, main_v116, main_v117, main_v118, main_cst_16, main_call17_v0, main_call17_v1, main_v119, main_c_17]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
set_option maxRecDepth 8192 in
set_option maxHeartbeats 2000000 in
theorem val2_1_main_v113 (V0 : Valuation τ sig (Elt F)) : val2_1 V0 (no_index (Proc.devRef .tc main_v113)) = select (res_main_v111 V0) (broadcastInDim S16x8732 ![] bcast_S_S16x8732 (id (constantI S_ 32 6#32))) (select (res_main_v104 V0) (broadcastInDim S16x8732 ![] bcast_S_S16x8732 (id (constantI S_ 32 5#32))) (select (res_main_v97 V0) (broadcastInDim S16x8732 ![] bcast_S_S16x8732 (id (constantI S_ 32 4#32))) (select (res_main_v90 V0) (broadcastInDim S16x8732 ![] bcast_S_S16x8732 (id (constantI S_ 32 3#32))) (select (res_main_v83 V0) (broadcastInDim S16x8732 ![] bcast_S_S16x8732 (id (constantI S_ 32 2#32))) (select (res_main_v76 V0) (broadcastInDim S16x8732 ![] bcast_S_S16x8732 (id (constantI S_ 32 1#32))) (select (res_main_v69 V0) (broadcastInDim S16x8732 ![] bcast_S_S16x8732 (id (constantI S_ 32 0#32))) ((fun j => (Host.argReduce reducer_argmax_f32_i32 (res_main_v60 V0) (res_main_call2_v0 V0) (res_main_call2_cst V0) (res_main_call2_c V0) reducesTo_S16x8x8732_S16x8732_d1 h_S_ j).2)))))))) := by
  unfold val2_1
  simp only [ops_part2_0, TRef.ternary, TRef.unary, TRef.toBuf, TRef.ofBuf, cast_eq]
  after_results_simp
  simp only [val2_main_v99, val2_main_v104, val2_main_v64, val2_main_v61] <;> rfl
set_option maxRecDepth 8192 in
set_option maxHeartbeats 2000000 in
theorem val2_1_main_v118 (V0 : Valuation τ sig (Elt F)) : val2_1 V0 (no_index (Proc.devRef .tc main_v118)) = res_main_v118 V0 := by
  unfold val2_1
  simp only [ops_part2_0, TRef.ternary, TRef.unary, TRef.toBuf, TRef.ofBuf, cast_eq]
  after_results_simp
  simp only [val2_main_v64, val2_main_v61] <;> rfl
set_option maxRecDepth 8192 in
set_option maxHeartbeats 2000000 in
theorem val2_1_main_v119 (V0 : Valuation τ sig (Elt F)) : val2_1 V0 (no_index (Proc.devRef .tc main_v119)) = select (res_main_v118 V0) (broadcastInDim S16x8732 ![] bcast_S_S16x8732 (id (constant S_ .f32 0x40000000#32))) (select (res_main_v111 V0) (broadcastInDim S16x8732 ![] bcast_S_S16x8732 (id (constant S_ .f32 0x40000000#32))) (select (res_main_v104 V0) (broadcastInDim S16x8732 ![] bcast_S_S16x8732 (id (constant S_ .f32 0x40000000#32))) (select (res_main_v97 V0) (broadcastInDim S16x8732 ![] bcast_S_S16x8732 (id (constant S_ .f32 0x40000000#32))) (select (res_main_v90 V0) (broadcastInDim S16x8732 ![] bcast_S_S16x8732 (id (constant S_ .f32 0x40000000#32))) (select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_)))))))) := by
  unfold val2_1
  simp only [ops_part2_0, TRef.ternary, TRef.unary, TRef.toBuf, TRef.ofBuf, cast_eq]
  after_results_simp
  simp only [val2_main_v98, val2_main_cst_12, val2_main_v104, val2_main_v64, val2_main_v61] <;> rfl
set_option maxRecDepth 8192 in
set_option maxHeartbeats 2000000 in
theorem val2_1_main_c_17 (V0 : Valuation τ sig (Elt F)) : val2_1 V0 (no_index (Proc.devRef .tc main_c_17)) = constantI S_ 32 7#32 := by
  unfold val2_1
  simp only [ops_part2_0, TRef.ternary, TRef.unary, TRef.toBuf, TRef.ofBuf, cast_eq]
  after_results_simp
  all_goals rfl

/-- The device's buffer contents after @main's first 210 operations. -/
def val2_2 (V0 : Valuation τ sig (Elt F)) : Valuation τ sig (Elt F) := after ops_part2_1 (val2_1 V0)
/-- The buffers that window `ops_part2_1`'s operations write. -/
abbrev ops_part2_1_W : List (Ref sig .tc) := [main_call18_v0, main_call18_v1, main_v120, main_v121, main_call19_c, main_call19_v0, main_call19_v1, main_call19_c_0, main_call19_v2, main_call19_v3, main_call19_v4, main_v122, main_call20_c, main_call20_v0, main_call20_v1, main_call20_c_0, main_call20_v2, main_call20_v3, main_call20_v4, main_call20_v5, main_v123, main_c_18, main_v124, main_v125, main_cst_19, main_v126, main_v127, main_c_20, main_call21_v0, main_call21_v1]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
set_option maxRecDepth 8192 in
set_option maxHeartbeats 2000000 in
theorem val2_2_main_v122 (V0 : Valuation τ sig (Elt F)) : val2_2 V0 (no_index (Proc.devRef .tc main_v122)) = res_main_v122 V0 := by
  unfold val2_2
  simp only [ops_part2_1, TRef.binary, TRef.nullary, TRef.reshape, TRef.ternary, TRef.unary, TRef.toBuf, TRef.ofBuf, cast_eq]
  after_results_simp
  simp only [val2_1_main_v113, val2_1_main_c_17, val2_1_main_v118, val2_1_main_arg3] <;> rfl
set_option maxRecDepth 8192 in
set_option maxHeartbeats 2000000 in
theorem val2_2_main_v125 (V0 : Valuation τ sig (Elt F)) : val2_2 V0 (no_index (Proc.devRef .tc main_v125)) = addi (Host.gather gather_S16x8_S16x8732x1_S16x8732_n_1_0_0_1_2_11 (V0 (Proc.devRef .tc main_arg4)) (shapeCast _ (select (cmpi .slt (res_main_v120 V0) (broadcastInDim S16x8732 ![] bcast_S_S16x8732 (constantI S_ 32 0#32))) (addi (res_main_v120 V0) (broadcastInDim S16x8732 ![] bcast_S_S16x8732 (constantI S_ 32 8#32))) (res_main_v120 V0)) shapeCasts_S16x8732_S16x8732x1)) (broadcastInDim S16x8732 ![] bcast_S_S16x8732 (constantI S_ 32 1#32)) := by
  unfold val2_2
  simp only [ops_part2_1, TRef.binary, TRef.nullary, TRef.reshape, TRef.ternary, TRef.unary, TRef.toBuf, TRef.ofBuf, cast_eq]
  after_results_simp
  simp only [val2_1_main_v113, val2_1_main_c_17, val2_1_main_v118, val2_1_main_arg4] <;> rfl
set_option maxRecDepth 8192 in
set_option maxHeartbeats 2000000 in
theorem val2_2_main_v127 (V0 : Valuation τ sig (Elt F)) : val2_2 V0 (no_index (Proc.devRef .tc main_v127)) = cmpf .olt (select (res_main_v118 V0) (broadcastInDim S16x8732 ![] bcast_S_S16x8732 (id (constant S_ .f32 0x40000000#32))) (select (res_main_v111 V0) (broadcastInDim S16x8732 ![] bcast_S_S16x8732 (id (constant S_ .f32 0x40000000#32))) (select (res_main_v104 V0) (broadcastInDim S16x8732 ![] bcast_S_S16x8732 (id (constant S_ .f32 0x40000000#32))) (select (res_main_v97 V0) (broadcastInDim S16x8732 ![] bcast_S_S16x8732 (id (constant S_ .f32 0x40000000#32))) (select (res_main_v90 V0) (broadcastInDim S16x8732 ![] bcast_S_S16x8732 (id (constant S_ .f32 0x40000000#32))) (select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_))))))))) (broadcastInDim S16x8732 ![] bcast_S_S16x8732 (constant S_ .f32 0x3EE66666#32)) := by
  unfold val2_2
  simp only [ops_part2_1, TRef.binary, TRef.nullary, TRef.reshape, TRef.ternary, TRef.unary, TRef.toBuf, TRef.ofBuf, cast_eq]
  after_results_simp
  simp only [val2_1_main_v119] <;> rfl
set_option maxRecDepth 8192 in
set_option maxHeartbeats 2000000 in
theorem val2_2_main_call21_v1 (V0 : Valuation τ sig (Elt F)) : val2_2 V0 (no_index (Proc.devRef .tc main_call21_v1)) = broadcastInDim S16x8732 ![] bcast_S_S16x8732 (id (constantI S_ 32 0#32)) := by
  unfold val2_2
  simp only [ops_part2_1, TRef.binary, TRef.nullary, TRef.reshape, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v128, main_v129, main_v130, main_v131, main_cst_21, main_v132, main_v133, main_v134, main_v135, main_v136, main_v137, main_v138, main_cst_22, main_v139, main_v140, main_v141, main_v142, main_v143, main_v144, main_v145, main_v146, main_v147, main_v148, main_v149, main_v150, main_v151, main_cst_23, main_v152, main_v153]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
set_option maxRecDepth 8192 in
set_option maxHeartbeats 2000000 in
theorem val3_main_v128 (V0 : Valuation τ sig (Elt F)) : val3 V0 (no_index (Proc.devRef .tc main_v128)) = res_main_v128 V0 := by
  unfold val3
  simp only [ops_part2_2, TRef.ternary, TRef.toBuf, TRef.ofBuf, cast_eq]
  after_results_simp
  simp only [val2_2_main_v125, val2_2_main_call21_v1, val2_2_main_v127] <;> rfl
set_option maxRecDepth 8192 in
set_option maxHeartbeats 2000000 in
theorem val3_main_v143 (V0 : Valuation τ sig (Elt F)) : val3 V0 (no_index (Proc.devRef .tc main_v143)) = Host.divf (subf (Host.divf (addf (extractStridedSlice S16x8732x2 ![0, 0, 0] (res_main_v122 V0) slices_S16x8732x4_S16x8732x2_0_0_0) (extractStridedSlice S16x8732x2 ![0, 0, 2] (res_main_v122 V0) slices_S16x8732x4_S16x8732x2_0_0_2)) (broadcastInDim S16x8732x2 ![] bcast_S_S16x8732x2 (constant S_ .f32 0x40000000#32))) (broadcastInDim S16x8732x2 ![0, 1, 2] bcast_S1x8732x2_S16x8732x2_0_1_2 (broadcastInDim S1x8732x2 ![1, 2] bcast_S8732x2_S1x8732x2_1_2 (extractStridedSlice S8732x2 ![0, 0] (V0 (Proc.devRef .tc main_arg2)) slices_S8732x4_S8732x2_0_0)))) (broadcastInDim S16x8732x2 ![0, 1, 2] bcast_S1x8732x2_S16x8732x2_0_1_2 (broadcastInDim S1x8732x2 ![1, 2] bcast_S8732x2_S1x8732x2_1_2 (Host.divf (extractStridedSlice S8732x2 ![0, 2] (V0 (Proc.devRef .tc main_arg2)) slices_S8732x4_S8732x2_0_2) (broadcastInDim S8732x2 ![] bcast_S_S8732x2 (constant S_ .f32 0x41200000#32))))) := by
  unfold val3
  simp only [ops_part2_2, TRef.ternary, TRef.toBuf, TRef.ofBuf, cast_eq]
  after_results_simp
  simp only [val2_2_main_arg2, val2_2_main_v122] <;> rfl
set_option maxRecDepth 8192 in
set_option maxHeartbeats 2000000 in
theorem val3_main_v153 (V0 : Valuation τ sig (Elt F)) : val3 V0 (no_index (Proc.devRef .tc main_v153)) = mulf (Host.log (Host.divf (subf (extractStridedSlice S16x8732x2 ![0, 0, 2] (res_main_v122 V0) slices_S16x8732x4_S16x8732x2_0_0_2) (extractStridedSlice S16x8732x2 ![0, 0, 0] (res_main_v122 V0) slices_S16x8732x4_S16x8732x2_0_0_0)) (broadcastInDim S16x8732x2 ![0, 1, 2] bcast_S1x8732x2_S16x8732x2_0_1_2 (broadcastInDim S1x8732x2 ![1, 2] bcast_S8732x2_S1x8732x2_1_2 (extractStridedSlice S8732x2 ![0, 2] (V0 (Proc.devRef .tc main_arg2)) slices_S8732x4_S8732x2_0_2))))) (broadcastInDim S16x8732x2 ![] bcast_S_S16x8732x2 (constant S_ .f32 0x40A00000#32)) := by
  unfold val3
  simp only [ops_part2_2, TRef.ternary, TRef.toBuf, TRef.ofBuf, cast_eq]
  after_results_simp
  simp only [val2_2_main_arg2, val2_2_main_v122] <;> rfl

/-- The device's buffer contents after @main's first 269 operations. -/
def val3_1 (V0 : Valuation τ sig (Elt F)) : Valuation τ sig (Elt F) := after ops_part3_0 (val3 V0)
/-- The buffers that window `ops_part3_0`'s operations write. -/
abbrev ops_part3_0_W : List (Ref sig .tc) := [main_v154, main_c_24, main_v155, main_v156, main_v157, main_c_25, main_v158, main_v159, main_v160, main_v161, main_cst_26, main_v162, main_v163, main_cst_27, main_v164, main_v165, main_v166, main_cst_28, main_v167, main_v168, main_v169, main_v170, main_v171, main_v172, main_v173, main_cst_29, main_v174, main_cst_30, main_v175, main_v176]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_v128 (V0 : Valuation τ sig (Elt F)) : val3_1 V0 (no_index (Proc.devRef .tc main_v128)) = res_main_v128 V0 :=
  (val3_1_keep V0 main_v128 (by decide)).trans (val3_main_v128 V0)
set_option maxRecDepth 8192 in
set_option maxHeartbeats 2000000 in
theorem val3_1_main_v156 (V0 : Valuation τ sig (Elt F)) : val3_1 V0 (no_index (Proc.devRef .tc main_v156)) = res_main_v156 V0 := by
  unfold val3_1
  simp only [ops_part3_0, TRef.ternary, TRef.toBuf, TRef.ofBuf, cast_eq]
  after_results_simp
  simp only [val3_main_v128] <;> rfl
set_option maxRecDepth 8192 in
set_option maxHeartbeats 2000000 in
theorem val3_1_main_v159 (V0 : Valuation τ sig (Elt F)) : val3_1 V0 (no_index (Proc.devRef .tc main_v159)) = res_main_v159 V0 := by
  unfold val3_1
  simp only [ops_part3_0, TRef.ternary, TRef.toBuf, TRef.ofBuf, cast_eq]
  after_results_simp
  simp only [val3_main_v128] <;> rfl
set_option maxRecDepth 8192 in
set_option maxHeartbeats 2000000 in
theorem val3_1_main_v174 (V0 : Valuation τ sig (Elt F)) : val3_1 V0 (no_index (Proc.devRef .tc main_v174)) = Host.reduceAdd (mulf (select (cmpf .olt (res_main_v161 V0) (broadcastInDim S16x8732x4 ![] bcast_S_S16x8732x4 (constant S_ .f32 0x3F800000#32))) (mulf (mulf (broadcastInDim S16x8732x4 ![] bcast_S_S16x8732x4 (constant S_ .f32 0x3F000000#32)) (res_main_v161 V0)) (res_main_v161 V0)) (subf (res_main_v161 V0) (broadcastInDim S16x8732x4 ![] bcast_S_S16x8732x4 (constant S_ .f32 0x3F000000#32)))) (broadcastInDim S16x8732x4 ![0, 1, 2] bcast_S16x8732x1_S16x8732x4_0_1_2 (uitofp .f32 (broadcastInDim S16x8732x1 ![0, 1] bcast_S16x8732_S16x8732x1_0_1 (res_main_v156 V0))))) (constant S_ .f32 0x00000000#32) reducesTo_S16x8732x4_S_d0_1_2 h_S_ := by
  unfold val3_1
  simp only [ops_part3_0, TRef.ternary, TRef.toBuf, TRef.ofBuf, cast_eq]
  after_results_simp
  simp only [val3_main_v128, val3_main_v153, val3_main_v143, val3_main_arg0] <;> rfl
set_option maxRecDepth 8192 in
set_option maxHeartbeats 2000000 in
theorem val3_1_main_v175 (V0 : Valuation τ sig (Elt F)) : val3_1 V0 (no_index (Proc.devRef .tc main_v175)) = res_main_v175 V0 := by
  unfold val3_1
  simp only [ops_part3_0, TRef.ternary, TRef.toBuf, TRef.ofBuf, cast_eq]
  after_results_simp
  simp only [val3_main_arg1] <;> rfl
set_option maxRecDepth 8192 in
set_option maxHeartbeats 2000000 in
theorem val3_1_main_v176 (V0 : Valuation τ sig (Elt F)) : val3_1 V0 (no_index (Proc.devRef .tc main_v176)) = broadcastInDim S16x8732x1 ![0, 1] bcast_S16x8732_S16x8732x1_0_1 (res_main_v175 V0) := by
  unfold val3_1
  simp only [ops_part3_0, TRef.ternary, TRef.toBuf, TRef.ofBuf, cast_eq]
  after_results_simp
  simp only [val3_main_arg1] <;> rfl

/-- The device's buffer contents after @main's first 299 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v177, main_v178, main_v179, main_cst_31, main_v180, main_v181, main_v182, main_v183, main_call23_c, main_call23_v0, main_call23_v1, main_call23_c_0, main_call23_v2, main_call23_v3, main_call23_v4, main_call23_v5, main_v184, main_v185, main_v186, main_cst_32, main_call24_v0, main_call24_v1, main_v187, main_c_33, main_v188, main_v189, main_c_34, main_v190, main_v191, main_v192]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
theorem val3_2_main_v156 (V0 : Valuation τ sig (Elt F)) : val3_2 V0 (no_index (Proc.devRef .tc main_v156)) = res_main_v156 V0 :=
  (val3_2_keep V0 main_v156 (by decide)).trans (val3_1_main_v156 V0)
theorem val3_2_main_v159 (V0 : Valuation τ sig (Elt F)) : val3_2 V0 (no_index (Proc.devRef .tc main_v159)) = res_main_v159 V0 :=
  (val3_2_keep V0 main_v159 (by decide)).trans (val3_1_main_v159 V0)
theorem val3_2_main_v174 (V0 : Valuation τ sig (Elt F)) : val3_2 V0 (no_index (Proc.devRef .tc main_v174)) = Host.reduceAdd (mulf (select (cmpf .olt (res_main_v161 V0) (broadcastInDim S16x8732x4 ![] bcast_S_S16x8732x4 (constant S_ .f32 0x3F800000#32))) (mulf (mulf (broadcastInDim S16x8732x4 ![] bcast_S_S16x8732x4 (constant S_ .f32 0x3F000000#32)) (res_main_v161 V0)) (res_main_v161 V0)) (subf (res_main_v161 V0) (broadcastInDim S16x8732x4 ![] bcast_S_S16x8732x4 (constant S_ .f32 0x3F000000#32)))) (broadcastInDim S16x8732x4 ![0, 1, 2] bcast_S16x8732x1_S16x8732x4_0_1_2 (uitofp .f32 (broadcastInDim S16x8732x1 ![0, 1] bcast_S16x8732_S16x8732x1_0_1 (res_main_v156 V0))))) (constant S_ .f32 0x00000000#32) reducesTo_S16x8732x4_S_d0_1_2 h_S_ :=
  (val3_2_keep V0 main_v174 (by decide)).trans (val3_1_main_v174 V0)
set_option maxRecDepth 8192 in
set_option maxHeartbeats 2000000 in
theorem val3_2_main_v186 (V0 : Valuation τ sig (Elt F)) : val3_2 V0 (no_index (Proc.devRef .tc main_v186)) = res_main_v186 V0 := by
  unfold val3_2
  simp only [ops_part3_1, TRef.binary, TRef.nullary, TRef.reshape, TRef.ternary, TRef.unary, TRef.toBuf, TRef.ofBuf, cast_eq]
  after_results_simp
  simp only [val3_1_main_v128, val3_1_main_arg1, val3_1_main_v176, val3_1_main_v175] <;> rfl
set_option maxRecDepth 8192 in
set_option maxHeartbeats 2000000 in
theorem val3_2_main_v191 (V0 : Valuation τ sig (Elt F)) : val3_2 V0 (no_index (Proc.devRef .tc main_v191)) = minsi (muli (broadcastInDim S16x1 ![] bcast_S_S16x1 (constantI S_ 32 3#32)) (res_main_v159 V0)) (broadcastInDim S16x1 ![] bcast_S_S16x1 (constantI S_ 32 8731#32)) := by
  unfold val3_2
  simp only [ops_part3_1, TRef.binary, TRef.nullary, TRef.reshape, TRef.ternary, TRef.unary, TRef.toBuf, TRef.ofBuf, cast_eq]
  after_results_simp
  simp only [val3_1_main_v159] <;> rfl
set_option maxRecDepth 8192 in
set_option maxHeartbeats 2000000 in
theorem val3_2_main_v192 (V0 : Valuation τ sig (Elt F)) : val3_2 V0 (no_index (Proc.devRef .tc main_v192)) = res_main_v192 V0 := by
  unfold val3_2
  simp only [ops_part3_1, TRef.binary, TRef.nullary, TRef.reshape, TRef.ternary, TRef.unary, TRef.toBuf, TRef.ofBuf, cast_eq]
  after_results_simp
  simp only [val3_1_main_v128, val3_1_main_arg1, val3_1_main_v176, val3_1_main_v175, val3_1_main_v156] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v193, main_c_35, main_v194, main_v195, main_v196, main_v197, main_v198, main_v199, main_cst_36, main_call26_v0, main_call26_v1, main_v200]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_arg4 (V0 : Valuation τ sig (Elt F)) : val4 V0 (no_index (Proc.devRef .tc main_arg4)) = V0 (Proc.devRef .tc main_arg4) :=
  (val4_keep V0 main_arg4 (by decide)).trans (val3_2_main_arg4 V0)
theorem val4_main_v156 (V0 : Valuation τ sig (Elt F)) : val4 V0 (no_index (Proc.devRef .tc main_v156)) = res_main_v156 V0 :=
  (val4_keep V0 main_v156 (by decide)).trans (val3_2_main_v156 V0)
theorem val4_main_v159 (V0 : Valuation τ sig (Elt F)) : val4 V0 (no_index (Proc.devRef .tc main_v159)) = res_main_v159 V0 :=
  (val4_keep V0 main_v159 (by decide)).trans (val3_2_main_v159 V0)
theorem val4_main_v174 (V0 : Valuation τ sig (Elt F)) : val4 V0 (no_index (Proc.devRef .tc main_v174)) = Host.reduceAdd (mulf (select (cmpf .olt (res_main_v161 V0) (broadcastInDim S16x8732x4 ![] bcast_S_S16x8732x4 (constant S_ .f32 0x3F800000#32))) (mulf (mulf (broadcastInDim S16x8732x4 ![] bcast_S_S16x8732x4 (constant S_ .f32 0x3F000000#32)) (res_main_v161 V0)) (res_main_v161 V0)) (subf (res_main_v161 V0) (broadcastInDim S16x8732x4 ![] bcast_S_S16x8732x4 (constant S_ .f32 0x3F000000#32)))) (broadcastInDim S16x8732x4 ![0, 1, 2] bcast_S16x8732x1_S16x8732x4_0_1_2 (uitofp .f32 (broadcastInDim S16x8732x1 ![0, 1] bcast_S16x8732_S16x8732x1_0_1 (res_main_v156 V0))))) (constant S_ .f32 0x00000000#32) reducesTo_S16x8732x4_S_d0_1_2 h_S_ :=
  (val4_keep V0 main_v174 (by decide)).trans (val3_2_main_v174 V0)
theorem val4_main_v186 (V0 : Valuation τ sig (Elt F)) : val4 V0 (no_index (Proc.devRef .tc main_v186)) = res_main_v186 V0 :=
  (val4_keep V0 main_v186 (by decide)).trans (val3_2_main_v186 V0)
theorem val4_main_v192 (V0 : Valuation τ sig (Elt F)) : val4 V0 (no_index (Proc.devRef .tc main_v192)) = res_main_v192 V0 :=
  (val4_keep V0 main_v192 (by decide)).trans (val3_2_main_v192 V0)
set_option maxRecDepth 8192 in
set_option maxHeartbeats 1200000 in
theorem val4_main_v199 (V0 : Valuation τ sig (Elt F)) : val4 V0 (no_index (Proc.devRef .tc main_v199)) = res_main_v199 V0 := by
  unfold val4
  simp only [ops_part3_2, TRef.ternary, TRef.unary, TRef.toBuf, TRef.ofBuf, cast_eq]
  after_results_simp
  simp only [val3_2_main_v191] <;> rfl
set_option maxRecDepth 8192 in
set_option maxHeartbeats 1200000 in
theorem val4_main_v200 (V0 : Valuation τ sig (Elt F)) : val4 V0 (no_index (Proc.devRef .tc main_v200)) = select (res_main_v199 V0) (res_main_v192 V0) (broadcastInDim S16x8732 ![] bcast_S_S16x8732 (id (constant S_ .f32 0x7F800000#32))) := by
  unfold val4
  simp only [ops_part3_2, TRef.ternary, TRef.unary, TRef.toBuf, TRef.ofBuf, cast_eq]
  after_results_simp
  simp only [val3_2_main_v192, val3_2_main_v191] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_cst_37, main_v201, main_v202, main_v203, main_v204, main_v205, main_v206, main_v207, main_v208, main_cst_38, main_call27_v0, main_call27_v1, main_call27_v2, main_v209, main_cst_39, main_v210, main_v211, main_cst_40, main_call28_v0, main_call28_v1, main_v212, main_cst_41, main_v213, main_v214, main_v215, main_cst_42, main_call29_v0, main_call29_v1, main_v216, main_cst_43, main_v217, main_v218, main_c_44, main_v219, main_v220, main_v221, main_v222]
set_option maxRecDepth 8192 in
theorem ops_part4_writes : (ops_part4 : List (HloOp τ sig (Elt F))).Forall fun op => op.writes ⊆ (ops_part4_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
set_option maxRecDepth 8192 in
set_option maxHeartbeats 2000000 in
theorem val5_main_v221 (V0 : Valuation τ sig (Elt F)) : val5 V0 (no_index (Proc.devRef .tc main_v221)) = Host.divf (Host.reduceAdd (mulf (select (cmpf .olt (res_main_v161 V0) (broadcastInDim S16x8732x4 ![] bcast_S_S16x8732x4 (constant S_ .f32 0x3F800000#32))) (mulf (mulf (broadcastInDim S16x8732x4 ![] bcast_S_S16x8732x4 (constant S_ .f32 0x3F000000#32)) (res_main_v161 V0)) (res_main_v161 V0)) (subf (res_main_v161 V0) (broadcastInDim S16x8732x4 ![] bcast_S_S16x8732x4 (constant S_ .f32 0x3F000000#32)))) (broadcastInDim S16x8732x4 ![0, 1, 2] bcast_S16x8732x1_S16x8732x4_0_1_2 (uitofp .f32 (broadcastInDim S16x8732x1 ![0, 1] bcast_S16x8732_S16x8732x1_0_1 (res_main_v156 V0))))) (constant S_ .f32 0x00000000#32) reducesTo_S16x8732x4_S_d0_1_2 h_S_) (res_main_v220 V0) := by
  unfold val5
  simp only [ops_part4, TRef.ternary, TRef.unary, TRef.toBuf, TRef.ofBuf, cast_eq]
  after_results_simp
  simp only [val4_main_v159, val4_main_v174] <;> rfl
set_option maxRecDepth 8192 in
set_option maxHeartbeats 2000000 in
theorem val5_main_v222 (V0 : Valuation τ sig (Elt F)) : val5 V0 (no_index (Proc.devRef .tc main_v222)) = Host.divf (addf (Host.reduceAdd (select (res_main_v156 V0) (res_main_v186 V0) (broadcastInDim S16x8732 ![] bcast_S_S16x8732 (id (constant S_ .f32 0x00000000#32)))) (constant S_ .f32 0x00000000#32) reducesTo_S16x8732_S_d0_1 h_S_) (Host.reduceAdd (select (res_main_v199 V0) (maximumf (res_main_v192 V0) (broadcastInDim S16x8732 ![0, 1] bcast_S16x1_S16x8732_0_1 (broadcastInDim S16x1 ![0] bcast_S16_S16x1_0 (Host.reduce FloatOps.minimumf (select (cmpf .oge (broadcastInDim S16x2139095041 ![0, 1] bcast_S1x2139095041_S16x2139095041_0_1 (broadcastInDim S1x2139095041 ![1] bcast_S2139095041_S1x2139095041_1 (res_main_v203 V0))) (broadcastInDim S16x2139095041 ![0, 1] bcast_S16x1_S16x2139095041_0_1 (broadcastInDim S16x1 ![0] bcast_S16_S16x1_0 (Host.reduce FloatOps.minimumf (select (res_main_v199 V0) (res_main_v192 V0) (broadcastInDim S16x8732 ![] bcast_S_S16x8732 (id (constant S_ .f32 0x7F800000#32)))) (constant S_ .f32 0x7F800000#32) reducesTo_S16x8732_S16_d1 h_S_)))) (broadcastInDim S16x2139095041 ![1] bcast_S2139095041_S16x2139095041_1 (res_main_v203 V0)) (broadcastInDim S16x2139095041 ![] bcast_S_S16x2139095041 (id (constant S_ .f32 0x7F800000#32)))) (constant S_ .f32 0x7F800000#32) reducesTo_S16x2139095041_S16_d1 h_S_)))) (broadcastInDim S16x8732 ![] bcast_S_S16x8732 (id (constant S_ .f32 0x00000000#32)))) (constant S_ .f32 0x00000000#32) reducesTo_S16x8732_S_d0_1 h_S_)) (res_main_v220 V0) := by
  unfold val5
  simp only [ops_part4, TRef.ternary, TRef.unary, TRef.toBuf, TRef.ofBuf, cast_eq]
  after_results_simp
  simp only [val4_main_v159, val4_main_v200, val4_main_v192, val4_main_v199, val4_main_v186, val4_main_v156] <;> rfl

theorem after_ops (V0 : Valuation τ sig (Elt F)) : after ops V0 = val5 V0 := by
  simp only [ops, ops_part0, ops_part1, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v221) = Host.divf (Host.reduceAdd (mulf (select (cmpf .olt (res_main_v161 (launchContents m c)) (broadcastInDim S16x8732x4 ![] bcast_S_S16x8732x4 (constant S_ .f32 0x3F800000#32))) (mulf (mulf (broadcastInDim S16x8732x4 ![] bcast_S_S16x8732x4 (constant S_ .f32 0x3F000000#32)) (res_main_v161 (launchContents m c))) (res_main_v161 (launchContents m c))) (subf (res_main_v161 (launchContents m c)) (broadcastInDim S16x8732x4 ![] bcast_S_S16x8732x4 (constant S_ .f32 0x3F000000#32)))) (broadcastInDim S16x8732x4 ![0, 1, 2] bcast_S16x8732x1_S16x8732x4_0_1_2 (uitofp .f32 (broadcastInDim S16x8732x1 ![0, 1] bcast_S16x8732_S16x8732x1_0_1 (res_main_v156 (launchContents m c)))))) (constant S_ .f32 0x00000000#32) reducesTo_S16x8732x4_S_d0_1_2 h_S_) (res_main_v220 (launchContents m c))
      ∧ r.2.mem ((c.tc : Thread nD τ).loc main_v222) = Host.divf (addf (Host.reduceAdd (select (res_main_v156 (launchContents m c)) (res_main_v186 (launchContents m c)) (broadcastInDim S16x8732 ![] bcast_S_S16x8732 (id (constant S_ .f32 0x00000000#32)))) (constant S_ .f32 0x00000000#32) reducesTo_S16x8732_S_d0_1 h_S_) (Host.reduceAdd (select (res_main_v199 (launchContents m c)) (maximumf (res_main_v192 (launchContents m c)) (broadcastInDim S16x8732 ![0, 1] bcast_S16x1_S16x8732_0_1 (broadcastInDim S16x1 ![0] bcast_S16_S16x1_0 (Host.reduce FloatOps.minimumf (select (cmpf .oge (broadcastInDim S16x2139095041 ![0, 1] bcast_S1x2139095041_S16x2139095041_0_1 (broadcastInDim S1x2139095041 ![1] bcast_S2139095041_S1x2139095041_1 (res_main_v203 (launchContents m c)))) (broadcastInDim S16x2139095041 ![0, 1] bcast_S16x1_S16x2139095041_0_1 (broadcastInDim S16x1 ![0] bcast_S16_S16x1_0 (Host.reduce FloatOps.minimumf (select (res_main_v199 (launchContents m c)) (res_main_v192 (launchContents m c)) (broadcastInDim S16x8732 ![] bcast_S_S16x8732 (id (constant S_ .f32 0x7F800000#32)))) (constant S_ .f32 0x7F800000#32) reducesTo_S16x8732_S16_d1 h_S_)))) (broadcastInDim S16x2139095041 ![1] bcast_S2139095041_S16x2139095041_1 (res_main_v203 (launchContents m c))) (broadcastInDim S16x2139095041 ![] bcast_S_S16x2139095041 (id (constant S_ .f32 0x7F800000#32)))) (constant S_ .f32 0x7F800000#32) reducesTo_S16x2139095041_S16_d1 h_S_)))) (broadcastInDim S16x8732 ![] bcast_S_S16x8732 (id (constant S_ .f32 0x00000000#32)))) (constant S_ .f32 0x00000000#32) reducesTo_S16x8732_S_d0_1 h_S_)) (res_main_v220 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v221).trans ((congrFun (after_ops (launchContents m c)) (Proc.devRef .tc main_v221)).trans (val5_main_v221 (launchContents m c))),
      (h c main_v222).trans ((congrFun (after_ops (launchContents m c)) (Proc.devRef .tc main_v222)).trans (val5_main_v222 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c)))⟩)
    (run_seq scopedRefs_eq scopedSems_eq defs main (fun _ => ops) main_eq (fun _ => ops_sub) m ρ fun _ => ops_fresh)

end Cert.Ref

end
-- ==== Proof.RefFrame.lean ====
/- The reference's run leaves the arguments as they were and every counter at zero: the program has no counters at all. -/
module

public import proofs.«01_k».proof.Proof.RefRunB
public import Idealize.ShloMosaic.Lib.Quiescent

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The reference ends, its arguments unchanged, its counters at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2, sem_eq_zero_of_no_sems (by decide) r.2⟩) (run m ρ)

end Cert.Ref

end
-- ==== Proof.KernelBatch.lean ====
/- The kernel's body, batch by batch: the one computation its four spellings repeat, and what a step leaves. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp
public import Idealize.ShloMosaic.Lib.WritesUnit
public import Idealize.ShloMosaic.Lib.Pointwise.Index

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One batch, as a function of its blocks

The body spells the same computation four times, cut at different places; here it is once, from the cuts of the first. -/

/-- Block `u` of the four target blocks of a step. -/
def bx0 (x : Vec F S4x8x128 .f32) (u : Fin 4) : Vec F S1x8x128 .f32 :=
  View.ld x (Rect.unit (s := S4x8x128) ![u.val, 0, 0] S1x8x128.size (by revert u; decide))
/-- The priors' block, whole. -/
def bx2 (x : Vec F S16x8832 .f32) : Vec F S16x8832 .f32 :=
  View.ld x (Rect.unit (s := S16x8832) ![0, 0] S16x8832.size inb_S16x8832_S16x8832_0_0)
/-- Block `u` of the four location blocks. -/
def bx3 (x : Vec F S4x4x8832 .f32) (u : Fin 4) : Vec F S1x4x8832 .f32 :=
  View.ld x (Rect.unit (s := S4x4x8832) ![u.val, 0, 0] S1x4x8832.size (by revert u; decide))
/-- Block `u` of the four confidence blocks. -/
def bx4 (x : Vec F S4x21x8832 .f32) (u : Fin 4) : Vec F S1x21x8832 .f32 :=
  View.ld x (Rect.unit (s := S4x21x8832) ![u.val, 0, 0] S1x21x8832.size (by revert u; decide))

/-- The columns' numbers. -/
abbrev i65 : IVec S1x8832 32 := iota .tc S1x8832 32 [1] iota_S1x8832_d1_w32
/-- The targets' numbers. -/
abbrev i66 : IVec S8x1 32 := iota .tc S8x1 32 [0] iota_S8x1_d0_w32

/-- The five rows gathered by the matching: centres, five log sizes, label. -/
def b27 (v3 v9 : Vec F S1x8x128 .f32) : FVec F S8x5 .f32 := k0_pay22 v3 v9
/-- Each prior's best overlap. -/
def b78 (v3 : Vec F S1x8x128 .f32) (v28 : Vec F S16x8832 .f32) : FVec F S1x8832 .f32 :=
  k0_pay36 (k0_pay15 v3) (k0_pay16 v3) (k0_pay18 v3) (k0_pay21 v3) (k0_pay24 v28) (k0_pay25 v28) (k0_pay26 v28) (k0_pay27 v28) (k0_pay34 v3 v28)
/-- Each prior's best target. -/
def b86 (v3 : Vec F S1x8x128 .f32) (v28 : Vec F S16x8832 .f32) : IVec S1x8832 32 :=
  k0_pay37 (k0_pay15 v3) (k0_pay16 v3) (k0_pay18 v3) (k0_pay21 v3) (k0_pay24 v28) (k0_pay25 v28) (k0_pay26 v28) (k0_pay27 v28) (k0_pay34 v3 v28)
/-- Which target, if any, has the prior as its best. -/
def b93 (v3 : Vec F S1x8x128 .f32) (v28 : Vec F S16x8832 .f32) : IVec S8x8832 32 :=
  k0_pay38 (k0_pay15 v3) (k0_pay16 v3) (k0_pay18 v3) (k0_pay21 v3) (k0_pay24 v28) (k0_pay25 v28) (k0_pay26 v28) (k0_pay27 v28) (k0_pay34 v3 v28)
/-- Each prior's class. -/
def b119 (v3 v9 : Vec F S1x8x128 .f32) (v28 : Vec F S16x8832 .f32) : FVec F S1x8832 .f32 :=
  k0_pay41 (b27 v3 v9) i66 (b78 v3 v28) (b86 v3 v28) (b93 v3 v28)
/-- Whether the prior is matched. -/
def b121 (v3 v9 : Vec F S1x8x128 .f32) (v28 : Vec F S16x8832 .f32) : IVec S1x8832 1 :=
  k0_pay42 (b27 v3 v9) i66 (b78 v3 v28) (b86 v3 v28) (b93 v3 v28)
/-- The same as a number. -/
def b123 (v3 v9 : Vec F S1x8x128 .f32) (v28 : Vec F S16x8832 .f32) : FVec F S1x8832 .f32 :=
  k0_pay43 (b27 v3 v9) i66 (b78 v3 v28) (b86 v3 v28) (b93 v3 v28)
/-- The smooth loss of the locations, per prior. -/
def b184 (v3 v9 : Vec F S1x8x128 .f32) (v28 : Vec F S16x8832 .f32) (v134 : Vec F S1x4x8832 .f32) : FVec F S1x8832 .f32 :=
  k0_pay50 (k0_pay44 (b27 v3 v9) (k0_pay29 v28) (k0_pay31 v28) i66 (b86 v3 v28) (b93 v3 v28))
    (k0_pay45 (b27 v3 v9) (k0_pay32 v28) i66 (b86 v3 v28) (b93 v3 v28))
    (k0_pay46 (b27 v3 v9) (k0_pay33 v28) i66 (b86 v3 v28) (b93 v3 v28))
    (k0_pay47 v134) (k0_pay48 (F := F))
    (k0_pay49 (b27 v3 v9) (k0_pay28 v28) (k0_pay30 v28) i66 (b86 v3 v28) (b93 v3 v28) v134)
/-- The row of losses the mining ranks: zero on matched priors and on the padding. -/
def bLg (v3 v9 : Vec F S1x8x128 .f32) (v28 : Vec F S16x8832 .f32) (v185 : Vec F S1x21x8832 .f32) : FVec F S1x8832 .f32 :=
  k0_pay54 i65 (b121 v3 v9 v28) v185
/-- The batch's three sums: locations, classes of matched priors, their number. -/
def bSum (v3 v9 : Vec F S1x8x128 .f32) (v28 : Vec F S16x8832 .f32) (v134 : Vec F S1x4x8832 .f32) (v185 : Vec F S1x21x8832 .f32) : FVec F S3x1 .f32 :=
  k0_pay55 (b119 v3 v9 v28) (b123 v3 v9 v28) (b184 v3 v9 v28 v134) v185
/-- The row that keeps the number of matched priors. -/
def bNp (v3 v9 : Vec F S1x8x128 .f32) (v28 : Vec F S16x8832 .f32) (v134 : Vec F S1x4x8832 .f32) (v185 : Vec F S1x21x8832 .f32) : FVec F S1x128 .f32 :=
  k0_pay56 (b119 v3 v9 v28) (b123 v3 v9 v28) (b184 v3 v9 v28 v134) v185

section step
variable (x0 x1 : Vec F S4x8x128 .f32) (x2 : Vec F S16x8832 .f32) (x3 : Vec F S4x4x8832 .f32) (x4 : Vec F S4x21x8832 .f32)

/-- Batch `u`'s row of losses. -/
def sLg (u : Fin 4) : FVec F S1x8832 .f32 := bLg (bx0 x0 u) (bx0 x1 u) (bx2 x2) (bx4 x4 u)
/-- Batch `u`'s sums. -/
def sSum (u : Fin 4) : FVec F S3x1 .f32 := bSum (bx0 x0 u) (bx0 x1 u) (bx2 x2) (bx3 x3 u) (bx4 x4 u)
/-- Batch `u`'s row of the number of matched priors. -/
def sNp (u : Fin 4) : FVec F S1x128 .f32 := bNp (bx0 x0 u) (bx0 x1 u) (bx2 x2) (bx3 x3 u) (bx4 x4 u)
/-- What a step contributes to the output: its four batches' sums added up in a column. -/
def sTot : FVec F S8x128 .f32 :=
  k0_pay58 (k0_pay58 (k0_pay58 (k0_pay58 k0_pay13 (sSum x0 x1 x2 x3 x4 0) k0_pay57) (sSum x0 x1 x2 x3 x4 1) k0_pay57)
    (sSum x0 x1 x2 x3 x4 2) k0_pay57) (sSum x0 x1 x2 x3 x4 3) k0_pay57
end step

/-- Four consecutive rows of a block replaced. -/
def rows {W : ℕ} (b : ℕ) (d : Vec F (⟨2, ![16, W]⟩ : Shape) .f32) (w : Fin 4 → Vec F (⟨2, ![1, W]⟩ : Shape) .f32) : Vec F (⟨2, ![16, W]⟩ : Shape) .f32 :=
  fun y => if h : 4 * b ≤ (y 0).val ∧ (y 0).val < 4 * b + 4 then w ⟨(y 0).val - 4 * b, by omega⟩ (ix2 (0 : Fin 1) (y 1)) else d y

theorem off1_eq (i : grid0.Coords) (u : Fin 4) : k0_off1 i (BitVec.ofNat 32 u.val) = ![4 * (i 0).val + u.val, 0] := by
  revert i u; decide +kernel
theorem off2_eq (i : grid0.Coords) (u : Fin 4) : k0_off2 i (BitVec.ofNat 32 u.val) = ![4 * (i 0).val + u.val, 0] := by
  revert i u; decide +kernel

/-- Four one-row writes, newest first, read as the rows replaced. -/
theorem read_rows {κ : Kind} {sp : Space} {W : ℕ} (v : View sig κ sp (⟨2, ![16, W]⟩ : Shape) .f32) (f : v.ty.Contents (Elt F)) (b : ℕ)
    {o0 o1 o2 o3 : Fin 2 → ℕ} (ho0 : o0 = ![4 * b + 0, 0]) (ho1 : o1 = ![4 * b + 1, 0]) (ho2 : o2 = ![4 * b + 2, 0]) (ho3 : o3 = ![4 * b + 3, 0])
    {size : Fin 2 → ℕ} (hs : size = (⟨2, ![1, W]⟩ : Shape).size)
    (i0 : ∀ a, o0 a + size a ≤ (⟨2, ![16, W]⟩ : Shape).size a) (i1 : ∀ a, o1 a + size a ≤ (⟨2, ![16, W]⟩ : Shape).size a)
    (i2 : ∀ a, o2 a + size a ≤ (⟨2, ![16, W]⟩ : Shape).size a) (i3 : ∀ a, o3 a + size a ≤ (⟨2, ![16, W]⟩ : Shape).size a)
    (w : Fin 4 → Vec F (⟨2, ![1, W]⟩ : Shape) .f32)
    {w0 w1 w2 w3 : (⟨2, size⟩ : Shape).Idx → Elt F .f32} (h0 : HEq w0 (w 0)) (h1 : HEq w1 (w 1)) (h2 : HEq w2 (w 2)) (h3 : HEq w3 (w 3)) :
    v.read (Elt F) (v.writes (Elt F) f
      [⟨Rect.unit (s := ⟨2, ![16, W]⟩) o3 size i3, w3⟩, ⟨Rect.unit (s := ⟨2, ![16, W]⟩) o2 size i2, w2⟩,
       ⟨Rect.unit (s := ⟨2, ![16, W]⟩) o1 size i1, w1⟩, ⟨Rect.unit (s := ⟨2, ![16, W]⟩) o0 size i0, w0⟩])
      = rows b (v.read (Elt F) f) w := by
  subst hs
  obtain rfl := eq_of_heq h0; obtain rfl := eq_of_heq h1; obtain rfl := eq_of_heq h2; obtain rfl := eq_of_heq h3
  have key : ∀ (u : Fin 4) (o : Fin 2 → ℕ) (ho : o = ![4 * b + u.val, 0]) (inb) (y : (⟨2, ![16, W]⟩ : Shape).Idx) (L), (y 0).val = 4 * b + u.val →
      v.read (Elt F) (v.writes (Elt F) f (⟨Rect.unit (s := ⟨2, ![16, W]⟩) o (⟨2, ![1, W]⟩ : Shape).size inb, w u⟩ :: L)) y = w u (ix2 (0 : Fin 1) (y 1)) := by
    intro u o ho inb y L h
    exact View.read_writes_cons_rows_of_mem v f inb (w u) L y (ix2 (0 : Fin 1) (y 1)) ho h rfl
  have skip : ∀ (u : Fin 4) (o : Fin 2 → ℕ) (ho : o = ![4 * b + u.val, 0]) (inb) (y : (⟨2, ![16, W]⟩ : Shape).Idx) (L), (y 0).val ≠ 4 * b + u.val →
      v.read (Elt F) (v.writes (Elt F) f (⟨Rect.unit (s := ⟨2, ![16, W]⟩) o (⟨2, ![1, W]⟩ : Shape).size inb, w u⟩ :: L)) y = v.read (Elt F) (v.writes (Elt F) f L) y := by
    intro u o ho inb y L h
    exact View.read_writes_cons_rows_of_not_mem v f inb (w u) L y ho (W := 1) rfl (by omega)
  funext y
  unfold rows
  by_cases h3 : (y 0).val = 4 * b + (3 : Fin 4).val
  · rw [key 3 o3 ho3 i3 y _ h3, dif_pos (by simp at h3; omega)]; congr 1; exact Fin.ext (by simp at h3 ⊢; omega)
  rw [skip 3 o3 ho3 i3 y _ h3]
  by_cases h2 : (y 0).val = 4 * b + (2 : Fin 4).val
  · rw [key 2 o2 ho2 i2 y _ h2, dif_pos (by simp at h2; omega)]; congr 1; exact Fin.ext (by simp at h2 ⊢; omega)
  rw [skip 2 o2 ho2 i2 y _ h2]
  by_cases h1 : (y 0).val = 4 * b + (1 : Fin 4).val
  · rw [key 1 o1 ho1 i1 y _ h1, dif_pos (by simp at h1; omega)]; congr 1; exact Fin.ext (by simp at h1 ⊢; omega)
  rw [skip 1 o1 ho1 i1 y _ h1]
  by_cases h0 : (y 0).val = 4 * b + (0 : Fin 4).val
  · rw [key 0 o0 ho0 i0 y _ h0, dif_pos (by simp at h0; omega)]; congr 1; exact Fin.ext (by simp at h0 ⊢; omega)
  rw [skip 0 o0 ho0 i0 y _ h0, dif_neg (by simp at h0 h1 h2 h3; omega)]
  rfl
/-- The bisection over the rows' words, from the losses and the numbers of matched priors. -/
def bis (lg : Vec F S16x8832 .f32) (np : Vec F S16x128 .f32) : IVec S16x1 32 × IVec S16x1 32 :=
  Scf.fold (n := k0_t1_loop.trips) (fun _ p => (k0_pay8 lg np p.1 p.2, k0_pay9 lg np p.1 p.2)) (k0_pay4, k0_pay5)
/-- What the last step adds for the mined losses. -/
def topk (lg : Vec F S16x8832 .f32) (np : Vec F S16x128 .f32) : F .f32 := k0_pay10 lg np (bis lg np).2
/-- The output of the last step. -/
def fin (lg : Vec F S16x8832 .f32) (np : Vec F S16x128 .f32) (old : Vec F S8x128 .f32) : FVec F S8x128 .f32 :=
  k0_pay2 (iota .tc S8x128 32 [1] iota_S8x128_d1_w32) (topk lg np) (k0_pay11 old) k0_pay12
/-- The whole of a block, loaded, is the block. -/
theorem ld_whole {s : Shape} {e : EltTy} (g : s.Idx → Elt F e) (off : Fin s.rank → ℕ) (inb) (h : ∀ a, off a = 0) :
    View.ld g (Rect.unit (s := s) off s.size inb) = g := by
  funext y
  refine congrArg g (funext fun a => Fin.ext ?_)
  show off a + 1 * (y a).val = (y a).val
  rw [h a]; omega

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_2, k0_cond3, e0]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x8832 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x4x8832 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x21x8832 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x8832 .f32 := Memref.whole cc0_scratch0
abbrev scM0_1 : Memref sig .tc .vmem S16x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Spec.lean ====
/- The matching of targets and priors, and the facts about folds that both programs' ways of computing it rest on. -/
module

public import Idealize.ShloMosaic.Lib.Pointwise
public import Idealize.ShloMosaic.Lib.WordCmp
public import Idealize.ShloMosaic.PureOps.Ideal.Laws

@[expose] public section

noncomputable section

namespace Cert.Spec

open Idealize.ShloMosaic

/-! ## The constants -/

theorem w0 : Ideal.ofBits .f32 0x00000000#32 = 0 := by
  simp [Ideal.ofBits, Ideal.ieee]
theorem w1 : Ideal.ofBits .f32 0x3F800000#32 = ((1 : ℝ) : EReal) := by
  simp [Ideal.ofBits, Ideal.ieee]
  norm_cast
  norm_num
theorem whalf : Ideal.ofBits .f32 0x3F000000#32 = ((1 / 2 : ℝ) : EReal) := by
  simp [Ideal.ofBits, Ideal.ieee]
  norm_cast
  norm_num
theorem w2 : Ideal.ofBits .f32 0x40000000#32 = ((2 : ℝ) : EReal) := by
  simp [Ideal.ofBits, Ideal.ieee]
  norm_cast
  norm_num
theorem w5 : Ideal.ofBits .f32 0x40A00000#32 = ((5 : ℝ) : EReal) := by
  simp [Ideal.ofBits, Ideal.ieee]
  norm_cast
  norm_num
theorem w10 : Ideal.ofBits .f32 0x41200000#32 = ((10 : ℝ) : EReal) := by
  simp [Ideal.ofBits, Ideal.ieee]
  norm_cast
  norm_num
theorem wm10 : Ideal.ofBits .f32 0xC1200000#32 = ((-10 : ℝ) : EReal) := by
  simp [Ideal.ofBits, Ideal.ieee]
  norm_cast
  norm_num
theorem wbot : Ideal.ofBits .f32 0xFF800000#32 = ⊥ := by
  simp [Ideal.ofBits, Ideal.ieee]
/-- The threshold. -/
def thr : EReal := Ideal.ofBits .f32 0x3EE66666#32
theorem thr_pos : 0 < thr := by
  simp [thr, Ideal.ofBits, Ideal.ieee]
  norm_cast
  norm_num
theorem thr_lt : thr < ((2 : ℝ) : EReal) := by
  simp [thr, Ideal.ofBits, Ideal.ieee]
  norm_cast
  norm_num

/-! ## The first greatest entry -/

/-- `i` is the first index at which `g` is greatest. -/
def First {n : ℕ} (g : Fin n → EReal) (i : Fin n) : Prop := (∀ k, g k ≤ g i) ∧ ∀ k, g k = g i → i ≤ k

theorem First.unique {n : ℕ} {g : Fin n → EReal} {i k : Fin n} (hi : First g i) (hk : First g k) : i = k :=
  le_antisymm (hi.2 k (le_antisymm (hi.1 k) (hk.1 i))) (hk.2 i (le_antisymm (hk.1 i) (hi.1 k)))

theorem exists_first {n : ℕ} (hn : 0 < n) (g : Fin n → EReal) : ∃ i, First g i := by
  classical
  obtain ⟨k, _, hk⟩ := Finset.exists_max_image (Finset.univ : Finset (Fin n)) g ⟨⟨0, hn⟩, Finset.mem_univ _⟩
  have hne : (Finset.univ.filter fun x => g x = g k).Nonempty := ⟨k, by simp⟩
  refine ⟨(Finset.univ.filter fun x => g x = g k).min' hne, ?_, ?_⟩
  · intro x
    have := Finset.min'_mem _ hne
    rw [Finset.mem_filter] at this
    rw [this.2]; exact hk x (Finset.mem_univ _)
  · intro x hx
    have := Finset.min'_mem _ hne
    rw [Finset.mem_filter] at this
    exact Finset.min'_le _ _ (by rw [Finset.mem_filter]; exact ⟨Finset.mem_univ _, hx.trans this.2⟩)

/-- The first index at which `g` is greatest. -/
def first {n : ℕ} (hn : 0 < n) (g : Fin n → EReal) : Fin n := Classical.choose (exists_first hn g)
theorem first_spec {n : ℕ} (hn : 0 < n) (g : Fin n → EReal) : First g (first hn g) := Classical.choose_spec (exists_first hn g)

/-- The greatest value, as a fold. -/
theorem fold_max {n : ℕ} {g : Fin n → EReal} {i : Fin n} (hi : First g i) : Finset.fold max (⊥ : EReal) g Finset.univ = g i := by
  apply le_antisymm
  · exact (Finset.fold_max_le _).2 ⟨bot_le, fun x _ => hi.1 x⟩
  · exact (Finset.le_fold_max _).2 (Or.inr ⟨i, Finset.mem_univ _, le_rfl⟩)

theorem toInt_ofNat {k : ℕ} (h : k < 2 ^ 31) : (BitVec.ofNat 32 k).toInt = k := by
  rw [BitVec.toInt_eq_toNat_of_lt] <;> simp only [BitVec.toNat_ofNat] <;> omega

theorem minsi_toInt (a b : BitVec 32) : (IntOp.minsi a b).toInt = min a.toInt b.toInt := by
  unfold IntOp.minsi
  rw [BitVec.slt_eq_decide]
  by_cases h : a.toInt < b.toInt <;> simp [h] <;> omega
theorem maxsi_toInt (a b : BitVec 32) : (IntOp.maxsi a b).toInt = max a.toInt b.toInt := by
  unfold IntOp.maxsi
  rw [BitVec.slt_eq_decide]
  by_cases h : b.toInt < a.toInt <;> simp [h] <;> omega

/-- The least index among those of the greatest value, as a fold of words. -/
theorem fold_first {n : ℕ} (hn : n ≤ 2 ^ 30) {g : Fin n → EReal} {i : Fin n} (hi : First g i) :
    Finset.fold IntOp.minsi (2147483647#32) (fun x : Fin n => if g x = g i then BitVec.ofNat 32 x.val else 1073741824#32) Finset.univ
      = BitVec.ofNat 32 i.val := by
  apply BitVec.eq_of_toInt_eq
  rw [← Finset.fold_hom (op' := min) (m := BitVec.toInt) minsi_toInt, toInt_ofNat (k := i.val) (by omega)]
  apply le_antisymm
  · refine (Finset.fold_min_le _).2 (Or.inr ⟨i, Finset.mem_univ _, ?_⟩)
    rw [if_pos rfl, toInt_ofNat (k := i.val) (by omega)]
  · refine (Finset.le_fold_min _).2 ⟨?_, fun x _ => ?_⟩
    · have : (2147483647#32 : BitVec 32).toInt = 2147483647 := by decide
      rw [this]; omega
    · split
      · rename_i h
        rw [toInt_ofNat (k := x.val) (by omega)]
        have h' : i.val ≤ x.val := hi.2 x h
        exact_mod_cast h'
      · have : (1073741824#32 : BitVec 32).toInt = 1073741824 := by decide
        rw [this]; omega

/-- Entries appended that are no greater than an earlier one leave the first greatest where it was. -/
theorem First.extend {n N : ℕ} (hnN : n ≤ N) {g : Fin n → EReal} {G : Fin N → EReal} {i : Fin n} (hi : First g i)
    (h : ∀ k : Fin n, G ⟨k.val, by omega⟩ = g k) (hp : ∀ k : Fin N, n ≤ k.val → G k ≤ g i) : First G ⟨i.val, by omega⟩ := by
  constructor
  · intro k
    rw [h i]
    by_cases hk : k.val < n
    · rw [show G k = g ⟨k.val, hk⟩ from h ⟨k.val, hk⟩]; exact hi.1 _
    · exact hp k (by omega)
  · intro k hk
    rw [h i] at hk
    by_cases hkn : k.val < n
    · rw [show G k = g ⟨k.val, hkn⟩ from h ⟨k.val, hkn⟩] at hk; exact hi.2 _ hk
    · show i.val ≤ k.val
      omega

/-- The greatest of eight words, each a number below eight or minus one. -/
theorem fold_forced (c : Fin 8 → Bool) :
    Finset.fold IntOp.maxsi (2147483648#32) (fun x : Fin 8 => if c x then BitVec.ofNat 32 x.val else 4294967295#32) Finset.univ
      = if c 7 then 7#32 else if c 6 then 6#32 else if c 5 then 5#32 else if c 4 then 4#32 else if c 3 then 3#32
        else if c 2 then 2#32 else if c 1 then 1#32 else if c 0 then 0#32 else 4294967295#32 := by
  have key : ∀ a0 a1 a2 a3 a4 a5 a6 a7 : Bool,
      IntOp.maxsi (if a0 then 0#32 else 4294967295#32) (IntOp.maxsi (if a1 then 1#32 else 4294967295#32) (IntOp.maxsi (if a2 then 2#32 else 4294967295#32)
        (IntOp.maxsi (if a3 then 3#32 else 4294967295#32) (IntOp.maxsi (if a4 then 4#32 else 4294967295#32) (IntOp.maxsi (if a5 then 5#32 else 4294967295#32)
        (IntOp.maxsi (if a6 then 6#32 else 4294967295#32) (IntOp.maxsi (if a7 then 7#32 else 4294967295#32) 2147483648#32)))))))
      = if a7 then 7#32 else if a6 then 6#32 else if a5 then 5#32 else if a4 then 4#32 else if a3 then 3#32
        else if a2 then 2#32 else if a1 then 1#32 else if a0 then 0#32 else 4294967295#32 := by decide
  rw [← key (c 0) (c 1) (c 2) (c 3) (c 4) (c 5) (c 6) (c 7)]
  rfl

/-- The pair fold of an arg-max whose indices break ties: its index is the best entry's, whatever the order of the list. -/
theorem foldl_argmax {κ : Type} (red : EReal × BitVec 32 → EReal × BitVec 32 → EReal × BitVec 32)
    (hred : ∀ a b, red a b = if b.1 < a.1 ∨ (a.1 = b.1 ∧ a.2.toInt < b.2.toInt) then a else b)
    (g : κ → EReal) (w : κ → BitVec 32) (L : List κ) (i : κ) (hi : i ∈ L) (hbot : ⊥ < g i)
    (hbest : ∀ k ∈ L, g k < g i ∨ (g k = g i ∧ (w i).toInt ≤ (w k).toInt)) (z : BitVec 32) :
    L.foldl (fun r k => red r (g k, w k)) (⊥, z) = (g i, w i) := by
  have main : ∀ (L' : List κ) (s : EReal × BitVec 32), (∀ k ∈ L', g k < g i ∨ (g k = g i ∧ (w i).toInt ≤ (w k).toInt)) →
      (s.1 < g i ∨ (s.1 = g i ∧ (w i).toInt ≤ s.2.toInt)) → (s = (g i, w i) ∨ i ∈ L') →
      L'.foldl (fun r k => red r (g k, w k)) s = (g i, w i) := by
    intro L'
    induction L' with
    | nil => intro s _ _ h; simpa using h
    | cons k L' ih =>
      intro s hk hs h
      rw [List.foldl_cons]
      have hkk := hk k (by simp)
      apply ih
      · intro x hx; exact hk x (by simp [hx])
      · rw [hred]; split
        · exact hs
        · exact hkk
      · by_cases hs' : s = (g i, w i)
        · subst hs'
          rw [hred]
          left
          split
          · rfl
          · rename_i hn
            push Not at hn
            simp only at hn
            rcases hkk with h1 | ⟨h1, h2⟩
            · exact absurd h1 (not_lt.2 hn.1)
            · have := hn.2 h1.symm
              exact Prod.ext h1 (BitVec.eq_of_toInt_eq (le_antisymm this h2))
        · rcases h with h | h
          · exact absurd h hs'
          rcases List.mem_cons.1 h with rfl | h
          · left
            rw [hred, if_neg]
            rintro (h1 | ⟨h1, h2⟩)
            · rcases hs with h3 | ⟨h3, _⟩
              · exact absurd h1 (not_lt.2 h3.le)
              · exact absurd h1 (not_lt.2 h3.le)
            · rcases hs with h3 | ⟨_, h4⟩
              · simp only at h1; exact absurd h3 (not_lt.2 h1.ge)
              · simp only at h2; omega
          · right; exact h
  exact main L _ hbest (Or.inl hbot) (Or.inr hi)

end Cert.Spec

end
-- ==== Proof.KerPoint.lean ====
/- One batch of the kernel, entry by entry, over the extended reals. -/
module

public import proofs.«01_k».proof.Proof.KernelBatch
public import proofs.«01_k».proof.Proof.Spec
public import Idealize.ShloMosaic.Lib.Pointwise
public import Idealize.ShloMosaic.PureOps.Ideal.Laws

@[expose] public section

set_option maxRecDepth 16384

noncomputable section

namespace Cert.KernelIdeal.Run

open Cert.KernelIdeal.Gen
open Idealize.ShloMosaic Idealize.ShloMosaic.TcCoe Idealize.ShloMosaic.Tactic

/-- The overlap of target `j` and prior `p`. -/
def kov (v3 : Vec Ideal S1x8x128 .f32) (v28 : Vec Ideal S16x8832 .f32) : FVec Ideal S8x8832 .f32 :=
  k0_pay35 (k0_pay15 v3) (k0_pay16 v3) (k0_pay18 v3) (k0_pay21 v3) (k0_pay24 v28) (k0_pay25 v28) (k0_pay26 v28) (k0_pay27 v28) (k0_pay34 v3 v28)

variable (v3 v9 : Vec Ideal S1x8x128 .f32) (v28 : Vec Ideal S16x8832 .f32) (v134 : Vec Ideal S1x4x8832 .f32) (v185 : Vec Ideal S1x21x8832 .f32)

theorem kov_at (j : Fin 8) (p : Fin 8832) : kov v3 v28 (ix2 j p) =
    Ideal.div (max (min (v3 (ix3 0 j 2)) (v28 (ix2 2 p)) - max (v3 (ix3 0 j 0)) (v28 (ix2 0 p))) 0 * max (min (v3 (ix3 0 j 3)) (v28 (ix2 3 p)) - max (v3 (ix3 0 j 1)) (v28 (ix2 1 p))) 0)
      ((v3 (ix3 0 j 2) - v3 (ix3 0 j 0)) * (v3 (ix3 0 j 3) - v3 (ix3 0 j 1)) + v28 (ix2 4 p)
        - max (min (v3 (ix3 0 j 2)) (v28 (ix2 2 p)) - max (v3 (ix3 0 j 0)) (v28 (ix2 0 p))) 0 * max (min (v3 (ix3 0 j 3)) (v28 (ix2 3 p)) - max (v3 (ix3 0 j 1)) (v28 (ix2 1 p))) 0) := by
  unfold kov
  pointwise [k0_pay35, k0_pay14, k0_pay15, k0_pay16, k0_pay17, k0_pay18, k0_pay19, k0_pay20, k0_pay21, k0_pay23, k0_pay24, k0_pay25, k0_pay26, k0_pay27, k0_pay34]

theorem b78_at (p : Fin 8832) : b78 v3 v28 (ix2 0 p) = Finset.fold max (⊥ : EReal) (fun x => kov v3 v28 (ix2 x p)) Finset.univ := by
  rw [← Cert.Spec.wbot]
  unfold b78 k0_pay36
  change shapeCast S1x8832 (multiReduction .maximumf [0] S8832 (kov v3 v28) 0xFF800000#32 reduces_S8x8832_S8832 (.inl rfl) rfl) shapeCasts_S8832_S1x8832 _ = _
  pointwise

theorem b86_at (p : Fin 8832) : b86 v3 v28 (ix2 0 p) = Finset.fold IntOp.minsi (2147483647#32)
    (fun x : Fin 8 => if kov v3 v28 (ix2 x p) = b78 v3 v28 (ix2 0 p) then BitVec.ofNat 32 x.val else 1073741824#32) Finset.univ := by
  unfold b86 k0_pay37
  change shapeCast S1x8832 (multiReductionI .minsi [0] S8832 (select (cmpf .oeq (kov v3 v28) (broadcastTo S8x8832 (b78 v3 v28) broadcasts_S1x8832_S8x8832))
    (broadcastTo S8x8832 (shapeCast S8x1 (iota .tc S8x1 32 [0] iota_S8x1_d0_w32) shapeCasts_S8x1_S8x1) broadcasts_S8x1_S8x8832) (broadcast S8x8832 1073741824#32)) 2147483647#32 reduces_S8x8832_S8832 rfl) shapeCasts_S8832_S1x8832 _ = _
  pointwise

/-- The word of target `j`'s best prior. -/
def bpw (j : Fin 8) : BitVec 32 := Finset.fold IntOp.minsi (2147483647#32)
    (fun x : Fin 8832 => if kov v3 v28 (ix2 j x) = Finset.fold max (Ideal.ofBits .f32 0xFF800000#32) (fun y => kov v3 v28 (ix2 j y)) Finset.univ then BitVec.ofNat 32 x.val else 1073741824#32) Finset.univ

theorem b93_at (j : Fin 8) (p : Fin 8832) : b93 v3 v28 (ix2 j p) = if bpw v3 v28 j = BitVec.ofNat 32 p.val then BitVec.ofNat 32 j.val else 4294967295#32 := by
  unfold bpw
  unfold b93 k0_pay38
  change select (cmpi .eq (broadcastTo S8x8832 (shapeCast S8x1 (multiReductionI .minsi [1] S8 (select (cmpf .oeq (kov v3 v28)
      (broadcastTo S8x8832 (shapeCast S8x1 (multiReduction .maximumf [1] S8 (kov v3 v28) 0xFF800000#32 reduces_S8x8832_S8 (.inl rfl) rfl) shapeCasts_S8_S8x1) broadcasts_S8x1_S8x8832))
      (broadcastTo S8x8832 (shapeCast S1x8832 i65 shapeCasts_S1x8832_S1x8832) broadcasts_S1x8832_S8x8832) (broadcast S8x8832 1073741824#32)) 2147483647#32 reduces_S8x8832_S8 rfl) shapeCasts_S8_S8x1) broadcasts_S8x1_S8x8832)
      (broadcastTo S8x8832 i65 broadcasts_S1x8832_S8x8832)) (broadcastTo S8x8832 (shapeCast S8x1 i66 shapeCasts_S8x1_S8x1) broadcasts_S8x1_S8x8832) (broadcast S8x8832 4294967295#32) _ = _
  pointwise
  generalize Finset.fold IntOp.minsi _ _ _ = w
  by_cases h : w = BitVec.ofNat 32 p.val
  · rw [if_pos h, h]; simp [IntOp.cmpi, Scalar.select]
  · rw [if_neg h]
    have hb : (w == BitVec.ofNat 32 p.val) = false := by simpa using h
    simp only [IntOp.cmpi, hb]
    rfl

/-- The word of the target the prior is matched to, minus one when no target asks for the prior. -/
def fcw (v93 : IVec S8x8832 32) (p : Fin 8832) : BitVec 32 := Finset.fold IntOp.maxsi (2147483648#32) (fun x : Fin 8 => v93 (ix2 x p)) Finset.univ

theorem k40_at (v27 : FVec Ideal S8x5 .f32) (v86 : IVec S1x8832 32) (v93 : IVec S8x8832 32) (j : Fin 5) (p : Fin 8832) : k0_pay40 v27 i66 v86 v93 (ix2 j p)
   = ∑ x : Fin 8, Scalar.select (IntOp.cmpi .eq (Scalar.select (IntOp.cmpi .sge (fcw v93 p) 0#32) (fcw v93 p) (v86 (ix2 0 p))) (BitVec.ofNat 32 x.val)) (v27 (ix2 x j)) 0 := by
  unfold fcw
  unfold k0_pay40
  pointwise [k0_pay39]

theorem k41_at (v27 : FVec Ideal S8x5 .f32) (v78 : FVec Ideal S1x8832 .f32) (v86 : IVec S1x8832 32) (v93 : IVec S8x8832 32) (p : Fin 8832) : k0_pay41 v27 i66 v78 v86 v93 (ix2 0 p)
   = if Scalar.select (IntOp.cmpi .sge (fcw v93 p) 0#32) (Ideal.ofBits .f32 0x40000000#32) (v78 (ix2 0 p)) < Ideal.ofBits .f32 0x3EE66666#32 then (0 : EReal)
      else Ideal.liftRound Int.floor (k0_pay40 v27 i66 v86 v93 (ix2 4 p) + Ideal.ofBits .f32 0x3F000000#32) + 1 := by
  unfold fcw
  unfold k0_pay41
  generalize k0_pay40 v27 i66 v86 v93 = q
  pointwise [k0_pay39]
theorem k42_at (v27 : FVec Ideal S8x5 .f32) (v78 : FVec Ideal S1x8832 .f32) (v86 : IVec S1x8832 32) (v93 : IVec S8x8832 32) (p : Fin 8832) : k0_pay42 v27 i66 v78 v86 v93 (ix2 0 p)
   = BitVec.ofBool (decide (Ideal.ofBits .f32 0x3F000000#32 < k0_pay41 v27 i66 v78 v86 v93 (ix2 0 p))) := by
  unfold k0_pay42
  generalize k0_pay41 v27 i66 v78 v86 v93 = q
  pointwise
theorem k43_at (v27 : FVec Ideal S8x5 .f32) (v78 : FVec Ideal S1x8832 .f32) (v86 : IVec S1x8832 32) (v93 : IVec S8x8832 32) (p : Fin 8832) : k0_pay43 v27 i66 v78 v86 v93 (ix2 0 p)
   = if Ideal.ofBits .f32 0x3F000000#32 < k0_pay41 v27 i66 v78 v86 v93 (ix2 0 p) then (1 : EReal) else 0 := by
  have h42 := k42_at v27 v78 v86 v93 p
  unfold k0_pay43
  generalize k0_pay42 v27 i66 v78 v86 v93 = q at h42
  pointwise
  rw [h42]
  by_cases h : Ideal.ofBits .f32 0x3F000000#32 < k0_pay41 v27 i66 v78 v86 v93 (ix2 0 p)
  · simp only [h, decide_true, if_true]
    show ((((BitVec.setWidth 32 (BitVec.ofBool true)).toInt : ℝ) : EReal)) = 1
    have : (BitVec.setWidth 32 (BitVec.ofBool true)).toInt = 1 := by decide
    rw [this]; norm_num
  · simp only [h, decide_false, if_false]
    show ((((BitVec.setWidth 32 (BitVec.ofBool false)).toInt : ℝ) : EReal)) = 0
    have : (BitVec.setWidth 32 (BitVec.ofBool false)).toInt = 0 := by decide
    rw [this]; norm_num
/-- The five numbers a target hands to the priors matched to it. -/
def t5 (k : Fin 5) (j : Fin 8) : EReal :=
  match k with
  | 0 => (v3 (ix3 0 j 0) + v3 (ix3 0 j 2)) * Ideal.ofBits .f32 0x3F000000#32
  | 1 => (v3 (ix3 0 j 1) + v3 (ix3 0 j 3)) * Ideal.ofBits .f32 0x3F000000#32
  | 2 => Ideal.ofBits .f32 0x40A00000#32 * Ideal.log (v3 (ix3 0 j 2) - v3 (ix3 0 j 0))
  | 3 => Ideal.ofBits .f32 0x40A00000#32 * Ideal.log (v3 (ix3 0 j 3) - v3 (ix3 0 j 1))
  | 4 => v9 (ix3 0 j 0)
theorem b27_at (j : Fin 8) (k : Fin 5) : b27 v3 v9 (ix2 j k) = t5 v3 v9 k j := by
  unfold b27
  fin_cases k
  all_goals pointwise [k0_pay22, k0_pay14, k0_pay15, k0_pay16, k0_pay17, k0_pay18, k0_pay19, k0_pay20]
  all_goals rfl

/-- The smooth absolute value. -/
def sl (d : EReal) : EReal := if FloatOps.absf (F := Ideal) (φ := .f32) d < 1 then Ideal.ofBits .f32 0x3F000000#32 * FloatOps.absf (F := Ideal) (φ := .f32) d * FloatOps.absf (F := Ideal) (φ := .f32) d
  else FloatOps.absf (F := Ideal) (φ := .f32) d - Ideal.ofBits .f32 0x3F000000#32
theorem k50_at (v129 v131 v133 v138 : FVec Ideal S1x8832 .f32) (v135 : FVec Ideal S4x8832 .f32) (p : Fin 8832) : k0_pay50 v129 v131 v133 v135 k0_pay48 v138 (ix2 0 p)
    = sl (v138 (ix2 0 p)) + sl (v135 (ix2 1 p) - v129 (ix2 0 p)) + sl (v135 (ix2 2 p) - v131 (ix2 0 p)) + sl (v135 (ix2 3 p) - v133 (ix2 0 p)) := by
  unfold k0_pay50 sl
  pointwise [k0_pay48]
theorem b184_at (p : Fin 8832) : b184 v3 v9 v28 v134 (ix2 0 p) =
    (let q := fun k => k0_pay40 (b27 v3 v9) i66 (b86 v3 v28) (b93 v3 v28) (ix2 k p)
    sl (v134 (ix3 0 0 p) - (q 0 - v28 (ix2 5 p)) * v28 (ix2 7 p)) + sl (v134 (ix3 0 1 p) - (q 1 - v28 (ix2 6 p)) * v28 (ix2 8 p))
      + sl (v134 (ix3 0 2 p) - (q 2 - v28 (ix2 9 p))) + sl (v134 (ix3 0 3 p) - (q 3 - v28 (ix2 10 p)))) := by
  unfold b184
  rw [k50_at]
  unfold k0_pay44 k0_pay45 k0_pay46 k0_pay49
  generalize k0_pay40 (b27 v3 v9) i66 (b86 v3 v28) (b93 v3 v28) = q
  pointwise [k0_pay47, k0_pay28, k0_pay29, k0_pay30, k0_pay31, k0_pay32, k0_pay33, k0_pay23]

theorem bSum_0 : bSum v3 v9 v28 v134 v185 (ix2 0 0) = ∑ p : Fin 8832, b184 v3 v9 v28 v134 (ix2 0 p) * b123 v3 v9 v28 (ix2 0 p) := by
  unfold bSum
  generalize b119 v3 v9 v28 = v119
  generalize b123 v3 v9 v28 = v123
  generalize b184 v3 v9 v28 v134 = v184
  unfold k0_pay55
  pointwise
theorem bSum_2 : bSum v3 v9 v28 v134 v185 (ix2 2 0) = ∑ p : Fin 8832, b123 v3 v9 v28 (ix2 0 p) := by
  unfold bSum
  generalize b119 v3 v9 v28 = v119
  generalize b123 v3 v9 v28 = v123
  generalize b184 v3 v9 v28 v134 = v184
  unfold k0_pay55
  pointwise
theorem k58_at (v : FVec Ideal S8x128 .f32) (s : FVec Ideal S3x1 .f32) (j : Fin 3) : k0_pay58 v s k0_pay57 (ix2 ⟨j.val, by omega⟩ 0) = v (ix2 ⟨j.val, by omega⟩ 0) + s (ix2 j 0) := by
  unfold k0_pay58
  fin_cases j
  all_goals pointwise [k0_pay57]
theorem k1_at (v w : FVec Ideal S8x128 .f32) (j : Fin 8) : k0_pay1 v w (ix2 j 0) = w (ix2 j 0) + v (ix2 j 0) := by
  unfold k0_pay1
  pointwise
theorem k2_at (x : Ideal .f32) (w : FVec Ideal S8x128 .f32) (j : Fin 8) : k0_pay2 (iota .tc S8x128 32 [1] iota_S8x128_d1_w32) x w k0_pay12 (ix2 j 0)
    = if j = 1 then w (ix2 j 0) + x else w (ix2 j 0) := by
  unfold k0_pay2
  pointwise [k0_pay12]
  fin_cases j <;> simp [Scalar.select, IntOp.andi, IntOp.cmpi]
theorem k13_at (j : Fin 8) : (k0_pay13 : FVec Ideal S8x128 .f32) (ix2 j 0) = 0 := by
  unfold k0_pay13
  pointwise
theorem k11_at (w : FVec Ideal S8x128 .f32) : k0_pay11 w = w := by
  unfold k0_pay11
  funext i
  obtain ⟨a, b, rfl⟩ : ∃ a b, i = ix2 a b := ⟨i 0, i 1, by funext x; revert x; show ∀ x : Fin 2, _; intro x; fin_cases x <;> rfl⟩
  pointwise

end Cert.KernelIdeal.Run

end
-- ==== Proof.Match.lean ====
/- The matching of one batch's targets with the priors, from the overlaps alone; the two programs' words for it. -/
module

public import proofs.«01_k».proof.Proof.Spec

@[expose] public section

noncomputable section

namespace Cert.Spec

open Idealize.ShloMosaic

variable (O : Fin 8 → Fin 8732 → EReal)

/-- A target's best prior. -/
def bp (j : Fin 8) : Fin 8732 := first (by decide) (O j)
/-- A prior's best target. -/
def bt (p : Fin 8732) : Fin 8 := first (by decide) (fun j => O j p)
/-- Whether target `j` asks for prior `p`. -/
def asks (p : Fin 8732) (j : Fin 8) : Bool := decide (bp O j = p)
/-- The prior's target: the last that asks for it, else its best. -/
def mt (p : Fin 8732) : Fin 8 :=
  if asks O p 7 then 7 else if asks O p 6 then 6 else if asks O p 5 then 5 else if asks O p 4 then 4
  else if asks O p 3 then 3 else if asks O p 2 then 2 else if asks O p 1 then 1 else if asks O p 0 then 0 else bt O p
/-- Whether some target asks for the prior. -/
def asked (p : Fin 8732) : Bool :=
  asks O p 7 || (asks O p 6 || (asks O p 5 || (asks O p 4 || (asks O p 3 || (asks O p 2 || (asks O p 1 || asks O p 0))))))
/-- The overlap the threshold is held against. -/
def bov (p : Fin 8732) : EReal := if asked O p then ((2 : ℝ) : EReal) else O (bt O p) p
/-- The prior is matched. -/
def Pos (p : Fin 8732) : Prop := ¬ bov O p < thr

/-- The greatest word below eight that asks, or minus one. -/
def askW (c : Fin 8 → Bool) : BitVec 32 :=
  if c 7 then 7#32 else if c 6 then 6#32 else if c 5 then 5#32 else if c 4 then 4#32 else if c 3 then 3#32
        else if c 2 then 2#32 else if c 1 then 1#32 else if c 0 then 0#32 else 4294967295#32

theorem askW_index (c : Fin 8 → Bool) (b : Fin 8) :
    Scalar.select (IntOp.cmpi .sge (askW c) 0#32) (askW c) (BitVec.ofNat 32 b.val)
      = BitVec.ofNat 32 (if c 7 then (7 : Fin 8) else if c 6 then 6 else if c 5 then 5 else if c 4 then 4
  else if c 3 then 3 else if c 2 then 2 else if c 1 then 1 else if c 0 then 0 else b).val := by
  unfold askW
  generalize c 7 = c7; generalize c 6 = c6; generalize c 5 = c5; generalize c 4 = c4
  generalize c 3 = c3; generalize c 2 = c2; generalize c 1 = c1; generalize c 0 = c0
  cases c7
  swap; · rfl
  cases c6
  swap; · rfl
  cases c5
  swap; · rfl
  cases c4
  swap; · rfl
  cases c3
  swap; · rfl
  cases c2
  swap; · rfl
  cases c1
  swap; · rfl
  cases c0 <;> rfl
theorem askW_asked (c : Fin 8 → Bool) (x y : EReal) :
    Scalar.select (IntOp.cmpi .sge (askW c) 0#32) x y
      = if (c 7 || (c 6 || (c 5 || (c 4 || (c 3 || (c 2 || (c 1 || c 0))))))) then x else y := by
  unfold askW
  generalize c 7 = c7; generalize c 6 = c6; generalize c 5 = c5; generalize c 4 = c4
  generalize c 3 = c3; generalize c 2 = c2; generalize c 1 = c1; generalize c 0 = c0
  cases c7
  swap; · rfl
  cases c6
  swap; · rfl
  cases c5
  swap; · rfl
  cases c4
  swap; · rfl
  cases c3
  swap; · rfl
  cases c2
  swap; · rfl
  cases c1
  swap; · rfl
  cases c0 <;> rfl

/-- A prior's column. -/
def up (p : Fin 8732) : Fin 8832 := ⟨p.val, by omega⟩

/-! ## The padded overlaps -/

section padded
variable (G : Fin 8 → Fin 8832 → EReal) (h : ∀ j (p : Fin 8732), G j (up p) = O j p)
  (hz : ∀ j (p : Fin 8832), 8732 ≤ p.val → G j p = 0) (ho : ∀ j p, 0 ≤ O j p)
include h hz ho

theorem first_padded (j : Fin 8) : First (G j) (up (bp O j)) :=
  (first_spec (by decide) (O j)).extend (by decide) (h j) (fun k hk => by rw [hz j k hk]; exact ho _ _)

/-- The kernel's word for a target's best prior. -/
theorem bpw_eq (j : Fin 8) : Finset.fold IntOp.minsi (2147483647#32)
    (fun x : Fin 8832 => if G j x = Finset.fold max (⊥ : EReal) (fun y => G j y) Finset.univ then BitVec.ofNat 32 x.val else 1073741824#32) Finset.univ
      = BitVec.ofNat 32 (bp O j).val := by
  have hf := first_padded O G h hz ho j
  rw [fold_max hf]
  exact fold_first (by decide) hf

/-- The kernel's word for the targets that ask for column `p`. -/
theorem fcw_eq (p : Fin 8832) : Finset.fold IntOp.maxsi (2147483648#32)
    (fun j : Fin 8 => if BitVec.ofNat 32 (bp O j).val = BitVec.ofNat 32 p.val then BitVec.ofNat 32 j.val else 4294967295#32) Finset.univ
      = askW (fun j => decide ((bp O j).val = p.val)) := by
  refine Eq.trans ?_ (fold_forced (fun j => decide ((bp O j).val = p.val)))
  congr 1
  funext j
  have e : (BitVec.ofNat 32 (bp O j).val = BitVec.ofNat 32 p.val) ↔ (bp O j).val = p.val := by
    constructor
    · intro e
      have := congrArg BitVec.toNat e
      simp only [BitVec.toNat_ofNat] at this
      omega
    · intro e; rw [e]
  simp only [e, decide_eq_true_eq]

omit hz ho in
/-- The kernel's word for a prior's best target, and the overlap with it. -/
theorem btw_eq (p : Fin 8732) : Finset.fold max (⊥ : EReal) (fun j : Fin 8 => G j (up p)) Finset.univ = O (bt O p) p := by
  simp only [h]
  exact fold_max (first_spec (by decide) fun j => O j p)
omit hz ho in
theorem btw_idx (p : Fin 8732) : Finset.fold IntOp.minsi (2147483647#32)
    (fun x : Fin 8 => if G x (up p) = O (bt O p) p then BitVec.ofNat 32 x.val else 1073741824#32) Finset.univ = BitVec.ofNat 32 (bt O p).val := by
  simp only [h]
  exact fold_first (by decide) (first_spec (by decide) fun j => O j p)
omit h ho in
theorem pad_max (p : Fin 8832) (hp : 8732 ≤ p.val) : Finset.fold max (⊥ : EReal) (fun j : Fin 8 => G j p) Finset.univ = 0 := by
  simp only [hz _ p hp]
  exact fold_max (first_spec (by decide) fun j : Fin 8 => (0 : EReal))

end padded

/-- A one-hot sum is the entry named. -/
theorem sum_onehot (k : Fin 8) (f : Fin 8 → EReal) :
    ∑ x : Fin 8, Scalar.select (IntOp.cmpi .eq (BitVec.ofNat 32 k.val) (BitVec.ofNat 32 x.val)) (f x) 0 = f k := by
  rw [Finset.sum_eq_single k]
  · have : IntOp.cmpi .eq (BitVec.ofNat 32 k.val) (BitVec.ofNat 32 k.val) = 1#1 := by simp [IntOp.cmpi]
    rw [this]; rfl
  · intro x _ hx
    have : IntOp.cmpi .eq (BitVec.ofNat 32 k.val) (BitVec.ofNat 32 x.val) = 0#1 := by
      revert hx; revert x k; decide
    rw [this]; rfl
  · intro hk; exact absurd (Finset.mem_univ _) hk

end Cert.Spec

end
-- ==== Proof.Box.lean ====
/- Boxes: the overlap of a target and a prior, the encoding of a target against a prior, and the location loss they make. -/
module

public import proofs.«01_k».proof.Proof.Match

@[expose] public section

noncomputable section

namespace Cert.Spec

open Idealize.ShloMosaic

/-- A target the precondition admits. -/
def BoxOk (t : Fin 4 → EReal) : Prop :=
  ∃ r : Fin 4 → ℝ, (∀ k, t k = (r k : EReal)) ∧ 0 ≤ r 0 ∧ 0 ≤ r 1 ∧ r 0 < r 2 ∧ r 1 < r 3
/-- A prior the precondition admits. -/
def PriorOk (q : Fin 4 → EReal) : Prop :=
  ∃ r : Fin 4 → ℝ, (∀ k, q k = (r k : EReal)) ∧ 0 < r 2 ∧ 0 < r 3

/-- The overlap of a target and a box given by its corners. -/
def ovc (t : Fin 4 → EReal) (x1 y1 x2 y2 : EReal) : EReal :=
  Ideal.div (max (min (t 2) x2 - max (t 0) x1) 0 * max (min (t 3) y2 - max (t 1) y1) 0)
    ((t 2 - t 0) * (t 3 - t 1) + (x2 - x1) * (y2 - y1)
      - max (min (t 2) x2 - max (t 0) x1) 0 * max (min (t 3) y2 - max (t 1) y1) 0)
/-- The overlap of a target and a prior given by its centre and sizes. -/
def ovl (t q : Fin 4 → EReal) : EReal :=
  ovc t (q 0 - Ideal.div (q 2) ((2 : ℝ) : EReal)) (q 1 - Ideal.div (q 3) ((2 : ℝ) : EReal))
    (q 0 + Ideal.div (q 2) ((2 : ℝ) : EReal)) (q 1 + Ideal.div (q 3) ((2 : ℝ) : EReal))

theorem coe_max (a b : ℝ) : max (a : EReal) (b : EReal) = ((max a b : ℝ) : EReal) :=
  (Monotone.map_max (f := fun x : ℝ => (x : EReal)) EReal.coe_strictMono.monotone).symm
theorem coe_min (a b : ℝ) : min (a : EReal) (b : EReal) = ((min a b : ℝ) : EReal) :=
  (Monotone.map_min (f := fun x : ℝ => (x : EReal)) EReal.coe_strictMono.monotone).symm
theorem div_real (a : ℝ) {b : ℝ} (hb : b ≠ 0) : Ideal.div (a : EReal) (b : EReal) = ((a / b : ℝ) : EReal) := by
  rw [Ideal.div_coe hb, ← EReal.coe_mul]; congr 1; ring

/-- Of a real target and a real box the overlap is the real quotient. -/
theorem ovc_real (t : Fin 4 → EReal) (r : Fin 4 → ℝ) (ht : ∀ k, t k = (r k : EReal)) (x1 y1 x2 y2 : ℝ)
    (hr : r 0 < r 2) (hr' : r 1 < r 3) (hx : x1 < x2) (hy : y1 < y2) :
    ovc t x1 y1 x2 y2 = (((max (min (r 2) x2 - max (r 0) x1) 0 * max (min (r 3) y2 - max (r 1) y1) 0)
      / ((r 2 - r 0) * (r 3 - r 1) + (x2 - x1) * (y2 - y1) - max (min (r 2) x2 - max (r 0) x1) 0 * max (min (r 3) y2 - max (r 1) y1) 0) : ℝ) : EReal)
    ∧ 0 ≤ max (min (r 2) x2 - max (r 0) x1) 0 * max (min (r 3) y2 - max (r 1) y1) 0
    ∧ 0 < (r 2 - r 0) * (r 3 - r 1) + (x2 - x1) * (y2 - y1) - max (min (r 2) x2 - max (r 0) x1) 0 * max (min (r 3) y2 - max (r 1) y1) 0 := by
  have hi0 : 0 ≤ max (min (r 2) x2 - max (r 0) x1) 0 := le_max_right _ _
  have hi1 : 0 ≤ max (min (r 3) y2 - max (r 1) y1) 0 := le_max_right _ _
  have hw : max (min (r 2) x2 - max (r 0) x1) 0 ≤ r 2 - r 0 :=
    max_le (by have := min_le_left (r 2) x2; have := le_max_left (r 0) x1; linarith) (by linarith)
  have hh : max (min (r 3) y2 - max (r 1) y1) 0 ≤ r 3 - r 1 :=
    max_le (by have := min_le_left (r 3) y2; have := le_max_left (r 1) y1; linarith) (by linarith)
  have hm := mul_le_mul hw hh hi1 (by linarith)
  have hp : 0 < (x2 - x1) * (y2 - y1) := mul_pos (by linarith) (by linarith)
  refine ⟨?_, mul_nonneg hi0 hi1, by linarith⟩
  unfold ovc
  rw [ht 0, ht 1, ht 2, ht 3]
  have z : (0 : EReal) = ((0 : ℝ) : EReal) := rfl
  rw [z]
  simp only [coe_max, coe_min, ← EReal.coe_sub, ← EReal.coe_mul, ← EReal.coe_add]
  exact div_real _ (by linarith)

theorem ovl_nonneg {t q : Fin 4 → EReal} (ht : BoxOk t) (hq : PriorOk q) : 0 ≤ ovl t q := by
  obtain ⟨r, hr, h0, h1, h02, h13⟩ := ht
  obtain ⟨s, hs, hs2, hs3⟩ := hq
  unfold ovl
  rw [hs 0, hs 1, hs 2, hs 3, div_real _ (by norm_num), div_real _ (by norm_num)]
  simp only [← EReal.coe_sub, ← EReal.coe_add]
  obtain ⟨e, hn, hd⟩ := ovc_real t r hr (s 0 - s 2 / 2) (s 1 - s 3 / 2) (s 0 + s 2 / 2) (s 1 + s 3 / 2) h02 h13 (by linarith) (by linarith)
  rw [e]
  exact_mod_cast div_nonneg hn hd.le

/-- The columns beyond the priors hold a unit box to the left of and below every target. -/
def padBox (k : Fin 4) : EReal := match k with
  | 0 => ((-10 : ℝ) : EReal) | 1 => ((-10 : ℝ) : EReal) | 2 => ((1 : ℝ) : EReal) | 3 => ((1 : ℝ) : EReal)
theorem ovl_pad {t : Fin 4 → EReal} (ht : BoxOk t) : ovl t padBox = 0 := by
  obtain ⟨r, hr, h0, h1, h02, h13⟩ := ht
  unfold ovl padBox
  dsimp only
  rw [div_real _ (by norm_num)]
  simp only [← EReal.coe_sub, ← EReal.coe_add]
  obtain ⟨e, hn, hd⟩ := ovc_real t r hr (-10 - 1 / 2) (-10 - 1 / 2) (-10 + 1 / 2) (-10 + 1 / 2) h02 h13 (by norm_num) (by norm_num)
  rw [e]
  have : max (min (r 2) (-10 + 1 / 2) - max (r 0) (-10 - 1 / 2)) 0 = 0 := by
    apply max_eq_right
    have := min_le_right (r 2) (-10 + 1 / 2); have := le_max_left (r 0) (-10 - 1 / 2); linarith
  rw [this]; simp

/-! ## The encoding -/

/-- The target `t` against the prior `q`: the centres' offset by a tenth of the sizes, five times the logarithm of the sizes' quotient. -/
def enc (t q : Fin 4 → EReal) (k : Fin 4) : EReal := match k with
  | 0 => Ideal.div (Ideal.div (t 0 + t 2) ((2 : ℝ) : EReal) - q 0) (Ideal.div (q 2) ((10 : ℝ) : EReal))
  | 1 => Ideal.div (Ideal.div (t 1 + t 3) ((2 : ℝ) : EReal) - q 1) (Ideal.div (q 3) ((10 : ℝ) : EReal))
  | 2 => Ideal.log (Ideal.div (t 2 - t 0) (q 2)) * ((5 : ℝ) : EReal)
  | 3 => Ideal.log (Ideal.div (t 3 - t 1) (q 3)) * ((5 : ℝ) : EReal)

theorem enc_centre {a b c s : ℝ} (hs : 0 < s) :
    (((a : EReal) + b) * ((1 / 2 : ℝ) : EReal) - c) * Ideal.div ((10 : ℝ) : EReal) s
      = Ideal.div (Ideal.div ((a : EReal) + b) ((2 : ℝ) : EReal) - c) (Ideal.div (s : EReal) ((10 : ℝ) : EReal)) := by
  rw [← EReal.coe_add, div_real _ hs.ne', div_real _ (by norm_num), div_real _ (by norm_num), ← EReal.coe_mul, ← EReal.coe_sub, ← EReal.coe_sub,
    ← EReal.coe_mul, div_real _ (by positivity)]
  congr 1
  field_simp
theorem enc_size {a b s : ℝ} (h : a < b) (hs : 0 < s) :
    ((5 : ℝ) : EReal) * Ideal.log ((b : EReal) - a) - ((5 : ℝ) : EReal) * Ideal.log s
      = Ideal.log (Ideal.div ((b : EReal) - a) s) * ((5 : ℝ) : EReal) := by
  have hd : 0 < b - a := by linarith
  rw [← EReal.coe_sub, div_real _ hs.ne', Ideal.log_coe, Ideal.log_coe, Ideal.log_coe, if_neg (by linarith), if_neg (by linarith), if_neg (not_le.2 (div_pos hd hs)),
    Real.log_div hd.ne' hs.ne', ← EReal.coe_mul, ← EReal.coe_mul, ← EReal.coe_mul, ← EReal.coe_sub]
  congr 1
  ring

/-- The kernel's spelling of the encoding. -/
def encK (t q : Fin 4 → EReal) (k : Fin 4) : EReal := match k with
  | 0 => ((t 0 + t 2) * ((1 / 2 : ℝ) : EReal) - q 0) * Ideal.div ((10 : ℝ) : EReal) (q 2)
  | 1 => ((t 1 + t 3) * ((1 / 2 : ℝ) : EReal) - q 1) * Ideal.div ((10 : ℝ) : EReal) (q 3)
  | 2 => ((5 : ℝ) : EReal) * Ideal.log (t 2 - t 0) - ((5 : ℝ) : EReal) * Ideal.log (q 2)
  | 3 => ((5 : ℝ) : EReal) * Ideal.log (t 3 - t 1) - ((5 : ℝ) : EReal) * Ideal.log (q 3)
theorem encK_eq {t q : Fin 4 → EReal} (ht : BoxOk t) (hq : PriorOk q) (k : Fin 4) : encK t q k = enc t q k := by
  obtain ⟨r, hr, h0, h1, h02, h13⟩ := ht
  obtain ⟨s, hs, hs2, hs3⟩ := hq
  fin_cases k
  · show ((t 0 + t 2) * ((1 / 2 : ℝ) : EReal) - q 0) * Ideal.div ((10 : ℝ) : EReal) (q 2) = Ideal.div (Ideal.div (t 0 + t 2) ((2 : ℝ) : EReal) - q 0) (Ideal.div (q 2) ((10 : ℝ) : EReal))
    rw [hr 0, hr 2, hs 0, hs 2]; exact enc_centre hs2
  · show ((t 1 + t 3) * ((1 / 2 : ℝ) : EReal) - q 1) * Ideal.div ((10 : ℝ) : EReal) (q 3) = Ideal.div (Ideal.div (t 1 + t 3) ((2 : ℝ) : EReal) - q 1) (Ideal.div (q 3) ((10 : ℝ) : EReal))
    rw [hr 1, hr 3, hs 1, hs 3]; exact enc_centre hs3
  · show ((5 : ℝ) : EReal) * Ideal.log (t 2 - t 0) - ((5 : ℝ) : EReal) * Ideal.log (q 2) = Ideal.log (Ideal.div (t 2 - t 0) (q 2)) * ((5 : ℝ) : EReal)
    rw [hr 0, hr 2, hs 2]; exact enc_size h02 hs2
  · show ((5 : ℝ) : EReal) * Ideal.log (t 3 - t 1) - ((5 : ℝ) : EReal) * Ideal.log (q 3) = Ideal.log (Ideal.div (t 3 - t 1) (q 3)) * ((5 : ℝ) : EReal)
    rw [hr 1, hr 3, hs 3]; exact enc_size h13 hs3

/-! ## The location loss -/

/-- The smooth absolute value. -/
def sl1 (d : EReal) : EReal :=
  if max d (-d) < 1 then ((1 / 2 : ℝ) : EReal) * max d (-d) * max d (-d) else max d (-d) - ((1 / 2 : ℝ) : EReal)

section batch
variable (loc : Fin 8732 → Fin 4 → EReal) (q : Fin 8732 → Fin 4 → EReal) (t : Fin 8 → Fin 4 → EReal)
/-- The overlaps of one batch. -/
def OV (j : Fin 8) (p : Fin 8732) : EReal := ovl (t j) (q p)
open Classical in
/-- One prior's share of the location loss, by coordinate. -/
def lossAt (p : Fin 8732) (k : Fin 4) : EReal :=
  sl1 (loc p k - enc (t (mt (OV q t) p)) (q p) k) * if Pos (OV q t) p then 1 else 0
/-- One batch's location loss. -/
def lossB : EReal := ∑ p : Fin 8732, ∑ k : Fin 4, lossAt loc q t p k
open Classical in
/-- One batch's number of matched priors. -/
def numB : EReal := ∑ p : Fin 8732, if Pos (OV q t) p then (1 : EReal) else 0
end batch

end Cert.Spec

end
-- ==== Proof.KerSpec.lean ====
/- One batch of the kernel: its sums are the batch's location loss and number of matched priors. -/
module

public import proofs.«01_k».proof.Proof.KerPoint
public import proofs.«01_k».proof.Proof.Box

@[expose] public section

set_option maxRecDepth 16384

noncomputable section

namespace Cert.KernelIdeal.Run

open Cert.KernelIdeal.Gen Cert.Spec
open Idealize.ShloMosaic Idealize.ShloMosaic.TcCoe Idealize.ShloMosaic.Tactic

/-- The priors with the columns beyond them. -/
def padQ (q : Fin 8732 → Fin 4 → EReal) (p : Fin 8832) : Fin 4 → EReal := if h : p.val < 8732 then q ⟨p.val, h⟩ else padBox

/-- What a batch's blocks hold: the targets, their classes, the priors' rows and the locations. -/
structure Holds (v3 v9 : Vec Ideal S1x8x128 .f32) (v28 : Vec Ideal S16x8832 .f32) (v134 : Vec Ideal S1x4x8832 .f32)
    (loc : Fin 8732 → Fin 4 → EReal) (q : Fin 8732 → Fin 4 → EReal) (t : Fin 8 → Fin 4 → EReal) (cl : Fin 8 → BitVec 32) : Prop where
  t0 : ∀ j, v3 (ix3 0 j 0) = t j 0
  t1 : ∀ j, v3 (ix3 0 j 1) = t j 1
  t2 : ∀ j, v3 (ix3 0 j 2) = t j 2
  t3 : ∀ j, v3 (ix3 0 j 3) = t j 3
  c : ∀ j, v9 (ix3 0 j 0) = (((cl j).toInt : ℝ) : EReal)
  r0 : ∀ p, v28 (ix2 0 p) = padQ q p 0 - Ideal.div (padQ q p 2) ((2 : ℝ) : EReal)
  r1 : ∀ p, v28 (ix2 1 p) = padQ q p 1 - Ideal.div (padQ q p 3) ((2 : ℝ) : EReal)
  r2 : ∀ p, v28 (ix2 2 p) = padQ q p 0 + Ideal.div (padQ q p 2) ((2 : ℝ) : EReal)
  r3 : ∀ p, v28 (ix2 3 p) = padQ q p 1 + Ideal.div (padQ q p 3) ((2 : ℝ) : EReal)
  r4 : ∀ p, v28 (ix2 4 p) = (v28 (ix2 2 p) - v28 (ix2 0 p)) * (v28 (ix2 3 p) - v28 (ix2 1 p))
  r5 : ∀ p, v28 (ix2 5 p) = padQ q p 0
  r6 : ∀ p, v28 (ix2 6 p) = padQ q p 1
  r7 : ∀ p, v28 (ix2 7 p) = Ideal.div ((10 : ℝ) : EReal) (padQ q p 2)
  r8 : ∀ p, v28 (ix2 8 p) = Ideal.div ((10 : ℝ) : EReal) (padQ q p 3)
  r9 : ∀ p, v28 (ix2 9 p) = ((5 : ℝ) : EReal) * Ideal.log (padQ q p 2)
  r10 : ∀ p, v28 (ix2 10 p) = ((5 : ℝ) : EReal) * Ideal.log (padQ q p 3)
  l : ∀ (p : Fin 8732) (k : Fin 4), v134 (ix3 0 k (up p)) = loc p k
  tok : ∀ j, BoxOk (t j)
  qok : ∀ p, PriorOk (q p)
  cok : ∀ j, 0 ≤ (cl j).toInt

variable {v3 v9 : Vec Ideal S1x8x128 .f32} {v28 : Vec Ideal S16x8832 .f32} {v134 : Vec Ideal S1x4x8832 .f32}
    {loc : Fin 8732 → Fin 4 → EReal} {q : Fin 8732 → Fin 4 → EReal} {t : Fin 8 → Fin 4 → EReal} {cl : Fin 8 → BitVec 32}
    (H : Holds v3 v9 v28 v134 loc q t cl)
include H

theorem kov_eq (j : Fin 8) (p : Fin 8832) : kov v3 v28 (ix2 j p) = ovl (t j) (padQ q p) := by
  rw [kov_at, H.r4, H.r0, H.r1, H.r2, H.r3, H.t0, H.t1, H.t2, H.t3]
  rfl
theorem kov_in (j : Fin 8) (p : Fin 8732) : kov v3 v28 (ix2 j (up p)) = OV q t j p := by
  rw [kov_eq H, padQ, dif_pos (show (up p).val < 8732 from p.isLt)]; rfl
theorem kov_out (j : Fin 8) (p : Fin 8832) (hp : 8732 ≤ p.val) : kov v3 v28 (ix2 j p) = 0 := by
  rw [kov_eq H, padQ, dif_neg (by omega)]; exact ovl_pad (H.tok j)
theorem OV_nonneg (j : Fin 8) (p : Fin 8732) : 0 ≤ OV q t j p := ovl_nonneg (H.tok j) (H.qok p)

theorem bpw_spec (j : Fin 8) : bpw v3 v28 j = BitVec.ofNat 32 (bp (OV q t) j).val := by
  unfold bpw
  rw [wbot]
  exact bpw_eq (OV q t) (fun j p => kov v3 v28 (ix2 j p)) (kov_in H) (kov_out H) (OV_nonneg H) j
theorem fcw_spec (p : Fin 8832) : fcw (b93 v3 v28) p = askW (fun j => decide ((bp (OV q t) j).val = p.val)) := by
  unfold fcw
  simp only [b93_at, bpw_spec H]
  exact fcw_eq (OV q t) (fun j p => kov v3 v28 (ix2 j p)) (kov_in H) (kov_out H) (OV_nonneg H) p
theorem ask_in (p : Fin 8732) : (fun j => decide ((bp (OV q t) j).val = (up p).val)) = asks (OV q t) p := by
  funext j; exact decide_eq_decide.mpr Fin.ext_iff.symm
theorem ask_out (p : Fin 8832) (hp : 8732 ≤ p.val) : (fun j => decide ((bp (OV q t) j).val = p.val)) = fun _ => false := by
  funext j
  have := (bp (OV q t) j).isLt
  rw [decide_eq_false]; omega

theorem b78_in (p : Fin 8732) : b78 v3 v28 (ix2 0 (up p)) = OV q t (bt (OV q t) p) p := by
  rw [b78_at]; exact btw_eq (OV q t) (fun j p => kov v3 v28 (ix2 j p)) (kov_in H) p
theorem b86_in (p : Fin 8732) : b86 v3 v28 (ix2 0 (up p)) = BitVec.ofNat 32 (bt (OV q t) p).val := by
  rw [b86_at, b78_in H]; exact btw_idx (OV q t) (fun j p => kov v3 v28 (ix2 j p)) (kov_in H) p
theorem b78_out (p : Fin 8832) (hp : 8732 ≤ p.val) : b78 v3 v28 (ix2 0 p) = 0 := by
  rw [b78_at]; exact pad_max (fun j p => kov v3 v28 (ix2 j p)) (kov_out H) p hp

/-- A matched prior's five numbers are its target's. -/
theorem k40_in (k : Fin 5) (p : Fin 8732) : k0_pay40 (b27 v3 v9) i66 (b86 v3 v28) (b93 v3 v28) (ix2 k (up p)) = t5 v3 v9 k (mt (OV q t) p) := by
  rw [k40_at, fcw_spec H, b86_in H, ask_in H, askW_index]
  refine (sum_onehot (mt (OV q t) p) fun x => b27 v3 v9 (ix2 x k)).trans ?_
  rw [b27_at]

theorem class_in (p : Fin 8732) : k0_pay41 (b27 v3 v9) i66 (b78 v3 v28) (b86 v3 v28) (b93 v3 v28) (ix2 0 (up p))
    = if bov (OV q t) p < thr then (0 : EReal) else (((cl (mt (OV q t) p)).toInt : ℝ) : EReal) + 1 := by
  rw [k41_at, fcw_spec H, ask_in H, askW_asked, b78_in H, k40_in H, w2, whalf]
  have e : t5 v3 v9 4 (mt (OV q t) p) = (((cl (mt (OV q t) p)).toInt : ℝ) : EReal) := H.c _
  rw [e, ← EReal.coe_add]
  have f : Ideal.liftRound Int.floor ((((cl (mt (OV q t) p)).toInt : ℝ) + 1 / 2 : ℝ) : EReal) = (((cl (mt (OV q t) p)).toInt : ℝ) : EReal) := by
    show (((Int.floor (((cl (mt (OV q t) p)).toInt : ℝ) + 1 / 2) : ℤ) : ℝ) : EReal) = _
    rw [show Int.floor (((cl (mt (OV q t) p)).toInt : ℝ) + 1 / 2) = (cl (mt (OV q t) p)).toInt from by
      rw [Int.floor_eq_iff]; constructor <;> linarith]
  rw [f]
  rfl
theorem class_out (p : Fin 8832) (hp : 8732 ≤ p.val) : k0_pay41 (b27 v3 v9) i66 (b78 v3 v28) (b86 v3 v28) (b93 v3 v28) (ix2 0 p) = 0 := by
  rw [k41_at, fcw_spec H, ask_out H p hp, askW_asked, b78_out H p hp]
  exact if_pos thr_pos

open Classical in
theorem pos_in (p : Fin 8732) : b123 v3 v9 v28 (ix2 0 (up p)) = if Pos (OV q t) p then (1 : EReal) else 0 := by
  unfold b123
  rw [k43_at, class_in H, whalf]
  unfold Pos
  by_cases h : bov (OV q t) p < thr
  · rw [if_pos h, if_neg (by rw [not_lt]; exact_mod_cast (by norm_num : (0 : ℝ) ≤ 1 / 2)), if_neg (not_not.2 h)]
  · rw [if_neg h, if_pos h, if_pos]
    have h0 : (0 : ℝ) ≤ ((cl (mt (OV q t) p)).toInt : ℝ) := by exact_mod_cast H.cok _
    have : ((1 / 2 : ℝ) : EReal) < ((((cl (mt (OV q t) p)).toInt : ℝ) + 1 : ℝ) : EReal) := by
      rw [EReal.coe_lt_coe_iff]; linarith
    exact_mod_cast this
theorem pos_out (p : Fin 8832) (hp : 8732 ≤ p.val) : b123 v3 v9 v28 (ix2 0 p) = 0 := by
  unfold b123
  rw [k43_at, class_out H p hp, whalf, if_neg]
  rw [not_lt]; exact_mod_cast (by norm_num : (0 : ℝ) ≤ 1 / 2)

omit H in
theorem sl_eq (d : EReal) : sl d = sl1 d := by
  unfold sl sl1; rw [whalf]; rfl

theorem loss_in (p : Fin 8732) : b184 v3 v9 v28 v134 (ix2 0 (up p))
    = ∑ k : Fin 4, sl1 (loc p k - enc (t (mt (OV q t) p)) (q p) k) := by
  have hQ : padQ q (up p) = q p := by unfold padQ; rw [dif_pos (show (up p).val < 8732 from p.isLt)]; rfl
  rw [Fin.sum_univ_four, b184_at]
  simp only [k40_in H, sl_eq, H.r5, H.r6, H.r7, H.r8, H.r9, H.r10, hQ]
  simp only [← encK_eq (H.tok _) (H.qok _)]
  rw [← H.l p 0, ← H.l p 1, ← H.l p 2, ← H.l p 3]
  show sl1 (_ - ((v3 _ + v3 _) * _ - _) * _) + sl1 (_ - ((v3 _ + v3 _) * _ - _) * _) + sl1 (_ - (_ * Ideal.log (v3 _ - v3 _) - _)) + sl1 (_ - (_ * Ideal.log (v3 _ - v3 _) - _)) = _
  rw [H.t0, H.t1, H.t2, H.t3, whalf, w5]
  rfl

omit H in
theorem sum_cut {f : Fin 8832 → EReal} (hf : ∀ p : Fin 8832, 8732 ≤ p.val → f p = 0) :
    ∑ p : Fin 8832, f p = ∑ p : Fin 8732, f (up p) := by
  refine (Fin.sum_univ_add (a := 8732) (b := 100) f).trans ?_
  rw [Finset.sum_eq_zero (f := fun i : Fin 100 => f (Fin.natAdd 8732 i)) (fun i _ => hf _ (by simp)), add_zero]
  rfl

variable (v185 : Vec Ideal S1x21x8832 .f32)
theorem bSum_loss : bSum v3 v9 v28 v134 v185 (ix2 0 0) = lossB loc q t := by
  rw [bSum_0, sum_cut (fun p hp => by rw [pos_out H p hp, mul_zero])]
  unfold lossB
  refine Finset.sum_congr rfl fun p _ => ?_
  rw [loss_in H, pos_in H]
  unfold lossAt
  split
  · simp only [mul_one]
  · simp only [mul_zero, Finset.sum_const_zero]
theorem bSum_num : bSum v3 v9 v28 v134 v185 (ix2 2 0) = numB q t := by
  rw [bSum_2, sum_cut (fun p hp => pos_out H p hp)]
  exact Finset.sum_congr rfl fun p _ => pos_in H p

end Cert.KernelIdeal.Run

end
-- ==== Proof.KernelRunA.lean ====
/- The kernel's body at one kind of point (the first): what it leaves in the output and in the scratch. -/
module

public import proofs.«01_k».proof.Proof.Gen.KernelIdeal.Frame
public import proofs.«01_k».proof.Proof.KernelBatch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body at the first point: the output starts at the step's sums; the scratch rows of
    the step's four batches are written, the others kept. -/
theorem run_A (c : Dev nD) (i : grid0.Coords) (arg1 : Memref sig .tc .vmem S4x8x128 .f32) (harg1 : arg1.IsWhole) (arg2 : Memref sig .tc .vmem S4x8x128 .f32) (harg2 : arg2.IsWhole) (arg3 : Memref sig .tc .vmem S16x8832 .f32) (harg3 : arg3.IsWhole) (arg4 : Memref sig .tc .vmem S4x4x8832 .f32) (harg4 : arg4.IsWhole) (arg5 : Memref sig .tc .vmem S4x21x8832 .f32) (harg5 : arg5.IsWhole) (arg6 : Memref sig .tc .vmem S8x128 .f32) (harg6 : arg6.IsWhole) (arg7 : Memref sig .tc .vmem S16x8832 .f32) (harg7 : arg7.IsWhole) (arg8 : Memref sig .tc .vmem S16x128 .f32) (harg8 : arg8.IsWhole) (hc0 : cond0_0 i) (hc1 : ¬cond0_1 i) (hc2 : ¬cond0_2 i)
    (x0 : Vec F S4x8x128 .f32) (x1 : Vec F S4x8x128 .f32) (x2 : Vec F S16x8832 .f32) (x3 : Vec F S4x4x8832 .f32) (x4 : Vec F S4x21x8832 .f32) (d7 : Vec F S16x8832 .f32) (d8 : Vec F S16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d7 ∗ owns (c : Thread nD τ) arg8 fullShare d8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (sTot x0 x1 x2 x3 x4) ∗ owns (c : Thread nD τ) arg7 fullShare (rows (i 0).val d7 (sLg x0 x1 x2 x4)) ∗ owns (c : Thread nD τ) arg8 fullShare (rows (i 0).val d8 (sNp x0 x1 x2 x3 x4))) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8) K := by
    intro E K
    simp only [cc0__mbl_kernel_eq_skeleton]; unfold cc0__mbl_kernel_skel
    simp only [k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    subst hf0; subst hf1; subst hf2; subst hf3; subst hf4; subst hs0; subst hs1
    sl_exec (disch := first | sl_exact hc0 | sl_exact hc1 | sl_exact hc2)
    sl_step
    have L0 : k0_pay54 run_A.sl.v65 (run_A.sl.r_20 c arg1 arg2 arg3 f0 f1 f2) (View.readAt (Elt F) arg5.view (Rect.unit (s := S4x21x8832) ![0, 0, 0] S1x21x8832.size inb_S4x21x8832_S1x21x8832_0_0_0).toLoadRect f4) = bLg (bx0 (View.read (Elt F) arg1.view f0) 0) (bx0 (View.read (Elt F) arg2.view f1) 0) (bx2 (View.read (Elt F) arg3.view f2)) (bx4 (View.read (Elt F) arg5.view f4) 0) := by rfl
    have L1 : k0_pay101 run_A.sl.v65 (run_A.sl.r_52 c arg1 arg2 arg3 f0 f1 f2) (View.readAt (Elt F) arg5.view (Rect.unit (s := S4x21x8832) ![1, 0, 0] S1x21x8832.size inb_S4x21x8832_S1x21x8832_1_0_0).toLoadRect f4) = bLg (bx0 (View.read (Elt F) arg1.view f0) 1) (bx0 (View.read (Elt F) arg2.view f1) 1) (bx2 (View.read (Elt F) arg3.view f2)) (bx4 (View.read (Elt F) arg5.view f4) 1) := by rfl
    have L2 : k0_pay141 run_A.sl.v65 (run_A.sl.r_82 c arg1 arg2 arg3 f0 f1 f2) (View.readAt (Elt F) arg5.view (Rect.unit (s := S4x21x8832) ![2, 0, 0] S1x21x8832.size inb_S4x21x8832_S1x21x8832_2_0_0).toLoadRect f4) = bLg (bx0 (View.read (Elt F) arg1.view f0) 2) (bx0 (View.read (Elt F) arg2.view f1) 2) (bx2 (View.read (Elt F) arg3.view f2)) (bx4 (View.read (Elt F) arg5.view f4) 2) := by rfl
    have L3 : k0_pay187 (run_A.sl.r_121 c arg1 arg2 arg3 f0 f1 f2) (run_A.sl.r_122 c arg5 f4) run_A.sl.cst_253 = bLg (bx0 (View.read (Elt F) arg1.view f0) 3) (bx0 (View.read (Elt F) arg2.view f1) 3) (bx2 (View.read (Elt F) arg3.view f2)) (bx4 (View.read (Elt F) arg5.view f4) 3) := by rfl
    have N0 : k0_pay56 (run_A.sl.r_19 c arg1 arg2 arg3 f0 f1 f2) (run_A.sl.r_21 c arg1 arg2 arg3 f0 f1 f2) (run_A.sl.r_27 c arg1 arg2 arg3 arg4 f0 f1 f2 f3) (View.readAt (Elt F) arg5.view (Rect.unit (s := S4x21x8832) ![0, 0, 0] S1x21x8832.size inb_S4x21x8832_S1x21x8832_0_0_0).toLoadRect f4) = bNp (bx0 (View.read (Elt F) arg1.view f0) 0) (bx0 (View.read (Elt F) arg2.view f1) 0) (bx2 (View.read (Elt F) arg3.view f2)) (bx3 (View.read (Elt F) arg4.view f3) 0) (bx4 (View.read (Elt F) arg5.view f4) 0) := by rfl
    have N1 : k0_pay104 (run_A.sl.r_63 c arg1 arg2 arg3 arg4 arg5 f0 f1 f2 f3 f4) = bNp (bx0 (View.read (Elt F) arg1.view f0) 1) (bx0 (View.read (Elt F) arg2.view f1) 1) (bx2 (View.read (Elt F) arg3.view f2)) (bx3 (View.read (Elt F) arg4.view f3) 1) (bx4 (View.read (Elt F) arg5.view f4) 1) := by rfl
    have N2 : k0_pay143 (run_A.sl.r_83 c arg1 arg2 arg3 f0 f1 f2) (run_A.sl.r_88 c arg1 arg2 arg3 arg4 f0 f1 f2 f3) (run_A.sl.r_89 c arg1 arg2 arg3 arg5 f0 f1 f2 f4) = bNp (bx0 (View.read (Elt F) arg1.view f0) 2) (bx0 (View.read (Elt F) arg2.view f1) 2) (bx2 (View.read (Elt F) arg3.view f2)) (bx3 (View.read (Elt F) arg4.view f3) 2) (bx4 (View.read (Elt F) arg5.view f4) 2) := by rfl
    have N3 : k0_pay189 (run_A.sl.r_113 c arg1 arg2 arg3 f0 f1 f2) (run_A.sl.r_119 c arg1 arg2 arg3 arg4 f0 f1 f2 f3) (run_A.sl.r_120 c arg1 arg2 arg3 arg5 f0 f1 f2 f4) = bNp (bx0 (View.read (Elt F) arg1.view f0) 3) (bx0 (View.read (Elt F) arg2.view f1) 3) (bx2 (View.read (Elt F) arg3.view f2)) (bx3 (View.read (Elt F) arg4.view f3) 3) (bx4 (View.read (Elt F) arg5.view f4) 3) := by rfl
    have S : run_A.sl.r_123 c arg1 arg2 arg3 arg4 arg5 f0 f1 f2 f3 f4 = sTot (View.read (Elt F) arg1.view f0) (View.read (Elt F) arg2.view f1) (View.read (Elt F) arg3.view f2) (View.read (Elt F) arg4.view f3) (View.read (Elt F) arg5.view f4) := by rfl
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; exact (View.read_writes_full arg6.view f5 inb_S8x128_S8x128_0_0 _ []).trans S
    isplitl [HS0]
    · iexists _; isplitr; swap; · iexact HS0
      ipureintro; refine read_rows arg7.view fs0 (i 0).val (off1_eq i 0) (off1_eq i 1) (off1_eq i 2) (off1_eq i 3) rfl _ _ _ _ _ (heq_of_eq L0) (heq_of_eq L1) (heq_of_eq L2) (heq_of_eq L3)
    iexists _; isplitr; swap; · iexact HS1
    ipureintro; refine read_rows arg8.view fs1 (i 0).val (off2_eq i 0) (off2_eq i 1) (off2_eq i 2) (off2_eq i 3) rfl _ _ _ _ _ (heq_of_eq N0) (heq_of_eq N1) (heq_of_eq N2) (heq_of_eq N3)

end Cert.KernelIdeal.Run

end
-- ==== Proof.KernelRunB.lean ====
/- The kernel's body at one kind of point (a middle one): what it leaves in the output and in the scratch. -/
module

public import proofs.«01_k».proof.Proof.Gen.KernelIdeal.Frame
public import proofs.«01_k».proof.Proof.KernelBatch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body at a middle point: the step's sums are added to the output; the scratch rows of
    the step's four batches are written, the others kept. -/
theorem run_B (c : Dev nD) (i : grid0.Coords) (arg1 : Memref sig .tc .vmem S4x8x128 .f32) (harg1 : arg1.IsWhole) (arg2 : Memref sig .tc .vmem S4x8x128 .f32) (harg2 : arg2.IsWhole) (arg3 : Memref sig .tc .vmem S16x8832 .f32) (harg3 : arg3.IsWhole) (arg4 : Memref sig .tc .vmem S4x4x8832 .f32) (harg4 : arg4.IsWhole) (arg5 : Memref sig .tc .vmem S4x21x8832 .f32) (harg5 : arg5.IsWhole) (arg6 : Memref sig .tc .vmem S8x128 .f32) (harg6 : arg6.IsWhole) (arg7 : Memref sig .tc .vmem S16x8832 .f32) (harg7 : arg7.IsWhole) (arg8 : Memref sig .tc .vmem S16x128 .f32) (harg8 : arg8.IsWhole) (hc0 : ¬cond0_0 i) (hc1 : cond0_1 i) (hc2 : ¬cond0_2 i)
    (x0 : Vec F S4x8x128 .f32) (x1 : Vec F S4x8x128 .f32) (x2 : Vec F S16x8832 .f32) (x3 : Vec F S4x4x8832 .f32) (x4 : Vec F S4x21x8832 .f32) (x5 : Vec F S8x128 .f32) (d7 : Vec F S16x8832 .f32) (d8 : Vec F S16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 (sTot x0 x1 x2 x3 x4) x5) ∗ owns (c : Thread nD τ) arg7 fullShare (rows (i 0).val d7 (sLg x0 x1 x2 x4)) ∗ owns (c : Thread nD τ) arg8 fullShare (rows (i 0).val d8 (sNp x0 x1 x2 x3 x4))) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8) K := by
    intro E K
    simp only [cc0__mbl_kernel_eq_skeleton]; unfold cc0__mbl_kernel_skel
    simp only [k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
    subst hf0; subst hf1; subst hf2; subst hf3; subst hf4; subst hs0; subst hs1
    subst hf5
    sl_exec (disch := first | sl_exact hc0 | sl_exact hc1 | sl_exact hc2)
    sl_step
    have L0 : k0_pay54 run_B.sl.v65 (run_B.sl.r_20 c arg1 arg2 arg3 f0 f1 f2) (View.readAt (Elt F) arg5.view (Rect.unit (s := S4x21x8832) ![0, 0, 0] S1x21x8832.size inb_S4x21x8832_S1x21x8832_0_0_0).toLoadRect f4) = bLg (bx0 (View.read (Elt F) arg1.view f0) 0) (bx0 (View.read (Elt F) arg2.view f1) 0) (bx2 (View.read (Elt F) arg3.view f2)) (bx4 (View.read (Elt F) arg5.view f4) 0) := by rfl
    have L1 : k0_pay101 run_B.sl.v65 (run_B.sl.r_52 c arg1 arg2 arg3 f0 f1 f2) (View.readAt (Elt F) arg5.view (Rect.unit (s := S4x21x8832) ![1, 0, 0] S1x21x8832.size inb_S4x21x8832_S1x21x8832_1_0_0).toLoadRect f4) = bLg (bx0 (View.read (Elt F) arg1.view f0) 1) (bx0 (View.read (Elt F) arg2.view f1) 1) (bx2 (View.read (Elt F) arg3.view f2)) (bx4 (View.read (Elt F) arg5.view f4) 1) := by rfl
    have L2 : k0_pay141 run_B.sl.v65 (run_B.sl.r_82 c arg1 arg2 arg3 f0 f1 f2) (View.readAt (Elt F) arg5.view (Rect.unit (s := S4x21x8832) ![2, 0, 0] S1x21x8832.size inb_S4x21x8832_S1x21x8832_2_0_0).toLoadRect f4) = bLg (bx0 (View.read (Elt F) arg1.view f0) 2) (bx0 (View.read (Elt F) arg2.view f1) 2) (bx2 (View.read (Elt F) arg3.view f2)) (bx4 (View.read (Elt F) arg5.view f4) 2) := by rfl
    have L3 : k0_pay187 (run_B.sl.r_121 c arg1 arg2 arg3 f0 f1 f2) (run_B.sl.r_122 c arg5 f4) run_B.sl.cst_253 = bLg (bx0 (View.read (Elt F) arg1.view f0) 3) (bx0 (View.read (Elt F) arg2.view f1) 3) (bx2 (View.read (Elt F) arg3.view f2)) (bx4 (View.read (Elt F) arg5.view f4) 3) := by rfl
    have N0 : k0_pay56 (run_B.sl.r_19 c arg1 arg2 arg3 f0 f1 f2) (run_B.sl.r_21 c arg1 arg2 arg3 f0 f1 f2) (run_B.sl.r_27 c arg1 arg2 arg3 arg4 f0 f1 f2 f3) (View.readAt (Elt F) arg5.view (Rect.unit (s := S4x21x8832) ![0, 0, 0] S1x21x8832.size inb_S4x21x8832_S1x21x8832_0_0_0).toLoadRect f4) = bNp (bx0 (View.read (Elt F) arg1.view f0) 0) (bx0 (View.read (Elt F) arg2.view f1) 0) (bx2 (View.read (Elt F) arg3.view f2)) (bx3 (View.read (Elt F) arg4.view f3) 0) (bx4 (View.read (Elt F) arg5.view f4) 0) := by rfl
    have N1 : k0_pay104 (run_B.sl.r_63 c arg1 arg2 arg3 arg4 arg5 f0 f1 f2 f3 f4) = bNp (bx0 (View.read (Elt F) arg1.view f0) 1) (bx0 (View.read (Elt F) arg2.view f1) 1) (bx2 (View.read (Elt F) arg3.view f2)) (bx3 (View.read (Elt F) arg4.view f3) 1) (bx4 (View.read (Elt F) arg5.view f4) 1) := by rfl
    have N2 : k0_pay143 (run_B.sl.r_83 c arg1 arg2 arg3 f0 f1 f2) (run_B.sl.r_88 c arg1 arg2 arg3 arg4 f0 f1 f2 f3) (run_B.sl.r_89 c arg1 arg2 arg3 arg5 f0 f1 f2 f4) = bNp (bx0 (View.read (Elt F) arg1.view f0) 2) (bx0 (View.read (Elt F) arg2.view f1) 2) (bx2 (View.read (Elt F) arg3.view f2)) (bx3 (View.read (Elt F) arg4.view f3) 2) (bx4 (View.read (Elt F) arg5.view f4) 2) := by rfl
    have N3 : k0_pay189 (run_B.sl.r_113 c arg1 arg2 arg3 f0 f1 f2) (run_B.sl.r_119 c arg1 arg2 arg3 arg4 f0 f1 f2 f3) (run_B.sl.r_120 c arg1 arg2 arg3 arg5 f0 f1 f2 f4) = bNp (bx0 (View.read (Elt F) arg1.view f0) 3) (bx0 (View.read (Elt F) arg2.view f1) 3) (bx2 (View.read (Elt F) arg3.view f2)) (bx3 (View.read (Elt F) arg4.view f3) 3) (bx4 (View.read (Elt F) arg5.view f4) 3) := by rfl
    have S : run_B.sl.r_123 c arg1 arg2 arg3 arg4 arg5 f0 f1 f2 f3 f4 = sTot (View.read (Elt F) arg1.view f0) (View.read (Elt F) arg2.view f1) (View.read (Elt F) arg3.view f2) (View.read (Elt F) arg4.view f3) (View.read (Elt F) arg5.view f4) := by rfl
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; refine (View.read_writes_full arg6.view f5 inb_S8x128_S8x128_0_0 _ []).trans (congrArg₂ k0_pay1 S ?_)
      exact View.readAt_full arg6.view f5 inb_S8x128_S8x128_0_0
    isplitl [HS0]
    · iexists _; isplitr; swap; · iexact HS0
      ipureintro; refine read_rows arg7.view fs0 (i 0).val (off1_eq i 0) (off1_eq i 1) (off1_eq i 2) (off1_eq i 3) rfl _ _ _ _ _ (heq_of_eq L0) (heq_of_eq L1) (heq_of_eq L2) (heq_of_eq L3)
    iexists _; isplitr; swap; · iexact HS1
    ipureintro; refine read_rows arg8.view fs1 (i 0).val (off2_eq i 0) (off2_eq i 1) (off2_eq i 2) (off2_eq i 3) rfl _ _ _ _ _ (heq_of_eq N0) (heq_of_eq N1) (heq_of_eq N2) (heq_of_eq N3)

end Cert.KernelIdeal.Run

end
-- ==== Proof.KernelRunC.lean ====
/- The kernel's body at one kind of point (the last): what it leaves in the output and in the scratch. -/
module

public import proofs.«01_k».proof.Proof.Gen.KernelIdeal.Frame
public import proofs.«01_k».proof.Proof.KernelBatch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body at the last point: the sums are added, then the mined losses; the scratch rows of
    the step's four batches are written, the others kept. -/
theorem run_C (c : Dev nD) (i : grid0.Coords) (arg1 : Memref sig .tc .vmem S4x8x128 .f32) (harg1 : arg1.IsWhole) (arg2 : Memref sig .tc .vmem S4x8x128 .f32) (harg2 : arg2.IsWhole) (arg3 : Memref sig .tc .vmem S16x8832 .f32) (harg3 : arg3.IsWhole) (arg4 : Memref sig .tc .vmem S4x4x8832 .f32) (harg4 : arg4.IsWhole) (arg5 : Memref sig .tc .vmem S4x21x8832 .f32) (harg5 : arg5.IsWhole) (arg6 : Memref sig .tc .vmem S8x128 .f32) (harg6 : arg6.IsWhole) (arg7 : Memref sig .tc .vmem S16x8832 .f32) (harg7 : arg7.IsWhole) (arg8 : Memref sig .tc .vmem S16x128 .f32) (harg8 : arg8.IsWhole) (hc0 : ¬cond0_0 i) (hc1 : cond0_1 i) (hc2 : cond0_2 i)
    (x0 : Vec F S4x8x128 .f32) (x1 : Vec F S4x8x128 .f32) (x2 : Vec F S16x8832 .f32) (x3 : Vec F S4x4x8832 .f32) (x4 : Vec F S4x21x8832 .f32) (x5 : Vec F S8x128 .f32) (d7 : Vec F S16x8832 .f32) (d8 : Vec F S16x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fin (rows (i 0).val d7 (sLg x0 x1 x2 x4)) (rows (i 0).val d8 (sNp x0 x1 x2 x3 x4)) (k0_pay1 (sTot x0 x1 x2 x3 x4) x5)) ∗ owns (c : Thread nD τ) arg7 fullShare (rows (i 0).val d7 (sLg x0 x1 x2 x4)) ∗ owns (c : Thread nD τ) arg8 fullShare (rows (i 0).val d8 (sNp x0 x1 x2 x3 x4))) -∗ K ⟨⟩))
          ⊢ wp frame (wpE (defs₀ (F := F)) Variants.none c none) E (cc0__mbl_kernel i arg1 harg1 arg2 harg2 arg3 harg3 arg4 harg4 arg5 harg5 arg6 harg6 arg7 harg7 arg8 harg8) K := by
    intro E K
    simp only [cc0__mbl_kernel_eq_skeleton]; unfold cc0__mbl_kernel_skel
    simp only [k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
    subst hf0; subst hf1; subst hf2; subst hf3; subst hf4; subst hs0; subst hs1
    subst hf5
    sl_exec (disch := first | sl_exact hc0 | sl_exact hc1 | sl_exact hc2)
    sl_step
    have L0 : k0_pay54 run_C.sl.v65 (run_C.sl.r_20 c arg1 arg2 arg3 f0 f1 f2) (View.readAt (Elt F) arg5.view (Rect.unit (s := S4x21x8832) ![0, 0, 0] S1x21x8832.size inb_S4x21x8832_S1x21x8832_0_0_0).toLoadRect f4) = bLg (bx0 (View.read (Elt F) arg1.view f0) 0) (bx0 (View.read (Elt F) arg2.view f1) 0) (bx2 (View.read (Elt F) arg3.view f2)) (bx4 (View.read (Elt F) arg5.view f4) 0) := by rfl
    have L1 : k0_pay101 run_C.sl.v65 (run_C.sl.r_52 c arg1 arg2 arg3 f0 f1 f2) (View.readAt (Elt F) arg5.view (Rect.unit (s := S4x21x8832) ![1, 0, 0] S1x21x8832.size inb_S4x21x8832_S1x21x8832_1_0_0).toLoadRect f4) = bLg (bx0 (View.read (Elt F) arg1.view f0) 1) (bx0 (View.read (Elt F) arg2.view f1) 1) (bx2 (View.read (Elt F) arg3.view f2)) (bx4 (View.read (Elt F) arg5.view f4) 1) := by rfl
    have L2 : k0_pay141 run_C.sl.v65 (run_C.sl.r_82 c arg1 arg2 arg3 f0 f1 f2) (View.readAt (Elt F) arg5.view (Rect.unit (s := S4x21x8832) ![2, 0, 0] S1x21x8832.size inb_S4x21x8832_S1x21x8832_2_0_0).toLoadRect f4) = bLg (bx0 (View.read (Elt F) arg1.view f0) 2) (bx0 (View.read (Elt F) arg2.view f1) 2) (bx2 (View.read (Elt F) arg3.view f2)) (bx4 (View.read (Elt F) arg5.view f4) 2) := by rfl
    have L3 : k0_pay187 (run_C.sl.r_121 c arg1 arg2 arg3 f0 f1 f2) (run_C.sl.r_122 c arg5 f4) run_C.sl.cst_253 = bLg (bx0 (View.read (Elt F) arg1.view f0) 3) (bx0 (View.read (Elt F) arg2.view f1) 3) (bx2 (View.read (Elt F) arg3.view f2)) (bx4 (View.read (Elt F) arg5.view f4) 3) := by rfl
    have N0 : k0_pay56 (run_C.sl.r_19 c arg1 arg2 arg3 f0 f1 f2) (run_C.sl.r_21 c arg1 arg2 arg3 f0 f1 f2) (run_C.sl.r_27 c arg1 arg2 arg3 arg4 f0 f1 f2 f3) (View.readAt (Elt F) arg5.view (Rect.unit (s := S4x21x8832) ![0, 0, 0] S1x21x8832.size inb_S4x21x8832_S1x21x8832_0_0_0).toLoadRect f4) = bNp (bx0 (View.read (Elt F) arg1.view f0) 0) (bx0 (View.read (Elt F) arg2.view f1) 0) (bx2 (View.read (Elt F) arg3.view f2)) (bx3 (View.read (Elt F) arg4.view f3) 0) (bx4 (View.read (Elt F) arg5.view f4) 0) := by rfl
    have N1 : k0_pay104 (run_C.sl.r_63 c arg1 arg2 arg3 arg4 arg5 f0 f1 f2 f3 f4) = bNp (bx0 (View.read (Elt F) arg1.view f0) 1) (bx0 (View.read (Elt F) arg2.view f1) 1) (bx2 (View.read (Elt F) arg3.view f2)) (bx3 (View.read (Elt F) arg4.view f3) 1) (bx4 (View.read (Elt F) arg5.view f4) 1) := by rfl
    have N2 : k0_pay143 (run_C.sl.r_83 c arg1 arg2 arg3 f0 f1 f2) (run_C.sl.r_88 c arg1 arg2 arg3 arg4 f0 f1 f2 f3) (run_C.sl.r_89 c arg1 arg2 arg3 arg5 f0 f1 f2 f4) = bNp (bx0 (View.read (Elt F) arg1.view f0) 2) (bx0 (View.read (Elt F) arg2.view f1) 2) (bx2 (View.read (Elt F) arg3.view f2)) (bx3 (View.read (Elt F) arg4.view f3) 2) (bx4 (View.read (Elt F) arg5.view f4) 2) := by rfl
    have N3 : k0_pay189 (run_C.sl.r_113 c arg1 arg2 arg3 f0 f1 f2) (run_C.sl.r_119 c arg1 arg2 arg3 arg4 f0 f1 f2 f3) (run_C.sl.r_120 c arg1 arg2 arg3 arg5 f0 f1 f2 f4) = bNp (bx0 (View.read (Elt F) arg1.view f0) 3) (bx0 (View.read (Elt F) arg2.view f1) 3) (bx2 (View.read (Elt F) arg3.view f2)) (bx3 (View.read (Elt F) arg4.view f3) 3) (bx4 (View.read (Elt F) arg5.view f4) 3) := by rfl
    have S : run_C.sl.r_123 c arg1 arg2 arg3 arg4 arg5 f0 f1 f2 f3 f4 = sTot (View.read (Elt F) arg1.view f0) (View.read (Elt F) arg2.view f1) (View.read (Elt F) arg3.view f2) (View.read (Elt F) arg4.view f3) (View.read (Elt F) arg5.view f4) := by rfl
    have V7 : View.read (Elt F) arg7.view (arg7.view.writes (Elt F) fs0 (run_C.sl.HS0_4 c i arg1 arg2 arg3 arg5 f0 f1 f2 f4)) = rows (i 0).val (View.read (Elt F) arg7.view fs0) (sLg (View.read (Elt F) arg1.view f0) (View.read (Elt F) arg2.view f1) (View.read (Elt F) arg3.view f2) (View.read (Elt F) arg5.view f4)) := read_rows arg7.view fs0 (i 0).val (off1_eq i 0) (off1_eq i 1) (off1_eq i 2) (off1_eq i 3) rfl _ _ _ _ _ (heq_of_eq L0) (heq_of_eq L1) (heq_of_eq L2) (heq_of_eq L3)
    have V8 : View.read (Elt F) arg8.view (arg8.view.writes (Elt F) fs1 (run_C.sl.HS1_4 c i arg1 arg2 arg3 arg4 arg5 f0 f1 f2 f3 f4)) = rows (i 0).val (View.read (Elt F) arg8.view fs1) (sNp (View.read (Elt F) arg1.view f0) (View.read (Elt F) arg2.view f1) (View.read (Elt F) arg3.view f2) (View.read (Elt F) arg4.view f3) (View.read (Elt F) arg5.view f4)) := read_rows arg8.view fs1 (i 0).val (off2_eq i 0) (off2_eq i 1) (off2_eq i 2) (off2_eq i 3) rfl _ _ _ _ _ (heq_of_eq N0) (heq_of_eq N1) (heq_of_eq N2) (heq_of_eq N3)
    have T : run_C.sl.r_125 c i arg1 arg2 arg3 arg4 arg5 arg7 arg8 f0 f1 f2 f3 f4 fs0 fs1 = topk (rows (i 0).val (View.read (Elt F) arg7.view fs0) (sLg (View.read (Elt F) arg1.view f0) (View.read (Elt F) arg2.view f1) (View.read (Elt F) arg3.view f2) (View.read (Elt F) arg5.view f4))) (rows (i 0).val (View.read (Elt F) arg8.view fs1) (sNp (View.read (Elt F) arg1.view f0) (View.read (Elt F) arg2.view f1) (View.read (Elt F) arg3.view f2) (View.read (Elt F) arg4.view f3) (View.read (Elt F) arg5.view f4))) := by
      show topk (View.readAt (Elt F) arg7.view (Rect.unit (s := S16x8832) ![0, 0] S16x8832.size inb_S16x8832_S16x8832_0_0).toLoadRect (arg7.view.writes (Elt F) fs0 (run_C.sl.HS0_4 c i arg1 arg2 arg3 arg5 f0 f1 f2 f4))) (View.readAt (Elt F) arg8.view (Rect.unit (s := S16x128) ![0, 0] S16x128.size inb_S16x128_S16x128_0_0).toLoadRect (arg8.view.writes (Elt F) fs1 (run_C.sl.HS1_4 c i arg1 arg2 arg3 arg4 arg5 f0 f1 f2 f3 f4))) = _
      rw [View.readAt_full, View.readAt_full, V7, V8]
    have W : run_C.sl.v998 c arg1 arg2 arg3 arg4 arg5 arg6 f0 f1 f2 f3 f4 f5 = k0_pay1 (sTot (View.read (Elt F) arg1.view f0) (View.read (Elt F) arg2.view f1) (View.read (Elt F) arg3.view f2) (View.read (Elt F) arg4.view f3) (View.read (Elt F) arg5.view f4)) (View.read (Elt F) arg6.view f5) := by
      exact (View.readCov_full arg6.view inb_S8x128_S8x128_0_0 inb_S8x128_S8x128_0_0 _ []).trans (congrArg₂ k0_pay1 S (View.readAt_full arg6.view f5 inb_S8x128_S8x128_0_0))
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; refine (View.read_writes_full arg6.view f5 inb_S8x128_S8x128_0_0 _ _).trans ?_
      exact congrArg₂ (fun a b => k0_pay2 (iota .tc S8x128 32 [1] iota_S8x128_d1_w32) a (k0_pay11 b) k0_pay12) T W
    isplitl [HS0]
    · iexists _; isplitr; swap; · iexact HS0
      ipureintro; exact V7
    iexists _; isplitr; swap; · iexact HS1
    ipureintro; exact V8

end Cert.KernelIdeal.Run

end
-- ==== Proof.KernelRun.lean ====
/- The run of the whole kernel at any values: the four grid points in order, with what the output block and the two
   scratch arrays hold after each of them named, and what @main's results then are. -/
module

public import proofs.«01_k».proof.Proof.Gen.KernelIdeal.Frame
public import proofs.«01_k».proof.Proof.KernelBatch
public import proofs.«01_k».proof.Proof.KernelRunA
public import proofs.«01_k».proof.Proof.KernelRunB
public import proofs.«01_k».proof.Proof.KernelRunC
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- A grid point by its number. -/
def pt (n : ℕ) : Fin cfg0.N := ⟨n % 4, by rw [show cfg0.N = 4 from N_0]; omega⟩

theorem pt_val (t : Fin cfg0.N) : pt t.val = t := by
  apply Fin.ext; unfold pt; have := lt_of_lt_of_eq t.isLt (show cfg0.N = 4 from N_0); dsimp only; omega

/-- The three rows of sums point `n`'s four batches come to. -/
def tot (c : Dev nD) (n : ℕ) : Vec F S8x128 .f32 :=
  sTot (iblk m c 0 (pt n)) (iblk m c 1 (pt n)) (iblk m c 2 (pt n)) (iblk m c 3 (pt n)) (iblk m c 4 (pt n))

/-- Their running sum over the points. -/
def acc (c : Dev nD) : ℕ → Vec F S8x128 .f32
  | 0 => tot m c 0
  | n + 1 => k0_pay1 (tot m c (n + 1)) (acc c n)

/-- The scratch array of confidence losses with all sixteen rows written: batch `4 n + u`'s row is the one point `n` computes. -/
def LG (c : Dev nD) : Vec F S16x8832 .f32 := fun y =>
  sLg (iblk m c 0 (pt ((y 0).val / 4))) (iblk m c 1 (pt ((y 0).val / 4))) (iblk m c 2 (pt ((y 0).val / 4))) (iblk m c 4 (pt ((y 0).val / 4)))
    ⟨(y 0).val % 4, Nat.mod_lt _ (by decide)⟩ (ix2 0 (y 1))

/-- The scratch array of positive counts, likewise. -/
def NP (c : Dev nD) : Vec F S16x128 .f32 := fun y =>
  sNp (iblk m c 0 (pt ((y 0).val / 4))) (iblk m c 1 (pt ((y 0).val / 4))) (iblk m c 2 (pt ((y 0).val / 4))) (iblk m c 3 (pt ((y 0).val / 4))) (iblk m c 4 (pt ((y 0).val / 4)))
    ⟨(y 0).val % 4, Nat.mod_lt _ (by decide)⟩ (ix2 0 (y 1))

/-- The output block after point `n`: the running sum, to which the last point adds the hard negatives. -/
def out (c : Dev nD) (n : ℕ) : Vec F S8x128 .f32 :=
  if n = 3 then fin (LG m c) (NP m c) (acc m c 3) else acc m c n

/-- The scratch arrays' first `4 n` rows are written. -/
def Upto (c : Dev nD) (n : ℕ) (d7 : Vec F S16x8832 .f32) (d8 : Vec F S16x128 .f32) : Prop :=
  (∀ y, (y 0).val < 4 * n → d7 y = LG m c y) ∧ (∀ y, (y 0).val < 4 * n → d8 y = NP m c y)

theorem coords_val (t : Fin cfg0.N) : ((grid0.coords t) 0).val = t.val := by
  have hN : t.val < 4 := lt_of_lt_of_eq t.isLt (show cfg0.N = 4 from N_0)
  have e0 : (grid0.coords t 0).val = t.val / 1 % 4 := Pipeline.Grid.coords_val t 0 (by decide) rfl
  omega

/-- The output is stored at every point. -/
theorem live0_5 (i : grid0.Coords) : cfg0.idle 5 i = false := by
  have h4 : (i 0).val < 4 := (i 0).isLt
  have h : k0_cond1 i = 1#1 ∨ k0_cond2 i = 1#1 := by
    by_cases h0 : (i 0).val = 0
    · left; simp only [k0_cond1]; word_cmp
    · right; simp only [k0_cond2]; word_cmp
  show (!(k0_cond1 i == 1#1) && !(k0_cond2 i == 1#1) && !(k0_cond3 i == 1#1)) = false
  rcases h with h | h <;> rw [h] <;> simp

theorem upto_succ (c : Dev nD) (t : Fin cfg0.N) {d7 : Vec F S16x8832 .f32} {d8 : Vec F S16x128 .f32} (h : Upto m c t.val d7 d8) :
    Upto m c (t.val + 1) (rows ((grid0.coords t) 0).val d7 (sLg (iblk m c 0 t) (iblk m c 1 t) (iblk m c 2 t) (iblk m c 4 t)))
      (rows ((grid0.coords t) 0).val d8 (sNp (iblk m c 0 t) (iblk m c 1 t) (iblk m c 2 t) (iblk m c 3 t) (iblk m c 4 t))) := by
  rw [coords_val]
  constructor
  · intro y hy
    unfold rows
    by_cases hb : 4 * t.val ≤ (y 0).val
    · have e : pt ((y 0).val / 4) = t := by rw [show (y 0).val / 4 = t.val by omega, pt_val]
      have e2 : (⟨(y 0).val % 4, Nat.mod_lt _ (by decide)⟩ : Fin 4) = ⟨(y 0).val - 4 * t.val, by omega⟩ := Fin.ext (by dsimp only; omega)
      rw [dif_pos ⟨hb, by omega⟩]; unfold LG; rw [e, e2]
    · rw [dif_neg (fun hh => hb hh.1)]; exact h.1 y (by omega)
  · intro y hy
    unfold rows
    by_cases hb : 4 * t.val ≤ (y 0).val
    · have e : pt ((y 0).val / 4) = t := by rw [show (y 0).val / 4 = t.val by omega, pt_val]
      have e2 : (⟨(y 0).val % 4, Nat.mod_lt _ (by decide)⟩ : Fin 4) = ⟨(y 0).val - 4 * t.val, by omega⟩ := Fin.ext (by dsimp only; omega)
      rw [dif_pos ⟨hb, by omega⟩]; unfold NP; rw [e, e2]
    · rw [dif_neg (fun hh => hb hh.1)]; exact h.2 y (by omega)

theorem tot_pt (c : Dev nD) (t : Fin cfg0.N) :
    sTot (iblk m c 0 t) (iblk m c 1 t) (iblk m c 2 t) (iblk m c 3 t) (iblk m c 4 t) = tot m c t.val := by
  unfold tot; rw [pt_val]

theorem out_A (c : Dev nD) (t : Fin cfg0.N) (h : t.val = 0) :
    out m c t.val = sTot (iblk m c 0 t) (iblk m c 1 t) (iblk m c 2 t) (iblk m c 3 t) (iblk m c 4 t) := by
  rw [tot_pt, h]; rfl

theorem out_B (c : Dev nD) (t : Fin cfg0.N) (h : 1 ≤ t.val) (h3 : t.val < 3) :
    out m c t.val = k0_pay1 (sTot (iblk m c 0 t) (iblk m c 1 t) (iblk m c 2 t) (iblk m c 3 t) (iblk m c 4 t)) (out m c (t.val - 1)) := by
  rw [tot_pt]
  obtain ⟨n, hn⟩ : ∃ n, t.val = n + 1 := ⟨t.val - 1, by omega⟩
  rw [hn]; unfold out; rw [if_neg (by omega), if_neg (by omega)]; rfl

theorem out_C (c : Dev nD) (t : Fin cfg0.N) (h : t.val = 3) {d7 : Vec F S16x8832 .f32} {d8 : Vec F S16x128 .f32} (hI : Upto m c t.val d7 d8) :
    out m c t.val = fin (rows ((grid0.coords t) 0).val d7 (sLg (iblk m c 0 t) (iblk m c 1 t) (iblk m c 2 t) (iblk m c 4 t)))
      (rows ((grid0.coords t) 0).val d8 (sNp (iblk m c 0 t) (iblk m c 1 t) (iblk m c 2 t) (iblk m c 3 t) (iblk m c 4 t)))
      (k0_pay1 (sTot (iblk m c 0 t) (iblk m c 1 t) (iblk m c 2 t) (iblk m c 3 t) (iblk m c 4 t)) (out m c (t.val - 1))) := by
  have hs := upto_succ m c t hI
  rw [tot_pt]
  have e1 : ∀ d, (∀ y : S16x8832.Idx, (y 0).val < 4 * (t.val + 1) → d y = LG m c y) → d = LG m c := fun d hd =>
    funext fun y => hd y (by have : (y 0).val < 16 := (y 0).isLt; omega)
  have e2 : ∀ d, (∀ y : S16x128.Idx, (y 0).val < 4 * (t.val + 1) → d y = NP m c y) → d = NP m c := fun d hd =>
    funext fun y => hd y (by have : (y 0).val < 16 := (y 0).isLt; omega)
  rw [e1 _ hs.1, e2 _ hs.2, h]; rfl

/-! ## The pipeline's proof data -/

/-- The proof data on core `c`: each input's buffer at its block, the output's at `out`; between points the scratch rows
    written so far are the named ones. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t.val
  Φ t := iprop(∃ d7 d8, ⌜Upto m c t.val d7 d8⌝ ∗ owns (c : Thread nD τ) scM0_0 fullShare d7 ∗ owns (c : Thread nD τ) scM0_1 fullShare d8 ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output's buffer after the first point holds what the point before left. -/
theorem before0_5 (c : Dev nD) (t : Fin cfg0.N) (ht : 1 ≤ t.val) (d) : (dats m 0 c).before 5 t d = out m c (t.val - 1) := by
  have hN : t.val < 4 := lt_of_lt_of_eq t.isLt (show cfg0.N = 4 from N_0)
  rw [(dats m 0 c).before_out_kept 5 rfl t (by omega) (by
    rw [← Bool.not_eq_true]; intro h; have := (flush0_5 _).mp h; dsimp only at this; omega) live0_5 (fun _ _ => rfl) d, after0_5]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem Phi_castSucc (c : Dev nD) (t : Fin cfg0.N) : (dats m 0 c).Φ t.castSucc
    = iprop(∃ d7 d8, ⌜Upto m c t.val d7 d8⌝ ∗ owns (c : Thread nD τ) scM0_0 fullShare d7 ∗ owns (c : Thread nD τ) scM0_1 fullShare d8 ∗ (∃ r, prngReg c r)) := by
  dsimp only [dats]; rfl

theorem Phi_succ (c : Dev nD) (t : Fin cfg0.N) : (dats m 0 c).Φ t.succ
    = iprop(∃ d7 d8, ⌜Upto m c (t.val + 1) d7 d8⌝ ∗ owns (c : Thread nD τ) scM0_0 fullShare d7 ∗ owns (c : Thread nD τ) scM0_1 fullShare d8 ∗ (∃ r, prngReg c r)) := by
  dsimp only [dats]; rfl

set_option maxHeartbeats 2400000 in
/-- The body at any point: the runs of the three kinds of point, at the named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, Phi_castSucc, Phi_succ]
  have hN : t.val < 4 := lt_of_lt_of_eq t.isLt (show cfg0.N = 4 from N_0)
  by_cases h1 : 1 ≤ t.val
  · by_cases h2 : t.val % 4 = 3
    · skip
      simp only [before0_5 m c t (by omega)]
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [live0_5 _], after0_5]
      iintro ⟨⟨%d7, %d8, %hI, HS0, HS1, Hg⟩, Ho, ⟨%d0, H0⟩, ⟨%d1, H1⟩, ⟨%d2, H2⟩, ⟨%d3, H3⟩, ⟨%d4, H4⟩, ⟨%d5, H5⟩⟩
      iapply ((run_C c (grid0.coords t) _ _ _ _ _ _ _ _ _ _ _ _ _ _ _ _ (fun h => absurd ((hcond0_0 t).mp h) (by omega)) ((hcond0_1 t).mpr h1) ((hcond0_2 t).mpr h2) (iblk m c 0 t) (iblk m c 1 t) (iblk m c 2 t) (iblk m c 3 t) (iblk m c 4 t) (out m c (t.val - 1)) d7 d8) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists _; iexists _
        isplitr; · ipureintro; exact upto_succ m c t hI
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      rw [out_C m c t (by omega) hI]
      iexact H5
    · skip
      simp only [before0_5 m c t (by omega)]
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [live0_5 _], after0_5]
      iintro ⟨⟨%d7, %d8, %hI, HS0, HS1, Hg⟩, Ho, ⟨%d0, H0⟩, ⟨%d1, H1⟩, ⟨%d2, H2⟩, ⟨%d3, H3⟩, ⟨%d4, H4⟩, ⟨%d5, H5⟩⟩
      iapply ((run_B c (grid0.coords t) _ _ _ _ _ _ _ _ _ _ _ _ _ _ _ _ (fun h => absurd ((hcond0_0 t).mp h) (by omega)) ((hcond0_1 t).mpr h1) (fun h => h2 ((hcond0_2 t).mp h)) (iblk m c 0 t) (iblk m c 1 t) (iblk m c 2 t) (iblk m c 3 t) (iblk m c 4 t) (out m c (t.val - 1)) d7 d8) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists _; iexists _
        isplitr; · ipureintro; exact upto_succ m c t hI
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      rw [out_B m c t (by omega) (by omega)]
      iexact H5
  · skip
    rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [live0_5 _], after0_5]
    iintro ⟨⟨%d7, %d8, %hI, HS0, HS1, Hg⟩, Ho, ⟨%d0, H0⟩, ⟨%d1, H1⟩, ⟨%d2, H2⟩, ⟨%d3, H3⟩, ⟨%d4, H4⟩, ⟨%d5, H5⟩⟩
    iapply ((run_A c (grid0.coords t) _ _ _ _ _ _ _ _ _ _ _ _ _ _ _ _ ((hcond0_0 t).mpr (by omega)) (fun h => h1 ((hcond0_1 t).mp h)) (fun h => absurd ((hcond0_2 t).mp h) (by omega)) (iblk m c 0 t) (iblk m c 1 t) (iblk m c 2 t) (iblk m c 3 t) (iblk m c 4 t) d7 d8) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · iexists _; iexists _
      isplitr; · ipureintro; exact upto_succ m c t hI
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    rw [out_A m c t (by omega)]
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : Pipeline.ΦA spec0 c ⊢ (dats m 0 c).Φ 0 := by
  rw [PhiA0_eq, show (dats m 0 c).Φ 0 = iprop(∃ d7 d8, ⌜Upto m c 0 d7 d8⌝ ∗ owns (c : Thread nD τ) scM0_0 fullShare d7 ∗ owns (c : Thread nD τ) scM0_1 fullShare d8 ∗ (∃ r, prngReg c r)) from by dsimp only [dats]; rfl]
  iintro ⟨⟨⟨%d7, HS0⟩, ⟨%d8, HS1⟩⟩, Hg⟩
  iexists d7; iexists d8
  isplitr; · ipureintro; exact ⟨fun y h => absurd h (by omega), fun y h => absurd h (by omega)⟩
  isplitl [HS0]; · iexact HS0
  isplitl [HS1]; · iexact HS1
  iexact Hg

theorem Phi_out (c : Dev nD) : (dats m 0 c).Φ (Fin.last cfg0.N) ⊢ Pipeline.ΦA spec0 c := by
  rw [PhiA0_eq, show (dats m 0 c).Φ (Fin.last cfg0.N) = iprop(∃ d7 d8, ⌜Upto m c cfg0.N d7 d8⌝ ∗ owns (c : Thread nD τ) scM0_0 fullShare d7 ∗ owns (c : Thread nD τ) scM0_1 fullShare d8 ∗ (∃ r, prngReg c r)) from by dsimp only [dats]; rfl]
  iintro ⟨%d7, %d8, %hI, HS0, HS1, Hg⟩
  isplitl [HS0 HS1]
  · isplitl [HS0]
    · iexists d7; iexact HS0
    iexists d8; iexact HS1
  iexact Hg

/-! ## The run and the results -/

set_option backward.isDefEq.respectTransparency.types false in
set_option maxHeartbeats 800000 in
/-- The launch: every array and every other buffer at the end, and every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

end Cert.KernelIdeal.Run

end
-- ==== Proof.KernelOut.lean ====
/- What @main's results are, in terms of the last output block, at any values. -/
module

public import proofs.«01_k».proof.Proof.KernelRun
public import Idealize.ShloMosaic.Lib.Pipeline.Value
public import Idealize.ShloMosaic.Lib.Pointwise
public import Idealize.ShloMosaic.Lib.StableHlo.RunRead

@[expose] public section

set_option maxRecDepth 16384

noncomputable section

namespace Cert.KernelIdeal.Run

open Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The output array at the end is the last point's output block. -/
theorem arr_out (c : Dev nD) : (dats m 0 c).arrAt 5 cfg0.N = out m c 3 := by
  have hf : (cfg0.win 5).flush (pt 3) = true := (flush0_5 (pt 3)).mpr rfl
  have h := (dats m 0 c).read_blk_arrAt_eq_flushed 5 (fun t t' h h' hne => absurd (Fin.ext (by
    have h1 := (flush0_5 t).mp h; have h2 := (flush0_5 t').mp h'
    have b1 := lt_of_lt_of_eq t.isLt (show cfg0.N = 4 from N_0); have b2 := lt_of_lt_of_eq t'.isLt (show cfg0.N = 4 from N_0)
    omega)) hne) cfg0.N (pt 3) (pt 3).isLt hf
  have hfl : (dats m 0 c).flushed 5 (pt 3) = out m c 3 := rfl
  rw [hfl] at h
  rw [← h]
  funext i
  rw [View.read_apply]
  have e : ((cfg0.win 5).blk (pt 3)).view.emb i = i := by
    funext a
    apply Fin.ext
    refine Window.rect_emb_val_of_index_zero win0_5 (pt 3) a ?_ i
    revert a
    show ∀ a : Fin 2, win0_5.index (pt 3) a = 0
    intro a; fin_cases a <;> rfl
  rw [e]; rfl

/-- The sums at the head of the output block's first rows. -/
def o (c : Dev nD) (r : Fin 8) : Vec F S_ .f32 := fun _ => out m c 3 (ix2 r 0)

theorem head_0 (x : Vec F S8x128 .f32) (S : S1x1.ShapeCasts S_) : shapeCast S_ (extractStridedSlice S1x1 ![0, 0] x slices_S8x128_S1x1_0_0) S = fun _ => x (ix2 0 0) := by
  funext i; pointwise
theorem head_1 (x : Vec F S8x128 .f32) (S : S1x1.ShapeCasts S_) : shapeCast S_ (extractStridedSlice S1x1 ![1, 0] x slices_S8x128_S1x1_1_0) S = fun _ => x (ix2 1 0) := by
  funext i; pointwise
theorem head_2 (x : Vec F S8x128 .f32) (S : S1x1.ShapeCasts S_) : shapeCast S_ (extractStridedSlice S1x1 ![2, 0] x slices_S8x128_S1x1_2_0) S = fun _ => x (ix2 2 0) := by
  funext i; pointwise

set_option maxHeartbeats 800000 in
theorem tail_0 (c : Dev nD) : Pipeline.afterTail₀ cfgs (dats m) 0 (V0 m) [hostOps1] c main_v0_0 = Host.divf (o m c 0) (o m c 2) := by
  have hw := Pipeline.withArrays_arr spec0 (by decide) c (V0 m c) (fun w => (dats m 0 c).arrAt w cfg0.N) 5
  rw [arr_out] at hw
  unfold Pipeline.afterTail₀
  simp only [List.flatten_cons, List.flatten_nil, List.append_nil]
  generalize Pipeline.withArrays _ _ _ _ = W at hw ⊢
  change W (Proc.devRef .tc main_call0_v64) = _ at hw
  after_reads_simp
  rw [hw]
  change Host.divf (shapeCast S_ (extractStridedSlice S1x1 ![0, 0] (out m c 3) slices_S8x128_S1x1_0_0) shapeCasts_S1x1_S_)
    (shapeCast S_ (extractStridedSlice S1x1 ![2, 0] (out m c 3) slices_S8x128_S1x1_2_0) shapeCasts_S1x1_S_) = _
  rw [head_0, head_2]; rfl

set_option maxHeartbeats 800000 in
theorem tail_1 (c : Dev nD) : Pipeline.afterTail₀ cfgs (dats m) 0 (V0 m) [hostOps1] c main_v0_1 = Host.divf (o m c 1) (o m c 2) := by
  have hw := Pipeline.withArrays_arr spec0 (by decide) c (V0 m c) (fun w => (dats m 0 c).arrAt w cfg0.N) 5
  rw [arr_out] at hw
  unfold Pipeline.afterTail₀
  simp only [List.flatten_cons, List.flatten_nil, List.append_nil]
  generalize Pipeline.withArrays _ _ _ _ = W at hw ⊢
  change W (Proc.devRef .tc main_call0_v64) = _ at hw
  after_reads_simp
  rw [hw]
  change Host.divf (shapeCast S_ (extractStridedSlice S1x1 ![1, 0] (out m c 3) slices_S8x128_S1x1_1_0) shapeCasts_S1x1_S_)
    (shapeCast S_ (extractStridedSlice S1x1 ![2, 0] (out m c 3) slices_S8x128_S1x1_2_0) shapeCasts_S1x1_S_) = _
  rw [head_1, head_2]; rfl

/-- The run of @main: the results, and the arguments as they were. -/
theorem run : θ_run defs (onTc (τ := τ) (main (F := F))) ⟨m, fun _ => 0, ρ⟩ (fun r => ∀ c : Dev nD,
      r.2.mem ((c.tc : Thread nD τ).loc main_v0_0) = Host.divf (o m c 0) (o m c 2)
      ∧ r.2.mem ((c.tc : Thread nD τ).loc main_v0_1) = Host.divf (o m c 1) (o m c 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v0_0 (Pipeline.mem_restRefs_of main_v0_0 (by decide) (by decide))).trans (tail_0 m c),
      ((h.1 c).2 main_v0_1 (Pipeline.mem_restRefs_of main_v0_1 (by decide) (by decide))).trans (tail_1 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩) (run_main m ρ)

end Cert.KernelIdeal.Run

end
-- ==== Proof.KerHost.lean ====
/- What the blocks the kernel is given hold, entry by entry, over the extended reals. -/
module

public import proofs.«01_k».proof.Proof.KernelOut
public import Idealize.ShloMosaic.Lib.Pointwise
public import Idealize.ShloMosaic.Lib.Routing.OpsSet
public import Idealize.ShloMosaic.Lib.StableHlo.RunRead
public import Idealize.ShloMosaic.PureOps.Ideal.Laws

@[expose] public section

set_option maxRecDepth 16384

noncomputable section

namespace Cert.KernelIdeal.Run

open Cert.KernelIdeal.Gen
open Idealize.ShloMosaic Idealize.ShloMosaic.TcCoe Idealize.ShloMosaic.Tactic

variable (m : (ℓ : Loc nD τ sig) → Buf (Elt Ideal) ℓ) (c : Dev nD)

/-- The arguments as functions of their indices. -/
abbrev A0 : Vec Ideal S16x8732x4 .f32 := m ((c.tc : Thread nD τ).loc main_arg0)
abbrev A1 : Vec Ideal S16x8732x21 .f32 := m ((c.tc : Thread nD τ).loc main_arg1)
abbrev A2 : Vec Ideal S8732x4 .f32 := m ((c.tc : Thread nD τ).loc main_arg2)
abbrev A3 : Vec Ideal S16x8x4 .f32 := m ((c.tc : Thread nD τ).loc main_arg3)
abbrev A4 : IVec S16x8 32 := m ((c.tc : Thread nD τ).loc main_arg4)

theorem V_v2 : (V m c main_call0_v2 : Vec Ideal S16x8x128 .f32) =
    Host.scatter scatter_S16x8x128_S1_S16x8x4_012_n_2_0 (fun _ b => b) (broadcastInDim S16x8x128 ![] bcast_S_S16x8x128 (constant (F := Ideal) S_ .f32 0x00000000#32))
      (broadcastInDim S1 ![] bcast_S_S1 (constantI S_ 32 0#32)) (A3 m c) := by
  unfold V V0
  simp only [List.flatten_cons, List.flatten_nil, List.append_nil]
  after_reads_simp
  congr 1
theorem V_v7 : (V m c main_call0_v7 : Vec Ideal S16x8x128 .f32) =
    Host.scatter scatter_S16x8x128_S1_S16x8x1_012_n_2_0 (fun _ b => b) (broadcastInDim S16x8x128 ![] bcast_S_S16x8x128 (constant (F := Ideal) S_ .f32 0x00000000#32))
      (broadcastInDim S1 ![] bcast_S_S1 (constantI S_ 32 0#32)) (broadcastInDim S16x8x1 ![0, 1] bcast_S16x8_S16x8x1_0_1 (sitofp .f32 (A4 m c))) := by
  unfold V V0
  simp only [List.flatten_cons, List.flatten_nil, List.append_nil]
  after_reads_simp
  rfl
theorem V_v61 : (V m c main_call0_v61 : Vec Ideal S16x4x8832 .f32) =
    pad S16x4x8832 ![0, 0, 0] ![0, 0, 100] ![0, 0, 0] (transpose S16x4x8732 [0, 2, 1] (A0 m c) transposes_S16x8732x4_S16x4x8732_0_2_1) (sitofp (F := Ideal) .f32 (constantI S_ 32 0#32)) pads_S16x4x8732_S16x4x8832_000_000_01000 h_S_ := by
  unfold V V0
  simp only [List.flatten_cons, List.flatten_nil, List.append_nil]
  after_reads_simp
  rfl
theorem V_v63 : (V m c main_call0_v63 : Vec Ideal S16x21x8832 .f32) =
    pad S16x21x8832 ![0, 0, 0] ![0, 0, 100] ![0, 0, 0] (transpose S16x21x8732 [0, 2, 1] (A1 m c) transposes_S16x8732x21_S16x21x8732_0_2_1) (sitofp (F := Ideal) .f32 (constantI S_ 32 0#32)) pads_S16x21x8732_S16x21x8832_000_000_01000 h_S_ := by
  unfold V V0
  simp only [List.flatten_cons, List.flatten_nil, List.append_nil]
  after_reads_simp
  rfl

/-- The scatter of the boxes writes entry `(b, j, l)` at `(b, j, l)`. -/
theorem res2 (k : S16x8x4.Idx) (idx : IVec S1 32) (h : ∀ i, idx i = 0#32) :
    scatter_S16x8x128_S1_S16x8x4_012_n_2_0.resultIdx? k idx = some (ix3 (k 0) (k 1) ⟨(k 2).val, by have := (k 2).isLt; change _ < 4 at this; omega⟩) := by
  have hs : ∀ a, scatter_S16x8x128_S1_S16x8x4_012_n_2_0.start k idx a = 0 := by
    intro a; unfold ScatterDims.start; split
    · rw [h]; rfl
    · rfl
  have hw : ∀ a : Fin 3, scatter_S16x8x128_S1_S16x8x4_012_n_2_0.window k a = (k a).val := by
    intro a; fin_cases a <;> rfl
  unfold ScatterDims.resultIdx?
  rw [dif_pos]
  · congr 1
    funext a
    apply Fin.ext
    change (_ + ((_ : ℕ) : ℤ)).toNat = _
    rw [hs, hw a]
    revert a
    show ∀ a : Fin 3, _
    intro a
    fin_cases a <;> simp [ix3] <;> rfl
  · intro a
    rw [hs, hw a]
    refine ⟨by omega, ?_⟩
    revert a
    show ∀ a : Fin 3, _
    intro a
    have := (k a).isLt
    fin_cases a <;> simp [Shape.size] at this ⊢ <;> omega

theorem v2_at (b : Fin 16) (j : Fin 8) (l : Fin 4) : (V m c main_call0_v2 : Vec Ideal S16x8x128 .f32) (ix3 b j ⟨l.val, by omega⟩) = A3 m c (ix3 b j l) := by
  rw [V_v2]
  refine Routing.scatter_set_hit _ _ _ _ _ _ ?_ (ix3 b j l) ?_
  · intro k hk
    replace hk := (res2 k _ (by intro i; rfl)).symm.trans hk
    have h := Option.some.inj hk
    have h0 := congrFun h 0
    have h1 := congrFun h 1
    have h2 := congrArg Fin.val (congrFun h 2)
    have e : k = ix3 b j l := by
      funext a
      revert a
      show ∀ a : Fin 3, _
      intro a
      fin_cases a
      · exact h0
      · exact h1
      · exact Fin.ext h2
    rw [e]
  · exact res2 _ _ (by intro i; rfl)

/-- The scatter of the classes writes entry `(b, j, 0)` at `(b, j, 0)`. -/
theorem res7 (k : S16x8x1.Idx) (idx : IVec S1 32) (h : ∀ i, idx i = 0#32) :
    scatter_S16x8x128_S1_S16x8x1_012_n_2_0.resultIdx? k idx = some (ix3 (k 0) (k 1) ⟨(k 2).val, by have := (k 2).isLt; change _ < 1 at this; omega⟩) := by
  have hs : ∀ a, scatter_S16x8x128_S1_S16x8x1_012_n_2_0.start k idx a = 0 := by
    intro a; unfold ScatterDims.start; split
    · rw [h]; rfl
    · rfl
  have hw : ∀ a : Fin 3, scatter_S16x8x128_S1_S16x8x1_012_n_2_0.window k a = (k a).val := by
    intro a; fin_cases a <;> rfl
  unfold ScatterDims.resultIdx?
  rw [dif_pos]
  · congr 1
    funext a
    apply Fin.ext
    change (_ + ((_ : ℕ) : ℤ)).toNat = _
    rw [hs, hw a]
    revert a
    show ∀ a : Fin 3, _
    intro a
    fin_cases a <;> simp [ix3] <;> rfl
  · intro a
    rw [hs, hw a]
    refine ⟨by omega, ?_⟩
    revert a
    show ∀ a : Fin 3, _
    intro a
    have := (k a).isLt
    fin_cases a <;> simp [Shape.size] at this ⊢ <;> omega

theorem v7_at (b : Fin 16) (j : Fin 8) : (V m c main_call0_v7 : Vec Ideal S16x8x128 .f32) (ix3 b j 0) = ((((A4 m c (ix2 b j)).toInt : ℝ) : EReal)) := by
  rw [V_v7]
  refine Routing.scatter_set_hit _ _ _ _ _ _ ?_ (ix3 b j 0) ?_
  · intro k hk
    replace hk := (res7 k _ (by intro i; rfl)).symm.trans hk
    have h := Option.some.inj hk
    have h0 := congrFun h 0
    have h1 := congrFun h 1
    have e : k = ix3 b j (0 : Fin 1) := by
      funext a
      revert a
      show ∀ a : Fin 3, _
      intro a
      fin_cases a
      · exact h0
      · exact h1
      · exact Subsingleton.elim (α := Fin 1) _ _
    rw [e]
    pointwise
    rfl
  · exact res7 _ _ (by intro i; rfl)

theorem v61_at (b : Fin 16) (l : Fin 4) (p : Fin 8732) : (V m c main_call0_v61 : Vec Ideal S16x4x8832 .f32) (ix3 b l ⟨p.val, by omega⟩) = A0 m c (ix3 b p l) := by
  rw [V_v61]
  pointwise

/-- The four coordinates of a prior in rows, a hundred far-away priors at the end. -/
def q12 (a : Vec Ideal S8732x4 .f32) : Vec Ideal S4x8832 .f32 :=
  concatenate S4x8832 1 [⟨S4x8732, transpose S4x8732 [1, 0] a transposes_S8732x4_S4x8732_1_0⟩,
    ⟨S4x100, shapeCast S4x100 (broadcastInDim S1x4x100x1 ![0, 1, 2, 3] bcast_S1x4x1x1_S1x4x100x1_0_1_2_3
      (shapeCast S1x4x1x1 (fun i => FloatOps.ofBits (F := Ideal) .f32 (lit0 (S4x1.rowMajor i)) : Vec Ideal S4x1 .f32) shapeCasts_S4x1_S1x4x1x1)) shapeCasts_S1x4x100x1_S4x100⟩] concatenates_S4x8732_S4x100_S4x8832_d1
def q2 (w : BitVec 32) : FVec Ideal S8832 .f32 := broadcastInDim S8832 ![] bcast_S_S8832 (constant (F := Ideal) S_ .f32 w)
def qr0 (x : Vec Ideal S4x8832 .f32) : FVec Ideal S8832 .f32 := shapeCast S8832 (extractStridedSlice S1x8832 ![0, 0] x slices_S4x8832_S1x8832_0_0) shapeCasts_S1x8832_S8832
def qr1 (x : Vec Ideal S4x8832 .f32) : FVec Ideal S8832 .f32 := shapeCast S8832 (extractStridedSlice S1x8832 ![1, 0] x slices_S4x8832_S1x8832_1_0) shapeCasts_S1x8832_S8832
def qr2 (x : Vec Ideal S4x8832 .f32) : FVec Ideal S8832 .f32 := shapeCast S8832 (extractStridedSlice S1x8832 ![2, 0] x slices_S4x8832_S1x8832_2_0) shapeCasts_S1x8832_S8832
def qr3 (x : Vec Ideal S4x8832 .f32) : FVec Ideal S8832 .f32 := shapeCast S8832 (extractStridedSlice S1x8832 ![3, 0] x slices_S4x8832_S1x8832_3_0) shapeCasts_S1x8832_S8832
/-- The eleven rows the kernel reads for each prior. -/
def q59 (a : Vec Ideal S4x8832 .f32) : Vec Ideal S16x8832 .f32 :=
  concatenate S16x8832 0 [⟨S11x8832, concatenate S11x8832 0 [⟨S1x8832, broadcastInDim S1x8832 ![1] bcast_S8832_S1x8832_1 (subf (qr0 a) (Host.divf (qr2 a) (q2 (0x40000000#32))))⟩,
    ⟨S1x8832, broadcastInDim S1x8832 ![1] bcast_S8832_S1x8832_1 (subf (qr1 a) (Host.divf (qr3 a) (q2 (0x40000000#32))))⟩,
    ⟨S1x8832, broadcastInDim S1x8832 ![1] bcast_S8832_S1x8832_1 (addf (qr0 a) (Host.divf (qr2 a) (q2 (0x40000000#32))))⟩,
    ⟨S1x8832, broadcastInDim S1x8832 ![1] bcast_S8832_S1x8832_1 (addf (qr1 a) (Host.divf (qr3 a) (q2 (0x40000000#32))))⟩,
    ⟨S1x8832, broadcastInDim S1x8832 ![1] bcast_S8832_S1x8832_1 (mulf (subf (addf (qr0 a) (Host.divf (qr2 a) (q2 (0x40000000#32)))) (subf (qr0 a) (Host.divf (qr2 a) (q2 (0x40000000#32))))) (subf (addf (qr1 a) (Host.divf (qr3 a) (q2 (0x40000000#32)))) (subf (qr1 a) (Host.divf (qr3 a) (q2 (0x40000000#32))))))⟩,
    ⟨S1x8832, broadcastInDim S1x8832 ![1] bcast_S8832_S1x8832_1 (qr0 a)⟩,
    ⟨S1x8832, broadcastInDim S1x8832 ![1] bcast_S8832_S1x8832_1 (qr1 a)⟩,
    ⟨S1x8832, broadcastInDim S1x8832 ![1] bcast_S8832_S1x8832_1 (Host.divf (q2 (0x41200000#32)) (qr2 a))⟩,
    ⟨S1x8832, broadcastInDim S1x8832 ![1] bcast_S8832_S1x8832_1 (Host.divf (q2 (0x41200000#32)) (qr3 a))⟩,
    ⟨S1x8832, broadcastInDim S1x8832 ![1] bcast_S8832_S1x8832_1 (mulf (q2 (0x40A00000#32)) (Host.log (qr2 a)))⟩,
    ⟨S1x8832, broadcastInDim S1x8832 ![1] bcast_S8832_S1x8832_1 (mulf (q2 (0x40A00000#32)) (Host.log (qr3 a)))⟩] concatenates_S1x8832_S1x8832_S1x8832_S1x8832_S1x8832_S1x8832_S1x8832_S1x8832_S1x8832_S1x8832_S1x8832_S11x8832_d0⟩,
   ⟨S5x8832, broadcastInDim S5x8832 ![] bcast_S_S5x8832 (constant (F := Ideal) S_ .f32 0x00000000#32)⟩] concatenates_S11x8832_S5x8832_S16x8832_d0

theorem qr0_at (a : Vec Ideal S8732x4 .f32) (p : Fin 8832) : qr0 (q12 a) (ix1 p) = if h : p.val < 8732 then a (ix2 ⟨p.val, h⟩ 0) else Ideal.ofBits .f32 (lit0 0) := by
  unfold qr0 q12
  pointwise
  rfl

theorem qr1_at (a : Vec Ideal S8732x4 .f32) (p : Fin 8832) : qr1 (q12 a) (ix1 p) = if h : p.val < 8732 then a (ix2 ⟨p.val, h⟩ 1) else Ideal.ofBits .f32 (lit0 1) := by
  unfold qr1 q12
  pointwise
  rfl

theorem qr2_at (a : Vec Ideal S8732x4 .f32) (p : Fin 8832) : qr2 (q12 a) (ix1 p) = if h : p.val < 8732 then a (ix2 ⟨p.val, h⟩ 2) else Ideal.ofBits .f32 (lit0 2) := by
  unfold qr2 q12
  pointwise
  rfl

theorem qr3_at (a : Vec Ideal S8732x4 .f32) (p : Fin 8832) : qr3 (q12 a) (ix1 p) = if h : p.val < 8732 then a (ix2 ⟨p.val, h⟩ 3) else Ideal.ofBits .f32 (lit0 3) := by
  unfold qr3 q12
  pointwise
  rfl

theorem q59_0 (a : Vec Ideal S4x8832 .f32) (p : Fin 8832) : q59 a (ix2 0 p) = qr0 a (ix1 p) - Ideal.div (qr2 a (ix1 p)) (Ideal.ofBits .f32 0x40000000#32) := by
  unfold q59 q2
  pointwise
theorem q59_1 (a : Vec Ideal S4x8832 .f32) (p : Fin 8832) : q59 a (ix2 1 p) = qr1 a (ix1 p) - Ideal.div (qr3 a (ix1 p)) (Ideal.ofBits .f32 0x40000000#32) := by
  unfold q59 q2
  pointwise
theorem q59_2 (a : Vec Ideal S4x8832 .f32) (p : Fin 8832) : q59 a (ix2 2 p) = qr0 a (ix1 p) + Ideal.div (qr2 a (ix1 p)) (Ideal.ofBits .f32 0x40000000#32) := by
  unfold q59 q2
  pointwise
theorem q59_3 (a : Vec Ideal S4x8832 .f32) (p : Fin 8832) : q59 a (ix2 3 p) = qr1 a (ix1 p) + Ideal.div (qr3 a (ix1 p)) (Ideal.ofBits .f32 0x40000000#32) := by
  unfold q59 q2
  pointwise
theorem q59_4 (a : Vec Ideal S4x8832 .f32) (p : Fin 8832) : q59 a (ix2 4 p) = ((qr0 a (ix1 p) + Ideal.div (qr2 a (ix1 p)) (Ideal.ofBits .f32 0x40000000#32)) - (qr0 a (ix1 p) - Ideal.div (qr2 a (ix1 p)) (Ideal.ofBits .f32 0x40000000#32))) * ((qr1 a (ix1 p) + Ideal.div (qr3 a (ix1 p)) (Ideal.ofBits .f32 0x40000000#32)) - (qr1 a (ix1 p) - Ideal.div (qr3 a (ix1 p)) (Ideal.ofBits .f32 0x40000000#32))) := by
  unfold q59 q2
  pointwise
theorem q59_5 (a : Vec Ideal S4x8832 .f32) (p : Fin 8832) : q59 a (ix2 5 p) = qr0 a (ix1 p) := by
  unfold q59 q2
  pointwise
theorem q59_6 (a : Vec Ideal S4x8832 .f32) (p : Fin 8832) : q59 a (ix2 6 p) = qr1 a (ix1 p) := by
  unfold q59 q2
  pointwise
theorem q59_7 (a : Vec Ideal S4x8832 .f32) (p : Fin 8832) : q59 a (ix2 7 p) = Ideal.div (Ideal.ofBits .f32 0x41200000#32) (qr2 a (ix1 p)) := by
  unfold q59 q2
  pointwise
theorem q59_8 (a : Vec Ideal S4x8832 .f32) (p : Fin 8832) : q59 a (ix2 8 p) = Ideal.div (Ideal.ofBits .f32 0x41200000#32) (qr3 a (ix1 p)) := by
  unfold q59 q2
  pointwise
theorem q59_9 (a : Vec Ideal S4x8832 .f32) (p : Fin 8832) : q59 a (ix2 9 p) = Ideal.ofBits .f32 0x40A00000#32 * Ideal.log (qr2 a (ix1 p)) := by
  unfold q59 q2
  pointwise
theorem q59_10 (a : Vec Ideal S4x8832 .f32) (p : Fin 8832) : q59 a (ix2 10 p) = Ideal.ofBits .f32 0x40A00000#32 * Ideal.log (qr3 a (ix1 p)) := by
  unfold q59 q2
  pointwise

end Cert.KernelIdeal.Run

end
-- ==== Proof.KerHost2.lean ====
/- What the blocks the kernel is given hold, entry by entry, over the extended reals. -/
module

public import proofs.«01_k».proof.Proof.KerHost
public import Idealize.ShloMosaic.Lib.Pointwise
public import Idealize.ShloMosaic.Lib.Routing.OpsSet
public import Idealize.ShloMosaic.Lib.StableHlo.RunRead
public import Idealize.ShloMosaic.PureOps.Ideal.Laws

@[expose] public section

set_option maxRecDepth 16384

noncomputable section

namespace Cert.KernelIdeal.Run

open Cert.KernelIdeal.Gen
open Idealize.ShloMosaic Idealize.ShloMosaic.TcCoe Idealize.ShloMosaic.Tactic

variable (m : (ℓ : Loc nD τ sig) → Buf (Elt Ideal) ℓ) (c : Dev nD)

/-- The contents of an array after the first `n` operations of the prologue. -/
abbrev up (n : ℕ) (b : Ref sig .tc) : b.ty.Contents (Elt Ideal) := StableHlo.upto hostOps0 (fun b => m (c, b)) n (Proc.tc.devRef b)

theorem cat4 {a a' : Vec Ideal S4x8732 .f32} {b b' : Vec Ideal S4x100 .f32} (ha : a = a') (hb : b = b') :
    (concatenate S4x8832 1 [⟨S4x8732, a⟩, ⟨S4x100, b⟩] concatenates_S4x8732_S4x100_S4x8832_d1 : Vec Ideal S4x8832 .f32)
      = concatenate S4x8832 1 [⟨S4x8732, a'⟩, ⟨S4x100, b'⟩] concatenates_S4x8732_S4x100_S4x8832_d1 := by subst ha hb; rfl
theorem cat16 {a a' : Vec Ideal S11x8832 .f32} {b b' : Vec Ideal S5x8832 .f32} (ha : a = a') (hb : b = b') :
    (concatenate S16x8832 0 [⟨S11x8832, a⟩, ⟨S5x8832, b⟩] concatenates_S11x8832_S5x8832_S16x8832_d0 : Vec Ideal S16x8832 .f32)
      = concatenate S16x8832 0 [⟨S11x8832, a'⟩, ⟨S5x8832, b'⟩] concatenates_S11x8832_S5x8832_S16x8832_d0 := by subst ha hb; rfl
theorem cat11 {a0 a1 a2 a3 a4 a5 a6 a7 a8 a9 a10 b0 b1 b2 b3 b4 b5 b6 b7 b8 b9 b10 : Vec Ideal S1x8832 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    (concatenate S11x8832 0 [⟨S1x8832, a0⟩, ⟨S1x8832, a1⟩, ⟨S1x8832, a2⟩, ⟨S1x8832, a3⟩, ⟨S1x8832, a4⟩, ⟨S1x8832, a5⟩, ⟨S1x8832, a6⟩, ⟨S1x8832, a7⟩, ⟨S1x8832, a8⟩, ⟨S1x8832, a9⟩, ⟨S1x8832, a10⟩] concatenates_S1x8832_S1x8832_S1x8832_S1x8832_S1x8832_S1x8832_S1x8832_S1x8832_S1x8832_S1x8832_S1x8832_S11x8832_d0 : Vec Ideal S11x8832 .f32)
      = concatenate S11x8832 0 [⟨S1x8832, b0⟩, ⟨S1x8832, b1⟩, ⟨S1x8832, b2⟩, ⟨S1x8832, b3⟩, ⟨S1x8832, b4⟩, ⟨S1x8832, b5⟩, ⟨S1x8832, b6⟩, ⟨S1x8832, b7⟩, ⟨S1x8832, b8⟩, ⟨S1x8832, b9⟩, ⟨S1x8832, b10⟩] concatenates_S1x8832_S1x8832_S1x8832_S1x8832_S1x8832_S1x8832_S1x8832_S1x8832_S1x8832_S1x8832_S1x8832_S11x8832_d0 := by subst h0 h1 h2 h3 h4 h5 h6 h7 h8 h9 h10; rfl

/-- The four rows, as the two parts the prologue has made by then. -/
abbrev u12 : Vec Ideal S4x8832 .f32 :=
  concatenate S4x8832 1 [⟨S4x8732, up m c 17 main_call0_v8⟩, ⟨S4x100, up m c 17 main_call0_v11⟩] concatenates_S4x8732_S4x100_S4x8832_d1
theorem u8_eq : (up m c 17 main_call0_v8 : Vec Ideal S4x8732 .f32) = transpose S4x8732 [1, 0] (A2 m c) transposes_S8732x4_S4x8732_1_0 := by
  unfold up
  after_reads_simp
  rfl
theorem u11_eq : (up m c 17 main_call0_v11 : Vec Ideal S4x100 .f32) = shapeCast S4x100 (broadcastInDim S1x4x100x1 ![0, 1, 2, 3] bcast_S1x4x1x1_S1x4x100x1_0_1_2_3
      (shapeCast S1x4x1x1 (fun i => FloatOps.ofBits (F := Ideal) .f32 (lit0 (S4x1.rowMajor i)) : Vec Ideal S4x1 .f32) shapeCasts_S4x1_S1x4x1x1)) shapeCasts_S1x4x100x1_S4x100 := by
  unfold up
  after_reads_simp
  rfl
theorem u12_eq : u12 m c = q12 (A2 m c) := cat4 (u8_eq m c) (u11_eq m c)

theorem u46 : (up m c 70 main_call0_v46 : Vec Ideal S1x8832 .f32) = broadcastInDim S1x8832 ![1] bcast_S8832_S1x8832_1 (subf (qr0 (u12 m c)) (Host.divf (qr2 (u12 m c)) (q2 (0x40000000#32)))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl

theorem u47 : (up m c 70 main_call0_v47 : Vec Ideal S1x8832 .f32) = broadcastInDim S1x8832 ![1] bcast_S8832_S1x8832_1 (subf (qr1 (u12 m c)) (Host.divf (qr3 (u12 m c)) (q2 (0x40000000#32)))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u48 : (up m c 70 main_call0_v48 : Vec Ideal S1x8832 .f32) = broadcastInDim S1x8832 ![1] bcast_S8832_S1x8832_1 (addf (qr0 (u12 m c)) (Host.divf (qr2 (u12 m c)) (q2 (0x40000000#32)))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u49 : (up m c 70 main_call0_v49 : Vec Ideal S1x8832 .f32) = broadcastInDim S1x8832 ![1] bcast_S8832_S1x8832_1 (addf (qr1 (u12 m c)) (Host.divf (qr3 (u12 m c)) (q2 (0x40000000#32)))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u50 : (up m c 70 main_call0_v50 : Vec Ideal S1x8832 .f32) = broadcastInDim S1x8832 ![1] bcast_S8832_S1x8832_1 (mulf (subf (addf (qr0 (u12 m c)) (Host.divf (qr2 (u12 m c)) (q2 (0x40000000#32)))) (subf (qr0 (u12 m c)) (Host.divf (qr2 (u12 m c)) (q2 (0x40000000#32))))) (subf (addf (qr1 (u12 m c)) (Host.divf (qr3 (u12 m c)) (q2 (0x40000000#32)))) (subf (qr1 (u12 m c)) (Host.divf (qr3 (u12 m c)) (q2 (0x40000000#32)))))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u51 : (up m c 70 main_call0_v51 : Vec Ideal S1x8832 .f32) = broadcastInDim S1x8832 ![1] bcast_S8832_S1x8832_1 (qr0 (u12 m c)) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u52 : (up m c 70 main_call0_v52 : Vec Ideal S1x8832 .f32) = broadcastInDim S1x8832 ![1] bcast_S8832_S1x8832_1 (qr1 (u12 m c)) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u53 : (up m c 70 main_call0_v53 : Vec Ideal S1x8832 .f32) = broadcastInDim S1x8832 ![1] bcast_S8832_S1x8832_1 (Host.divf (q2 (0x41200000#32)) (qr2 (u12 m c))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u54 : (up m c 70 main_call0_v54 : Vec Ideal S1x8832 .f32) = broadcastInDim S1x8832 ![1] bcast_S8832_S1x8832_1 (Host.divf (q2 (0x41200000#32)) (qr3 (u12 m c))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u55 : (up m c 70 main_call0_v55 : Vec Ideal S1x8832 .f32) = broadcastInDim S1x8832 ![1] bcast_S8832_S1x8832_1 (mulf (q2 (0x40A00000#32)) (Host.log (qr2 (u12 m c)))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl
theorem u56 : (up m c 70 main_call0_v56 : Vec Ideal S1x8832 .f32) = broadcastInDim S1x8832 ![1] bcast_S8832_S1x8832_1 (mulf (q2 (0x40A00000#32)) (Host.log (qr3 (u12 m c)))) := by
  unfold up
  after_reads_simp
  unfold u12 up
  generalize StableHlo.upto hostOps0 (fun b => m (c, b)) 17 (Proc.tc.devRef main_call0_v8) = x8
  generalize StableHlo.upto hostOps0 (fun b => m (c, b)) 17 (Proc.tc.devRef main_call0_v11) = x11
  simp only [StableHlo.TRef.ofBuf_toBuf]
  rfl

theorem u57 : (up m c 73 main_call0_v57 : Vec Ideal S11x8832 .f32) = concatenate S11x8832 0 [⟨S1x8832, up m c 70 main_call0_v46⟩, ⟨S1x8832, up m c 70 main_call0_v47⟩, ⟨S1x8832, up m c 70 main_call0_v48⟩, ⟨S1x8832, up m c 70 main_call0_v49⟩, ⟨S1x8832, up m c 70 main_call0_v50⟩, ⟨S1x8832, up m c 70 main_call0_v51⟩, ⟨S1x8832, up m c 70 main_call0_v52⟩, ⟨S1x8832, up m c 70 main_call0_v53⟩, ⟨S1x8832, up m c 70 main_call0_v54⟩, ⟨S1x8832, up m c 70 main_call0_v55⟩, ⟨S1x8832, up m c 70 main_call0_v56⟩] concatenates_S1x8832_S1x8832_S1x8832_S1x8832_S1x8832_S1x8832_S1x8832_S1x8832_S1x8832_S1x8832_S1x8832_S11x8832_d0 := by
  unfold up
  after_reads_simp
  generalize StableHlo.upto hostOps0 (fun b => m (c, b)) 70 = f
  rfl

theorem V_v59 (r : Vec Ideal S11x8832 .f32) (h : (up m c 73 main_call0_v57 : Vec Ideal S11x8832 .f32) = r) : (V m c main_call0_v59 : Vec Ideal S16x8832 .f32) =
   concatenate S16x8832 0 [⟨S11x8832, r⟩, ⟨S5x8832, broadcastInDim S5x8832 ![] bcast_S_S5x8832 (constant (F := Ideal) S_ .f32 0x00000000#32)⟩] concatenates_S11x8832_S5x8832_S16x8832_d0 := by
  have h58 : (up m c 73 main_call0_v58 : Vec Ideal S5x8832 .f32) = broadcastInDim S5x8832 ![] bcast_S_S5x8832 (constant (F := Ideal) S_ .f32 0x00000000#32) := by
    unfold up
    after_reads_simp
    rfl
  unfold V V0
  simp only [List.flatten_cons, List.flatten_nil, List.append_nil]
  after_reads_simp
  unfold up at h h58
  generalize StableHlo.upto hostOps0 (fun b => m (c, b)) 73 (Proc.tc.devRef main_call0_v57) = x57 at h ⊢
  generalize StableHlo.upto hostOps0 (fun b => m (c, b)) 73 (Proc.tc.devRef main_call0_v58) = x58 at h58 ⊢
  subst h h58
  rfl

theorem V_v59_eq : (V m c main_call0_v59 : Vec Ideal S16x8832 .f32) = q59 (q12 (A2 m c)) := by
  rw [← u12_eq]
  exact V_v59 m c _ ((u57 m c).trans (cat11 (u46 m c) (u47 m c) (u48 m c) (u49 m c) (u50 m c) (u51 m c) (u52 m c) (u53 m c) (u54 m c) (u55 m c) (u56 m c)))

end Cert.KernelIdeal.Run

end
-- ==== Proof.KerBlk.lean ====
/- What the blocks the kernel is given hold, entry by entry, over the extended reals. -/
module

public import proofs.«01_k».proof.Proof.KerHost2
public import Idealize.ShloMosaic.Lib.Pipeline.Value
public import Idealize.ShloMosaic.Lib.Pointwise
public import Idealize.ShloMosaic.Lib.Routing.OpsSet
public import Idealize.ShloMosaic.Lib.StableHlo.RunRead
public import Idealize.ShloMosaic.PureOps.Ideal.Laws

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.Pipeline (Window)

variable (m : (ℓ : Loc nD τ sig) → Buf (Elt Ideal) ℓ) (c : Dev nD)

/-- The batch that block `u` of step `n` works on. -/
def bt (n u : Fin 4) : Fin 16 := ⟨4 * n.val + u.val, by omega⟩

theorem idx0 (n : Fin 4) : ∀ a : Fin 3, win0_0.index (pt n.val) a = if a = 0 then n.val else 0 := by
  revert n; decide +kernel
theorem blk0_at (n u : Fin 4) (j : Fin 8) (l : Fin 128) :
    bx0 (iblk m c 0 (pt n.val)) u (ix3 0 j l) = (V m c main_call0_v2 : Vec Ideal S16x8x128 .f32) (ix3 (bt n u) j l) := by
  unfold bx0 iblk
  show ((cfg0.win 0).blk (pt n.val)).view.read (Elt Ideal) _ ((Rect.unit (s := S4x8x128) _ _ _).emb (ix3 0 j l)) = _
  rw [View.read_apply]
  have e : ((cfg0.win 0).blk (pt n.val)).view.emb ((Rect.unit (s := S4x8x128) ![u.val, 0, 0] (⟨3, ![1, 8, 128]⟩ : Shape).size (by revert u; decide)).emb (ix3 0 j l)) = ix3 (bt n u) j l := by
    funext a
    apply Fin.ext
    refine (Window.rect_emb_val win0_0 (pt n.val) _ a).trans ?_
    revert a
    show ∀ a : Fin 3, win0_0.index (pt n.val) a * _ + _ = _
    intro a
    rw [idx0 n a]
    fin_cases a <;> simp [bt] <;> first | rfl | exact Nat.mul_comm _ _
  exact congrArg (V m c main_call0_v2) e

theorem idx1 (n : Fin 4) : ∀ a : Fin 3, win0_1.index (pt n.val) a = if a = 0 then n.val else 0 := by
  revert n; decide +kernel
theorem blk1_at (n u : Fin 4) (j : Fin 8) (l : Fin 128) :
    bx0 (iblk m c 1 (pt n.val)) u (ix3 0 j l) = (V m c main_call0_v7 : Vec Ideal S16x8x128 .f32) (ix3 (bt n u) j l) := by
  unfold bx0 iblk
  show ((cfg0.win 1).blk (pt n.val)).view.read (Elt Ideal) _ ((Rect.unit (s := S4x8x128) _ _ _).emb (ix3 0 j l)) = _
  rw [View.read_apply]
  have e : ((cfg0.win 1).blk (pt n.val)).view.emb ((Rect.unit (s := S4x8x128) ![u.val, 0, 0] (⟨3, ![1, 8, 128]⟩ : Shape).size (by revert u; decide)).emb (ix3 0 j l)) = ix3 (bt n u) j l := by
    funext a
    apply Fin.ext
    refine (Window.rect_emb_val win0_1 (pt n.val) _ a).trans ?_
    revert a
    show ∀ a : Fin 3, win0_1.index (pt n.val) a * _ + _ = _
    intro a
    rw [idx1 n a]
    fin_cases a <;> simp [bt] <;> first | rfl | exact Nat.mul_comm _ _
  exact congrArg (V m c main_call0_v7) e

theorem idx3 (n : Fin 4) : ∀ a : Fin 3, win0_3.index (pt n.val) a = if a = 0 then n.val else 0 := by
  revert n; decide +kernel
theorem blk3_at (n u : Fin 4) (j : Fin 4) (l : Fin 8832) :
    bx3 (iblk m c 3 (pt n.val)) u (ix3 0 j l) = (V m c main_call0_v61 : Vec Ideal S16x4x8832 .f32) (ix3 (bt n u) j l) := by
  unfold bx3 iblk
  show ((cfg0.win 3).blk (pt n.val)).view.read (Elt Ideal) _ ((Rect.unit (s := S4x4x8832) _ _ _).emb (ix3 0 j l)) = _
  rw [View.read_apply]
  have e : ((cfg0.win 3).blk (pt n.val)).view.emb ((Rect.unit (s := S4x4x8832) ![u.val, 0, 0] (⟨3, ![1, 4, 8832]⟩ : Shape).size (by revert u; decide)).emb (ix3 0 j l)) = ix3 (bt n u) j l := by
    funext a
    apply Fin.ext
    refine (Window.rect_emb_val win0_3 (pt n.val) _ a).trans ?_
    revert a
    show ∀ a : Fin 3, win0_3.index (pt n.val) a * _ + _ = _
    intro a
    rw [idx3 n a]
    fin_cases a <;> simp [bt] <;> first | rfl | exact Nat.mul_comm _ _
  exact congrArg (V m c main_call0_v61) e

theorem idx4 (n : Fin 4) : ∀ a : Fin 3, win0_4.index (pt n.val) a = if a = 0 then n.val else 0 := by
  revert n; decide +kernel
theorem blk4_at (n u : Fin 4) (j : Fin 21) (l : Fin 8832) :
    bx4 (iblk m c 4 (pt n.val)) u (ix3 0 j l) = (V m c main_call0_v63 : Vec Ideal S16x21x8832 .f32) (ix3 (bt n u) j l) := by
  unfold bx4 iblk
  show ((cfg0.win 4).blk (pt n.val)).view.read (Elt Ideal) _ ((Rect.unit (s := S4x21x8832) _ _ _).emb (ix3 0 j l)) = _
  rw [View.read_apply]
  have e : ((cfg0.win 4).blk (pt n.val)).view.emb ((Rect.unit (s := S4x21x8832) ![u.val, 0, 0] (⟨3, ![1, 21, 8832]⟩ : Shape).size (by revert u; decide)).emb (ix3 0 j l)) = ix3 (bt n u) j l := by
    funext a
    apply Fin.ext
    refine (Window.rect_emb_val win0_4 (pt n.val) _ a).trans ?_
    revert a
    show ∀ a : Fin 3, win0_4.index (pt n.val) a * _ + _ = _
    intro a
    rw [idx4 n a]
    fin_cases a <;> simp [bt] <;> first | rfl | exact Nat.mul_comm _ _
  exact congrArg (V m c main_call0_v63) e

theorem idx2 (n : Fin 4) : ∀ a : Fin 2, win0_2.index (pt n.val) a = 0 := by
  revert n; decide +kernel
theorem blk2_at (n : Fin 4) : bx2 (iblk m c 2 (pt n.val)) = (V m c main_call0_v59 : Vec Ideal S16x8832 .f32) := by
  unfold bx2
  rw [ld_whole _ _ _ (by decide)]
  funext i
  unfold iblk
  rw [View.read_apply]
  have e : ((cfg0.win 2).blk (pt n.val)).view.emb i = i := by
    funext a
    apply Fin.ext
    refine Window.rect_emb_val_of_index_zero win0_2 (pt n.val) a ?_ i
    exact idx2 n a
  exact congrArg (V m c main_call0_v59) e

end Cert.KernelIdeal.Run

end
-- ==== Proof.KerTotal.lean ====
/- The kernel's location loss and number of matched priors are the sums over the sixteen batches. -/
module

public import proofs.«01_k».proof.Proof.KerSpec
public import proofs.«01_k».proof.Proof.KerBlk

@[expose] public section

set_option maxRecDepth 16384

noncomputable section

namespace Cert.KernelIdeal.Run

open Cert.KernelIdeal.Gen
open Cert.Spec (BoxOk PriorOk padBox lossB numB w0 w1 w2 w5 w10 wm10)
open Idealize.ShloMosaic Idealize.ShloMosaic.TcCoe Idealize.ShloMosaic.Tactic

variable (m : (ℓ : Loc nD τ sig) → Buf (Elt Ideal) ℓ) (c : Dev nD)

/-- A batch's locations, targets and classes, and the priors. -/
def locOf (b : Fin 16) (p : Fin 8732) (k : Fin 4) : EReal := A0 m c (ix3 b p k)
def priOf (p : Fin 8732) (k : Fin 4) : EReal := A2 m c (ix2 p k)
def boxOf (b : Fin 16) (j : Fin 8) (k : Fin 4) : EReal := A3 m c (ix3 b j k)
def clsOf (b : Fin 16) (j : Fin 8) : BitVec 32 := A4 m c (ix2 b j)

/-- What the precondition says of the arguments. -/
structure Good : Prop where
  box : ∀ b j, BoxOk (boxOf m c b j)
  pri : ∀ p, PriorOk (priOf m c p)
  cls : ∀ b j, 0 ≤ (clsOf m c b j).toInt

theorem qr_0 (p : Fin 8832) : qr0 (q12 (A2 m c)) (ix1 p) = padQ (priOf m c) p 0 := by
  rw [qr0_at]; unfold padQ; split
  · rfl
  · exact wm10
theorem qr_1 (p : Fin 8832) : qr1 (q12 (A2 m c)) (ix1 p) = padQ (priOf m c) p 1 := by
  rw [qr1_at]; unfold padQ; split
  · rfl
  · exact wm10
theorem qr_2 (p : Fin 8832) : qr2 (q12 (A2 m c)) (ix1 p) = padQ (priOf m c) p 2 := by
  rw [qr2_at]; unfold padQ; split
  · rfl
  · exact w1
theorem qr_3 (p : Fin 8832) : qr3 (q12 (A2 m c)) (ix1 p) = padQ (priOf m c) p 3 := by
  rw [qr3_at]; unfold padQ; split
  · rfl
  · exact w1

theorem holds (hg : Good m c) (n u : Fin 4) : Holds (bx0 (iblk m c 0 (pt n.val)) u) (bx0 (iblk m c 1 (pt n.val)) u) (bx2 (iblk m c 2 (pt n.val)))
    (bx3 (iblk m c 3 (pt n.val)) u) (locOf m c (bt n u)) (priOf m c) (boxOf m c (bt n u)) (clsOf m c (bt n u)) := by
  have e := (blk2_at m c n).trans (V_v59_eq m c)
  refine ⟨fun j => (blk0_at m c n u j 0).trans (v2_at m c _ j 0), fun j => (blk0_at m c n u j 1).trans (v2_at m c _ j 1),
    fun j => (blk0_at m c n u j 2).trans (v2_at m c _ j 2), fun j => (blk0_at m c n u j 3).trans (v2_at m c _ j 3),
    fun j => (blk1_at m c n u j 0).trans (v7_at m c _ j), ?_, ?_, ?_, ?_, ?_, ?_, ?_, ?_, ?_, ?_, ?_,
    fun p k => (blk3_at m c n u k (Cert.Spec.up p)).trans (v61_at m c _ k p), hg.box _, hg.pri, hg.cls _⟩
  · intro p; rw [e, q59_0, qr_0, qr_2, w2]
  · intro p; rw [e, q59_1, qr_1, qr_3, w2]
  · intro p; rw [e, q59_2, qr_0, qr_2, w2]
  · intro p; rw [e, q59_3, qr_1, qr_3, w2]
  · intro p; rw [e, q59_4, q59_2, q59_0, q59_3, q59_1]
  · intro p; rw [e, q59_5, qr_0]
  · intro p; rw [e, q59_6, qr_1]
  · intro p; rw [e, q59_7, qr_2, w10]
  · intro p; rw [e, q59_8, qr_3, w10]
  · intro p; rw [e, q59_9, qr_2, w5]
  · intro p; rw [e, q59_10, qr_3, w5]

/-- The two rows of sums this reads. -/
def row (i : Fin 2) : Fin 3 := if i = 0 then 0 else 2
def row8 (i : Fin 2) : Fin 8 := if i = 0 then 0 else 2
/-- A batch's term of either row. -/
def term (i : Fin 2) (b : Fin 16) : EReal := if i = 0 then lossB (locOf m c b) (priOf m c) (boxOf m c b) else numB (priOf m c) (boxOf m c b)

theorem sSum_row (hg : Good m c) (i : Fin 2) (n u : Fin 4) :
    sSum (iblk m c 0 (pt n.val)) (iblk m c 1 (pt n.val)) (iblk m c 2 (pt n.val)) (iblk m c 3 (pt n.val)) (iblk m c 4 (pt n.val)) u (ix2 (row i) 0)
      = term m c i (bt n u) := by
  unfold sSum
  fin_cases i
  · exact bSum_loss (holds m c hg n u) _
  · exact bSum_num (holds m c hg n u) _

theorem k58_row (i : Fin 2) (v : FVec Ideal S8x128 .f32) (s : FVec Ideal S3x1 .f32) :
    k0_pay58 v s k0_pay57 (ix2 (row8 i) 0) = v (ix2 (row8 i) 0) + s (ix2 (row i) 0) := by
  fin_cases i
  · exact k58_at v s 0
  · exact k58_at v s 2

theorem tot_row (hg : Good m c) (i : Fin 2) (n : Fin 4) (k : ℕ) (hk : k = n.val) : tot m c k (ix2 (row8 i) 0)
    = term m c i (bt n 0) + term m c i (bt n 1) + term m c i (bt n 2) + term m c i (bt n 3) := by
  subst hk
  unfold tot sTot
  rw [k58_row, k58_row, k58_row, k58_row, k13_at, zero_add, sSum_row m c hg, sSum_row m c hg, sSum_row m c hg, sSum_row m c hg]

theorem acc_3 {F : FTy → Type} [FloatOps F] (m : (ℓ : Loc nD τ sig) → Buf (Elt F) ℓ) : acc m c 3
    = k0_pay1 (tot m c 3) (k0_pay1 (tot m c 2) (k0_pay1 (tot m c 1) (tot m c 0))) := rfl

theorem sum_16 (f : Fin 16 → EReal) : f (bt 0 0) + f (bt 0 1) + f (bt 0 2) + f (bt 0 3) + (f (bt 1 0) + f (bt 1 1) + f (bt 1 2) + f (bt 1 3))
    + (f (bt 2 0) + f (bt 2 1) + f (bt 2 2) + f (bt 2 3)) + (f (bt 3 0) + f (bt 3 1) + f (bt 3 2) + f (bt 3 3)) = ∑ b : Fin 16, f b := by
  simp only [Fin.sum_univ_succ, Fin.sum_univ_zero, add_zero, ← add_assoc]
  rfl

theorem out_row (hg : Good m c) (i : Fin 2) (r : Fin 8) (hr : r = row8 i) : out m c 3 (ix2 r 0) = ∑ b : Fin 16, term m c i b := by
  subst hr
  unfold out
  rw [if_pos rfl]
  unfold fin
  rw [k2_at, if_neg (by revert i; decide), k11_at, acc_3, k1_at, k1_at, k1_at, tot_row m c hg i 0 0 rfl, tot_row m c hg i 1 1 rfl,
    tot_row m c hg i 2 2 rfl, tot_row m c hg i 3 3 rfl]
  exact sum_16 (term m c i)

theorem o_div {F : FTy → Type} [FloatOps F] (x y : Vec F S_ .f32) (i : S_.Idx) : Host.divf x y i = FloatOps.hostDivf (x i) (y i) := rfl
theorem o_at {F : FTy → Type} [FloatOps F] (m : (ℓ : Loc nD τ sig) → Buf (Elt F) ℓ) (r : Fin 8) (i : S_.Idx) : o m c r i = out m c 3 (ix2 r 0) := rfl

/-- The kernel's first result. -/
theorem first_result (hg : Good m c) : Host.divf (o m c 0) (o m c 2)
    = fun _ => Ideal.div (∑ b : Fin 16, lossB (locOf m c b) (priOf m c) (boxOf m c b)) (∑ b : Fin 16, numB (priOf m c) (boxOf m c b)) := by
  funext i
  rw [o_div, o_at, o_at, out_row m c hg 0 0 rfl, out_row m c hg 1 2 rfl]
  rfl

end Cert.KernelIdeal.Run

end
-- ==== Proof.Mining.lean ====
/- The mining of hard negatives: the single-precision numbers in their order, and the sum of the greatest losses with the least of them
rounded up to a single-precision number. -/
module

public import proofs.«01_k».proof.Proof.Spec
public import proofs.«01_k».proof.Proof.Box
public import Idealize.ShloMosaic.Lib.TotalOrder
public import Idealize.ShloMosaic.Lib.WordSum
public import Idealize.ShloMosaic.Lib.WordCmp

@[expose] public section

set_option maxRecDepth 16384

noncomputable section

namespace Cert.Spec

open Idealize.ShloMosaic

/-! ## Single-precision numbers from 0 on -/

/-- The word of infinity. -/
def wtop : ℕ := 0x7F800000
/-- The number a word below the sign bit denotes. -/
def sf (w : ℕ) : EReal := Ideal.ofBits .f32 (BitVec.ofNat 32 w)

theorem sf_fields (w : ℕ) (hw : w ≤ wtop) : ¬ TotalOrder.IsNaN 8 23 (BitVec.ofNat 32 w) ∧ TotalOrder.sign 8 23 (BitVec.ofNat 32 w) = false
    ∧ TotalOrder.mag 8 23 (BitVec.ofNat 32 w) = w := by
  unfold wtop at hw
  have hx : TotalOrder.expo 8 23 (BitVec.ofNat 32 w) = w / 8388608 := by
    rw [TotalOrder.expo_eq, BitVec.toNat_ofNat]; omega
  have hf : TotalOrder.frac 23 (BitVec.ofNat 32 w) = w % 8388608 := by
    rw [TotalOrder.frac_eq, BitVec.toNat_ofNat]; omega
  refine ⟨fun h => ?_, ?_, ?_⟩
  · unfold TotalOrder.IsNaN at h
    rw [hx, hf] at h
    omega
  · rw [TotalOrder.sign_eq_msb (e := 8) (m := 23), ← Bool.not_eq_true, TotalOrder.msb_iff (e := 8) (m := 23), BitVec.toNat_ofNat]
    omega
  · unfold TotalOrder.mag; rw [hx, hf]; omega

theorem sf_abs (w : ℕ) (hw : w ≤ wtop) : sf w = TotalOrder.absVal 8 23 (BitVec.ofNat 32 w) := by
  obtain ⟨hn, hs, -⟩ := sf_fields w hw
  show Ideal.ieee 8 23 (BitVec.ofNat 32 w) = _
  rw [TotalOrder.ieee_eq_signed_absVal hn, hs]
  rfl

theorem sf_mono {a b : ℕ} (hab : a ≤ b) (hb : b ≤ wtop) : sf a ≤ sf b := by
  rw [sf_abs a (hab.trans hb), sf_abs b hb]
  refine not_lt.mp fun h => ?_
  have := (TotalOrder.absVal_lt_absVal_iff (sf_fields b hb).1 (sf_fields a (hab.trans hb)).1).mp h
  rw [(sf_fields b hb).2.2, (sf_fields a (hab.trans hb)).2.2] at this
  omega

theorem sf_nonneg {a : ℕ} (ha : a ≤ wtop) : 0 ≤ sf a := by
  rw [sf_abs a ha]; exact TotalOrder.absVal_nonneg _

theorem sf_top : sf wtop = ⊤ := by
  rw [sf_abs wtop le_rfl]
  unfold TotalOrder.absVal
  exact if_pos (by decide)

/-! ## A bisection over the words -/

/-- Words folded by addition are their sum. -/
theorem fold_words {κ : Type} (S : Finset κ) (f : κ → BitVec 32) : Finset.fold IntOp.addi 0#32 f S = ∑ k ∈ S, f k := by
  classical
  induction S using Finset.cons_induction with
  | empty => rfl
  | cons a S ha ih => rw [Finset.fold_cons, Finset.sum_cons, ih]; rfl

/-- How many entries exceed `t`. -/
def above {n : ℕ} (x : Fin n → EReal) (t : EReal) : ℕ := (Finset.univ.filter fun i => t < x i).card

theorem above_anti {n : ℕ} (x : Fin n → EReal) {s t : EReal} (h : s ≤ t) : above x t ≤ above x s :=
  Finset.card_le_card fun i hi => Finset.mem_filter.mpr ⟨Finset.mem_univ _, lt_of_le_of_lt h (Finset.mem_filter.mp hi).2⟩

theorem above_top {n : ℕ} (x : Fin n → EReal) : above x ⊤ = 0 :=
  Finset.card_eq_zero.mpr (Finset.filter_eq_empty_iff.mpr fun _ _ => not_top_lt)

/-- The least word with fewer than `k` entries above its number. -/
theorem exists_few {n : ℕ} (x : Fin n → EReal) (k : ℕ) (hk : 0 < k) : ∃ w, w ≤ wtop ∧ above x (sf w) < k := ⟨wtop, le_rfl, by rw [sf_top, above_top]; exact hk⟩
def few {n : ℕ} (x : Fin n → EReal) (k : ℕ) : ℕ := if hk : 0 < k then Nat.find (exists_few x k hk) else 0

theorem few_spec {n : ℕ} (x : Fin n → EReal) (k : ℕ) (hk : 0 < k) : few x k ≤ wtop ∧ ∀ w, w ≤ wtop → (above x (sf w) < k ↔ few x k ≤ w) := by
  unfold few
  rw [dif_pos hk]
  have hs := Nat.find_spec (exists_few x k hk)
  refine ⟨hs.1, fun w hw => ⟨fun h => Nat.find_min' _ ⟨hw, h⟩, fun h => lt_of_le_of_lt (above_anti x (sf_mono h hw)) hs.2⟩⟩

/-- The bounds after a number of halvings. -/
def Between {n : ℕ} (x : Fin n → EReal) (k j lo hi : ℕ) : Prop := lo ≤ few x k ∧ few x k ≤ hi ∧ hi ≤ wtop ∧ hi - lo < 2 ^ j

theorem between_zero {n : ℕ} (x : Fin n → EReal) (k : ℕ) (hk : 0 < k) : Between x k 31 0 wtop :=
  ⟨Nat.zero_le _, (few_spec x k hk).1, le_rfl, by decide⟩

theorem between_low {n : ℕ} {x : Fin n → EReal} {k j lo hi : ℕ} (hk : 0 < k) (h : Between x k (j + 1) lo hi) (hc : above x (sf (lo + (hi - lo) / 2)) < k) :
    Between x k j lo (lo + (hi - lo) / 2) := by
  obtain ⟨h1, h2, h3, h4⟩ := h
  have hm : lo + (hi - lo) / 2 ≤ wtop := by omega
  refine ⟨h1, ((few_spec x k hk).2 _ hm).mp hc, hm, ?_⟩
  rw [pow_succ] at h4; omega

theorem between_high {n : ℕ} {x : Fin n → EReal} {k j lo hi : ℕ} (hk : 0 < k) (h : Between x k (j + 1) lo hi) (hc : ¬ above x (sf (lo + (hi - lo) / 2)) < k) :
    Between x k j (lo + (hi - lo) / 2 + 1) hi := by
  obtain ⟨h1, h2, h3, h4⟩ := h
  have hm : lo + (hi - lo) / 2 ≤ wtop := by omega
  have := _root_.mt ((few_spec x k hk).2 _ hm).mpr hc
  refine ⟨by omega, h2, h3, ?_⟩
  rw [pow_succ] at h4; omega

theorem between_end {n : ℕ} {x : Fin n → EReal} {k lo hi : ℕ} (h : Between x k 0 lo hi) : hi = few x k := by
  obtain ⟨h1, h2, h3, h4⟩ := h
  rw [pow_zero] at h4; omega

/-! ## The sum of the greatest entries -/

/-- The sum of the `k` greatest entries, as the threshold gives it. -/
def mined {n : ℕ} (x : Fin n → EReal) (k : ℕ) : EReal :=
  if 0 < k then (∑ i, if sf (few x k) < x i then x i else 0) + ((k - above x (sf (few x k)) : ℕ) : EReal) * sf (few x k) else 0

section greatest
variable {n : ℕ} {x s : Fin n → EReal} {σ : Fin n → Fin n} (hσ : Function.Bijective σ) (hs : ∀ j, s j = x (σ j)) (hm : Monotone s)
  {k : ℕ} (hk : k ≤ n)
include hσ hs hm hk

theorem above_perm (t : EReal) : above x t = above s t := by
  unfold above
  symm
  refine Finset.card_bij (fun j _ => σ j) (fun j hj => ?_) (fun a _ b _ h => hσ.1 h) (fun i hi => ?_)
  · have := (Finset.mem_filter.mp hj).2
    rw [hs] at this
    exact Finset.mem_filter.mpr ⟨Finset.mem_univ _, this⟩
  · obtain ⟨j, rfl⟩ := hσ.2 i
    refine ⟨j, Finset.mem_filter.mpr ⟨Finset.mem_univ _, ?_⟩, rfl⟩
    rw [hs]; exact (Finset.mem_filter.mp hi).2

theorem card_last : (Finset.univ.filter fun j : Fin n => n - k ≤ j.val).card = k := by
  rcases Nat.eq_zero_or_pos k with rfl | h0
  · exact Finset.card_eq_zero.mpr (Finset.filter_eq_empty_iff.mpr fun j _ => by have := j.isLt; omega)
  · rw [show (Finset.univ.filter fun j : Fin n => n - k ≤ j.val) = Finset.Ici (⟨n - k, by omega⟩ : Fin n) from by ext j; simp [Fin.le_def], Fin.card_Ici]
    show n - (n - k) = k
    omega

theorem few_iff (h0 : 0 < k) (t : EReal) : above x t < k ↔ s ⟨n - k, by omega⟩ ≤ t := by
  rw [above_perm hσ hs hm hk]
  constructor
  · intro h
    by_contra hlt
    rw [not_le] at hlt
    refine absurd h (not_lt.mpr ?_)
    conv_lhs => rw [← card_last hσ hs hm hk]
    exact Finset.card_le_card fun j hj => Finset.mem_filter.mpr ⟨Finset.mem_univ _, lt_of_lt_of_le hlt (hm (Fin.mk_le_of_le_val (Finset.mem_filter.mp hj).2))⟩
  · intro h
    conv_rhs => rw [← card_last hσ hs hm hk]
    refine Finset.card_lt_card ⟨fun j hj => ?_, fun hh => ?_⟩
    · have hj := (Finset.mem_filter.mp hj).2
      refine Finset.mem_filter.mpr ⟨Finset.mem_univ _, ?_⟩
      by_contra hlt
      exact absurd (lt_of_le_of_lt h hj) (not_lt.mpr (hm (by rw [Fin.le_def]; show j.val ≤ n - k; omega)))
    · have := (Finset.mem_filter.mp (hh (Finset.mem_filter.mpr ⟨Finset.mem_univ (⟨n - k, by omega⟩ : Fin n), le_refl (n - k)⟩))).2
      exact absurd h (not_le.mpr this)

/-- The least single-precision number from the last of them on. -/
theorem up_eq (h0 : 0 < k) {T : ℕ} (hT : T = wtop + 1) (v : EReal) (hv : v = s ⟨n - k, by omega⟩) :
    Finset.fold min (⊤ : EReal) (fun w : Fin T => if v ≤ sf w.val then sf w.val else ⊤) Finset.univ = sf (few x k) := by
  subst hT hv
  obtain ⟨hf, hw⟩ := few_spec x k h0
  apply le_antisymm
  · refine (Finset.fold_min_le _).mpr (Or.inr ⟨⟨few x k, by omega⟩, Finset.mem_univ _, ?_⟩)
    rw [if_pos ((few_iff hσ hs hm hk h0 _).mp ((hw _ hf).mpr le_rfl))]
  · refine (Finset.le_fold_min _).mpr ⟨le_top, fun w _ => ?_⟩
    by_cases h : s ⟨n - k, by omega⟩ ≤ sf w.val
    · rw [if_pos h]
      exact sf_mono ((hw _ (by omega)).mp ((few_iff hσ hs hm hk h0 _).mpr h)) (by omega)
    · rw [if_neg h]; exact le_top

theorem last_eq (h0 : 0 < k) : Finset.fold min (⊤ : EReal) (fun j : Fin n => if n - k ≤ j.val then s j else ⊤) Finset.univ = s ⟨n - k, by omega⟩ := by
  apply le_antisymm
  · refine (Finset.fold_min_le _).mpr (Or.inr ⟨⟨n - k, by omega⟩, Finset.mem_univ _, ?_⟩)
    rw [if_pos le_rfl]
  · refine (Finset.le_fold_min _).mpr ⟨le_top, fun j _ => ?_⟩
    by_cases h : n - k ≤ j.val
    · rw [if_pos h]; exact hm h
    · rw [if_neg h]; exact le_top

/-- The sum over the last `k` of the sorted entries, none taken below `t`, is the mined sum. -/
theorem mined_eq (t : EReal) (ht : 0 < k → t = sf (few x k)) :
    (∑ j : Fin n, if n - k ≤ j.val then max (s j) t else 0) = mined x k := by
  unfold mined
  by_cases h0 : 0 < k
  · rw [if_pos h0, ← ht h0]
    have hlast : s ⟨n - k, by omega⟩ ≤ t := by
      rw [ht h0]
      exact (few_iff hσ hs hm hk h0 _).mp (((few_spec x k h0).2 _ (few_spec x k h0).1).mpr le_rfl)
    have hlow : ∀ j : Fin n, t < s j → n - k ≤ j.val := fun j hj => by
      by_contra hlt
      exact absurd (lt_of_le_of_lt hlast hj) (not_lt.mpr (hm (by rw [Fin.le_def]; show j.val ≤ n - k; omega)))
    have e1 : ∀ j : Fin n, (if n - k ≤ j.val then max (s j) t else 0) = (if t < s j then s j else 0) + (if n - k ≤ j.val ∧ ¬ t < s j then t else 0) := by
      intro j
      by_cases hj : t < s j
      · rw [if_pos (hlow j hj), if_pos hj, if_neg (fun h => h.2 hj), add_zero, max_eq_left hj.le]
      · by_cases hn : n - k ≤ j.val
        · rw [if_pos hn, if_neg hj, if_pos ⟨hn, hj⟩, zero_add, max_eq_right (not_lt.mp hj)]
        · rw [if_neg hn, if_neg hj, if_neg (fun h => hn h.1), add_zero]
    rw [Finset.sum_congr rfl fun j _ => e1 j, Finset.sum_add_distrib]
    congr 1
    · refine (Finset.sum_congr rfl fun j _ => ?_).trans (Function.Bijective.sum_comp hσ (fun i => if t < x i then x i else 0))
      rw [hs]
    · rw [← Finset.sum_filter, Finset.sum_const, EReal.nsmul_eq_mul]
      congr 2
      have hc := Finset.card_sdiff_of_subset (s := Finset.univ.filter fun j : Fin n => t < s j) (t := Finset.univ.filter fun j : Fin n => n - k ≤ j.val)
        (fun j hj => Finset.mem_filter.mpr ⟨Finset.mem_univ _, hlow j (Finset.mem_filter.mp hj).2⟩)
      rw [card_last hσ hs hm hk] at hc
      rw [above_perm hσ hs hm hk]
      unfold above
      rw [← hc]
      congr 1
      ext j
      simp
  · rw [if_neg h0]
    refine Finset.sum_eq_zero fun j _ => if_neg ?_
    have := j.isLt
    omega
end greatest

/-- Entries of 0 appended change nothing. -/
theorem above_cut {n N : ℕ} (hN : n ≤ N) (x : Fin n → EReal) (y : Fin N → EReal) (hin : ∀ i : Fin n, y (i.castLE hN) = x i) (hout : ∀ i : Fin N, n ≤ i.val → y i = 0)
    (t : EReal) (ht : 0 ≤ t) : above y t = above x t := by
  unfold above
  symm
  refine Finset.card_bij (fun j _ => j.castLE hN) (fun j hj => ?_) (fun a _ b _ h => Fin.castLE_injective hN h) (fun i hi => ?_)
  · refine Finset.mem_filter.mpr ⟨Finset.mem_univ _, ?_⟩
    rw [hin]; exact (Finset.mem_filter.mp hj).2
  · have hi := (Finset.mem_filter.mp hi).2
    have hlt : i.val < n := by
      by_contra h
      rw [hout i (not_lt.mp h)] at hi
      exact absurd ht (not_le.mpr hi)
    refine ⟨⟨i.val, hlt⟩, Finset.mem_filter.mpr ⟨Finset.mem_univ _, ?_⟩, rfl⟩
    rw [← hin]; exact hi

theorem few_cut {n N : ℕ} (hN : n ≤ N) (x : Fin n → EReal) (y : Fin N → EReal) (hin : ∀ i : Fin n, y (i.castLE hN) = x i) (hout : ∀ i : Fin N, n ≤ i.val → y i = 0)
    (k : ℕ) (hk : 0 < k) : few y k = few x k := by
  have h : ∀ w, w ≤ wtop → (few y k ≤ w ↔ few x k ≤ w) := fun w hw => by
    rw [← (few_spec y k hk).2 w hw, ← (few_spec x k hk).2 w hw, above_cut hN x y hin hout _ (sf_nonneg hw)]
  exact le_antisymm ((h _ (few_spec x k hk).1).mpr le_rfl) ((h _ (few_spec y k hk).1).mp le_rfl)

theorem sum_cutLE {n N : ℕ} (hN : n ≤ N) (f : Fin N → EReal) (hf : ∀ i : Fin N, n ≤ i.val → f i = 0) : ∑ i, f i = ∑ i : Fin n, f (i.castLE hN) := by
  obtain ⟨r, rfl⟩ := Nat.exists_eq_add_of_le hN
  rw [Fin.sum_univ_add, Finset.sum_eq_zero (f := fun i : Fin r => f (Fin.natAdd n i)) (fun i _ => hf _ (by simp)), add_zero]
  rfl

/-- So too for the mined sum. -/
theorem mined_cutLE {n N : ℕ} (hN : n ≤ N) (x : Fin n → EReal) (y : Fin N → EReal) (hin : ∀ i : Fin n, y (i.castLE hN) = x i) (hout : ∀ i : Fin N, n ≤ i.val → y i = 0)
    (k : ℕ) : mined y k = mined x k := by
  unfold mined
  by_cases h0 : 0 < k
  · have ht : 0 ≤ sf (few x k) := sf_nonneg (few_spec x k h0).1
    rw [if_pos h0, if_pos h0, few_cut hN x y hin hout k h0, above_cut hN x y hin hout _ ht,
      sum_cutLE hN (fun i => if sf (few x k) < y i then y i else 0) (fun i hi => by rw [hout i hi, if_neg (not_lt.mpr ht)])]
    simp only [hin]
  · rw [if_neg h0, if_neg h0]
theorem mined_cut (x : Fin 8732 → EReal) (y : Fin 8832 → EReal) (hin : ∀ i : Fin 8732, y (up i) = x i) (hout : ∀ i : Fin 8832, 8732 ≤ i.val → y i = 0)
    (k : ℕ) : mined y k = mined x k := mined_cutLE (by decide) x y hin hout k

/-! ## The class losses of a batch -/

/-- The logarithm of the sum of the exponentials, shifted by the greatest. -/
def lse (x : Fin 21 → EReal) : EReal :=
  Finset.fold max (⊥ : EReal) x Finset.univ + Ideal.log (∑ k : Fin 21, Ideal.exp (x k - Finset.fold max (⊥ : EReal) x Finset.univ))

/-- The number of negatives to take: three for a matched prior, and never all. -/
def negs (n : ℕ) : ℕ := min (3 * n) 8731

theorem negs_word {n : ℕ} (hn : n ≤ 8832) : IntOp.minsi (IntOp.muli 3#32 (BitVec.ofNat 32 n)) 8731#32 = BitVec.ofNat 32 (negs n) := by
  have hm : IntOp.muli 3#32 (BitVec.ofNat 32 n) = BitVec.ofNat 32 (3 * n) := by
    apply BitVec.eq_of_toNat_eq
    show (3#32 * BitVec.ofNat 32 n).toNat = _
    rw [BitVec.toNat_mul, BitVec.toNat_ofNat, BitVec.toNat_ofNat, BitVec.toNat_ofNat]
    omega
  rw [hm]
  unfold IntOp.minsi negs
  rw [BitVec.slt_eq_decide, WordCmp.toInt_ofNat_of_lt (by omega), WordCmp.toInt_ofNat_of_lt (by decide)]
  by_cases h : 3 * n < 8731
  · rw [if_pos (decide_eq_true (by exact_mod_cast h)), min_eq_left h.le]
  · rw [if_neg (fun hc => h (by exact_mod_cast of_decide_eq_true hc)), min_eq_right (not_lt.mp h)]

/-- The class a matched prior is scored against: one past its target's. -/
def clsIx (w : BitVec 32) : Fin 21 := ⟨(w.toInt + 1).toNat % 21, Nat.mod_lt _ (by decide)⟩

section classes
variable (conf : Fin 8732 → Fin 21 → EReal) (q : Fin 8732 → Fin 4 → EReal) (t : Fin 8 → Fin 4 → EReal) (cl : Fin 8 → BitVec 32)
open Classical in
/-- One batch's class loss of the matched priors. -/
def ceB : EReal := ∑ p : Fin 8732, if Pos (OV q t) p then lse (conf p) - conf p (clsIx (cl (mt (OV q t) p))) else 0
open Classical in
/-- The losses of the unmatched priors against the background, 0 at the matched. -/
def lgB (p : Fin 8732) : EReal := if Pos (OV q t) p then 0 else lse (conf p) - conf p 0
open Classical in
/-- The number of matched priors. -/
def posN : ℕ := ∑ p : Fin 8732, if Pos (OV q t) p then 1 else 0
/-- One batch's mined losses. -/
def minedB : EReal := mined (lgB conf q t) (negs (posN q t))

theorem posN_le : posN q t ≤ 8732 := by
  unfold posN
  refine (Finset.sum_le_sum fun p _ => (by split <;> simp : _ ≤ 1)).trans (by simp)
theorem numB_eq : numB q t = ((posN q t : ℕ) : EReal) := by
  unfold numB posN
  rw [Nat.cast_sum]
  refine Finset.sum_congr rfl fun p _ => ?_
  split <;> simp
end classes

end Cert.Spec

end
-- ==== Proof.KerMine.lean ====
/- The class losses of one batch of the kernel and its sum of the mined ones, at a point. -/
module

public import proofs.«01_k».proof.Proof.KerSpec
public import proofs.«01_k».proof.Proof.Mining

@[expose] public section

set_option maxRecDepth 16384

noncomputable section

namespace Cert.KernelIdeal.Run

open Cert.KernelIdeal.Gen Cert.Spec
open Idealize.ShloMosaic Idealize.ShloMosaic.TcCoe Idealize.ShloMosaic.Tactic

section point
variable (v3 v9 : Vec Ideal S1x8x128 .f32) (v28 : Vec Ideal S16x8832 .f32) (v134 : Vec Ideal S1x4x8832 .f32) (v185 : Vec Ideal S1x21x8832 .f32)

theorem k53_at (p : Fin 8832) : k0_pay53 v185 (ix2 0 p) = lse (fun k => v185 (ix3 0 k p)) := by
  unfold k0_pay53 lse
  rw [← Cert.Spec.wbot]
  pointwise [k0_pay51, k0_pay52]

theorem k54_at (v65 : IVec S1x8832 32) (v121 : IVec S1x8832 1) (p : Fin 8832) : k0_pay54 v65 v121 v185 (ix2 0 p)
    = Scalar.select (IntOp.andi (IntOp.cmpi .slt (v65 (ix2 0 p)) 8732#32) (IntOp.xori (v121 (ix2 0 p)) 1#1)) (k0_pay53 v185 (ix2 0 p) - v185 (ix3 0 0 p)) 0 := by
  unfold k0_pay54
  generalize k0_pay53 v185 = q
  pointwise [k0_pay51]

theorem bSum_1 : bSum v3 v9 v28 v134 v185 (ix2 1 0) = ∑ p : Fin 8832, (k0_pay53 v185 (ix2 0 p) - ∑ k : Fin 21, if b119 v3 v9 v28 (ix2 0 p) = ((k.val : ℝ) : EReal) then v185 (ix3 0 k p) else 0) * b123 v3 v9 v28 (ix2 0 p) := by
  unfold bSum
  generalize b119 v3 v9 v28 = v119
  generalize b123 v3 v9 v28 = v123
  generalize b184 v3 v9 v28 v134 = v184
  unfold k0_pay55
  generalize k0_pay53 v185 = q
  pointwise [k0_pay51, k0_pay52]
  have e : ∀ k : Fin 21, (FloatOps.sitofp .f32 (BitVec.ofNat 32 k.val) : Ideal .f32) = ((k.val : ℝ) : EReal) := fun k => by
    show (((BitVec.ofNat 32 k.val).toInt : ℝ) : EReal) = _
    rw [(by revert k; decide : (BitVec.ofNat 32 k.val).toInt = (k.val : ℤ)), Int.cast_natCast]
  simp only [e]
end point

section mine
variable (lg : Vec Ideal S16x8832 .f32) (np : Vec Ideal S16x128 .f32)

theorem k3_at (b : Fin 16) : k0_pay3 np (ix2 b 0) = IntOp.minsi (IntOp.muli 3#32 (Ideal.fptosi 32 (np (ix2 b 0)))) 8731#32 := by
  unfold k0_pay3
  pointwise
  rfl

theorem k7_at (lo hi : IVec S16x1 32) (b : Fin 16) : k0_pay7 lg np lo hi (ix2 b 0)
    = IntOp.cmpi .slt (Finset.fold IntOp.addi 0#32 (fun p : Fin 8832 => BitVec.setWidth 32 (BitVec.ofBool (decide (Ideal.ofBits .f32 (k0_pay6 lo hi (ix2 b 0)) < lg (ix2 b p))))) Finset.univ) (k0_pay3 np (ix2 b 0)) := by
  unfold k0_pay7
  generalize k0_pay6 lo hi = q
  generalize k0_pay3 np = r
  pointwise

theorem k8_at (lo hi : IVec S16x1 32) (b : Fin 16) : k0_pay8 lg np lo hi (ix2 b 0) = Scalar.select (k0_pay7 lg np lo hi (ix2 b 0)) (lo (ix2 b 0)) (IntOp.addi (k0_pay6 lo hi (ix2 b 0)) 1#32) := by
  unfold k0_pay8
  generalize k0_pay6 lo hi = q
  generalize k0_pay7 lg np lo hi = r
  pointwise
theorem k9_at (lo hi : IVec S16x1 32) (b : Fin 16) : k0_pay9 lg np lo hi (ix2 b 0) = Scalar.select (k0_pay7 lg np lo hi (ix2 b 0)) (k0_pay6 lo hi (ix2 b 0)) (hi (ix2 b 0)) := by
  unfold k0_pay9
  generalize k0_pay6 lo hi = q
  generalize k0_pay7 lg np lo hi = r
  pointwise

/-- The word half way between two. -/
def half (a b : BitVec 32) : BitVec 32 :=
  let d := IntOp.subi b a
  IntOp.addi a (Scalar.select (IntOp.andi (IntOp.cmpi .ne (IntOp.subi (BitVec.setWidth 32 (IntOp.cmpi .sgt d 0#32)) (BitVec.setWidth 32 (IntOp.cmpi .slt d 0#32)))
      (IntOp.subi (BitVec.setWidth 32 (IntOp.cmpi .sgt (2#32 : BitVec 32) 0#32)) (BitVec.setWidth 32 (IntOp.cmpi .slt (2#32 : BitVec 32) 0#32))))
    (IntOp.cmpi .ne (IntOp.remsi .vector d 2#32) 0#32)) (IntOp.subi (IntOp.divsi .vector d 2#32) 1#32) (IntOp.divsi .vector d 2#32))
theorem k6_at (lo hi : IVec S16x1 32) (b : Fin 16) : k0_pay6 lo hi (ix2 b 0) = half (lo (ix2 b 0)) (hi (ix2 b 0)) := by
  unfold k0_pay6 half
  pointwise
  rfl

theorem k10_at (w : IVec S16x1 32) : k0_pay10 lg np w = ∑ b : Fin 16, Scalar.select (IntOp.cmpi .sgt (k0_pay3 np (ix2 b 0)) 0#32)
    ((∑ p : Fin 8832, if Ideal.ofBits .f32 (w (ix2 b 0)) < lg (ix2 b p) then lg (ix2 b p) else 0)
      + (((IntOp.subi (k0_pay3 np (ix2 b 0)) (Finset.fold IntOp.addi 0#32 (fun p : Fin 8832 => BitVec.setWidth 32 (BitVec.ofBool (decide (Ideal.ofBits .f32 (w (ix2 b 0)) < lg (ix2 b p))))) Finset.univ)).toInt : ℝ) : EReal)
        * Ideal.ofBits .f32 (w (ix2 b 0))) 0 := by
  unfold k0_pay10
  generalize k0_pay3 np = r
  pointwise
  refine Finset.sum_congr rfl fun b _ => ?_
  refine (Finset.sum_const _).trans ?_
  simp only [Finset.card_univ, Fintype.card_fin, one_smul]
  rfl
end mine

end Cert.KernelIdeal.Run
-- ==== Proof.KerTop.lean ====
/- The kernel's bisection ends at the least word with fewer losses above it than there are negatives to take, so that what the last step adds is
the sum of the mined losses. -/
module

public import proofs.«01_k».proof.Proof.KerMine
public import Idealize.ShloMosaic.Lib.WordCmp
public import Idealize.ShloMosaic.Lib.WordSum
public import Idealize.ShloMosaic.Lib.Routing.Words

@[expose] public section

set_option maxRecDepth 16384

noncomputable section

namespace Cert.KernelIdeal.Run

open Cert.KernelIdeal.Gen Cert.Spec
open Idealize.ShloMosaic Idealize.ShloMosaic.TcCoe Idealize.ShloMosaic.Tactic

/-- The words that count how many entries exceed a number add up to their count. -/
theorem count_word {n : ℕ} (hn : n < 2 ^ 32) (x : Fin n → EReal) (t : EReal) :
    Finset.fold IntOp.addi 0#32 (fun p : Fin n => BitVec.setWidth 32 (BitVec.ofBool (decide (t < x p)))) Finset.univ = BitVec.ofNat 32 (above x t) := by
  have e : ∀ p : Fin n, (BitVec.setWidth 32 (BitVec.ofBool (decide (t < x p)))).toNat = if t < x p then 1 else 0 := fun p => by
    by_cases h : t < x p
    · rw [if_pos h, decide_eq_true h]; rfl
    · rw [if_neg h, decide_eq_false h]; rfl
  have hs : ∑ p : Fin n, (BitVec.setWidth 32 (BitVec.ofBool (decide (t < x p)))).toNat = above x t := by
    unfold above
    rw [Finset.card_filter]
    exact Finset.sum_congr rfl fun p _ => e p
  have hb : above x t < 2 ^ 32 := lt_of_le_of_lt ((Finset.card_filter_le _ _).trans (by simp)) hn
  rw [fold_words]
  apply BitVec.eq_of_toNat_eq
  rw [WordSum.toNat_sum _ _ (by rw [hs]; exact hb), hs, BitVec.toNat_ofNat, Nat.mod_eq_of_lt hb]

theorem above_le {n : ℕ} (x : Fin n → EReal) (t : EReal) : above x t ≤ n := (Finset.card_filter_le _ _).trans (by simp)

theorem half_word {lo hi : ℕ} (h : lo ≤ hi) (hh : hi ≤ wtop) : half (BitVec.ofNat 32 lo) (BitVec.ofNat 32 hi) = BitVec.ofNat 32 (lo + (hi - lo) / 2) := by
  unfold wtop at hh
  have hd : IntOp.subi (BitVec.ofNat 32 hi) (BitVec.ofNat 32 lo) = BitVec.ofNat 32 (hi - lo) := by
    apply BitVec.eq_of_toNat_eq
    show (BitVec.ofNat 32 hi - BitVec.ofNat 32 lo).toNat = _
    rw [BitVec.toNat_sub, BitVec.toNat_ofNat, BitVec.toNat_ofNat, BitVec.toNat_ofNat]
    omega
  have hdiv : IntOp.divsi .vector (BitVec.ofNat 32 (hi - lo)) 2#32 = BitVec.ofNat 32 ((hi - lo) / 2) := Routing.divsi_word .vector (by omega) (by decide) (by decide)
  have hadd : IntOp.addi (BitVec.ofNat 32 lo) (BitVec.ofNat 32 ((hi - lo) / 2)) = BitVec.ofNat 32 (lo + (hi - lo) / 2) := (BitVec.ofNat_add _ _).symm
  unfold half
  simp only [hd]
  rw [hdiv]
  have hd' : hi - lo < 2147483648 := by omega
  generalize hi - lo = d at *
  by_cases h0 : d = 0
  · subst h0
    rw [← hadd]
    congr 1
  · have h1 : IntOp.cmpi .sgt (BitVec.ofNat 32 d) 0#32 = 1#1 := by
      rw [WordCmp.cmpi_sgt_ofNat (by omega) (by decide), decide_eq_true (by omega)]; rfl
    have h2 : IntOp.cmpi .slt (BitVec.ofNat 32 d) 0#32 = 0#1 := by
      rw [WordCmp.cmpi_slt_ofNat (by omega) (by decide), decide_eq_false (by omega)]; rfl
    rw [h1, h2, ← hadd]
    generalize IntOp.cmpi .ne (IntOp.remsi .vector (BitVec.ofNat 32 d) 2#32) 0#32 = r
    congr 1
    have : ∀ r : BitVec 1, IntOp.andi (IntOp.cmpi .ne (IntOp.subi (BitVec.setWidth 32 (1#1)) (BitVec.setWidth 32 (0#1)))
      (IntOp.subi (BitVec.setWidth 32 (IntOp.cmpi .sgt (2#32 : BitVec 32) 0#32)) (BitVec.setWidth 32 (IntOp.cmpi .slt (2#32 : BitVec 32) 0#32)))) r = 0#1 := by decide
    rw [this]
    rfl

theorem fptosi_nat {n : ℕ} (hn : n ≤ 8832) : Ideal.fptosi 32 (n : EReal) = BitVec.ofNat 32 n := by
  show BitVec.ofInt 32 (max (-2147483648 : ℤ) (min (2147483648 - 1) (if 0 ≤ ((n : ℕ) : ℝ) then ⌊((n : ℕ) : ℝ)⌋ else ⌈((n : ℕ) : ℝ)⌉))) = _
  rw [if_pos (Nat.cast_nonneg n), Int.floor_natCast, min_eq_right (by omega), max_eq_right (by omega)]
  rfl

theorem trips_eq : k0_t1_loop.trips = 31 := by decide

section rows
variable (lg : Vec Ideal S16x8832 .f32) (np : Vec Ideal S16x128 .f32) (b : Fin 16) (n : ℕ) (hn : n ≤ 8832) (hnp : np (ix2 b 0) = ((n : ℕ) : EReal))
include hn hnp

theorem k3_word : k0_pay3 np (ix2 b 0) = BitVec.ofNat 32 (negs n) := by
  rw [k3_at, hnp, fptosi_nat hn, negs_word hn]

theorem k7_word (lo hi : IVec S16x1 32) (w : ℕ) (hw : k0_pay6 lo hi (ix2 b 0) = BitVec.ofNat 32 w) :
    k0_pay7 lg np lo hi (ix2 b 0) = BitVec.ofBool (decide (above (fun p : Fin 8832 => lg (ix2 b p)) (sf w) < negs n)) := by
  have h1 := above_le (fun p : Fin 8832 => lg (ix2 b p)) (sf w)
  have h2 : negs n ≤ 8731 := min_le_right _ _
  rw [k7_at, hw, k3_word np b n hn hnp]
  refine (congrArg (fun z => IntOp.cmpi .slt z (BitVec.ofNat 32 (negs n))) (count_word (by decide) (fun p : Fin 8832 => lg (ix2 b p)) (sf w))).trans ?_
  exact WordCmp.cmpi_slt_ofNat (by omega) (by omega)

/-- The row's bounds are words of bounds of the least one. -/
def Inv (j : ℕ) (p : IVec S16x1 32 × IVec S16x1 32) : Prop :=
  ∃ lo hi, p.1 (ix2 b 0) = BitVec.ofNat 32 lo ∧ p.2 (ix2 b 0) = BitVec.ofNat 32 hi ∧ Between (fun p : Fin 8832 => lg (ix2 b p)) (negs n) j lo hi

theorem inv_step (h0 : 0 < negs n) (j : ℕ) (p : IVec S16x1 32 × IVec S16x1 32) (h : Inv lg b n (j + 1) p) :
    Inv lg b n j (k0_pay8 lg np p.1 p.2, k0_pay9 lg np p.1 p.2) := by
  obtain ⟨lo, hi, hlo, hhi, hb⟩ := h
  have hw : k0_pay6 p.1 p.2 (ix2 b 0) = BitVec.ofNat 32 (lo + (hi - lo) / 2) := by
    rw [k6_at, hlo, hhi, half_word (hb.1.trans hb.2.1) hb.2.2.1]
  have h7 := k7_word lg np b n hn hnp p.1 p.2 _ hw
  by_cases hc : above (fun p : Fin 8832 => lg (ix2 b p)) (sf (lo + (hi - lo) / 2)) < negs n
  · rw [decide_eq_true hc] at h7
    refine ⟨lo, lo + (hi - lo) / 2, ?_, ?_, between_low h0 hb hc⟩
    · show k0_pay8 lg np p.1 p.2 (ix2 b 0) = _
      rw [k8_at, h7, ← hlo]; rfl
    · show k0_pay9 lg np p.1 p.2 (ix2 b 0) = _
      rw [k9_at, h7, ← hw]; rfl
  · rw [decide_eq_false hc] at h7
    refine ⟨lo + (hi - lo) / 2 + 1, hi, ?_, ?_, between_high h0 hb hc⟩
    · show k0_pay8 lg np p.1 p.2 (ix2 b 0) = _
      rw [k8_at, h7, hw]; exact (BitVec.ofNat_add (lo + (hi - lo) / 2) 1).symm
    · show k0_pay9 lg np p.1 p.2 (ix2 b 0) = _
      rw [k9_at, h7, ← hhi]; rfl

theorem inv_fold (h0 : 0 < negs n) {κ : Type} (l : List κ) (j : ℕ) (p : IVec S16x1 32 × IVec S16x1 32) (h : Inv lg b n (l.length + j) p) :
    Inv lg b n j (l.foldl (fun acc _ => (k0_pay8 lg np acc.1 acc.2, k0_pay9 lg np acc.1 acc.2)) p) := by
  induction l generalizing p with
  | nil => simpa using h
  | cons a l ih =>
    rw [List.foldl_cons]
    refine ih _ (inv_step lg np b n hn hnp h0 _ p ?_)
    rw [List.length_cons] at h
    rwa [show l.length + j + 1 = l.length + 1 + j by omega]

theorem bis_word (h0 : 0 < negs n) : (bis lg np).2 (ix2 b 0) = BitVec.ofNat 32 (few (fun p : Fin 8832 => lg (ix2 b p)) (negs n)) := by
  have h : Inv lg b n 0 (bis lg np) := by
    unfold bis
    rw [Scf.fold_eq]
    refine inv_fold lg np b n hn hnp h0 (List.finRange k0_t1_loop.trips) 0 _ ?_
    rw [List.length_finRange, trips_eq]
    exact ⟨0, wtop, rfl, rfl, between_zero _ _ h0⟩
  obtain ⟨lo, hi, -, hhi, hb⟩ := h
  rw [hhi, between_end hb]
end rows

/-- What the last step adds: the mined losses of the sixteen batches. -/
theorem topk_at (lg : Vec Ideal S16x8832 .f32) (np : Vec Ideal S16x128 .f32) (n : Fin 16 → ℕ) (hn : ∀ b, n b ≤ 8832) (hnp : ∀ b, np (ix2 b 0) = ((n b : ℕ) : EReal)) :
    topk lg np = ∑ b : Fin 16, mined (fun p : Fin 8832 => lg (ix2 b p)) (negs (n b)) := by
  unfold topk
  rw [k10_at]
  refine Finset.sum_congr rfl fun b _ => ?_
  have h2 : negs (n b) ≤ 8731 := min_le_right _ _
  unfold mined
  rw [k3_word np b (n b) (hn b) (hnp b), WordCmp.cmpi_sgt_ofNat (by omega) (by decide)]
  by_cases h0 : 0 < negs (n b)
  · rw [if_pos h0, decide_eq_true h0, bis_word lg np b (n b) (hn b) (hnp b) h0]
    generalize hw : few (fun p : Fin 8832 => lg (ix2 b p)) (negs (n b)) = w
    have hlt : above (fun p : Fin 8832 => lg (ix2 b p)) (sf w) < negs (n b) := by
      rw [← hw]; exact ((few_spec _ _ h0).2 _ (few_spec _ _ h0).1).mpr le_rfl
    show (∑ p : Fin 8832, if sf w < lg (ix2 b p) then lg (ix2 b p) else 0) + _ * sf w = _
    congr 2
    have hc := count_word (by decide) (fun p : Fin 8832 => lg (ix2 b p)) (sf w)
    have hs : IntOp.subi (BitVec.ofNat 32 (negs (n b))) (BitVec.ofNat 32 (above (fun p : Fin 8832 => lg (ix2 b p)) (sf w)))
        = BitVec.ofNat 32 (negs (n b) - above (fun p : Fin 8832 => lg (ix2 b p)) (sf w)) := by
      apply BitVec.eq_of_toNat_eq
      show (BitVec.ofNat 32 _ - BitVec.ofNat 32 _).toNat = _
      rw [BitVec.toNat_sub, BitVec.toNat_ofNat, BitVec.toNat_ofNat, BitVec.toNat_ofNat]
      omega
    refine (congrArg (fun z => (((IntOp.subi (BitVec.ofNat 32 (negs (n b))) z).toInt : ℝ) : EReal)) hc).trans ?_
    show (((IntOp.subi (BitVec.ofNat 32 (negs (n b))) (BitVec.ofNat 32 (above (fun p : Fin 8832 => lg (ix2 b p)) (sf w)))).toInt : ℝ) : EReal) = _
    rw [hs, WordCmp.toInt_ofNat_of_lt (by omega), Int.cast_natCast]
    rfl
  · rw [if_neg h0, decide_eq_false h0]
    rfl

end Cert.KernelIdeal.Run
-- ==== Proof.KerCls.lean ====
/- The kernel's class loss: the matched priors' losses and the mined ones, as sums over the sixteen batches. -/
module

public import proofs.«01_k».proof.Proof.KerTop
public import proofs.«01_k».proof.Proof.KerTotal

@[expose] public section

set_option maxRecDepth 16384

noncomputable section

namespace Cert.KernelIdeal.Run

open Cert.KernelIdeal.Gen
open Cert.Spec
open Idealize.ShloMosaic Idealize.ShloMosaic.TcCoe Idealize.ShloMosaic.Tactic

/-! ## One batch -/

theorem b121_of (v3 v9 : Vec Ideal S1x8x128 .f32) (v28 : Vec Ideal S16x8832 .f32) (p : Fin 8832) :
    (b123 v3 v9 v28 (ix2 0 p) = 1 → b121 v3 v9 v28 (ix2 0 p) = 1#1) ∧ (b123 v3 v9 v28 (ix2 0 p) = 0 → b121 v3 v9 v28 (ix2 0 p) = 0#1) := by
  unfold b121 b123
  rw [k42_at, k43_at]
  by_cases h : Ideal.ofBits .f32 0x3F000000#32 < k0_pay41 (b27 v3 v9) i66 (b78 v3 v28) (b86 v3 v28) (b93 v3 v28) (ix2 0 p)
  · rw [if_pos h, decide_eq_true h]
    exact ⟨fun _ => rfl, fun h => absurd h one_ne_zero⟩
  · rw [if_neg h, decide_eq_false h]
    exact ⟨fun h => absurd h zero_ne_one, fun _ => rfl⟩

theorem bNp_at (v3 v9 : Vec Ideal S1x8x128 .f32) (v28 : Vec Ideal S16x8832 .f32) (v134 : Vec Ideal S1x4x8832 .f32) (v185 : Vec Ideal S1x21x8832 .f32) :
    bNp v3 v9 v28 v134 v185 (ix2 0 0) = bSum v3 v9 v28 v134 v185 (ix2 2 0) := by
  unfold bNp bSum k0_pay56
  generalize k0_pay55 (b119 v3 v9 v28) (b123 v3 v9 v28) (b184 v3 v9 v28 v134) v185 = s
  pointwise

theorem i65_at (p : Fin 8832) : i65 (ix2 0 p) = BitVec.ofNat 32 p.val := by pointwise

theorem keep (x : EReal) (c : BitVec 1) (h : c = 1#1) : Scalar.select (IntOp.andi 1#1 (IntOp.xori c 1#1)) x 0 = (0 : EReal) := by subst h; rfl
theorem drop (x : EReal) (c : BitVec 1) (h : c = 0#1) : Scalar.select (IntOp.andi 1#1 (IntOp.xori c 1#1)) x 0 = x := by subst h; rfl
theorem beyond (x : EReal) (c : BitVec 1) : Scalar.select (IntOp.andi 0#1 (IntOp.xori c 1#1)) x 0 = (0 : EReal) := by
  have : IntOp.andi 0#1 (IntOp.xori c 1#1) = 0#1 := by revert c; decide
  rw [this]; rfl

section batch
variable {v3 v9 : Vec Ideal S1x8x128 .f32} {v28 : Vec Ideal S16x8832 .f32} {v134 : Vec Ideal S1x4x8832 .f32}
    {loc : Fin 8732 → Fin 4 → EReal} {q : Fin 8732 → Fin 4 → EReal} {t : Fin 8 → Fin 4 → EReal} {cl : Fin 8 → BitVec 32}
    (H : Holds v3 v9 v28 v134 loc q t cl)
    {v185 : Vec Ideal S1x21x8832 .f32} {conf : Fin 8732 → Fin 21 → EReal} (hv : ∀ p k, v185 (ix3 0 k (Cert.Spec.up p)) = conf p k)
include H hv

theorem lg_in (p : Fin 8732) : bLg v3 v9 v28 v185 (ix2 0 (Cert.Spec.up p)) = lgB conf q t p := by
  have hp := pos_in H p
  unfold bLg lgB
  have hlt : IntOp.cmpi .slt (BitVec.ofNat 32 (Cert.Spec.up p).val) 8732#32 = 1#1 := by
    rw [WordCmp.cmpi_slt_ofNat (lt_trans (Cert.Spec.up p).isLt (by decide)) (by decide), decide_eq_true (show (Cert.Spec.up p).val < 8732 from p.isLt)]; rfl
  rw [k54_at, k53_at, i65_at, hlt]
  simp only [hv]
  by_cases h : Pos (OV q t) p
  · rw [if_pos h] at hp ⊢
    exact keep _ _ ((b121_of v3 v9 v28 _).1 hp)
  · rw [if_neg h] at hp ⊢
    exact drop _ _ ((b121_of v3 v9 v28 _).2 hp)
omit H hv in
theorem lg_out (p : Fin 8832) (hp : 8732 ≤ p.val) : bLg v3 v9 v28 v185 (ix2 0 p) = 0 := by
  unfold bLg
  have hlt : IntOp.cmpi .slt (BitVec.ofNat 32 p.val) 8732#32 = 0#1 := by
    rw [WordCmp.cmpi_slt_ofNat (lt_trans p.isLt (by decide)) (by decide), decide_eq_false (not_lt.mpr hp)]; rfl
  rw [k54_at, i65_at, hlt]
  exact beyond _ _

theorem bSum_cls (hc : ∀ j, (cl j).toInt < 20) : bSum v3 v9 v28 v134 v185 (ix2 1 0) = ceB conf q t cl := by
  rw [bSum_1, sum_cut (fun p hp => by rw [pos_out H p hp, mul_zero])]
  unfold ceB
  refine Finset.sum_congr rfl fun p _ => ?_
  rw [pos_in H, k53_at]
  simp only [hv]
  by_cases h : Pos (OV q t) p
  · rw [if_pos h, if_pos h, mul_one]
    refine congrArg (fun z => lse (conf p) - z) ?_
    have hcl : b119 v3 v9 v28 (ix2 0 (Cert.Spec.up p)) = (((clsIx (cl (mt (OV q t) p))).val : ℝ) : EReal) := by
      unfold b119
      rw [class_in H, if_neg h]
      have h1 := hc (mt (OV q t) p)
      have h0 := H.cok (mt (OV q t) p)
      have e : (((clsIx (cl (mt (OV q t) p))).val : ℕ) : ℤ) = (cl (mt (OV q t) p)).toInt + 1 := by
        show (((((cl (mt (OV q t) p)).toInt + 1).toNat % 21 : ℕ)) : ℤ) = _
        omega
      have e' : (((clsIx (cl (mt (OV q t) p))).val : ℕ) : ℝ) = ((cl (mt (OV q t) p)).toInt : ℝ) + 1 := by exact_mod_cast e
      rw [e', EReal.coe_add, EReal.coe_one]
    rw [hcl]
    refine (Finset.sum_eq_single (clsIx (cl (mt (OV q t) p))) (fun k _ hk => if_neg fun e => hk ?_) (fun hh => absurd (Finset.mem_univ _) hh)).trans (if_pos rfl)
    have e2 := EReal.coe_injective e
    exact Fin.ext (by exact_mod_cast e2.symm)
  · rw [if_neg h, if_neg h, mul_zero]
end batch

/-! ## All of them -/

variable (m : (ℓ : Loc nD τ sig) → Buf (Elt Ideal) ℓ) (c : Dev nD)

/-- A batch's class scores. -/
def confOf (b : Fin 16) (p : Fin 8732) (k : Fin 21) : EReal := A1 m c (ix3 b p k)

theorem v63_at (b : Fin 16) (l : Fin 21) (p : Fin 8732) : (V m c main_call0_v63 : Vec Ideal S16x21x8832 .f32) (ix3 b l ⟨p.val, by omega⟩) = A1 m c (ix3 b p l) := by
  rw [V_v63]
  pointwise

theorem conf_holds (n u : Fin 4) (p : Fin 8732) (k : Fin 21) : bx4 (iblk m c 4 (pt n.val)) u (ix3 0 k (Cert.Spec.up p)) = confOf m c (bt n u) p k :=
  (blk4_at m c n u k (Cert.Spec.up p)).trans (v63_at m c _ k p)

theorem batch_of (b : Fin 16) : ∃ n u : Fin 4, b = bt n u ∧ b.val / 4 = n.val ∧ (⟨b.val % 4, Nat.mod_lt _ (by decide)⟩ : Fin 4) = u :=
  ⟨⟨b.val / 4, by omega⟩, ⟨b.val % 4, Nat.mod_lt _ (by decide)⟩, Fin.ext (by show b.val = 4 * (b.val / 4) + b.val % 4; omega), rfl, rfl⟩

theorem LG_at (b : Fin 16) (n u : Fin 4) (hn : b.val / 4 = n.val) (hu : (⟨b.val % 4, Nat.mod_lt _ (by decide)⟩ : Fin 4) = u) (p : Fin 8832) :
    LG m c (ix2 b p) = bLg (bx0 (iblk m c 0 (pt n.val)) u) (bx0 (iblk m c 1 (pt n.val)) u) (bx2 (iblk m c 2 (pt n.val))) (bx4 (iblk m c 4 (pt n.val)) u) (ix2 0 p) := by
  rw [← hn, ← hu]; rfl
theorem NP_at (b : Fin 16) (n u : Fin 4) (hn : b.val / 4 = n.val) (hu : (⟨b.val % 4, Nat.mod_lt _ (by decide)⟩ : Fin 4) = u) :
    NP m c (ix2 b 0) = bNp (bx0 (iblk m c 0 (pt n.val)) u) (bx0 (iblk m c 1 (pt n.val)) u) (bx2 (iblk m c 2 (pt n.val))) (bx3 (iblk m c 3 (pt n.val)) u) (bx4 (iblk m c 4 (pt n.val)) u) (ix2 0 0) := by
  rw [← hn, ← hu]; rfl

theorem NP_row (hg : Good m c) (b : Fin 16) : NP m c (ix2 b 0) = ((posN (priOf m c) (boxOf m c b) : ℕ) : EReal) := by
  obtain ⟨n, u, hb, hn, hu⟩ := batch_of b
  rw [NP_at m c b n u hn hu, bNp_at, bSum_num (holds m c hg n u), numB_eq, hb]
theorem mined_row (hg : Good m c) (b : Fin 16) (k : ℕ) :
    mined (fun p : Fin 8832 => LG m c (ix2 b p)) k = mined (lgB (confOf m c b) (priOf m c) (boxOf m c b)) k := by
  obtain ⟨n, u, hb, hn, hu⟩ := batch_of b
  refine mined_cut _ _ (fun p => ?_) (fun p hp => ?_) k
  · rw [LG_at m c b n u hn hu, lg_in (holds m c hg n u) (conf_holds m c n u), hb]
  · rw [LG_at m c b n u hn hu]; exact lg_out p hp

theorem topk_sum (hg : Good m c) : topk (LG m c) (NP m c) = ∑ b : Fin 16, minedB (confOf m c b) (priOf m c) (boxOf m c b) := by
  rw [topk_at (LG m c) (NP m c) (fun b => posN (priOf m c) (boxOf m c b)) (fun b => (posN_le _ _).trans (by decide)) (NP_row m c hg)]
  exact Finset.sum_congr rfl fun b _ => mined_row m c hg b _

theorem tot_1 (hg : Good m c) (hc : ∀ b j, (clsOf m c b j).toInt < 20) (n : Fin 4) (k : ℕ) (hk : k = n.val) : tot m c k (ix2 1 0)
    = ceB (confOf m c (bt n 0)) (priOf m c) (boxOf m c (bt n 0)) (clsOf m c (bt n 0)) + ceB (confOf m c (bt n 1)) (priOf m c) (boxOf m c (bt n 1)) (clsOf m c (bt n 1))
      + ceB (confOf m c (bt n 2)) (priOf m c) (boxOf m c (bt n 2)) (clsOf m c (bt n 2)) + ceB (confOf m c (bt n 3)) (priOf m c) (boxOf m c (bt n 3)) (clsOf m c (bt n 3)) := by
  subst hk
  have e : ∀ (v : FVec Ideal S8x128 .f32) (s : FVec Ideal S3x1 .f32), k0_pay58 v s k0_pay57 (ix2 1 0) = v (ix2 1 0) + s (ix2 1 0) := fun v s => k58_at v s 1
  have s1 : ∀ u : Fin 4, sSum (iblk m c 0 (pt n.val)) (iblk m c 1 (pt n.val)) (iblk m c 2 (pt n.val)) (iblk m c 3 (pt n.val)) (iblk m c 4 (pt n.val)) u (ix2 1 0)
      = ceB (confOf m c (bt n u)) (priOf m c) (boxOf m c (bt n u)) (clsOf m c (bt n u)) := fun u => by
    unfold sSum
    exact bSum_cls (holds m c hg n u) (conf_holds m c n u) (hc (bt n u))
  unfold tot sTot
  rw [e, e, e, e, k13_at, zero_add, s1, s1, s1, s1]

theorem out_1 (hg : Good m c) (hc : ∀ b j, (clsOf m c b j).toInt < 20) : out m c 3 (ix2 1 0)
    = (∑ b : Fin 16, ceB (confOf m c b) (priOf m c) (boxOf m c b) (clsOf m c b)) + ∑ b : Fin 16, minedB (confOf m c b) (priOf m c) (boxOf m c b) := by
  unfold out
  rw [if_pos rfl]
  unfold fin
  rw [k2_at, if_pos rfl, topk_sum m c hg, k11_at, acc_3, k1_at, k1_at, k1_at, tot_1 m c hg hc 0 0 rfl, tot_1 m c hg hc 1 1 rfl,
    tot_1 m c hg hc 2 2 rfl, tot_1 m c hg hc 3 3 rfl]
  congr 1
  exact sum_16 fun b => ceB (confOf m c b) (priOf m c) (boxOf m c b) (clsOf m c b)

/-- The kernel's second result. -/
theorem second_result (hg : Good m c) (hc : ∀ b j, (clsOf m c b j).toInt < 20) : Host.divf (o m c 1) (o m c 2)
    = fun _ => Ideal.div ((∑ b : Fin 16, ceB (confOf m c b) (priOf m c) (boxOf m c b) (clsOf m c b)) + ∑ b : Fin 16, minedB (confOf m c b) (priOf m c) (boxOf m c b))
        (∑ b : Fin 16, numB (priOf m c) (boxOf m c b)) := by
  funext i
  rw [o_div, o_at, o_at, out_1 m c hg hc, out_row m c hg 1 2 rfl]
  rfl

end Cert.KernelIdeal.Run

end
-- ==== Proof.RefPoint.lean ====
/- The reference's overlaps, entry by entry, over the extended reals. -/
module

public import proofs.«01_k».proof.Proof.RefRunA
public import proofs.«01_k».proof.Proof.Box
public import Idealize.ShloMosaic.Lib.Pointwise
public import Idealize.ShloMosaic.PureOps.Ideal.Laws

@[expose] public section

set_option maxRecDepth 16384

noncomputable section

namespace Cert.Ref

open Cert.ReferenceIdeal Cert.ReferenceIdeal.Gen
open Cert.Spec (ovl ovc OV w0 w1 w2 w5 w10 wbot)
open Idealize.ShloMosaic Idealize.ShloMosaic.TcCoe Idealize.ShloMosaic.Tactic

variable (V0 : Valuation τ sig (Elt Ideal))

/-- The arguments as functions of their indices. -/
abbrev a0 : FVec Ideal S16x8732x4 .f32 := V0 (Proc.devRef .tc main_arg0)
abbrev a2 : FVec Ideal S8732x4 .f32 := V0 (Proc.devRef .tc main_arg2)
abbrev a3 : FVec Ideal S16x8x4 .f32 := V0 (Proc.devRef .tc main_arg3)
abbrev a4 : IVec S16x8 32 := V0 (Proc.devRef .tc main_arg4)

/-- A batch's locations, targets and classes, and the priors. -/
def loc (b : Fin 16) (p : Fin 8732) (k : Fin 4) : EReal := a0 V0 (ix3 b p k)
def pri (p : Fin 8732) (k : Fin 4) : EReal := a2 V0 (ix2 p k)
def box (b : Fin 16) (j : Fin 8) (k : Fin 4) : EReal := a3 V0 (ix3 b j k)
def cls (b : Fin 16) (j : Fin 8) : BitVec 32 := a4 V0 (ix2 b j)

/-- Corners of the priors. -/
def r10 (a : FVec Ideal S8732x4 .f32) : FVec Ideal S8732x4 .f32 :=
  concatenate S8732x4 1 [⟨S8732x2, (subf (extractStridedSlice S8732x2 ![0, 0] a slices_S8732x4_S8732x2_0_0) (Host.divf (extractStridedSlice S8732x2 ![0, 2] a slices_S8732x4_S8732x2_0_2) (broadcastInDim S8732x2 ![] bcast_S_S8732x2 (constant (F := Ideal) S_ .f32 0x40000000#32))))⟩, ⟨S8732x2, (addf (extractStridedSlice S8732x2 ![0, 0] a slices_S8732x4_S8732x2_0_0) (Host.divf (extractStridedSlice S8732x2 ![0, 2] a slices_S8732x4_S8732x2_0_2) (broadcastInDim S8732x2 ![] bcast_S_S8732x2 (constant (F := Ideal) S_ .f32 0x40000000#32))))⟩] concatenates_S8732x2_S8732x2_S8732x4_d1
theorem v10_eq : res_main_v10 V0 = r10 (a2 V0) := rfl

theorem r10_0 (a : FVec Ideal S8732x4 .f32) (p : Fin 8732) : r10 a (ix2 p 0) = a (ix2 p 0) - Ideal.div (a (ix2 p 2)) ((2 : ℝ) : EReal) := by
  unfold r10; rw [← w2]; pointwise
theorem r10_1 (a : FVec Ideal S8732x4 .f32) (p : Fin 8732) : r10 a (ix2 p 1) = a (ix2 p 1) - Ideal.div (a (ix2 p 3)) ((2 : ℝ) : EReal) := by
  unfold r10; rw [← w2]; pointwise
theorem r10_2 (a : FVec Ideal S8732x4 .f32) (p : Fin 8732) : r10 a (ix2 p 2) = a (ix2 p 0) + Ideal.div (a (ix2 p 2)) ((2 : ℝ) : EReal) := by
  unfold r10; rw [← w2]; pointwise
theorem r10_3 (a : FVec Ideal S8732x4 .f32) (p : Fin 8732) : r10 a (ix2 p 3) = a (ix2 p 1) + Ideal.div (a (ix2 p 3)) ((2 : ℝ) : EReal) := by
  unfold r10; rw [← w2]; pointwise

/-- Widths and heights of the intersections. -/
def r26 (t : FVec Ideal S16x8x4 .f32) (x : FVec Ideal S8732x4 .f32) : FVec Ideal S16x8x8732x2 .f32 :=
  maximumf (broadcastInDim S16x8x8732x2 ![] bcast_S_S16x8x8732x2 (id (constant (F := Ideal) S_ .f32 0x00000000#32))) (subf (minimumf (broadcastInDim S16x8x8732x2 ![0, 1, 2, 3] bcast_S16x8x1x2_S16x8x8732x2_0_1_2_3 (broadcastInDim S16x8x1x2 ![0, 1, 3] bcast_S16x8x2_S16x8x1x2_0_1_3 (extractStridedSlice S16x8x2 ![0, 0, 2] t slices_S16x8x4_S16x8x2_0_0_2))) (broadcastInDim S16x8x8732x2 ![0, 1, 2, 3] bcast_S1x1x8732x2_S16x8x8732x2_0_1_2_3 (broadcastInDim S1x1x8732x2 ![2, 3] bcast_S8732x2_S1x1x8732x2_2_3 (extractStridedSlice S8732x2 ![0, 2] x slices_S8732x4_S8732x2_0_2)))) (maximumf (broadcastInDim S16x8x8732x2 ![0, 1, 2, 3] bcast_S16x8x1x2_S16x8x8732x2_0_1_2_3 (broadcastInDim S16x8x1x2 ![0, 1, 3] bcast_S16x8x2_S16x8x1x2_0_1_3 (extractStridedSlice S16x8x2 ![0, 0, 0] t slices_S16x8x4_S16x8x2_0_0_0))) (broadcastInDim S16x8x8732x2 ![0, 1, 2, 3] bcast_S1x1x8732x2_S16x8x8732x2_0_1_2_3 (broadcastInDim S1x1x8732x2 ![2, 3] bcast_S8732x2_S1x1x8732x2_2_3 (extractStridedSlice S8732x2 ![0, 0] x slices_S8732x4_S8732x2_0_0)))))
theorem v26_eq : res_main_v26 V0 = r26 (a3 V0) (r10 (a2 V0)) := rfl
theorem r26_0 (t : FVec Ideal S16x8x4 .f32) (x : FVec Ideal S8732x4 .f32) (b : Fin 16) (j : Fin 8) (p : Fin 8732) : r26 t x (ix4 b j p 0)
    = max (min (t (ix3 b j 2)) (x (ix2 p 2)) - max (t (ix3 b j 0)) (x (ix2 p 0))) 0 := by
  unfold r26; rw [max_comm (_ - _)]; pointwise; exact congrArg (max · _) w0
theorem r26_1 (t : FVec Ideal S16x8x4 .f32) (x : FVec Ideal S8732x4 .f32) (b : Fin 16) (j : Fin 8) (p : Fin 8732) : r26 t x (ix4 b j p 1)
    = max (min (t (ix3 b j 3)) (x (ix2 p 3)) - max (t (ix3 b j 1)) (x (ix2 p 1))) 0 := by
  unfold r26; rw [max_comm (_ - _)]; pointwise; exact congrArg (max · _) w0

/-- Areas of the intersections. -/
def r31 (x : FVec Ideal S16x8x8732x2 .f32) : FVec Ideal S16x8x8732 .f32 :=
  mulf (shapeCast _ (extractStridedSlice S16x8x8732x1 ![0, 0, 0, 0] x slices_S16x8x8732x2_S16x8x8732x1_0_0_0_0) shapeCasts_S16x8x8732x1_S16x8x8732) (shapeCast _ (extractStridedSlice S16x8x8732x1 ![0, 0, 0, 1] x slices_S16x8x8732x2_S16x8x8732x1_0_0_0_1) shapeCasts_S16x8x8732x1_S16x8x8732)
theorem v31_eq : res_main_v31 V0 = r31 (res_main_v26 V0) := rfl
theorem r31_at (x : FVec Ideal S16x8x8732x2 .f32) (b : Fin 16) (j : Fin 8) (p : Fin 8732) : r31 x (ix3 b j p) = x (ix4 b j p 0) * x (ix4 b j p 1) := by
  unfold r31; pointwise

/-- Intersection over union. -/
def r60 (t : FVec Ideal S16x8x4 .f32) (x : FVec Ideal S8732x4 .f32) (v : FVec Ideal S16x8x8732 .f32) : FVec Ideal S16x8x8732 .f32 :=
  Host.divf v (subf (addf (broadcastInDim S16x8x8732 ![0, 1, 2] bcast_S16x8x1_S16x8x8732_0_1_2 (broadcastInDim S16x8x1 ![0, 1] bcast_S16x8_S16x8x1_0_1 (mulf (subf (shapeCast _ (extractStridedSlice S16x8x1 ![0, 0, 2] t slices_S16x8x4_S16x8x1_0_0_2) shapeCasts_S16x8x1_S16x8) (shapeCast _ (extractStridedSlice S16x8x1 ![0, 0, 0] t slices_S16x8x4_S16x8x1_0_0_0) shapeCasts_S16x8x1_S16x8)) (subf (shapeCast _ (extractStridedSlice S16x8x1 ![0, 0, 3] t slices_S16x8x4_S16x8x1_0_0_3) shapeCasts_S16x8x1_S16x8) (shapeCast _ (extractStridedSlice S16x8x1 ![0, 0, 1] t slices_S16x8x4_S16x8x1_0_0_1) shapeCasts_S16x8x1_S16x8))))) (broadcastInDim S16x8x8732 ![0, 1, 2] bcast_S1x1x8732_S16x8x8732_0_1_2 (broadcastInDim S1x1x8732 ![2] bcast_S8732_S1x1x8732_2 (mulf (subf (shapeCast _ (extractStridedSlice S8732x1 ![0, 2] x slices_S8732x4_S8732x1_0_2) shapeCasts_S8732x1_S8732) (shapeCast _ (extractStridedSlice S8732x1 ![0, 0] x slices_S8732x4_S8732x1_0_0) shapeCasts_S8732x1_S8732)) (subf (shapeCast _ (extractStridedSlice S8732x1 ![0, 3] x slices_S8732x4_S8732x1_0_3) shapeCasts_S8732x1_S8732) (shapeCast _ (extractStridedSlice S8732x1 ![0, 1] x slices_S8732x4_S8732x1_0_1) shapeCasts_S8732x1_S8732)))))) v)
theorem v60_eq : res_main_v60 V0 = r60 (a3 V0) (res_main_v10 V0) (res_main_v31 V0) := rfl
theorem r60_at (t : FVec Ideal S16x8x4 .f32) (x : FVec Ideal S8732x4 .f32) (v : FVec Ideal S16x8x8732 .f32) (b : Fin 16) (j : Fin 8) (p : Fin 8732) : r60 t x v (ix3 b j p)
    = Ideal.div (v (ix3 b j p)) ((t (ix3 b j 2) - t (ix3 b j 0)) * (t (ix3 b j 3) - t (ix3 b j 1))
      + (x (ix2 p 2) - x (ix2 p 0)) * (x (ix2 p 3) - x (ix2 p 1)) - v (ix3 b j p)) := by
  unfold r60; pointwise

theorem v60_at (b : Fin 16) (j : Fin 8) (p : Fin 8732) : res_main_v60 V0 (ix3 b j p) = OV (pri V0) (box V0 b) j p := by
  rw [v60_eq, r60_at, v31_eq, r31_at, v26_eq, r26_0, r26_1, v10_eq, r10_0, r10_1, r10_2, r10_3]
  rfl

end Cert.Ref

end
-- ==== Proof.RefArg.lean ====
/- The reference's matching, entry by entry: its two arg-maxes, and the index of each prior's target. -/
module

public import proofs.«01_k».proof.Proof.RefPoint

@[expose] public section

set_option maxRecDepth 16384

noncomputable section

namespace Cert.Ref

open Cert.ReferenceIdeal Cert.ReferenceIdeal.Gen
open Cert.Spec (OV w0 w1 w2 w5 w10 wbot BoxOk PriorOk bp bt mt asks asked bov Pos thr first_spec toInt_ofNat)
open Idealize.ShloMosaic Idealize.ShloMosaic.TcCoe Idealize.ShloMosaic.Tactic

variable (V0 : Valuation τ sig (Elt Ideal))

/-- What the precondition says of the arguments. -/
structure Good : Prop where
  box : ∀ b j, BoxOk (box V0 b j)
  pri : ∀ p, PriorOk (pri V0 p)
  cls : ∀ b j, 0 ≤ (cls V0 b j).toInt ∧ (cls V0 b j).toInt < 20

/-- The overlaps of a batch. -/
abbrev ov (b : Fin 16) : Fin 8 → Fin 8732 → EReal := OV (pri V0) (box V0 b)

theorem reducer_eq (a b : EReal × BitVec 32) : reducer_argmax_f32_i32 (F := Ideal) a b
    = if b.1 < a.1 ∨ (a.1 = b.1 ∧ a.2.toInt < b.2.toInt) then a else b := by
  obtain ⟨x, i⟩ := a
  obtain ⟨y, k⟩ := b
  unfold reducer_argmax_f32_i32
  simp only [Ideal.cmpf_def, Ideal.cmp, IntOp.cmpi, IntOp.ori, IntOp.andi, BitVec.slt]
  by_cases h : y < x
  · have e : ¬ x = y := fun e => absurd h (by rw [e]; exact lt_irrefl _)
    simp [h, e, Scalar.select]
  · by_cases e : x = y
    · subst e
      by_cases hk : i.toInt < k.toInt <;> simp [hk, Scalar.select]
    · simp [h, e, Scalar.select]

/-- An arg-max's index at a result index is the one held where the operand is greatest, first among equals. -/
theorem arg_at {s t : Shape} {axes : List (Fin s.rank)} (h : s.ReducesTo axes t) (x : FVec Ideal s .f32) (y : s.Idx → BitVec 32)
    (ix : FVec Ideal S_ .f32) (iy : S_.Idx → BitVec 32) (hix : ∀ i, ix i = (⊥ : EReal)) (j : t.Idx) (i : s.Idx) (hi : h.drop i = j) (hpos : (⊥ : EReal) < x i)
    (hbest : ∀ k, h.drop k = j → x k < x i ∨ (x k = x i ∧ (y i).toInt ≤ (y k).toInt)) :
    (Host.argReduce (F := Ideal) reducer_argmax_f32_i32 x y ix iy h h_S_ j).2 = y i := by
  rw [Ideal.argReduce_eq_reduce2]
  unfold Host.reduce2
  have e : (ix (Shape.Idx.first h_S_), iy (Shape.Idx.first h_S_)) = ((⊥ : EReal), iy (Shape.Idx.first h_S_)) := by rw [hix]
  have hm := Cert.Spec.foldl_argmax (reducer_argmax_f32_i32 (F := Ideal)) reducer_eq (fun n => x (s.rowMajor.symm n)) (fun n => y (s.rowMajor.symm n))
    ((List.finRange s.numel).filter fun n => h.drop (s.rowMajor.symm n) = j) (s.rowMajor i)
    (by rw [List.mem_filter]; exact ⟨List.mem_finRange _, by simpa using hi⟩)
    (by simpa using hpos)
    (by
      intro k hk
      rw [List.mem_filter] at hk
      have := hbest (s.rowMajor.symm k) (by simpa using hk.2)
      simpa using this) (iy (Shape.Idx.first h_S_))
  have hs : s.rowMajor.symm (s.rowMajor i) = i := Equiv.symm_apply_apply _ _
  rw [hs] at hm
  exact congrArg Prod.snd ((congrArg (fun z => List.foldl _ z _) e).trans hm)

theorem iota1_at (b : Fin 16) (j : Fin 8) (p : Fin 8732) : (iotaInDim S16x8x8732 32 1 : IVec S16x8x8732 32) (ix3 b j p) = BitVec.ofNat 32 j.val := rfl
theorem iota2_at (b : Fin 16) (j : Fin 8) (p : Fin 8732) : (iotaInDim S16x8x8732 32 2 : IVec S16x8x8732 32) (ix3 b j p) = BitVec.ofNat 32 p.val := rfl

section generic
variable (v : FVec Ideal S16x8x8732 .f32) (b : Fin 16) (O : Fin 8 → Fin 8732 → EReal) (hv : ∀ j p, v (ix3 b j p) = O j p) (hO : ∀ j p, 0 ≤ O j p)
    (ix : FVec Ideal S_ .f32) (iy : S_.Idx → BitVec 32) (hix : ∀ i, ix i = (⊥ : EReal))
include hv hO hix

theorem best_prior (j : Fin 8) : (Host.argReduce (F := Ideal) reducer_argmax_f32_i32 v (iotaInDim S16x8x8732 32 2) ix iy reducesTo_S16x8x8732_S16x8_d2 h_S_ (ix2 b j)).2
    = BitVec.ofNat 32 (bp O j).val := by
  have hf := first_spec (by decide) (O j)
  refine (arg_at reducesTo_S16x8x8732_S16x8_d2 v (iotaInDim S16x8x8732 32 2) ix iy hix (ix2 b j) (ix3 b j (bp O j))
    ((Shape.ReducesTo.fiber_r3_a2 _ _ _).2 ⟨_, rfl⟩) ?_ ?_).trans (iota2_at b j _)
  · rw [hv]; exact lt_of_lt_of_le EReal.bot_lt_zero (hO j _)
  · intro k hk
    obtain ⟨p, rfl⟩ := (Shape.ReducesTo.fiber_r3_a2 _ _ _).1 hk
    change v (ix3 b j p) < _ ∨ (v (ix3 b j p) = _ ∧ _ ≤ ((iotaInDim S16x8x8732 32 2 : IVec S16x8x8732 32) (ix3 b j p)).toInt)
    rw [hv, hv, iota2_at, iota2_at, toInt_ofNat (k := p.val) (by omega), toInt_ofNat (k := (bp O j).val) (by omega)]
    rcases lt_or_eq_of_le (hf.1 p) with h | h
    · exact Or.inl h
    · exact Or.inr ⟨h, by exact_mod_cast hf.2 p h⟩

theorem best_target (p : Fin 8732) : (Host.argReduce (F := Ideal) reducer_argmax_f32_i32 v (iotaInDim S16x8x8732 32 1) ix iy reducesTo_S16x8x8732_S16x8732_d1 h_S_ (ix2 b p)).2
    = BitVec.ofNat 32 (bt O p).val := by
  have hf := first_spec (by decide) (fun j => O j p)
  refine (arg_at reducesTo_S16x8x8732_S16x8732_d1 v (iotaInDim S16x8x8732 32 1) ix iy hix (ix2 b p) (ix3 b (bt O p) p)
    ((Shape.ReducesTo.fiber_r3_a1 _ _ _).2 ⟨_, rfl⟩) ?_ ?_).trans (iota1_at b _ p)
  · rw [hv]; exact lt_of_lt_of_le EReal.bot_lt_zero (hO _ p)
  · intro k hk
    obtain ⟨j, rfl⟩ := (Shape.ReducesTo.fiber_r3_a1 _ _ _).1 hk
    change v (ix3 b j p) < _ ∨ (v (ix3 b j p) = _ ∧ _ ≤ ((iotaInDim S16x8x8732 32 1 : IVec S16x8x8732 32) (ix3 b j p)).toInt)
    rw [hv, hv, iota1_at, iota1_at, toInt_ofNat (k := j.val) (by omega), toInt_ofNat (k := (bt O p).val) (by omega)]
    rcases lt_or_eq_of_le (hf.1 j) with h | h
    · exact Or.inl h
    · exact Or.inr ⟨h, by exact_mod_cast hf.2 j h⟩

omit hO in
theorem best_overlap (p : Fin 8732) : Host.reduce FloatOps.maximumf v ix reducesTo_S16x8x8732_S16x8732_d1 h_S_ (ix2 b p) = O (bt O p) p := by
  have hf := Cert.Spec.fold_max (first_spec (by decide) (fun j => O j p))
  refine Eq.trans ?_ hf
  simp only [← hv]
  pointwise
  rw [hix]

end generic

section good
variable {V0} (hg : Good V0)
include hg

theorem ov_nonneg (b : Fin 16) (j : Fin 8) (p : Fin 8732) : 0 ≤ ov V0 b j p := Cert.Spec.ovl_nonneg (hg.box b j) (hg.pri p)

theorem v61_at (b : Fin 16) (j : Fin 8) : res_main_v61 V0 (ix2 b j) = BitVec.ofNat 32 (bp (ov V0 b) j).val :=
  best_prior _ b (ov V0 b) (v60_at V0 b) (ov_nonneg hg b) _ _ (fun _ => wbot) j

theorem bt_at (b : Fin 16) (p : Fin 8732) : (Host.argReduce reducer_argmax_f32_i32 (res_main_v60 V0) (res_main_call2_v0 V0) (res_main_call2_cst V0) (res_main_call2_c V0) reducesTo_S16x8x8732_S16x8732_d1 h_S_ (ix2 b p)).2
    = BitVec.ofNat 32 (bt (ov V0 b) p).val :=
  best_target _ b (ov V0 b) (v60_at V0 b) (ov_nonneg hg b) _ _ (fun _ => wbot) p

theorem max_at (b : Fin 16) (p : Fin 8732) : (Host.reduce FloatOps.maximumf (res_main_v60 V0) (constant (F := Ideal) S_ .f32 0xFF800000#32) reducesTo_S16x8x8732_S16x8732_d1 h_S_) (ix2 b p)
    = ov V0 b (bt (ov V0 b) p) p :=
  best_overlap _ b (ov V0 b) (v60_at V0 b) _ (fun _ => wbot) p

end good

end Cert.Ref

end
-- ==== Proof.RefMatch.lean ====
/- The reference's index of each prior's target, and the entries it gathers by it. -/
module

public import proofs.«01_k».proof.Proof.RefArg

@[expose] public section

set_option maxRecDepth 16384

noncomputable section

namespace Cert.Ref

open Cert.ReferenceIdeal Cert.ReferenceIdeal.Gen
open Cert.Spec (OV w0 w1 w2 w5 w10 wbot BoxOk PriorOk bp bt mt asks asked bov Pos thr first_spec toInt_ofNat)
open Idealize.ShloMosaic Idealize.ShloMosaic.TcCoe Idealize.ShloMosaic.Tactic

/-! ## The gathers -/

theorem gather_box (x : FVec Ideal S16x8x4 .f32) (idx : IVec S16x8732x1 32) (b : Fin 16) (p : Fin 8732) (k : Fin 4) (j : Fin 8)
    (h : idx (ix3 b p 0) = BitVec.ofNat 32 j.val) :
    Host.gather gather_S16x8x4_S16x8732x1_S16x8732x4_2_1_0_0_1_2_114 x idx (ix3 b p k) = x (ix3 b j k) := by
  unfold Host.gather
  congr 1
  funext a
  apply Fin.ext
  fin_cases a
  · show 0 + b.val + 0 = b.val
    omega
  · show min (idx _).toInt.toNat 7 + 0 + 0 = j.val
    have e : GatherDims.siIdx gather_S16x8x4_S16x8732x1_S16x8732x4_2_1_0_0_1_2_114 (ix3 b p k) ⟨0, by decide⟩ = ix3 b p 0 := by
      funext y
      fin_cases y <;> rfl
    refine (congrArg (fun z : S16x8732x1.Idx => min (idx z).toInt.toNat 7 + 0 + 0) e).trans ?_
    show min (idx (ix3 b p 0)).toInt.toNat 7 + 0 + 0 = j.val
    rw [h, toInt_ofNat (k := j.val) (by omega)]
    omega
  · show 0 + 0 + k.val = k.val
    omega

theorem gather_cls (x : IVec S16x8 32) (idx : IVec S16x8732x1 32) (b : Fin 16) (p : Fin 8732) (j : Fin 8)
    (h : idx (ix3 b p 0) = BitVec.ofNat 32 j.val) :
    Host.gather gather_S16x8_S16x8732x1_S16x8732_n_1_0_0_1_2_11 x idx (ix2 b p) = x (ix2 b j) := by
  unfold Host.gather
  congr 1
  funext a
  apply Fin.ext
  fin_cases a
  · show 0 + b.val + 0 = b.val
    omega
  · show min (idx _).toInt.toNat 7 + 0 + 0 = j.val
    have e : GatherDims.siIdx gather_S16x8_S16x8732x1_S16x8732_n_1_0_0_1_2_11 (ix2 b p) ⟨0, by decide⟩ = ix3 b p 0 := by
      funext y
      fin_cases y <;> rfl
    refine (congrArg (fun z : S16x8732x1.Idx => min (idx z).toInt.toNat 7 + 0 + 0) e).trans ?_
    show min (idx (ix3 b p 0)).toInt.toNat 7 + 0 + 0 = j.val
    rw [h, toInt_ofNat (k := j.val) (by omega)]
    omega

/-! ## Which targets ask for a prior -/

section asks
variable (w : IVec S16x8 32) (b : Fin 16) (p : Fin 8732)
theorem f0 : cmpi .eq (broadcastInDim S16x8732 ![0, 1] bcast_S16x1_S16x8732_0_1 (extractStridedSlice S16x1 ![0, 0] w slices_S16x8_S16x1_0_0)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 0)) (BitVec.ofNat 32 p.val) := by pointwise
theorem f1 : cmpi .eq (broadcastInDim S16x8732 ![0, 1] bcast_S16x1_S16x8732_0_1 (extractStridedSlice S16x1 ![0, 1] w slices_S16x8_S16x1_0_1)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 1)) (BitVec.ofNat 32 p.val) := by pointwise
theorem f2 : cmpi .eq (broadcastInDim S16x8732 ![0, 1] bcast_S16x1_S16x8732_0_1 (extractStridedSlice S16x1 ![0, 2] w slices_S16x8_S16x1_0_2)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 2)) (BitVec.ofNat 32 p.val) := by pointwise
theorem f3 : cmpi .eq (broadcastInDim S16x8732 ![0, 1] bcast_S16x1_S16x8732_0_1 (extractStridedSlice S16x1 ![0, 3] w slices_S16x8_S16x1_0_3)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 3)) (BitVec.ofNat 32 p.val) := by pointwise
theorem f4 : cmpi .eq (broadcastInDim S16x8732 ![0, 1] bcast_S16x1_S16x8732_0_1 (extractStridedSlice S16x1 ![0, 4] w slices_S16x8_S16x1_0_4)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 4)) (BitVec.ofNat 32 p.val) := by pointwise
theorem f5 : cmpi .eq (broadcastInDim S16x8732 ![0, 1] bcast_S16x1_S16x8732_0_1 (extractStridedSlice S16x1 ![0, 5] w slices_S16x8_S16x1_0_5)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 5)) (BitVec.ofNat 32 p.val) := by pointwise
theorem f6 : cmpi .eq (broadcastInDim S16x8732 ![0, 1] bcast_S16x1_S16x8732_0_1 (extractStridedSlice S16x1 ![0, 6] w slices_S16x8_S16x1_0_6)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 6)) (BitVec.ofNat 32 p.val) := by pointwise
theorem f7 : cmpi .eq (broadcastInDim S16x8732 ![0, 1] bcast_S16x1_S16x8732_0_1 (extractStridedSlice S16x1 ![0, 7] w slices_S16x8_S16x1_0_7)) (broadcastInDim S16x8732 ![0, 1] bcast_S1x8732_S16x8732_0_1 (broadcastInDim S1x8732 ![1] bcast_S8732_S1x8732_1 (iotaInDim S8732 32 0))) (ix2 b p)
    = IntOp.cmpi .eq (w (ix2 b 7)) (BitVec.ofNat 32 p.val) := by pointwise
end asks

/-- The word comparison of a target's best prior with a prior is whether it asks for it. -/
theorem ask_word (O : Fin 8 → Fin 8732 → EReal) (j : Fin 8) (p : Fin 8732) :
    IntOp.cmpi .eq (BitVec.ofNat 32 (bp O j).val) (BitVec.ofNat 32 p.val) = BitVec.ofBool (asks O p j) := by
  have e : (BitVec.ofNat 32 (bp O j).val = BitVec.ofNat 32 p.val) ↔ bp O j = p := by
    constructor
    · intro e
      have := congrArg BitVec.toNat e
      simp only [BitVec.toNat_ofNat] at this
      exact Fin.ext (by omega)
    · intro e; rw [e]
  unfold asks
  by_cases h : bp O j = p
  · simp [IntOp.cmpi, h]
  · have h' := fun x => h (e.1 x)
    simp only [IntOp.cmpi, h, decide_false]
    rw [beq_eq_false_iff_ne.2 h']

theorem ask_at (w : IVec S16x8 32) (b : Fin 16) (p : Fin 8732) (O : Fin 8 → Fin 8732 → EReal) (j : Fin 8) (h : w (ix2 b j) = BitVec.ofNat 32 (bp O j).val) :
    IntOp.cmpi .eq (w (ix2 b j)) (BitVec.ofNat 32 p.val) = BitVec.ofBool (asks O p j) := by
  rw [h]; exact ask_word O j p

section sel
variable {α : Type} (c7 c6 c5 c4 c3 c2 c1 c0 : IVec S16x8732 1) (b : Fin 16) (p : Fin 8732)
theorem pick (z : IVec S16x8732 32) : select c7 (broadcastInDim S16x8732 ![] bcast_S_S16x8732 (id (constantI S_ 32 7#32))) (select c6 (broadcastInDim S16x8732 ![] bcast_S_S16x8732 (id (constantI S_ 32 6#32))) (select c5 (broadcastInDim S16x8732 ![] bcast_S_S16x8732 (id (constantI S_ 32 5#32))) (select c4 (broadcastInDim S16x8732 ![] bcast_S_S16x8732 (id (constantI S_ 32 4#32))) (select c3 (broadcastInDim S16x8732 ![] bcast_S_S16x8732 (id (constantI S_ 32 3#32))) (select c2 (broadcastInDim S16x8732 ![] bcast_S_S16x8732 (id (constantI S_ 32 2#32))) (select c1 (broadcastInDim S16x8732 ![] bcast_S_S16x8732 (id (constantI S_ 32 1#32))) (select c0 (broadcastInDim S16x8732 ![] bcast_S_S16x8732 (id (constantI S_ 32 0#32))) z))))))) (ix2 b p)
    = Scalar.select (c7 (ix2 b p)) 7#32 (Scalar.select (c6 (ix2 b p)) 6#32 (Scalar.select (c5 (ix2 b p)) 5#32 (Scalar.select (c4 (ix2 b p)) 4#32
      (Scalar.select (c3 (ix2 b p)) 3#32 (Scalar.select (c2 (ix2 b p)) 2#32 (Scalar.select (c1 (ix2 b p)) 1#32 (Scalar.select (c0 (ix2 b p)) 0#32 (z (ix2 b p))))))))) := rfl
theorem force (z : FVec Ideal S16x8732 .f32) (t : FVec Ideal S_ .f32) : select c7 (broadcastInDim S16x8732 ![] bcast_S_S16x8732 t) (select c6 (broadcastInDim S16x8732 ![] bcast_S_S16x8732 t) (select c5 (broadcastInDim S16x8732 ![] bcast_S_S16x8732 t) (select c4 (broadcastInDim S16x8732 ![] bcast_S_S16x8732 t) (select c3 (broadcastInDim S16x8732 ![] bcast_S_S16x8732 t) (select c2 (broadcastInDim S16x8732 ![] bcast_S_S16x8732 t) (select c1 (broadcastInDim S16x8732 ![] bcast_S_S16x8732 t) (select c0 (broadcastInDim S16x8732 ![] bcast_S_S16x8732 t) z))))))) (ix2 b p)
    = Scalar.select (c7 (ix2 b p)) (t ix0) (Scalar.select (c6 (ix2 b p)) (t ix0) (Scalar.select (c5 (ix2 b p)) (t ix0) (Scalar.select (c4 (ix2 b p)) (t ix0)
      (Scalar.select (c3 (ix2 b p)) (t ix0) (Scalar.select (c2 (ix2 b p)) (t ix0) (Scalar.select (c1 (ix2 b p)) (t ix0) (Scalar.select (c0 (ix2 b p)) (t ix0) (z (ix2 b p))))))))) := by
  pointwise
end sel

theorem pick_eq (c : Fin 8 → Bool) (b : Fin 8) : Scalar.select (BitVec.ofBool (c 7)) 7#32 (Scalar.select (BitVec.ofBool (c 6)) 6#32 (Scalar.select (BitVec.ofBool (c 5)) 5#32 (Scalar.select (BitVec.ofBool (c 4)) 4#32
      (Scalar.select (BitVec.ofBool (c 3)) 3#32 (Scalar.select (BitVec.ofBool (c 2)) 2#32 (Scalar.select (BitVec.ofBool (c 1)) 1#32 (Scalar.select (BitVec.ofBool (c 0)) 0#32 (BitVec.ofNat 32 b.val))))))))
    = BitVec.ofNat 32 (if c 7 then (7 : Fin 8) else if c 6 then 6 else if c 5 then 5 else if c 4 then 4
        else if c 3 then 3 else if c 2 then 2 else if c 1 then 1 else if c 0 then 0 else b).val := by
  generalize c 7 = c7; generalize c 6 = c6; generalize c 5 = c5; generalize c 4 = c4
  generalize c 3 = c3; generalize c 2 = c2; generalize c 1 = c1; generalize c 0 = c0
  cases c7
  swap; · rfl
  cases c6
  swap; · rfl
  cases c5
  swap; · rfl
  cases c4
  swap; · rfl
  cases c3
  swap; · rfl
  cases c2
  swap; · rfl
  cases c1
  swap; · rfl
  cases c0 <;> rfl
theorem force_eq (c : Fin 8 → Bool) (x y : EReal) : Scalar.select (BitVec.ofBool (c 7)) x (Scalar.select (BitVec.ofBool (c 6)) x (Scalar.select (BitVec.ofBool (c 5)) x (Scalar.select (BitVec.ofBool (c 4)) x
      (Scalar.select (BitVec.ofBool (c 3)) x (Scalar.select (BitVec.ofBool (c 2)) x (Scalar.select (BitVec.ofBool (c 1)) x (Scalar.select (BitVec.ofBool (c 0)) x y)))))))
    = if (c 7 || (c 6 || (c 5 || (c 4 || (c 3 || (c 2 || (c 1 || c 0))))))) then x else y := by
  generalize c 7 = c7; generalize c 6 = c6; generalize c 5 = c5; generalize c 4 = c4
  generalize c 3 = c3; generalize c 2 = c2; generalize c 1 = c1; generalize c 0 = c0
  cases c7
  swap; · rfl
  cases c6
  swap; · rfl
  cases c5
  swap; · rfl
  cases c4
  swap; · rfl
  cases c3
  swap; · rfl
  cases c2
  swap; · rfl
  cases c1
  swap; · rfl
  cases c0 <;> rfl

theorem pick_all (c7 c6 c5 c4 c3 c2 c1 c0 : IVec S16x8732 1) (b : Fin 16) (p : Fin 8732) (z : IVec S16x8732 32) (c : Fin 8 → Bool) (t : Fin 8)
    (h7 : c7 (ix2 b p) = BitVec.ofBool (c 7)) (h6 : c6 (ix2 b p) = BitVec.ofBool (c 6)) (h5 : c5 (ix2 b p) = BitVec.ofBool (c 5)) (h4 : c4 (ix2 b p) = BitVec.ofBool (c 4))
    (h3 : c3 (ix2 b p) = BitVec.ofBool (c 3)) (h2 : c2 (ix2 b p) = BitVec.ofBool (c 2)) (h1 : c1 (ix2 b p) = BitVec.ofBool (c 1)) (h0 : c0 (ix2 b p) = BitVec.ofBool (c 0))
    (hz : z (ix2 b p) = BitVec.ofNat 32 t.val) :
    select c7 (broadcastInDim S16x8732 ![] bcast_S_S16x8732 (id (constantI S_ 32 7#32))) (select c6 (broadcastInDim S16x8732 ![] bcast_S_S16x8732 (id (constantI S_ 32 6#32))) (select c5 (broadcastInDim S16x8732 ![] bcast_S_S16x8732 (id (constantI S_ 32 5#32))) (select c4 (broadcastInDim S16x8732 ![] bcast_S_S16x8732 (id (constantI S_ 32 4#32))) (select c3 (broadcastInDim S16x8732 ![] bcast_S_S16x8732 (id (constantI S_ 32 3#32))) (select c2 (broadcastInDim S16x8732 ![] bcast_S_S16x8732 (id (constantI S_ 32 2#32))) (select c1 (broadcastInDim S16x8732 ![] bcast_S_S16x8732 (id (constantI S_ 32 1#32))) (select c0 (broadcastInDim S16x8732 ![] bcast_S_S16x8732 (id (constantI S_ 32 0#32))) z))))))) (ix2 b p)
    = BitVec.ofNat 32 (if c 7 then (7 : Fin 8) else if c 6 then 6 else if c 5 then 5 else if c 4 then 4
        else if c 3 then 3 else if c 2 then 2 else if c 1 then 1 else if c 0 then 0 else t).val := by
  rw [pick, h7, h6, h5, h4, h3, h2, h1, h0, hz, pick_eq]

section good
variable {V0 : Valuation τ sig (Elt Ideal)} (hg : Good V0) (b : Fin 16) (p : Fin 8732)
include hg

theorem v69_at : res_main_v69 V0 (ix2 b p) = BitVec.ofBool (asks (ov V0 b) p 0) :=
  (f0 (res_main_v61 V0) b p).trans (ask_at _ b p _ 0 (v61_at hg b 0))
theorem v76_at : res_main_v76 V0 (ix2 b p) = BitVec.ofBool (asks (ov V0 b) p 1) :=
  (f1 (res_main_v61 V0) b p).trans (ask_at _ b p _ 1 (v61_at hg b 1))
theorem v83_at : res_main_v83 V0 (ix2 b p) = BitVec.ofBool (asks (ov V0 b) p 2) :=
  (f2 (res_main_v61 V0) b p).trans (ask_at _ b p _ 2 (v61_at hg b 2))
theorem v90_at : res_main_v90 V0 (ix2 b p) = BitVec.ofBool (asks (ov V0 b) p 3) :=
  (f3 (res_main_v61 V0) b p).trans (ask_at _ b p _ 3 (v61_at hg b 3))
theorem v97_at : res_main_v97 V0 (ix2 b p) = BitVec.ofBool (asks (ov V0 b) p 4) :=
  (f4 (res_main_v61 V0) b p).trans (ask_at _ b p _ 4 (v61_at hg b 4))
theorem v104_at : res_main_v104 V0 (ix2 b p) = BitVec.ofBool (asks (ov V0 b) p 5) :=
  (f5 (res_main_v61 V0) b p).trans (ask_at _ b p _ 5 (v61_at hg b 5))
theorem v111_at : res_main_v111 V0 (ix2 b p) = BitVec.ofBool (asks (ov V0 b) p 6) :=
  (f6 (res_main_v61 V0) b p).trans (ask_at _ b p _ 6 (v61_at hg b 6))
theorem v118_at : res_main_v118 V0 (ix2 b p) = BitVec.ofBool (asks (ov V0 b) p 7) :=
  (f7 (res_main_v61 V0) b p).trans (ask_at _ b p _ 7 (v61_at hg b 7))

/-- The index of the prior's target. -/
theorem v120_at : res_main_v120 V0 (ix2 b p) = BitVec.ofNat 32 (mt (ov V0 b) p).val := by
  exact pick_all (res_main_v118 V0) (res_main_v111 V0) (res_main_v104 V0) (res_main_v97 V0) (res_main_v90 V0) (res_main_v83 V0) (res_main_v76 V0) (res_main_v69 V0) b p _
    (asks (ov V0 b) p) (bt (ov V0 b) p) (v118_at hg b p) (v111_at hg b p) (v104_at hg b p) (v97_at hg b p) (v90_at hg b p) (v83_at hg b p) (v76_at hg b p) (v69_at hg b p) (bt_at hg b p)

/-- The overlap held against the threshold. -/
theorem bov_at : (select (res_main_v118 V0) (broadcastInDim S16x8732 ![] bcast_S_S16x8732 (id (constant (F := Ideal) S_ .f32 0x40000000#32))) (select (res_main_v111 V0) (broadcastInDim S16x8732 ![] bcast_S_S16x8732 (id (constant S_ .f32 0x40000000#32))) (select (res_main_v104 V0) (broadcastInDim S16x8732 ![] bcast_S_S16x8732 (id (constant S_ .f32 0x40000000#32))) (select (res_main_v97 V0) (broadcastInDim S16x8732 ![] bcast_S_S16x8732 (id (constant S_ .f32 0x40000000#32))) (select (res_main_v90 V0) (broadcastInDim S16x8732 ![] bcast_S_S16x8732 (id (constant S_ .f32 0x40000000#32))) (select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_)))))))) : FVec Ideal S16x8732 .f32) (ix2 b p) = bov (ov V0 b) p := by
  refine (force (res_main_v118 V0) (res_main_v111 V0) (res_main_v104 V0) (res_main_v97 V0) (res_main_v90 V0) (res_main_v83 V0) (res_main_v76 V0) (res_main_v69 V0) b p
    (Host.reduce FloatOps.maximumf (res_main_v60 V0) (constant S_ .f32 0xFF800000#32) reducesTo_S16x8x8732_S16x8732_d1 h_S_) (constant (F := Ideal) S_ .f32 0x40000000#32)).trans ?_
  rw [v118_at hg, v111_at hg, v104_at hg, v97_at hg, v90_at hg, v83_at hg, v76_at hg, v69_at hg, max_at hg]
  refine (force_eq (asks (ov V0 b) p) _ _).trans ?_
  unfold bov asked
  rw [← w2]
  rfl

end good

end Cert.Ref

end
-- ==== Proof.RefLoss.lean ====
/- The reference's first result: the location loss and the number of matched priors, as sums over the batches. -/
module

public import proofs.«01_k».proof.Proof.RefMatch
public import Idealize.ShloMosaic.Lib.WordSum

@[expose] public section

set_option maxRecDepth 16384

noncomputable section

namespace Cert.Ref

open Cert.ReferenceIdeal Cert.ReferenceIdeal.Gen
open Cert.Spec (OV w0 w1 w2 w5 w10 whalf wbot BoxOk PriorOk bp bt mt asks asked bov Pos thr first_spec toInt_ofNat enc sl1 lossAt lossB numB)
open Idealize.ShloMosaic Idealize.ShloMosaic.TcCoe Idealize.ShloMosaic.Tactic

/-! ## Pointwise forms of the operations after the matching -/

/-- An index already in range is left as it is. -/
theorem wrap (j : Fin 8) : Scalar.select (IntOp.cmpi .slt (BitVec.ofNat 32 j.val) 0#32) (IntOp.addi (BitVec.ofNat 32 j.val) 8#32) (BitVec.ofNat 32 j.val) = BitVec.ofNat 32 j.val := by
  revert j; decide

theorem wrap_box (w : IVec S16x8732 32) (b : Fin 16) (p : Fin 8732) (j : Fin 8) (h : w (ix2 b p) = BitVec.ofNat 32 j.val) :
    (select (cmpi .slt (broadcastInDim S16x8732x1 ![0, 1] bcast_S16x8732_S16x8732x1_0_1 w) (broadcastInDim S16x8732x1 ![] bcast_S_S16x8732x1 (constantI S_ 32 0#32))) (addi (broadcastInDim S16x8732x1 ![0, 1] bcast_S16x8732_S16x8732x1_0_1 w) (broadcastInDim S16x8732x1 ![] bcast_S_S16x8732x1 (constantI S_ 32 8#32))) (broadcastInDim S16x8732x1 ![0, 1] bcast_S16x8732_S16x8732x1_0_1 w)) (ix3 b p 0)
      = BitVec.ofNat 32 j.val := by
  pointwise
  rw [h]
  exact wrap j

theorem wrap_cls (w : IVec S16x8732 32) (b : Fin 16) (p : Fin 8732) (j : Fin 8) (h : w (ix2 b p) = BitVec.ofNat 32 j.val) :
    (shapeCast S16x8732x1 (select (cmpi .slt w (broadcastInDim S16x8732 ![] bcast_S_S16x8732 (constantI S_ 32 0#32))) (addi w (broadcastInDim S16x8732 ![] bcast_S_S16x8732 (constantI S_ 32 8#32))) w) shapeCasts_S16x8732_S16x8732x1) (ix3 b p 0)
      = BitVec.ofNat 32 j.val := by
  pointwise
  rw [h]
  exact wrap j

/-- The class word. -/
def r128 (o : FVec Ideal S16x8732 .f32) (g : IVec S16x8732 32) : IVec S16x8732 32 :=
  select (cmpf .olt o (broadcastInDim S16x8732 ![] bcast_S_S16x8732 (constant (F := Ideal) S_ .f32 0x3EE66666#32))) (broadcastInDim S16x8732 ![] bcast_S_S16x8732 (id (constantI S_ 32 0#32))) (addi g (broadcastInDim S16x8732 ![] bcast_S_S16x8732 (constantI S_ 32 1#32)))
theorem r128_at (o : FVec Ideal S16x8732 .f32) (g : IVec S16x8732 32) (b : Fin 16) (p : Fin 8732) :
    r128 o g (ix2 b p) = Scalar.select (BitVec.ofBool (decide (o (ix2 b p) < thr))) 0#32 (IntOp.addi (g (ix2 b p)) 1#32) := rfl

/-- The encoded targets. -/
def rEnc (t : FVec Ideal S16x8732x4 .f32) (q : FVec Ideal S8732x4 .f32) : FVec Ideal S16x8732x4 .f32 :=
  concatenate S16x8732x4 2 [⟨S16x8732x2, (Host.divf (subf (Host.divf (addf (extractStridedSlice S16x8732x2 ![0, 0, 0] t slices_S16x8732x4_S16x8732x2_0_0_0) (extractStridedSlice S16x8732x2 ![0, 0, 2] t slices_S16x8732x4_S16x8732x2_0_0_2)) (broadcastInDim S16x8732x2 ![] bcast_S_S16x8732x2 (constant S_ .f32 0x40000000#32))) (broadcastInDim S16x8732x2 ![0, 1, 2] bcast_S1x8732x2_S16x8732x2_0_1_2 (broadcastInDim S1x8732x2 ![1, 2] bcast_S8732x2_S1x8732x2_1_2 (extractStridedSlice S8732x2 ![0, 0] q slices_S8732x4_S8732x2_0_0)))) (broadcastInDim S16x8732x2 ![0, 1, 2] bcast_S1x8732x2_S16x8732x2_0_1_2 (broadcastInDim S1x8732x2 ![1, 2] bcast_S8732x2_S1x8732x2_1_2 (Host.divf (extractStridedSlice S8732x2 ![0, 2] q slices_S8732x4_S8732x2_0_2) (broadcastInDim S8732x2 ![] bcast_S_S8732x2 (constant S_ .f32 0x41200000#32))))))⟩, ⟨S16x8732x2, (mulf (Host.log (Host.divf (subf (extractStridedSlice S16x8732x2 ![0, 0, 2] t slices_S16x8732x4_S16x8732x2_0_0_2) (extractStridedSlice S16x8732x2 ![0, 0, 0] t slices_S16x8732x4_S16x8732x2_0_0_0)) (broadcastInDim S16x8732x2 ![0, 1, 2] bcast_S1x8732x2_S16x8732x2_0_1_2 (broadcastInDim S1x8732x2 ![1, 2] bcast_S8732x2_S1x8732x2_1_2 (extractStridedSlice S8732x2 ![0, 2] q slices_S8732x4_S8732x2_0_2))))) (broadcastInDim S16x8732x2 ![] bcast_S_S16x8732x2 (constant S_ .f32 0x40A00000#32)))⟩] concatenates_S16x8732x2_S16x8732x2_S16x8732x4_d2
theorem rEnc_at (t : FVec Ideal S16x8732x4 .f32) (q : FVec Ideal S8732x4 .f32) (b : Fin 16) (p : Fin 8732) (k : Fin 4) :
    rEnc t q (ix3 b p k) = enc (fun k => t (ix3 b p k)) (fun k => q (ix2 p k)) k := by
  unfold rEnc enc
  fin_cases k
  · rw [← w2, ← w10]; pointwise
  · rw [← w2, ← w10]; pointwise
  · rw [← w5]; pointwise
  · rw [← w5]; pointwise

/-- The loss terms. -/
def rLoss (v : FVec Ideal S16x8732x4 .f32) (s : IVec S16x8732 1) : FVec Ideal S16x8732x4 .f32 :=
  mulf (select (cmpf .olt v (broadcastInDim S16x8732x4 ![] bcast_S_S16x8732x4 (constant S_ .f32 0x3F800000#32))) (mulf (mulf (broadcastInDim S16x8732x4 ![] bcast_S_S16x8732x4 (constant S_ .f32 0x3F000000#32)) v) v) (subf v (broadcastInDim S16x8732x4 ![] bcast_S_S16x8732x4 (constant S_ .f32 0x3F000000#32)))) (broadcastInDim S16x8732x4 ![0, 1, 2] bcast_S16x8732x1_S16x8732x4_0_1_2 (uitofp .f32 (broadcastInDim S16x8732x1 ![0, 1] bcast_S16x8732_S16x8732x1_0_1 s)))
theorem rLoss_at (v : FVec Ideal S16x8732x4 .f32) (s : IVec S16x8732 1) (b : Fin 16) (p : Fin 8732) (k : Fin 4) :
    rLoss v s (ix3 b p k) = (if v (ix3 b p k) < 1 then Ideal.ofBits .f32 0x3F000000#32 * v (ix3 b p k) * v (ix3 b p k) else v (ix3 b p k) - Ideal.ofBits .f32 0x3F000000#32)
      * ((((s (ix2 b p)).toNat : ℝ)) : EReal) := by
  unfold rLoss
  pointwise
  rfl

/-! ## Counting -/

theorem fold_addi {κ : Type} (S : Finset κ) (f : κ → BitVec 32) : Finset.fold IntOp.addi 0#32 f S = ∑ k ∈ S, f k := by
  classical
  induction S using Finset.cons_induction with
  | empty => rfl
  | cons a S ha ih => rw [Finset.fold_cons, Finset.sum_cons, ih]; rfl

/-- The count of the set bits of a bit matrix, taken first along the rows. -/
def rCount (s : IVec S16x8732 1) : IVec S_ 32 :=
  Host.reduce IntOp.addi (broadcastInDim S16x1 ![0] bcast_S16_S16x1_0 (Host.reduce IntOp.addi (extui 32 s natLt_1_32) (constantI S_ 32 0#32) reducesTo_S16x8732_S16_d1 h_S_)) (constantI S_ 32 0#32) reducesTo_S16x1_S_d0_1 h_S_
theorem rCount_at (s : IVec S16x8732 1) (i : S_.Idx) : rCount s i = ∑ k : Fin 16 × Fin 1, ∑ p : Fin 8732, (s (ix2 k.1 p)).setWidth 32 := by
  unfold rCount
  rw [← fold_addi]
  have e : ∀ k : Fin 16 × Fin 1, ∑ p : Fin 8732, (s (ix2 k.1 p)).setWidth 32 = Finset.fold IntOp.addi 0#32 (fun p : Fin 8732 => (s (ix2 k.1 p)).setWidth 32) Finset.univ := fun k => (fold_addi _ _).symm
  simp only [e]
  obtain rfl : i = ix0 := Subsingleton.elim _ _
  pointwise
theorem bit_le (x : BitVec 1) : (x.setWidth 32).toNat ≤ 1 := by revert x; decide
theorem rCount_toInt (s : IVec S16x8732 1) (i : S_.Idx) : (rCount s i).toInt = ((∑ b : Fin 16, ∑ p : Fin 8732, (s (ix2 b p)).toNat : ℕ) : ℤ) := by
  have hb : ∀ b : Fin 16, ∑ p : Fin 8732, ((s (ix2 b p)).setWidth 32).toNat ≤ 8732 := fun b =>
    (Finset.sum_le_sum fun p _ => bit_le _).trans (by simp)
  have h1 : ∀ b : Fin 16, (∑ p : Fin 8732, (s (ix2 b p)).setWidth 32).toNat = ∑ p : Fin 8732, (s (ix2 b p)).toNat := fun b => by
    rw [WordSum.toNat_sum _ _ (lt_of_le_of_lt (hb b) (by norm_num))]
    refine Finset.sum_congr rfl fun p _ => ?_
    generalize s (ix2 b p) = x
    revert x; decide
  have hb' : ∀ b : Fin 16, ∑ p : Fin 8732, (s (ix2 b p)).toNat ≤ 8732 := fun b => by
    refine (Finset.sum_le_sum fun p _ => (by generalize s (ix2 b p) = x; revert x; decide : (s (ix2 b p)).toNat ≤ 1)).trans (by simp)
  have ht : ∑ b : Fin 16, ∑ p : Fin 8732, (s (ix2 b p)).toNat ≤ 139712 := (Finset.sum_le_sum fun b _ => hb' b).trans (by simp)
  have e : (rCount s i).toNat = ∑ b : Fin 16, ∑ p : Fin 8732, (s (ix2 b p)).toNat := by
    rw [rCount_at, Fintype.sum_prod_type]
    simp only [Fin.sum_univ_one]
    rw [WordSum.toNat_sum]
    · exact Finset.sum_congr rfl fun b _ => h1 b
    · simp only [h1]; exact lt_of_le_of_lt ht (by norm_num)
  rw [BitVec.toInt_eq_toNat_of_lt (by omega), e]

theorem bit_one : ((((1#1).toNat : ℝ)) : EReal) = 1 := by norm_num
theorem bit_zero : ((((0#1).toNat : ℝ)) : EReal) = 0 := by norm_num
theorem cast_count (n : ℕ) : (((n : ℤ) : ℝ) : EReal) = (n : EReal) := by
  rw [Int.cast_natCast]; rfl

section good
variable {V0 : Valuation τ sig (Elt Ideal)} (hg : Good V0) (b : Fin 16) (p : Fin 8732)
include hg

/-- The prior's target's box and class. -/
theorem v122_at (k : Fin 4) : res_main_v122 V0 (ix3 b p k) = box V0 b (mt (ov V0 b) p) k :=
  gather_box (a3 V0) _ b p k _ (wrap_box (res_main_v120 V0) b p _ (v120_at hg b p))

theorem v128_at : res_main_v128 V0 (ix2 b p) = Scalar.select (BitVec.ofBool (decide (bov (ov V0 b) p < thr))) 0#32 (IntOp.addi (a4 V0 (ix2 b (mt (ov V0 b) p))) 1#32) := by
  have hc := gather_cls (a4 V0) _ b p _ (wrap_cls (res_main_v120 V0) b p _ (v120_at hg b p))
  have h128 := r128_at (select (res_main_v118 V0) (broadcastInDim S16x8732 ![] bcast_S_S16x8732 (id (constant (F := Ideal) S_ .f32 0x40000000#32))) (select (res_main_v111 V0) (broadcastInDim S16x8732 ![] bcast_S_S16x8732 (id (constant S_ .f32 0x40000000#32))) (select (res_main_v104 V0) (broadcastInDim S16x8732 ![] bcast_S_S16x8732 (id (constant S_ .f32 0x40000000#32))) (select (res_main_v97 V0) (broadcastInDim S16x8732 ![] bcast_S_S16x8732 (id (constant S_ .f32 0x40000000#32))) (select (res_main_v90 V0) (broadcastInDim S16x8732 ![] bcast_S_S16x8732 (id (constant S_ .f32 0x40000000#32))) (select (res_main_v83 V0) (broadcastInDim S16x8732 ![] bcast_S_S16x8732 (id (constant S_ .f32 0x40000000#32))) (select (res_main_v76 V0) (broadcastInDim S16x8732 ![] bcast_S_S16x8732 (id (constant S_ .f32 0x40000000#32))) (select (res_main_v69 V0) (broadcastInDim S16x8732 ![] bcast_S_S16x8732 (id (constant S_ .f32 0x40000000#32))) (Host.reduce FloatOps.maximumf (res_main_v60 V0) (constant S_ .f32 0xFF800000#32) reducesTo_S16x8x8732_S16x8732_d1 h_S_)))))))) : FVec Ideal S16x8732 .f32)
    (Host.gather gather_S16x8_S16x8732x1_S16x8732_n_1_0_0_1_2_11 (a4 V0) (shapeCast S16x8732x1 (select (cmpi .slt (res_main_v120 V0) (broadcastInDim S16x8732 ![] bcast_S_S16x8732 (constantI S_ 32 0#32))) (addi (res_main_v120 V0) (broadcastInDim S16x8732 ![] bcast_S_S16x8732 (constantI S_ 32 8#32))) (res_main_v120 V0)) shapeCasts_S16x8732_S16x8732x1)) b p
  rw [bov_at hg b p, hc] at h128
  exact h128

open Classical in
theorem v156_at : res_main_v156 V0 (ix2 b p) = if Pos (ov V0 b) p then 1#1 else 0#1 := by
  have h128 := v128_at hg b p
  have h := hg.cls b (mt (ov V0 b) p)
  change 0 ≤ (a4 V0 (ix2 b (mt (ov V0 b) p))).toInt ∧ _ at h
  have key : ∀ x : BitVec 32, 0 ≤ x.toInt ∧ x.toInt < 20 → IntOp.cmpi .sgt (IntOp.addi x 1#32) 0#32 = 1#1 := by
    rintro x ⟨hx, hx'⟩
    have : (x + 1#32).toInt = x.toInt + 1 := by
      rw [BitVec.toInt_add]; simp [Int.bmod]; omega
    show BitVec.ofBool (decide ((0#32).toInt < (x + 1#32).toInt)) = 1#1
    rw [decide_eq_true (by rw [this]; exact Int.lt_add_one_iff.mpr hx)]
    rfl
  show IntOp.cmpi .sgt (res_main_v128 V0 (ix2 b p)) 0#32 = _
  refine (congrArg (fun z => IntOp.cmpi .sgt z 0#32) h128).trans ?_
  unfold Pos
  by_cases hp : bov (ov V0 b) p < thr
  · simp only [hp, decide_true, not_true, if_false]
    rfl
  · simp only [hp, decide_false, not_false_iff, if_true]
    exact key _ h

theorem v161_at (k : Fin 4) : res_main_v161 V0 (ix3 b p k)
    = max (loc V0 b p k - enc (box V0 b (mt (ov V0 b) p)) (pri V0 p) k) (-(loc V0 b p k - enc (box V0 b (mt (ov V0 b) p)) (pri V0 p) k)) := by
  have e := rEnc_at (res_main_v122 V0) (a2 V0) b p k
  have e2 : (fun k => res_main_v122 V0 (ix3 b p k)) = box V0 b (mt (ov V0 b) p) := funext fun k => v122_at hg b p k
  rw [e2] at e
  have e3 : rEnc (res_main_v122 V0) (a2 V0) (ix3 b p k) = enc (box V0 b (mt (ov V0 b) p)) (pri V0 p) k := e
  rw [← e3]
  rfl

theorem loss_at (k : Fin 4) : rLoss (res_main_v161 V0) (res_main_v156 V0) (ix3 b p k) = lossAt (loc V0 b) (pri V0) (box V0 b) p k := by
  rw [rLoss_at, v156_at hg, v161_at hg, whalf]
  unfold lossAt sl1
  congr 1
  split
  · exact bit_one
  · exact bit_zero

theorem loss_sum (i : S_.Idx) : Host.reduceAdd (rLoss (res_main_v161 V0) (res_main_v156 V0)) (constant (F := Ideal) S_ .f32 0x00000000#32) reducesTo_S16x8732x4_S_d0_1_2 h_S_ i
    = ∑ b : Fin 16, lossB (loc V0 b) (pri V0) (box V0 b) := by
  have e : ∀ v : FVec Ideal S16x8732x4 .f32, Host.reduceAdd v (constant (F := Ideal) S_ .f32 0x00000000#32) reducesTo_S16x8732x4_S_d0_1_2 h_S_ i
      = Ideal.ofBits .f32 0x00000000#32 + ∑ b : Fin 16, ∑ p : Fin 8732, ∑ k : Fin 4, v (ix3 b p k) := fun v =>
    Ideal.hostReduceAdd_r3_a012 reducesTo_S16x8732x4_S_d0_1_2 v _ i
  rw [e, w0, zero_add]
  refine Finset.sum_congr rfl fun b _ => ?_
  unfold lossB
  exact Finset.sum_congr rfl fun p _ => Finset.sum_congr rfl fun k _ => loss_at hg b p k

open Classical in
theorem num_sum (i : S_.Idx) : res_main_v220 V0 i = ∑ b : Fin 16, numB (pri V0) (box V0 b) := by
  show ((((rCount (res_main_v156 V0) i).toInt : ℝ)) : EReal) = _
  rw [rCount_toInt]
  have e : ∀ b p, (res_main_v156 V0 (ix2 b p)).toNat = if Pos (ov V0 b) p then 1 else 0 := fun b p => by
    rw [v156_at hg]; split <;> rfl
  rw [cast_count, Nat.cast_sum]
  refine Finset.sum_congr rfl fun b _ => ?_
  rw [Nat.cast_sum]
  unfold numB
  refine Finset.sum_congr rfl fun p _ => ?_
  rw [e]
  split <;> simp_all

/-- The reference's first result. -/
theorem first_result : Host.divf (Host.reduceAdd (rLoss (res_main_v161 V0) (res_main_v156 V0)) (constant (F := Ideal) S_ .f32 0x00000000#32) reducesTo_S16x8732x4_S_d0_1_2 h_S_) (res_main_v220 V0)
    = fun _ => Ideal.div (∑ b : Fin 16, lossB (loc V0 b) (pri V0) (box V0 b)) (∑ b : Fin 16, numB (pri V0) (box V0 b)) := by
  funext i
  rw [← loss_sum hg i, ← num_sum hg i]
  rfl

end good

end Cert.Ref

end
-- ==== Proof.RefMine.lean ====
/- The reference's second result: the class losses of the matched priors and the mined ones, as sums over the batches. -/
module

public import proofs.«01_k».proof.Proof.RefLoss
public import proofs.«01_k».proof.Proof.Mining
public import Idealize.ShloMosaic.Lib.SortFacts

@[expose] public section

set_option maxRecDepth 16384

noncomputable section

namespace Cert.Ref

open Cert.ReferenceIdeal Cert.ReferenceIdeal.Gen
open Cert.Spec (OV w0 w1 w2 w5 w10 whalf wbot BoxOk PriorOk mt bov Pos thr toInt_ofNat numB lse clsIx ceB lgB posN minedB posN_le negs negs_word mined
  sf few wtop sf_top up_eq last_eq mined_eq fold_words)
open Idealize.ShloMosaic Idealize.ShloMosaic.TcCoe Idealize.ShloMosaic.Tactic

abbrev a1 (V0 : Valuation τ sig (Elt Ideal)) : FVec Ideal S16x8732x21 .f32 := V0 (Proc.devRef .tc main_arg1)
/-- A batch's class scores. -/
def conf (V0 : Valuation τ sig (Elt Ideal)) (b : Fin 16) (p : Fin 8732) (k : Fin 21) : EReal := a1 V0 (ix3 b p k)

/-! ## The losses of a prior -/

theorem gather_conf (x : FVec Ideal S16x8732x21 .f32) (idx : IVec S16x8732x1x1 32) (b : Fin 16) (p : Fin 8732) (k : Fin 21)
    (h : idx (ix4 b p 0 0) = BitVec.ofNat 32 k.val) :
    Host.gather gather_S16x8732x21_S16x8732x1x1_S16x8732x1_n_2_01_01_2_3_111 x idx (ix3 b p 0) = x (ix3 b p k) := by
  unfold Host.gather
  congr 1
  funext a
  apply Fin.ext
  fin_cases a
  · show 0 + b.val + 0 = b.val
    omega
  · show 0 + p.val + 0 = p.val
    omega
  · show min (idx _).toInt.toNat 20 + 0 + 0 = k.val
    have e : GatherDims.siIdx gather_S16x8732x21_S16x8732x1x1_S16x8732x1_n_2_01_01_2_3_111 (ix3 b p 0) ⟨0, by decide⟩ = ix4 b p 0 0 := by
      funext y
      fin_cases y <;> rfl
    refine (congrArg (fun z : S16x8732x1x1.Idx => min (idx z).toInt.toNat 20 + 0 + 0) e).trans ?_
    show min (idx (ix4 b p 0 0)).toInt.toNat 20 + 0 + 0 = k.val
    rw [h, toInt_ofNat (k := k.val) (by omega)]
    omega

theorem wrap_conf (k : Fin 21) : Scalar.select (IntOp.cmpi .slt (BitVec.ofNat 32 k.val) 0#32) (IntOp.addi (BitVec.ofNat 32 k.val) 21#32) (BitVec.ofNat 32 k.val) = BitVec.ofNat 32 k.val := by
  revert k; decide

/-- The score of a prior's class. -/
def rPick (x : FVec Ideal S16x8732x21 .f32) (w : IVec S16x8732 32) : FVec Ideal S16x8732 .f32 :=
  shapeCast S16x8732 (Host.gather gather_S16x8732x21_S16x8732x1x1_S16x8732x1_n_2_01_01_2_3_111 x (shapeCast S16x8732x1x1 (select (cmpi .slt (broadcastInDim S16x8732x1 ![0, 1] bcast_S16x8732_S16x8732x1_0_1 w) (broadcastInDim S16x8732x1 ![] bcast_S_S16x8732x1 (constantI S_ 32 0#32))) (addi (broadcastInDim S16x8732x1 ![0, 1] bcast_S16x8732_S16x8732x1_0_1 w) (broadcastInDim S16x8732x1 ![] bcast_S_S16x8732x1 (constantI S_ 32 21#32))) (broadcastInDim S16x8732x1 ![0, 1] bcast_S16x8732_S16x8732x1_0_1 w)) shapeCasts_S16x8732x1_S16x8732x1x1)) shapeCasts_S16x8732x1_S16x8732
theorem rPick_at (x : FVec Ideal S16x8732x21 .f32) (w : IVec S16x8732 32) (b : Fin 16) (p : Fin 8732) (k : Fin 21) (h : w (ix2 b p) = BitVec.ofNat 32 k.val) :
    rPick x w (ix2 b p) = x (ix3 b p k) := by
  have e : ∀ g : FVec Ideal S16x8732x1 .f32, shapeCast S16x8732 g shapeCasts_S16x8732x1_S16x8732 (ix2 b p) = g (ix3 b p 0) := fun g => by pointwise
  unfold rPick
  rw [e]
  refine gather_conf x _ b p k ?_
  pointwise
  rw [h]
  exact wrap_conf k

theorem max_conf (x : FVec Ideal S16x8732x21 .f32) (b : Fin 16) (p : Fin 8732) : Host.reduce FloatOps.maximumf x (constant (F := Ideal) S_ .f32 0xFF800000#32) reducesTo_S16x8732x21_S16x8732_d2 h_S_ (ix2 b p)
    = Finset.fold max (Ideal.ofBits .f32 0xFF800000#32) (fun k : Fin 21 => x (ix3 b p k)) Finset.univ := by
  pointwise

/-- The logarithm of the sum of the exponentials, shifted by `y`. -/
def rLse (x : FVec Ideal S16x8732x21 .f32) (y : FVec Ideal S16x8732 .f32) : FVec Ideal S16x8732 .f32 :=
  addf y (Host.log (Host.reduceAdd (Host.exp (subf x (broadcastInDim S16x8732x21 ![0, 1, 2] bcast_S16x8732x1_S16x8732x21_0_1_2 (broadcastInDim S16x8732x1 ![0, 1] bcast_S16x8732_S16x8732x1_0_1 y)))) (constant S_ .f32 0x00000000#32) reducesTo_S16x8732x21_S16x8732_d2 h_S_))
theorem exp_conf (x : FVec Ideal S16x8732x21 .f32) (y : FVec Ideal S16x8732 .f32) (b : Fin 16) (p : Fin 8732) (k : Fin 21) :
    Host.exp (subf x (broadcastInDim S16x8732x21 ![0, 1, 2] bcast_S16x8732x1_S16x8732x21_0_1_2 (broadcastInDim S16x8732x1 ![0, 1] bcast_S16x8732_S16x8732x1_0_1 y))) (ix3 b p k)
      = Ideal.exp (x (ix3 b p k) - y (ix2 b p)) := by
  pointwise
theorem rLse_at (x : FVec Ideal S16x8732x21 .f32) (y : FVec Ideal S16x8732 .f32) (b : Fin 16) (p : Fin 8732) :
    rLse x y (ix2 b p) = y (ix2 b p) + Ideal.log (∑ k : Fin 21, Ideal.exp (x (ix3 b p k) - y (ix2 b p))) := by
  have e : ∀ v : FVec Ideal S16x8732x21 .f32, Host.reduceAdd v (constant (F := Ideal) S_ .f32 0x00000000#32) reducesTo_S16x8732x21_S16x8732_d2 h_S_ (ix2 b p)
      = Ideal.ofBits .f32 0x00000000#32 + ∑ k : Fin 21, v (ix3 b p k) := fun v =>
    Ideal.hostReduceAdd_r3_a2 reducesTo_S16x8732x21_S16x8732_d2 v _ (ix2 b p)
  have h : ∀ v : FVec Ideal S16x8732x21 .f32, addf y (Host.log (Host.reduceAdd v (constant (F := Ideal) S_ .f32 0x00000000#32) reducesTo_S16x8732x21_S16x8732_d2 h_S_)) (ix2 b p)
      = y (ix2 b p) + Ideal.log (Host.reduceAdd v (constant (F := Ideal) S_ .f32 0x00000000#32) reducesTo_S16x8732x21_S16x8732_d2 h_S_ (ix2 b p)) := fun v => rfl
  unfold rLse
  rw [h, e, w0, zero_add]
  exact congrArg (fun z => y (ix2 b p) + Ideal.log z) (Finset.sum_congr rfl fun k _ => exp_conf x y b p k)

/-! ## Sorting -/

theorem cmp_lt (l r : EReal) : comparator_f32_d1 (F := Ideal) l r = BitVec.ofBool (decide (l < r)) := by
  have z : ∀ x : EReal, Scalar.select (BitVec.ofBool (decide (x = Ideal.ofBits .f32 0x00000000#32))) (Ideal.ofBits .f32 0x00000000#32) x = x := fun x => by
    by_cases h : x = Ideal.ofBits .f32 0x00000000#32
    · rw [decide_eq_true h]; exact h.symm
    · rw [decide_eq_false h]; rfl
  have u : ∀ x y n : EReal, Scalar.select (BitVec.ofBool (decide (x ≠ x))) n y = y := fun x y n => by
    rw [decide_eq_false (not_not.mpr rfl)]; rfl
  show BitVec.ofBool (decide ((Scalar.select (BitVec.ofBool (decide (l ≠ l))) _ (Scalar.select (BitVec.ofBool (decide (l = Ideal.ofBits .f32 0x00000000#32))) (Ideal.ofBits .f32 0x00000000#32) l) : EReal)
    < Scalar.select (BitVec.ofBool (decide (r ≠ r))) _ (Scalar.select (BitVec.ofBool (decide (r = Ideal.ofBits .f32 0x00000000#32))) (Ideal.ofBits .f32 0x00000000#32) r))) = _
  rw [u, u, z, z]

theorem sort_row (x : FVec Ideal S16x8732 .f32) (b : Fin 16) : ∃ σ : Fin 8732 → Fin 8732, Function.Bijective σ
    ∧ (∀ j, Host.sort S16x8732 1 comparator_f32_d1 x (ix2 b j) = x (ix2 b (σ j))) ∧ Monotone fun j => Host.sort S16x8732 1 comparator_f32_d1 x (ix2 b j) := by
  have e : ∀ j, Host.sort S16x8732 1 comparator_f32_d1 x (ix2 b j) = x (ix2 b (sortedFrom (fun k k' : Fin 8732 => decide (x (ix2 b k) < x (ix2 b k'))) j)) := fun j => by
    have al : (fun k : Fin 8732 => x (Shape.Idx.along (s := S16x8732) (ix2 b j) 1 k)) = fun k => x (ix2 b k) := by
      funext k
      congr 1
      funext a
      fin_cases a <;> rfl
    refine (congrArg (fun f : Fin 8732 → EReal => f (sortedFrom (fun k k' : Fin 8732 => comparator_f32_d1 (F := Ideal) (f k) (f k') == 1#1) j)) al).trans ?_
    have : (fun k k' : Fin 8732 => comparator_f32_d1 (F := Ideal) (x (ix2 b k)) (x (ix2 b k')) == 1#1) = fun k k' : Fin 8732 => decide (x (ix2 b k) < x (ix2 b k')) := by
      funext k k'
      rw [cmp_lt]
      cases decide (x (ix2 b k) < x (ix2 b k')) <;> rfl
    exact congrArg (fun B => x (ix2 b (sortedFrom B j))) this
  refine ⟨_, ⟨sortedFrom_injective _, sortedFrom_surjective _⟩, e, ?_⟩
  intro i j hij
  dsimp only
  rw [e, e]
  rcases eq_or_lt_of_le hij with rfl | hlt
  · exact le_rfl
  · have := sortedFrom_noInversion (fun k k' : Fin 8732 => decide (x (ix2 b k) < x (ix2 b k'))) (fun k k' : Fin 8732 => decide (x (ix2 b k) < x (ix2 b k')))
      (fun a c h => decide_eq_false (not_lt.mpr (of_decide_eq_true h).le)) (fun _ _ h => h)
      (fun a c d h h' => decide_eq_false (not_lt.mpr ((not_lt.mp (of_decide_eq_false h')).trans (not_lt.mp (of_decide_eq_false h))))) i j hlt
    exact not_lt.mp (of_decide_eq_false this)

/-! ## The negatives taken and the least of them -/

theorem rowCount_at (s : IVec S16x8732 1) (b : Fin 16) : (broadcastInDim S16x1 ![0] bcast_S16_S16x1_0 (Host.reduce IntOp.addi (extui 32 s natLt_1_32) (constantI S_ 32 0#32) reducesTo_S16x8732_S16_d1 h_S_)) (ix2 b 0)
    = ∑ p : Fin 8732, (s (ix2 b p)).setWidth 32 := by
  rw [← fold_addi]
  pointwise

/-- Whether a place of the sorted losses is among the taken. -/
def rTaken (w : IVec S16x1 32) : IVec S16x8732 1 :=
  cmpi .sge (broadcastInDim S16x8732 ![0, 1] bcast_S1x8732_S16x8732_0_1 (broadcastInDim S1x8732 ![1] bcast_S8732_S1x8732_1 (iotaInDim S8732 32 0))) (broadcastInDim S16x8732 ![0, 1] bcast_S16x1_S16x8732_0_1 (subi (broadcastInDim S16x1 ![] bcast_S_S16x1 (constantI S_ 32 8732#32)) (minsi (muli (broadcastInDim S16x1 ![] bcast_S_S16x1 (constantI S_ 32 3#32)) w) (broadcastInDim S16x1 ![] bcast_S_S16x1 (constantI S_ 32 8731#32)))))
theorem rTaken_raw (w : IVec S16x1 32) (b : Fin 16) (j : Fin 8732) : rTaken w (ix2 b j)
    = IntOp.cmpi .sge (BitVec.ofNat 32 j.val) (IntOp.subi 8732#32 (IntOp.minsi (IntOp.muli 3#32 (w (ix2 b 0))) 8731#32)) := by
  unfold rTaken
  pointwise
theorem rTaken_at (w : IVec S16x1 32) (b : Fin 16) (j : Fin 8732) (n : ℕ) (hn : n ≤ 8732) (h : w (ix2 b 0) = BitVec.ofNat 32 n) : rTaken w (ix2 b j)
    = BitVec.ofBool (decide (8732 - negs n ≤ j.val)) := by
  have h2 : negs n ≤ 8731 := min_le_right _ _
  rw [rTaken_raw, h, negs_word (hn.trans (by decide))]
  have hs : IntOp.subi 8732#32 (BitVec.ofNat 32 (negs n)) = BitVec.ofNat 32 (8732 - negs n) := by
    apply BitVec.eq_of_toNat_eq
    show (BitVec.ofNat 32 8732 - BitVec.ofNat 32 _).toNat = _
    rw [BitVec.toNat_sub, BitVec.toNat_ofNat, BitVec.toNat_ofNat, BitVec.toNat_ofNat]
    omega
  rw [hs]
  exact WordCmp.cmpi_sge_ofNat (by omega) (by omega)

/-- The least loss taken. -/
def rLast (k : IVec S16x8732 1) (x : FVec Ideal S16x8732 .f32) : FVec Ideal S16 .f32 :=
  Host.reduce FloatOps.minimumf (select k x (broadcastInDim S16x8732 ![] bcast_S_S16x8732 (id (constant S_ .f32 0x7F800000#32)))) (constant S_ .f32 0x7F800000#32) reducesTo_S16x8732_S16_d1 h_S_
theorem rLast_at (k : IVec S16x8732 1) (x : FVec Ideal S16x8732 .f32) (b : Fin 16) : rLast k x (ix1 b)
    = Finset.fold min (Ideal.ofBits .f32 0x7F800000#32) (fun j : Fin 8732 => Scalar.select (k (ix2 b j)) (x (ix2 b j)) (Ideal.ofBits .f32 0x7F800000#32)) Finset.univ := by
  unfold rLast
  pointwise
  rfl

/-- The least single-precision number from it on. -/
def rUp (u : FVec Ideal S2139095041 .f32) (v : FVec Ideal S16 .f32) : FVec Ideal S16 .f32 :=
  Host.reduce FloatOps.minimumf (select (cmpf .oge (broadcastInDim S16x2139095041 ![0, 1] bcast_S1x2139095041_S16x2139095041_0_1 (broadcastInDim S1x2139095041 ![1] bcast_S2139095041_S1x2139095041_1 u)) (broadcastInDim S16x2139095041 ![0, 1] bcast_S16x1_S16x2139095041_0_1 (broadcastInDim S16x1 ![0] bcast_S16_S16x1_0 v))) (broadcastInDim S16x2139095041 ![1] bcast_S2139095041_S16x2139095041_1 u) (broadcastInDim S16x2139095041 ![] bcast_S_S16x2139095041 (id (constant S_ .f32 0x7F800000#32)))) (constant S_ .f32 0x7F800000#32) reducesTo_S16x2139095041_S16_d1 h_S_
theorem rUp_at (u : FVec Ideal S2139095041 .f32) (v : FVec Ideal S16 .f32) (b : Fin 16) : rUp u v (ix1 b)
    = Finset.fold min (Ideal.ofBits .f32 0x7F800000#32) (fun w : Fin 2139095041 => if v (ix1 b) ≤ u (ix1 w) then u (ix1 w) else Ideal.ofBits .f32 0x7F800000#32) Finset.univ := by
  unfold rUp
  pointwise
  rfl

theorem rMax_at (k : IVec S16x8732 1) (x : FVec Ideal S16x8732 .f32) (v : FVec Ideal S16 .f32) (b : Fin 16) (j : Fin 8732) :
    (select k (maximumf x (broadcastInDim S16x8732 ![0, 1] bcast_S16x1_S16x8732_0_1 (broadcastInDim S16x1 ![0] bcast_S16_S16x1_0 v))) (broadcastInDim S16x8732 ![] bcast_S_S16x8732 (id (constant (F := Ideal) S_ .f32 0x00000000#32)))) (ix2 b j)
      = Scalar.select (k (ix2 b j)) (max (x (ix2 b j)) (v (ix1 b))) 0 := by
  pointwise
  exact congrArg (Scalar.select (k (ix2 b j)) (max (x (ix2 b j)) (v (ix1 b)))) w0

theorem sel_if {P : Prop} [Decidable P] (x y : EReal) : Scalar.select (BitVec.ofBool (decide P)) x y = if P then x else y := by
  by_cases h : P
  · rw [if_pos h, decide_eq_true h]; rfl
  · rw [if_neg h, decide_eq_false h]; rfl

theorem wtop_word : Ideal.ofBits .f32 0x7F800000#32 = (⊤ : EReal) := sf_top

theorem words : 2139095041 = wtop + 1 := by decide

theorem mined_of {n T N : ℕ} (hN : N = 8732) (hT : T = wtop + 1) {x s : Fin N → EReal} {σ : Fin N → Fin N} (hσ : Function.Bijective σ) (hs : ∀ j, s j = x (σ j)) (hm : Monotone s) (hn : n ≤ N)
    (v t : EReal) (hv : v = Finset.fold min (⊤ : EReal) (fun j : Fin N => if N - n ≤ j.val then s j else ⊤) Finset.univ)
    (ht : t = Finset.fold min (⊤ : EReal) (fun w : Fin T => if v ≤ sf w.val then sf w.val else ⊤) Finset.univ) :
    (∑ j : Fin N, if N - n ≤ j.val then max (s j) t else 0) = mined x n :=
  mined_eq hσ hs hm hn t fun h0 => ht.trans (up_eq hσ hs hm hn h0 hT v (hv.trans (last_eq hσ hs hm hn h0)))

/-- The sum over the places taken, none below the least rounded up, is the mined sum. -/
theorem row_of (k : IVec S16x8732 1) (h : FVec Ideal S16x8732 .f32) (u : FVec Ideal S2139095041 .f32) (b : Fin 16) (n : ℕ) (hn : n ≤ 8732)
    (hk : ∀ j : Fin 8732, k (ix2 b j) = BitVec.ofBool (decide (8732 - n ≤ j.val))) (hu : ∀ w : Fin 2139095041, u (ix1 w) = sf w.val)
    (x s : Fin 8732 → EReal) (hx : ∀ j, h (ix2 b j) = s j) (σ : Fin 8732 → Fin 8732) (hσ : Function.Bijective σ) (hs : ∀ j, s j = x (σ j)) (hm : Monotone s) :
    ∑ j : Fin 8732, (select k (maximumf h (broadcastInDim S16x8732 ![0, 1] bcast_S16x1_S16x8732_0_1 (broadcastInDim S16x1 ![0] bcast_S16_S16x1_0 (rUp u (rLast k h))))) (broadcastInDim S16x8732 ![] bcast_S_S16x8732 (id (constant (F := Ideal) S_ .f32 0x00000000#32)))) (ix2 b j)
      = mined x n := by
  have hv : rLast k h (ix1 b) = Finset.fold min (⊤ : EReal) (fun j : Fin 8732 => if 8732 - n ≤ j.val then s j else ⊤) Finset.univ := by
    rw [rLast_at, wtop_word]
    refine congrArg (fun f => Finset.fold min (⊤ : EReal) f Finset.univ) (funext fun j => ?_)
    rw [hk, sel_if, hx]
  have ht : rUp u (rLast k h) (ix1 b) = Finset.fold min (⊤ : EReal) (fun w : Fin 2139095041 => if rLast k h (ix1 b) ≤ sf w.val then sf w.val else ⊤) Finset.univ := by
    rw [rUp_at, wtop_word]
    refine congrArg (fun f => Finset.fold min (⊤ : EReal) f Finset.univ) (funext fun w => ?_)
    rw [hu]
  refine (Finset.sum_congr rfl fun j _ => ?_).trans (mined_of rfl words hσ hs hm hn _ _ hv ht)
  rw [rMax_at, hk, sel_if, hx]

/-- A sum over both axes is the sum of the rows' sums. -/
theorem sum_of (v : FVec Ideal S16x8732 .f32) (g : Fin 16 → EReal) (hv : ∀ b, ∑ p : Fin 8732, v (ix2 b p) = g b) (i : S_.Idx) :
    Host.reduceAdd v (constant (F := Ideal) S_ .f32 0x00000000#32) reducesTo_S16x8732_S_d0_1 h_S_ i = ∑ b : Fin 16, g b := by
  refine (Ideal.hostReduceAdd_r2_a01 reducesTo_S16x8732_S_d0_1 v _ i).trans ?_
  refine (congrArg (fun z : EReal => z + ∑ b : Fin 16, ∑ p : Fin 8732, v (ix2 b p)) w0).trans ?_
  rw [zero_add]
  exact Finset.sum_congr rfl fun b _ => hv b
theorem div_of (v w : FVec Ideal S16x8732 .f32) (z : FVec Ideal S_ .f32) (g h : Fin 16 → EReal) (d : EReal)
    (hv : ∀ b, ∑ p : Fin 8732, v (ix2 b p) = g b) (hw : ∀ b, ∑ p : Fin 8732, w (ix2 b p) = h b) (hz : ∀ i, z i = d) :
    Host.divf (addf (Host.reduceAdd v (constant (F := Ideal) S_ .f32 0x00000000#32) reducesTo_S16x8732_S_d0_1 h_S_)
        (Host.reduceAdd w (constant (F := Ideal) S_ .f32 0x00000000#32) reducesTo_S16x8732_S_d0_1 h_S_)) z
      = fun _ => Ideal.div ((∑ b : Fin 16, g b) + ∑ b : Fin 16, h b) d := by
  funext i
  rw [← sum_of v g hv i, ← sum_of w h hw i, ← hz i]
  rfl

section good
variable {V0 : Valuation τ sig (Elt Ideal)} (hg : Good V0) (b : Fin 16) (p : Fin 8732)
include hg

open Classical in
theorem class_word : res_main_v128 V0 (ix2 b p) = BitVec.ofNat 32 (if Pos (ov V0 b) p then clsIx (cls V0 b (mt (ov V0 b) p)) else 0).val := by
  rw [v128_at hg b p]
  unfold Pos
  by_cases hp : bov (ov V0 b) p < thr
  · simp only [hp, decide_true, not_true, if_false]
    rfl
  · simp only [hp, decide_false, not_false_iff, if_true]
    show cls V0 b (mt (ov V0 b) p) + 1#32 = _
    have h := hg.cls b (mt (ov V0 b) p)
    generalize cls V0 b (mt (ov V0 b) p) = x at h
    have hx : x.toInt = x.toNat := by
      rw [BitVec.toInt_eq_toNat_cond] at h ⊢
      split at h <;> [skip; omega]
      rw [if_pos ‹_›]
    apply BitVec.eq_of_toNat_eq
    show (x + 1#32).toNat = (BitVec.ofNat 32 ((x.toInt + 1).toNat % 21)).toNat
    rw [BitVec.toNat_add, BitVec.toNat_ofNat, BitVec.toNat_ofNat]
    omega

open Classical in
theorem v186_at : res_main_v186 V0 (ix2 b p) = lse (conf V0 b p) - conf V0 b p (if Pos (ov V0 b) p then clsIx (cls V0 b (mt (ov V0 b) p)) else 0) := by
  have e : res_main_v186 V0 = subf (rLse (a1 V0) (Host.reduce FloatOps.maximumf (a1 V0) (constant (F := Ideal) S_ .f32 0xFF800000#32) reducesTo_S16x8732x21_S16x8732_d2 h_S_))
    (rPick (a1 V0) (res_main_v128 V0)) := rfl
  have f : ∀ x y : FVec Ideal S16x8732 .f32, subf x y (ix2 b p) = x (ix2 b p) - y (ix2 b p) := fun _ _ => rfl
  rw [e, f, rLse_at, rPick_at _ _ b p _ (class_word hg b p), max_conf, wbot]
  rfl

/-- The losses that are ranked. -/
def gt (V0 : Valuation τ sig (Elt Ideal)) : FVec Ideal S16x8732 .f32 :=
  select (res_main_v156 V0) (broadcastInDim S16x8732 ![] bcast_S_S16x8732 (id (constant S_ .f32 0x00000000#32))) (res_main_v186 V0)

theorem gt_at : gt V0 (ix2 b p) = lgB (conf V0 b) (pri V0) (box V0 b) p := by
  have e : gt V0 (ix2 b p) = Scalar.select (res_main_v156 V0 (ix2 b p)) (Ideal.ofBits .f32 0x00000000#32) (res_main_v186 V0 (ix2 b p)) := rfl
  rw [e, v156_at hg, v186_at hg, w0]
  unfold lgB
  by_cases h : Pos (ov V0 b) p
  · refine Eq.trans ?_ (if_pos h).symm
    rw [if_pos h]; rfl
  · refine Eq.trans ?_ (if_neg h).symm
    rw [if_neg h, if_neg h]; rfl

open Classical in
theorem ce_at : (select (res_main_v156 V0) (res_main_v186 V0) (broadcastInDim S16x8732 ![] bcast_S_S16x8732 (id (constant (F := Ideal) S_ .f32 0x00000000#32)))) (ix2 b p)
    = if Pos (ov V0 b) p then lse (conf V0 b p) - conf V0 b p (clsIx (cls V0 b (mt (ov V0 b) p))) else 0 := by
  have e : (select (res_main_v156 V0) (res_main_v186 V0) (broadcastInDim S16x8732 ![] bcast_S_S16x8732 (id (constant (F := Ideal) S_ .f32 0x00000000#32)))) (ix2 b p)
      = Scalar.select (res_main_v156 V0 (ix2 b p)) (res_main_v186 V0 (ix2 b p)) (Ideal.ofBits .f32 0x00000000#32) := rfl
  rw [e, v156_at hg, v186_at hg, w0]
  by_cases h : Pos (ov V0 b) p
  · rw [if_pos h, if_pos h, if_pos h]; rfl
  · rw [if_neg h, if_neg h, if_neg h]; rfl

theorem count_at : res_main_v159 V0 (ix2 b 0) = BitVec.ofNat 32 (posN (pri V0) (box V0 b)) := by
  classical
  refine (rowCount_at (res_main_v156 V0) b).trans ?_
  have e : ∀ p : Fin 8732, ((res_main_v156 V0 (ix2 b p)).setWidth 32).toNat = if Pos (ov V0 b) p then 1 else 0 := fun p => by
    rw [v156_at hg]; split <;> rfl
  have hs : ∑ p : Fin 8732, ((res_main_v156 V0 (ix2 b p)).setWidth 32).toNat = posN (pri V0) (box V0 b) := by
    unfold posN
    exact Finset.sum_congr rfl fun p _ => by rw [e]
  have hle := posN_le (pri V0) (box V0 b)
  apply BitVec.eq_of_toNat_eq
  rw [WordSum.toNat_sum _ _ (by rw [hs]; omega), hs, BitVec.toNat_ofNat]
  omega

theorem taken_at (j : Fin 8732) : res_main_v199 V0 (ix2 b j) = BitVec.ofBool (decide (8732 - negs (posN (pri V0) (box V0 b)) ≤ j.val)) :=
  rTaken_at (res_main_v159 V0) b j _ (posN_le _ _) (count_at hg b)

/-- The mined losses of a batch. -/
theorem mined_row : ∑ j : Fin 8732, (select (res_main_v199 V0) (maximumf (res_main_v192 V0) (broadcastInDim S16x8732 ![0, 1] bcast_S16x1_S16x8732_0_1 (broadcastInDim S16x1 ![0] bcast_S16_S16x1_0 (rUp (res_main_v203 V0) (rLast (res_main_v199 V0) (res_main_v192 V0)))))) (broadcastInDim S16x8732 ![] bcast_S_S16x8732 (id (constant (F := Ideal) S_ .f32 0x00000000#32)))) (ix2 b j)
    = minedB (conf V0 b) (pri V0) (box V0 b) := by
  obtain ⟨σ, hσ, hs, hm⟩ := sort_row (gt V0) b
  have key : ∀ h : FVec Ideal S16x8732 .f32, (∀ j, h (ix2 b j) = gt V0 (ix2 b (σ j))) → (Monotone fun j : Fin 8732 => (h (ix2 b j) : EReal)) →
      ∑ j : Fin 8732, (select (res_main_v199 V0) (maximumf h (broadcastInDim S16x8732 ![0, 1] bcast_S16x1_S16x8732_0_1 (broadcastInDim S16x1 ![0] bcast_S16_S16x1_0 (rUp (res_main_v203 V0) (rLast (res_main_v199 V0) h))))) (broadcastInDim S16x8732 ![] bcast_S_S16x8732 (id (constant (F := Ideal) S_ .f32 0x00000000#32)))) (ix2 b j)
        = minedB (conf V0 b) (pri V0) (box V0 b) := fun h h1 h2 =>
    row_of (res_main_v199 V0) h (res_main_v203 V0) b _ ((min_le_right _ _).trans (by decide)) (taken_at hg b) (fun _ => rfl)
      (lgB (conf V0 b) (pri V0) (box V0 b)) (fun j => h (ix2 b j)) (fun _ => rfl) σ hσ (fun j => (h1 j).trans (gt_at hg b _)) h2
  exact key (res_main_v192 V0) hs hm

/-- The second result. -/
theorem second_result : Host.divf (addf (Host.reduceAdd (select (res_main_v156 V0) (res_main_v186 V0) (broadcastInDim S16x8732 ![] bcast_S_S16x8732 (id (constant (F := Ideal) S_ .f32 0x00000000#32)))) (constant (F := Ideal) S_ .f32 0x00000000#32) reducesTo_S16x8732_S_d0_1 h_S_) (Host.reduceAdd (select (res_main_v199 V0) (maximumf (res_main_v192 V0) (broadcastInDim S16x8732 ![0, 1] bcast_S16x1_S16x8732_0_1 (broadcastInDim S16x1 ![0] bcast_S16_S16x1_0 (rUp (res_main_v203 V0) (rLast (res_main_v199 V0) (res_main_v192 V0)))))) (broadcastInDim S16x8732 ![] bcast_S_S16x8732 (id (constant (F := Ideal) S_ .f32 0x00000000#32)))) (constant (F := Ideal) S_ .f32 0x00000000#32) reducesTo_S16x8732_S_d0_1 h_S_)) (res_main_v220 V0)
    = fun _ => Ideal.div ((∑ b : Fin 16, ceB (conf V0 b) (pri V0) (box V0 b) (cls V0 b)) + ∑ b : Fin 16, minedB (conf V0 b) (pri V0) (box V0 b)) (∑ b : Fin 16, numB (pri V0) (box V0 b)) := by
  unfold ceB
  exact div_of _ _ _ _ _ _ (fun b => Finset.sum_congr rfl fun p _ => ce_at hg b p) (fun b => mined_row hg b) (num_sum hg)

end good

end Cert.Ref

end
-- ==== Proof.PreFacts.lean ====
/- What the precondition says of the arguments, as facts about real numbers. -/
module

public import proofs.«01_k».proof.Pre_inputs_ok
public import proofs.«01_k».proof.Proof.Box

@[expose] public section

noncomputable section

namespace Cert.PreFacts

open Cert.Pre_inputs_ok
open Cert.Spec (BoxOk PriorOk w0)
open Idealize.ShloMosaic Idealize.ShloMosaic.Tactic

theorem pre_facts : Cert.Pre_inputs_ok.Facts where
  slices_S8732x4_S8732x2_0_0 := by decide
  bcast_S_S8732x2 := by decide
  slices_S8732x4_S8732x2_0_2 := by decide
  slices_S16x8x4_S16x8x2_0_0_0 := by decide
  bcast_S_S16x8x2 := by decide
  slices_S16x8x4_S16x8x2_0_0_2 := by decide
  bcast_S_S16x8 := by decide

attribute [local instance] pre_facts
open Cert.Pre_inputs_ok.Facts

theorem top_word : Ideal.ofBits .f32 0x7F800000#32 = (⊤ : EReal) := by simp [Ideal.ofBits, Ideal.ieee]

/-! ## The four arrays, element by element -/

section at_
variable (x0 : FVec Ideal S16x8732x4 .f32) (x1 : FVec Ideal S16x8732x21 .f32) (x2 : FVec Ideal S8732x4 .f32) (x3 : FVec Ideal S16x8x4 .f32) (x4 : IVec S16x8 32)

theorem bit_of (P : Prop) [Decidable P] : BitVec.ofBool (decide P) = 1#1 ↔ P := by
  by_cases h : P <;> simp [h]
theorem and_bit (x y : BitVec 1) : IntOp.andi x y = 1#1 ↔ x = 1#1 ∧ y = 1#1 := by revert x y; decide

theorem and_bits {P Q : Prop} [Decidable P] [Decidable Q] (h : IntOp.andi (BitVec.ofBool (decide P)) (BitVec.ofBool (decide Q)) = 1#1) : P ∧ Q :=
  ⟨(bit_of P).1 ((and_bit _ _).1 h).1, (bit_of Q).1 ((and_bit _ _).1 h).2⟩
theorem and_bits3 {P Q R : Prop} [Decidable P] [Decidable Q] [Decidable R] (h : IntOp.andi (IntOp.andi (BitVec.ofBool (decide P)) (BitVec.ofBool (decide Q))) (BitVec.ofBool (decide R)) = 1#1) : (P ∧ Q) ∧ R :=
  ⟨and_bits ((and_bit _ _).1 h).1, (bit_of R).1 ((and_bit _ _).1 h).2⟩

theorem centre_at (p : Fin 8732) : (fn (F := Ideal) x0 x1 x2 x3 x4).1 (ix2 p 0) = BitVec.ofBool (decide (max (x2 (ix2 p 0)) (-(x2 (ix2 p 0))) < ⊤))
    ∧ (fn (F := Ideal) x0 x1 x2 x3 x4).1 (ix2 p 1) = BitVec.ofBool (decide (max (x2 (ix2 p 1)) (-(x2 (ix2 p 1))) < ⊤)) := by
  unfold fn fn_part1
  rw [← top_word]
  constructor
  · pointwise; rfl
  · pointwise; rfl

theorem size_at (p : Fin 8732) : (fn (F := Ideal) x0 x1 x2 x3 x4).2.1 (ix2 p 0) = IntOp.andi (BitVec.ofBool (decide (0 < x2 (ix2 p 2)))) (BitVec.ofBool (decide (x2 (ix2 p 2) < ⊤)))
    ∧ (fn (F := Ideal) x0 x1 x2 x3 x4).2.1 (ix2 p 1) = IntOp.andi (BitVec.ofBool (decide (0 < x2 (ix2 p 3)))) (BitVec.ofBool (decide (x2 (ix2 p 3) < ⊤))) := by
  unfold fn fn_part1
  rw [← top_word, ← w0]
  constructor <;> pointwise

theorem box_at (b : Fin 16) (j : Fin 8) : (fn (F := Ideal) x0 x1 x2 x3 x4).2.2.1 (ix3 b j 0) = IntOp.andi (IntOp.andi (BitVec.ofBool (decide (0 ≤ x3 (ix3 b j 0)))) (BitVec.ofBool (decide (x3 (ix3 b j 0) < x3 (ix3 b j 2))))) (BitVec.ofBool (decide (x3 (ix3 b j 2) < ⊤)))
    ∧ (fn (F := Ideal) x0 x1 x2 x3 x4).2.2.1 (ix3 b j 1) = IntOp.andi (IntOp.andi (BitVec.ofBool (decide (0 ≤ x3 (ix3 b j 1)))) (BitVec.ofBool (decide (x3 (ix3 b j 1) < x3 (ix3 b j 3))))) (BitVec.ofBool (decide (x3 (ix3 b j 3) < ⊤))) := by
  unfold fn fn_part1
  rw [← top_word, ← w0]
  constructor <;> pointwise

theorem class_at (b : Fin 16) (j : Fin 8) : (fn (F := Ideal) x0 x1 x2 x3 x4).2.2.2 (ix2 b j) = 1#1 → 0 ≤ (x4 (ix2 b j)).toInt ∧ (x4 (ix2 b j)).toInt < 20 := by
  intro h
  have h2 := (and_bit _ _).1 h
  exact ⟨(bit_of _).1 h2.1, (bit_of _).1 h2.2⟩

/-! ## The arguments it admits -/

/-- The precondition over the arguments' arrays. -/
def Holds : Prop :=
  (fn (F := Ideal) x0 x1 x2 x3 x4).1 = (fun _ => 1#1) ∧ (fn (F := Ideal) x0 x1 x2 x3 x4).2.1 = (fun _ => 1#1)
    ∧ (fn (F := Ideal) x0 x1 x2 x3 x4).2.2.1 = (fun _ => 1#1) ∧ (fn (F := Ideal) x0 x1 x2 x3 x4).2.2.2 = (fun _ => 1#1)

theorem real_of_abs {x : EReal} (h : max x (-x) < ⊤) : ∃ r : ℝ, x = (r : EReal) := by
  induction x with
  | bot => simp at h
  | coe r => exact ⟨r, rfl⟩
  | top => simp at h
theorem real_of_pos {x : EReal} (h0 : 0 ≤ x) (h : x < ⊤) : ∃ r : ℝ, x = (r : EReal) := by
  induction x with
  | bot => simp at h0
  | coe r => exact ⟨r, rfl⟩
  | top => simp at h

variable {x0 x1 x2 x3 x4}

theorem prior_ok (h : Holds x0 x1 x2 x3 x4) (p : Fin 8732) : PriorOk fun k => x2 (ix2 p k) := by
  obtain ⟨r0, h0⟩ := real_of_abs ((bit_of _).1 ((centre_at x0 x1 x2 x3 x4 p).1.symm.trans (congrFun h.1 _)))
  obtain ⟨r1, h1⟩ := real_of_abs ((bit_of _).1 ((centre_at x0 x1 x2 x3 x4 p).2.symm.trans (congrFun h.1 _)))
  have s2 := and_bits ((size_at x0 x1 x2 x3 x4 p).1.symm.trans (congrFun h.2.1 _))
  have s3 := and_bits ((size_at x0 x1 x2 x3 x4 p).2.symm.trans (congrFun h.2.1 _))
  obtain ⟨r2, h2⟩ := real_of_pos s2.1.le s2.2
  obtain ⟨r3, h3⟩ := real_of_pos s3.1.le s3.2
  refine ⟨![r0, r1, r2, r3], fun k => ?_, ?_, ?_⟩
  · fin_cases k
    · exact h0
    · exact h1
    · exact h2
    · exact h3
  · have := s2.1; rw [h2] at this; exact EReal.coe_pos.1 this
  · have := s3.1; rw [h3] at this; exact EReal.coe_pos.1 this

theorem box_ok (h : Holds x0 x1 x2 x3 x4) (b : Fin 16) (j : Fin 8) : BoxOk fun k => x3 (ix3 b j k) := by
  have s0 := and_bits3 ((box_at x0 x1 x2 x3 x4 b j).1.symm.trans (congrFun h.2.2.1 _))
  have s1 := and_bits3 ((box_at x0 x1 x2 x3 x4 b j).2.symm.trans (congrFun h.2.2.1 _))
  obtain ⟨r0, h0⟩ := real_of_pos s0.1.1 (s0.1.2.trans s0.2)
  obtain ⟨r1, h1⟩ := real_of_pos s1.1.1 (s1.1.2.trans s1.2)
  obtain ⟨r2, h2⟩ := real_of_pos (s0.1.1.trans s0.1.2.le) s0.2
  obtain ⟨r3, h3⟩ := real_of_pos (s1.1.1.trans s1.1.2.le) s1.2
  rw [h0, h2] at s0
  rw [h1, h3] at s1
  refine ⟨![r0, r1, r2, r3], fun k => ?_, EReal.coe_nonneg.1 s0.1.1, EReal.coe_nonneg.1 s1.1.1, EReal.coe_lt_coe_iff.1 s0.1.2, EReal.coe_lt_coe_iff.1 s1.1.2⟩
  fin_cases k
  · exact h0
  · exact h1
  · exact h2
  · exact h3

theorem class_ok (h : Holds x0 x1 x2 x3 x4) (b : Fin 16) (j : Fin 8) : 0 ≤ (x4 (ix2 b j)).toInt ∧ (x4 (ix2 b j)).toInt < 20 :=
  class_at x0 x1 x2 x3 x4 b j (congrFun h.2.2.2 _)

end at_

end Cert.PreFacts

end
-- ==== Proof.lean ====
/- The claims about the kernel, its ideal reading and the reference, put together from the modules that prove each. -/
module

public import proofs.«01_k».proof.Defs
public import proofs.«01_k».proof.Proof.KernelFrame
public import proofs.«01_k».proof.Proof.IdealFrame
public import proofs.«01_k».proof.Proof.RefFrame
public import proofs.«01_k».proof.Proof.KerTotal
public import proofs.«01_k».proof.Proof.KernelOut
public import proofs.«01_k».proof.Proof.KerCls
public import proofs.«01_k».proof.Proof.RefLoss
public import proofs.«01_k».proof.Proof.RefMine
public import proofs.«01_k».proof.Proof.RefRunB
public import proofs.«01_k».proof.Proof.PreFacts
public import Idealize.ShloMosaic.Adequacy
public import Idealize.ShloMosaic.Init

@[expose] public section

set_option maxRecDepth 16384

noncomputable section

namespace Cert.Proof

open Idealize.ShloMosaic Idealize.SL.Sem Idealize.ShloMosaic.TcCoe

attribute [local instance] Cert.PreFacts.pre_facts

/-- The kernel's arguments are as its side of the proof wants them. -/
theorem ker_good (m : (ℓ : Loc Cert.KernelIdeal.nD Cert.KernelIdeal.τ Cert.KernelIdeal.sig) → Buf (Elt Ideal) ℓ) (h : Cert.Pre_KernelIdeal_inputs_ok m) (c : Dev Cert.KernelIdeal.nD) :
    Cert.KernelIdeal.Run.Good m c where
  box := fun b j => Cert.PreFacts.box_ok (h c) b j
  pri := fun p => Cert.PreFacts.prior_ok (h c) p
  cls := fun b j => (Cert.PreFacts.class_ok (h c) b j).1

/-- So are the reference's, which are the same. -/
theorem ref_good (m : (ℓ : Loc Cert.KernelIdeal.nD Cert.KernelIdeal.τ Cert.KernelIdeal.sig) → Buf (Elt Ideal) ℓ) (h : Cert.Pre_KernelIdeal_inputs_ok m) (c : Dev Cert.KernelIdeal.nD)
    (V0 : Valuation Cert.ReferenceIdeal.τ Cert.ReferenceIdeal.sig (Elt Ideal))
    (h2 : Cert.Ref.a2 V0 = Cert.KernelIdeal.Run.A2 m c) (h3 : Cert.Ref.a3 V0 = Cert.KernelIdeal.Run.A3 m c) (h4 : Cert.Ref.a4 V0 = Cert.KernelIdeal.Run.A4 m c) :
    Cert.Ref.Good V0 where
  box := fun b j => by
    unfold Cert.Ref.box
    rw [h3]
    exact Cert.PreFacts.box_ok (h c) b j
  pri := fun p => by
    unfold Cert.Ref.pri
    rw [h2]
    exact Cert.PreFacts.prior_ok (h c) p
  cls := fun b j => by
    unfold Cert.Ref.cls
    rw [h4]
    exact Cert.PreFacts.class_ok (h c) b j

/-- The two programs' first results are the same number. -/
theorem results_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : Cert.Ref.a0 V0 = Cert.KernelIdeal.Run.A0 m c) (h2 : Cert.Ref.a2 V0 = Cert.KernelIdeal.Run.A2 m c) (h3 : Cert.Ref.a3 V0 = Cert.KernelIdeal.Run.A3 m c) :
    Ideal.div (∑ b : Fin 16, Cert.Spec.lossB (Cert.Ref.loc V0 b) (Cert.Ref.pri V0) (Cert.Ref.box V0 b)) (∑ b : Fin 16, Cert.Spec.numB (Cert.Ref.pri V0) (Cert.Ref.box V0 b))
      = Ideal.div (∑ b : Fin 16, Cert.Spec.lossB (Cert.KernelIdeal.Run.locOf m c b) (Cert.KernelIdeal.Run.priOf m c) (Cert.KernelIdeal.Run.boxOf m c b)) (∑ b : Fin 16, Cert.Spec.numB (Cert.KernelIdeal.Run.priOf m c) (Cert.KernelIdeal.Run.boxOf m c b)) := by
  have e0 : Cert.Ref.loc V0 = Cert.KernelIdeal.Run.locOf m c := by
    unfold Cert.Ref.loc; rw [h0]; rfl
  have e2 : Cert.Ref.pri V0 = Cert.KernelIdeal.Run.priOf m c := by
    unfold Cert.Ref.pri; rw [h2]; rfl
  have e3 : Cert.Ref.box V0 = Cert.KernelIdeal.Run.boxOf m c := by
    unfold Cert.Ref.box; rw [h3]; rfl
  rw [e0, e2, e3]

/-- So are their second results. -/
theorem seconds_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h1 : Cert.Ref.a1 V0 = Cert.KernelIdeal.Run.A1 m c) (h2 : Cert.Ref.a2 V0 = Cert.KernelIdeal.Run.A2 m c) (h3 : Cert.Ref.a3 V0 = Cert.KernelIdeal.Run.A3 m c)
    (h4 : Cert.Ref.a4 V0 = Cert.KernelIdeal.Run.A4 m c) :
    Ideal.div ((∑ b : Fin 16, Cert.Spec.ceB (Cert.Ref.conf V0 b) (Cert.Ref.pri V0) (Cert.Ref.box V0 b) (Cert.Ref.cls V0 b)) + ∑ b : Fin 16, Cert.Spec.minedB (Cert.Ref.conf V0 b) (Cert.Ref.pri V0) (Cert.Ref.box V0 b)) (∑ b : Fin 16, Cert.Spec.numB (Cert.Ref.pri V0) (Cert.Ref.box V0 b))
      = Ideal.div ((∑ b : Fin 16, Cert.Spec.ceB (Cert.KernelIdeal.Run.confOf m c b) (Cert.KernelIdeal.Run.priOf m c) (Cert.KernelIdeal.Run.boxOf m c b) (Cert.KernelIdeal.Run.clsOf m c b)) + ∑ b : Fin 16, Cert.Spec.minedB (Cert.KernelIdeal.Run.confOf m c b) (Cert.KernelIdeal.Run.priOf m c) (Cert.KernelIdeal.Run.boxOf m c b))
          (∑ b : Fin 16, Cert.Spec.numB (Cert.KernelIdeal.Run.priOf m c) (Cert.KernelIdeal.Run.boxOf m c b)) := by
  have e1 : Cert.Ref.conf V0 = Cert.KernelIdeal.Run.confOf m c := by
    unfold Cert.Ref.conf; rw [h1]; rfl
  have e2 : Cert.Ref.pri V0 = Cert.KernelIdeal.Run.priOf m c := by
    unfold Cert.Ref.pri; rw [h2]; rfl
  have e3 : Cert.Ref.box V0 = Cert.KernelIdeal.Run.boxOf m c := by
    unfold Cert.Ref.box; rw [h3]; rfl
  have e4 : Cert.Ref.cls V0 = Cert.KernelIdeal.Run.clsOf m c := by
    unfold Cert.Ref.cls; rw [h4]; rfl
  rw [e1, e2, e3, e4]

/-- The kernel's results are the reference's. -/
theorem both : Cert.algebraic_KernelIdeal_ReferenceIdeal_pre_inputs_ok := by
  intro m g m' g' hpre hargs
  refine ⟨fun c => Host.divf (Cert.KernelIdeal.Run.o m c 0) (Cert.KernelIdeal.Run.o m c 2), fun c => Host.divf (Cert.KernelIdeal.Run.o m c 1) (Cert.KernelIdeal.Run.o m c 2), ?_, ?_⟩
  · exact Cert.KernelIdeal.Run.run m g
  · refine (θ_run _ _ _).mono (fun r h c => ?_) (Cert.Ref.run m' g')
    obtain ⟨a0, a1, a2, a3, a4⟩ := hargs c
    refine ⟨(h c).1.trans ?_, (h c).2.1.trans ?_, (h c).2.2⟩
    · refine (Cert.Ref.first_result (V0 := StableHlo.launchContents m' c) (ref_good m hpre c _ a2 a3 a4)).trans ?_
      exact (funext fun _ => results_eq m c _ a0 a2 a3).trans (Cert.KernelIdeal.Run.first_result m c (ker_good m hpre c)).symm
    · refine (Cert.Ref.second_result (V0 := StableHlo.launchContents m' c) (ref_good m hpre c _ a2 a3 a4)).trans ?_
      exact (funext fun _ => seconds_eq m c _ a1 a2 a3 a4).trans (Cert.KernelIdeal.Run.second_result m c (ker_good m hpre c) fun b j => (Cert.PreFacts.class_ok (hpre c) b j).2).symm

/-- Every claim: the three programs end with arguments unchanged and counters at zero; the ideal kernel is the kernel;
    and the ideal kernel's two results are the reference's. -/
theorem claim : Cert.Claim :=
  ⟨Cert.Kernel.Gen.facts, Cert.KernelIdeal.Gen.facts, Cert.ReferenceIdeal.Gen.facts, Cert.PreFacts.pre_facts,
    fun m g _ => Cert.Kernel.Forget.frame m g,
    fun m g _ => Cert.KernelIdeal.Forget.frame m g,
    fun m g _ => Cert.KernelIdeal.Forget.frame m g,
    fun m g _ => Cert.Ref.frame m g,
    fun m g _ => Cert.Ref.frame m g,
    trivial, both⟩

end Cert.Proof

end
